-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  IdealRules.named_const.Statement Cert.Kernel7Ideal.κ "mask" .f32 0xF149F2CA#32 ⊥

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v266) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
    ∧ preserves_Kernel8_Kernel8Ideal
    ∧ algebraic_Kernel8Ideal_Reference8Ideal (hKernel8Ideal := hKernel8Ideal) (hReference8Ideal := hReference8Ideal)
-- ==== Pre_finite.lean ====
abbrev S2x4096x5120 : Shape := ⟨3, ![2, 4096, 5120]⟩
abbrev S2x2x4x256x128 : Shape := ⟨5, ![2, 2, 4, 256, 128]⟩
abbrev S2x4096x512 : Shape := ⟨3, ![2, 4096, 512]⟩
abbrev S16x3x128x128 : Shape := ⟨4, ![16, 3, 128, 128]⟩
abbrev S16x128x128 : Shape := ⟨3, ![16, 128, 128]⟩
abbrev S_ : Shape := ⟨0, ![]⟩

class Facts : Prop where
  bitsLt_bf16_f32 : FTy.bits .bf16 < FTy.bits .f32
  bcast_S_S2x4096x5120 : S_.BroadcastsInDim S2x4096x5120 (![] : Fin 0 → Fin S2x4096x5120.rank)
  reducesTo_S2x4096x5120_S_d0_1_2 : S2x4096x5120.ReducesTo [0, 1, 2] S_
  h_S_ : 0 < S_.numel
  bcast_S_S2x2x4x256x128 : S_.BroadcastsInDim S2x2x4x256x128 (![] : Fin 0 → Fin S2x2x4x256x128.rank)
  reducesTo_S2x2x4x256x128_S_d0_1_2_3_4 : S2x2x4x256x128.ReducesTo [0, 1, 2, 3, 4] S_
  bcast_S_S16x3x128x128 : S_.BroadcastsInDim S16x3x128x128 (![] : Fin 0 → Fin S16x3x128x128.rank)
  reducesTo_S16x3x128x128_S_d0_1_2_3 : S16x3x128x128.ReducesTo [0, 1, 2, 3] S_
  bcast_S_S16x128x128 : S_.BroadcastsInDim S16x128x128 (![] : Fin 0 → Fin S16x128x128.rank)
  reducesTo_S16x128x128_S_d0_1_2 : S16x128x128.ReducesTo [0, 1, 2] S_

variable [Facts]

def fn_part1 {F : FTy → Type} [FloatOps F] (main_v15 : IVec S_ 1) (main_v16 : FVec F S16x128x128 .f32) (main_cst_4 : FVec F S_ .f32) : IVec S_ 1 :=
  let main_v17 : FVec F S16x128x128 .f32 := broadcastInDim S16x128x128 ![] bcast_S_S16x128x128 main_cst_4
  let main_v18 : IVec S16x128x128 1 := cmpf .olt main_v16 main_v17
  let main_c_5 : IVec S_ 1 := constantI S_ 1 1#1
  let main_v19 : IVec S_ 1 := (fun x v => Host.reduce IntOp.andi x v reducesTo_S16x128x128_S_d0_1_2 h_S_) main_v18 main_c_5
  let main_v20 : IVec S_ 1 := andi main_v15 main_v19
  main_v20

def fn {F : FTy → Type} [FloatOps F] (main_arg0 : FVec F S2x4096x5120 .bf16) (main_arg1 : FVec F S2x2x4x256x128 .bf16) (main_arg2 : FVec F S2x4096x512 .f32) (main_arg3 : FVec F S16x3x128x128 .f32) (main_arg4 : FVec F S16x128x128 .f32) : IVec S_ 1 :=
  let main_v0 : FVec F S2x4096x5120 .f32 := (extf .f32 · bitsLt_bf16_f32) main_arg0
  let main_v1 : FVec F S2x4096x5120 .f32 := Host.absf main_v0
  let main_cst : FVec F S_ .f32 := constant S_ .f32 0x7F800000#32
  let main_v2 : FVec F S2x4096x5120 .f32 := broadcastInDim S2x4096x5120 ![] bcast_S_S2x4096x5120 main_cst
  let main_v3 : IVec S2x4096x5120 1 := cmpf .olt main_v1 main_v2
  let main_c : IVec S_ 1 := constantI S_ 1 1#1
  let main_v4 : IVec S_ 1 := (fun x v => Host.reduce IntOp.andi x v reducesTo_S2x4096x5120_S_d0_1_2 h_S_) main_v3 main_c
  let main_v5 : FVec F S2x2x4x256x128 .f32 := (extf .f32 · bitsLt_bf16_f32) main_arg1
  let main_v6 : FVec F S2x2x4x256x128 .f32 := Host.absf main_v5
  let main_cst_0 : FVec F S_ .f32 := constant S_ .f32 0x7F800000#32
  let main_v7 : FVec F S2x2x4x256x128 .f32 := broadcastInDim S2x2x4x256x128 ![] bcast_S_S2x2x4x256x128 main_cst_0
  let main_v8 : IVec S2x2x4x256x128 1 := cmpf .olt main_v6 main_v7
  let main_c_1 : IVec S_ 1 := constantI S_ 1 1#1
  let main_v9 : IVec S_ 1 := (fun x v => Host.reduce IntOp.andi x v reducesTo_S2x2x4x256x128_S_d0_1_2_3_4 h_S_) main_v8 main_c_1
  let main_v10 : IVec S_ 1 := andi main_v4 main_v9
  let main_v11 : FVec F S16x3x128x128 .f32 := Host.absf main_arg3
  let main_cst_2 : FVec F S_ .f32 := constant S_ .f32 0x7F800000#32
  let main_v12 : FVec F S16x3x128x128 .f32 := broadcastInDim S16x3x128x128 ![] bcast_S_S16x3x128x128 main_cst_2
  let main_v13 : IVec S16x3x128x128 1 := cmpf .olt main_v11 main_v12
  let main_c_3 : IVec S_ 1 := constantI S_ 1 1#1
  let main_v14 : IVec S_ 1 := (fun x v => Host.reduce IntOp.andi x v reducesTo_S16x3x128x128_S_d0_1_2_3 h_S_) main_v13 main_c_3
  let main_v15 : IVec S_ 1 := andi main_v10 main_v14
  let main_v16 : FVec F S16x128x128 .f32 := Host.absf main_arg4
  let main_cst_4 : FVec F S_ .f32 := constant S_ .f32 0x7F800000#32
  fn_part1 (F := F) main_v15 main_v16 main_cst_4
-- ==== Kernel.lean ====
abbrev S2x4096x2048 : Shape := ⟨3, ![2, 4096, 2048]⟩
abbrev S2048x6144 : Shape := ⟨2, ![2048, 6144]⟩
abbrev S3x2048 : Shape := ⟨2, ![3, 2048]⟩
abbrev S8192x2048 : Shape := ⟨2, ![8192, 2048]⟩
abbrev S512x2048 : Shape := ⟨2, ![512, 2048]⟩
abbrev S2048x512 : Shape := ⟨2, ![2048, 512]⟩
abbrev S3x512 : Shape := ⟨2, ![3, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 7
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S2048x6144, .f32⟩
  | .hbm, ⟨2, _⟩ => ⟨S3x2048, .f32⟩
  | .hbm, ⟨3, _⟩ => ⟨S8192x2048, .f32⟩
  | .hbm, ⟨4, _⟩ => ⟨S8192x2048, .bf16⟩
  | .hbm, ⟨5, _⟩ => ⟨S2048x6144, .bf16⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S512x512, .bf16⟩
  | .local _ .vmem, ⟨11, _⟩ => ⟨S512x512, .bf16⟩
  | .local _ .vmem, ⟨12, _⟩ => ⟨S8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x4096x2048 : Shape := ⟨3, ![2, 4096, 2048]⟩
abbrev S2048x6144 : Shape := ⟨2, ![2048, 6144]⟩
abbrev S3x2048 : Shape := ⟨2, ![3, 2048]⟩
abbrev S2x4096x6144 : Shape := ⟨3, ![2, 4096, 6144]⟩
abbrev S_ : Shape := ⟨0, ![]⟩
abbrev S2x4098x2048 : Shape := ⟨3, ![2, 4098, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x6144, .f32⟩
  | .hbm, ⟨2, _⟩ => ⟨S3x2048, .f32⟩
  | .hbm, ⟨3, _⟩ => ⟨S2x4096x6144, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S_, .i32⟩
  | .hbm, ⟨9, _⟩ => ⟨S_, .f32⟩
  | .hbm, ⟨10, _⟩ => ⟨S2x4098x2048, .f32⟩
  | .hbm, ⟨11, _⟩ => ⟨S1x2048, .f32⟩
  | .hbm, ⟨12, _⟩ => ⟨S2048, .f32⟩
  | .hbm, ⟨13, _⟩ => ⟨S2x4096x2048, .f32⟩
  | .hbm, ⟨14, _⟩ => ⟨S1x1x2048, .f32⟩
  | .hbm, ⟨15, _⟩ => ⟨S2x4096x2048, .f32⟩
  | .hbm, ⟨16, _⟩ => ⟨S2x4096x2048, .f32⟩
  | .hbm, ⟨17, _⟩ => ⟨S1x2048, .f32⟩
  | .hbm, ⟨18, _⟩ => ⟨S2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S1x2048, .f32⟩
  | .hbm, ⟨25, _⟩ => ⟨S2048, .f32⟩
  | .hbm, ⟨26, _⟩ => ⟨S2x4096x2048, .f32⟩
  | .hbm, ⟨27, _⟩ => ⟨S1x1x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | .hbm, ⟨33, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S2x4096x2048 : Shape := ⟨3, ![2, 4096, 2048]⟩
abbrev S2048x5168 : Shape := ⟨2, ![2048, 5168]⟩
abbrev S8192x2048 : Shape := ⟨2, ![8192, 2048]⟩
abbrev S2048x5120 : Shape := ⟨2, ![2048, 5120]⟩
abbrev S8192x5120 : Shape := ⟨2, ![8192, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S2048x5168, .f32⟩
  | .hbm, ⟨2, _⟩ => ⟨S8192x2048, .f32⟩
  | .hbm, ⟨3, _⟩ => ⟨S8192x2048, .bf16⟩
  | .hbm, ⟨4, _⟩ => ⟨S2048x5120, .f32⟩
  | .hbm, ⟨5, _⟩ => ⟨S2048x5120, .bf16⟩
  | .hbm, ⟨6, _⟩ => ⟨S8192x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x4096x2048 : Shape := ⟨3, ![2, 4096, 2048]⟩
abbrev S2048x5168 : Shape := ⟨2, ![2048, 5168]⟩
abbrev S2x4096x5168 : Shape := ⟨3, ![2, 4096, 5168]⟩
abbrev S2x4096x5120 : Shape := ⟨3, ![2, 4096, 5120]⟩
abbrev S8192x5120 : Shape := ⟨2, ![8192, 5120]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x5168, .f32⟩
  | .hbm, ⟨2, _⟩ => ⟨S2x4096x5168, .f32⟩
  | .hbm, ⟨3, _⟩ => ⟨S2x4096x5120, .f32⟩
  | .hbm, ⟨4, _⟩ => ⟨S8192x5120, .f32⟩
  | .hbm, ⟨5, _⟩ => ⟨S8192x5120, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x2048 : Shape := ⟨2, ![2048, 2048]⟩
abbrev S8x2x128x128 : Shape := ⟨4, ![8, 2, 128, 128]⟩
abbrev S16x128x128 : Shape := ⟨3, ![16, 128, 128]⟩
abbrev S1x2048 : Shape := ⟨2, ![1, 2048]⟩
abbrev S16x128x8192 : Shape := ⟨3, ![16, 128, 8192]⟩
abbrev S256x2048 : Shape := ⟨2, ![256, 2048]⟩
abbrev S16x128x256 : Shape := ⟨3, ![16, 128, 256]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8x2x128x128, .f32⟩
  | .hbm, ⟨4, _⟩ => ⟨S2048x2048, .bf16⟩
  | .hbm, ⟨5, _⟩ => ⟨S16x128x128, .f32⟩
  | .hbm, ⟨6, _⟩ => ⟨S16x128x128, .bf16⟩
  | .hbm, ⟨7, _⟩ => ⟨S1x2048, .f32⟩
  | .hbm, ⟨8, _⟩ => ⟨S16x128x8192, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S16x128x128, .bf16⟩
  | .local _ .vmem, ⟨5, _⟩ => ⟨S16x128x256, .f32⟩
  | .local _ .vmem, ⟨6, _⟩ => ⟨S16x128x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x2048 : Shape := ⟨2, ![8192, 2048]⟩
abbrev S2048 : Shape := ⟨1, ![2048]⟩
abbrev S2048x2048 : Shape := ⟨2, ![2048, 2048]⟩
abbrev S8x2x128x128 : Shape := ⟨4, ![8, 2, 128, 128]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8x2x128 : Shape := ⟨4, ![8192, 8, 2, 128]⟩
abbrev S8x2x128x8192 : Shape := ⟨4, ![8, 2, 128, 8192]⟩
abbrev S16x128x8192 : Shape := ⟨3, ![16, 128, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .f32⟩
  | .hbm, ⟨3, _⟩ => ⟨S8x2x128x128, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x8x2x128, .f32⟩
  | .hbm, ⟨22, _⟩ => ⟨S8x2x128x8192, .f32⟩
  | .hbm, ⟨23, _⟩ => ⟨S8192x8x2x128, .f32⟩
  | .hbm, ⟨24, _⟩ => ⟨S8x2x128x8192, .f32⟩
  | .hbm, ⟨25, _⟩ => ⟨S16x128x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048x5168 : Shape := ⟨2, ![2048, 5168]⟩
abbrev S2048x48 : Shape := ⟨2, ![2048, 48]⟩
abbrev S2048x3x4x4 : Shape := ⟨4, ![2048, 3, 4, 4]⟩
abbrev S2048x4x3x4 : Shape := ⟨4, ![2048, 4, 3, 4]⟩
abbrev S2048x4x12 : Shape := ⟨3, ![2048, 4, 12]⟩
abbrev S_ : Shape := ⟨0, ![]⟩
abbrev S2048x4x128 : Shape := ⟨3, ![2048, 4, 128]⟩
abbrev S2048x512 : Shape := ⟨2, ![2048, 512]⟩
abbrev S8192x2048 : Shape := ⟨2, ![8192, 2048]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 14
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S2048x5168, .f32⟩
  | .hbm, ⟨2, _⟩ => ⟨S2048x48, .f32⟩
  | .hbm, ⟨3, _⟩ => ⟨S2048x3x4x4, .f32⟩
  | .hbm, ⟨4, _⟩ => ⟨S2048x4x3x4, .f32⟩
  | .hbm, ⟨5, _⟩ => ⟨S2048x4x12, .f32⟩
  | .hbm, ⟨6, _⟩ => ⟨S_, .i32⟩
  | .hbm, ⟨7, _⟩ => ⟨S_, .f32⟩
  | .hbm, ⟨8, _⟩ => ⟨S2048x4x128, .f32⟩
  | .hbm, ⟨9, _⟩ => ⟨S2048x512, .f32⟩
  | .hbm, ⟨10, _⟩ => ⟨S8192x2048, .f32⟩
  | .hbm, ⟨11, _⟩ => ⟨S8192x2048, .bf16⟩
  | .hbm, ⟨12, _⟩ => ⟨S2048x512, .bf16⟩
  | .hbm, ⟨13, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4096x2048 : Shape := ⟨3, ![2, 4096, 2048]⟩
abbrev S2048x5168 : Shape := ⟨2, ![2048, 5168]⟩
abbrev S2x4096x5168 : Shape := ⟨3, ![2, 4096, 5168]⟩
abbrev S2x4096x48 : Shape := ⟨3, ![2, 4096, 48]⟩
abbrev S8192x3x4x4 : Shape := ⟨4, ![8192, 3, 4, 4]⟩
abbrev S8192x4x3x4 : Shape := ⟨4, ![8192, 4, 3, 4]⟩
abbrev S8192x4x12 : Shape := ⟨3, ![8192, 4, 12]⟩
abbrev S_ : Shape := ⟨0, ![]⟩
abbrev S8192x4x128 : Shape := ⟨3, ![8192, 4, 128]⟩
abbrev S8192x512 : Shape := ⟨2, ![8192, 512]⟩

abbrev nBuf : Space → Nat
  | .hbm => 19
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x5168, .f32⟩
  | .hbm, ⟨2, _⟩ => ⟨S2x4096x5168, .f32⟩
  | .hbm, ⟨3, _⟩ => ⟨S2x4096x48, .f32⟩
  | .hbm, ⟨4, _⟩ => ⟨S8192x3x4x4, .f32⟩
  | .hbm, ⟨5, _⟩ => ⟨S8192x4x3x4, .f32⟩
  | .hbm, ⟨6, _⟩ => ⟨S8192x4x12, .f32⟩
  | .hbm, ⟨7, _⟩ => ⟨S_, .i32⟩
  | .hbm, ⟨8, _⟩ => ⟨S_, .f32⟩
  | .hbm, ⟨9, _⟩ => ⟨S8192x4x128, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel7.lean ====
abbrev S2x4096x5120 : Shape := ⟨3, ![2, 4096, 5120]⟩
abbrev S2x2x4x256x128 : Shape := ⟨5, ![2, 2, 4, 256, 128]⟩
abbrev S2x4096x512 : Shape := ⟨3, ![2, 4096, 512]⟩
abbrev S16x3x128x128 : Shape := ⟨4, ![16, 3, 128, 128]⟩
abbrev S16x128x128 : Shape := ⟨3, ![16, 128, 128]⟩
abbrev S2x4096x2048 : Shape := ⟨3, ![2, 4096, 2048]⟩
abbrev S1x128x512 : Shape := ⟨3, ![1, 128, 512]⟩
abbrev S1x4096x128 : Shape := ⟨3, ![1, 4096, 128]⟩
abbrev S1x1x1x256x128 : Shape := ⟨5, ![1, 1, 1, 256, 128]⟩
abbrev S1x128x128 : Shape := ⟨3, ![1, 128, 128]⟩
abbrev S4x3x128x128 : Shape := ⟨4, ![4, 3, 128, 128]⟩
abbrev S4x128x128 : Shape := ⟨3, ![4, 128, 128]⟩
abbrev S128x512 : Shape := ⟨2, ![128, 512]⟩
abbrev S128x128 : Shape := ⟨2, ![128, 128]⟩
abbrev S512x128 : Shape := ⟨2, ![512, 128]⟩
abbrev S128x256 : Shape := ⟨2, ![128, 256]⟩
abbrev S512x256 : Shape := ⟨2, ![512, 256]⟩
abbrev S1x1x128x128 : Shape := ⟨4, ![1, 1, 128, 128]⟩
abbrev S256x128 : Shape := ⟨2, ![256, 128]⟩
abbrev S512 : Shape := ⟨1, ![512]⟩
abbrev S512x1 : Shape := ⟨2, ![512, 1]⟩
abbrev S64x256 : Shape := ⟨2, ![64, 256]⟩
abbrev S64x128 : Shape := ⟨2, ![64, 128]⟩
abbrev S8x128 : Shape := ⟨2, ![8, 128]⟩
abbrev S1x128 : Shape := ⟨2, ![1, 128]⟩
abbrev S128x1 : Shape := ⟨2, ![128, 1]⟩
abbrev S1x1024x128 : Shape := ⟨3, ![1, 1024, 128]⟩
abbrev S1024x128 : Shape := ⟨2, ![1024, 128]⟩
abbrev S128x1024 : Shape := ⟨2, ![128, 1024]⟩
abbrev S128 : Shape := ⟨1, ![128]⟩
abbrev S1x640x128 : Shape := ⟨3, ![1, 640, 128]⟩
abbrev S640x128 : Shape := ⟨2, ![640, 128]⟩
abbrev S128x640 : Shape := ⟨2, ![128, 640]⟩

abbrev nBuf : Space → Nat
  | .hbm => 6
  | .vmem => 22
  | .smem => 0
  | _ => 0

abbrev bufTy : (tb : Table) → Fin (tcTables nBuf tb) → BufTy
  | .hbm, ⟨0, _⟩ => ⟨S2x4096x5120, .bf16⟩
  | .hbm, ⟨1, _⟩ => ⟨S2x2x4x256x128, .bf16⟩
  | .hbm, ⟨2, _⟩ => ⟨S2x4096x512, .f32⟩
  | .hbm, ⟨3, _⟩ => ⟨S16x3x128x128, .f32⟩
  | .hbm, ⟨4, _⟩ => ⟨S16x128x128, .f32⟩
  | .hbm, ⟨5, _⟩ => ⟨S2x4096x2048, .bf16⟩
  | .local _ .vmem, ⟨0, _⟩ => ⟨S1x128x512, .bf16⟩
  | .local _ .vmem, ⟨1, _⟩ => ⟨S1x128x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x1x1x256x128, .bf16⟩
  | .local _ .vmem, ⟨11, _⟩ => ⟨S1x1x1x256x128, .bf16⟩
  | .local _ .vmem, ⟨12, _⟩ => ⟨S1x1x1x256x128, .bf16⟩
  | .local _ .vmem, ⟨13, _⟩ => ⟨S1x1x1x256x128, .bf16⟩
  | .local _ .vmem, ⟨14, _⟩ => ⟨S1x128x128, .f32⟩
  | .local _ .vmem, ⟨15, _⟩ => ⟨S1x128x128, .f32⟩
  | .local _ .vmem, ⟨16, _⟩ => ⟨S4x3x128x128, .f32⟩
  | .local _ .vmem, ⟨17, _⟩ => ⟨S4x3x128x128, .f32⟩
  | .local _ .vmem, ⟨18, _⟩ => ⟨S4x128x128, .f32⟩
  | .local _ .vmem, ⟨19, _⟩ => ⟨S4x128x128, .f32⟩
  | .local _ .vmem, ⟨20, _⟩ => ⟨S1x128x512, .bf16⟩
  | .local _ .vmem, ⟨21, _⟩ => ⟨S1x128x512, .bf16⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 32], ![false, false, false]⟩

@[reducible] def k0_t1_loop (i : grid0.Coords) : Scf.Loop 32 :=
  let c0_i32_1117 : BitVec 32 := 0#32
  let arg2 : BitVec 32 := BitVec.ofNat 32 (i 2).val
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1119 : BitVec 32 := 1#32
  ⟨c0_i32_1117, v3739, c1_i32_1119⟩
def k0_mult1 (i : grid0.Coords) (k0_t1 : Fin (k0_t1_loop i).trips) : BitVec 32 :=
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let c128_i32_1257 : BitVec 32 := 128#32
  let v4024 : BitVec 32 := Scalar.muli v4023 c128_i32_1257
  v4024
def k0_off1 (i : grid0.Coords) (k0_t1 : Fin (k0_t1_loop i).trips) : Fin 3 → Nat :=
  let c0_1258 : Index := 0#32
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let c128_i32_1257 : BitVec 32 := 128#32
  let v4024 : BitVec 32 := Scalar.muli v4023 c128_i32_1257
  let v4025 : BitVec 32 := v4024
  let v4026 : Index := Scalar.indexCast v4025
  let c0_1259 : Index := 0#32
  ![0, v4026.toNat, 0]
def k0_off2 (i : grid0.Coords) (k0_t1 : Fin (k0_t1_loop i).trips) (c0_i32_1261 : BitVec 32) : Fin 4 → Nat :=
  let c0_1285 : Index := 0#32
  let c2_i32_1263 : BitVec 32 := 2#32
  let c0_i32_1262 : BitVec 32 := 0#32
  let arg2 : BitVec 32 := BitVec.ofNat 32 (i 2).val
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4068 : Index := Scalar.indexCast v4039
  let c0_1286 : Index := 0#32
  let c0_1287 : Index := 0#32
  ![0, v4068.toNat, 0, 0]
def k0_off3 (i : grid0.Coords) (k0_t1 : Fin (k0_t1_loop i).trips) (c0_i32_1261 : BitVec 32) : Fin 4 → Nat :=
  let c1_1311 : Index := 1#32
  let c2_i32_1263 : BitVec 32 := 2#32
  let c0_i32_1262 : BitVec 32 := 0#32
  let arg2 : BitVec 32 := BitVec.ofNat 32 (i 2).val
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4097 : Index := Scalar.indexCast v4039
  let c0_1312 : Index := 0#32
  let c0_1313 : Index := 0#32
  ![1, v4097.toNat, 0, 0]
def k0_off4 (i : grid0.Coords) (k0_t1 : Fin (k0_t1_loop i).trips) (c0_i32_1261 : BitVec 32) : Fin 4 → Nat :=
  let c2_1337 : Index := 2#32
  let c2_i32_1263 : BitVec 32 := 2#32
  let c0_i32_1262 : BitVec 32 := 0#32
  let arg2 : BitVec 32 := BitVec.ofNat 32 (i 2).val
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4126 : Index := Scalar.indexCast v4039
  let c0_1338 : Index := 0#32
  let c0_1339 : Index := 0#32
  ![2, v4126.toNat, 0, 0]
def k0_off5 (i : grid0.Coords) (k0_t1 : Fin (k0_t1_loop i).trips) (c0_i32_1261 : BitVec 32) : Fin 4 → Nat :=
  let c3_1363 : Index := 3#32
  let c2_i32_1263 : BitVec 32 := 2#32
  let c0_i32_1262 : BitVec 32 := 0#32
  let arg2 : BitVec 32 := BitVec.ofNat 32 (i 2).val
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4155 : Index := Scalar.indexCast v4039
  let c0_1364 : Index := 0#32
  let c0_1365 : Index := 0#32
  ![3, v4155.toNat, 0, 0]
def k0_mult2 (i : grid0.Coords) (k0_t1 : Fin (k0_t1_loop i).trips) : BitVec 32 :=
  let c0_i32_1117 : BitVec 32 := 0#32
  let c1_i32_1119 : BitVec 32 := 1#32
  let arg14 : BitVec 32 := Scf.iv c0_i32_1117 c1_i32_1119 k0_t1
  let c8_i32_1256 : BitVec 32 := 8#32
  let v4023 : BitVec 32 := Scalar.muli arg14 c8_i32_1256
  let c128_i32_1396 : BitVec 32 := 128#32
  let v4203 : BitVec 32 := Scalar.muli v4023 c128_i32_1396
  v4203
@[reducible] def k0_t2_loop (i : grid0.Coords) : Scf.Loop 32 :=
  let c0_i32_1117 : BitVec 32 := 0#32
  let arg2 : BitVec 32 := BitVec.ofNat 32 (i 2).val
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let v3736 : BitVec 32 := Scalar.addi c0_i32_1117 v3735
  let c1_i32_1120 : BitVec 32 := 1#32
  ⟨v3739, v3736, c1_i32_1120⟩
def k0_mult3 (i : grid0.Coords) (k0_t2 : Fin (k0_t2_loop i).trips) : BitVec 32 :=
  let c0_i32_1117 : BitVec 32 := 0#32
  let arg2 : BitVec 32 := BitVec.ofNat 32 (i 2).val
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let c128_i32_1257 : BitVec 32 := 128#32
  let v4024 : BitVec 32 := Scalar.muli v4023 c128_i32_1257
  v4024
def k0_off6 (i : grid0.Coords) (k0_t2 : Fin (k0_t2_loop i).trips) : Fin 3 → Nat :=
  let c0_1258 : Index := 0#32
  let c0_i32_1117 : BitVec 32 := 0#32
  let arg2 : BitVec 32 := BitVec.ofNat 32 (i 2).val
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let c128_i32_1257 : BitVec 32 := 128#32
  let v4024 : BitVec 32 := Scalar.muli v4023 c128_i32_1257
  let v4025 : BitVec 32 := v4024
  let v4026 : Index := Scalar.indexCast v4025
  let c0_1259 : Index := 0#32
  ![0, v4026.toNat, 0]
def k0_off7 (i : grid0.Coords) (k0_t2 : Fin (k0_t2_loop i).trips) (c0_i32_1261 : BitVec 32) : Fin 4 → Nat :=
  let c0_1285 : Index := 0#32
  let c2_i32_1263 : BitVec 32 := 2#32
  let c0_i32_1262 : BitVec 32 := 0#32
  let arg2 : BitVec 32 := BitVec.ofNat 32 (i 2).val
  let c0_i32_1117 : BitVec 32 := 0#32
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4068 : Index := Scalar.indexCast v4039
  let c0_1286 : Index := 0#32
  let c0_1287 : Index := 0#32
  ![0, v4068.toNat, 0, 0]
def k0_off8 (i : grid0.Coords) (k0_t2 : Fin (k0_t2_loop i).trips) (c0_i32_1261 : BitVec 32) : Fin 4 → Nat :=
  let c1_1311 : Index := 1#32
  let c2_i32_1263 : BitVec 32 := 2#32
  let c0_i32_1262 : BitVec 32 := 0#32
  let arg2 : BitVec 32 := BitVec.ofNat 32 (i 2).val
  let c0_i32_1117 : BitVec 32 := 0#32
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4097 : Index := Scalar.indexCast v4039
  let c0_1312 : Index := 0#32
  let c0_1313 : Index := 0#32
  ![1, v4097.toNat, 0, 0]
def k0_off9 (i : grid0.Coords) (k0_t2 : Fin (k0_t2_loop i).trips) (c0_i32_1261 : BitVec 32) : Fin 4 → Nat :=
  let c2_1337 : Index := 2#32
  let c2_i32_1263 : BitVec 32 := 2#32
  let c0_i32_1262 : BitVec 32 := 0#32
  let arg2 : BitVec 32 := BitVec.ofNat 32 (i 2).val
  let c0_i32_1117 : BitVec 32 := 0#32
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4126 : Index := Scalar.indexCast v4039
  let c0_1338 : Index := 0#32
  let c0_1339 : Index := 0#32
  ![2, v4126.toNat, 0, 0]
def k0_off10 (i : grid0.Coords) (k0_t2 : Fin (k0_t2_loop i).trips) (c0_i32_1261 : BitVec 32) : Fin 4 → Nat :=
  let c3_1363 : Index := 3#32
  let c2_i32_1263 : BitVec 32 := 2#32
  let c0_i32_1262 : BitVec 32 := 0#32
  let arg2 : BitVec 32 := BitVec.ofNat 32 (i 2).val
  let c0_i32_1117 : BitVec 32 := 0#32
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let v4036 : BitVec 32 := Scalar.subi arg2 v4023
  let v4037 : BitVec 32 := Scalar.subi v4036 c0_i32_1261
  let v4038 : BitVec 32 := Scalar.maxsi c0_i32_1262 v4037
  let v4039 : BitVec 32 := Scalar.minsi c2_i32_1263 v4038
  let v4155 : Index := Scalar.indexCast v4039
  let c0_1364 : Index := 0#32
  let c0_1365 : Index := 0#32
  ![3, v4155.toNat, 0, 0]
def k0_mult4 (i : grid0.Coords) (k0_t2 : Fin (k0_t2_loop i).trips) : BitVec 32 :=
  let c0_i32_1117 : BitVec 32 := 0#32
  let arg2 : BitVec 32 := BitVec.ofNat 32 (i 2).val
  let c0_i32_1110 : BitVec 32 := 0#32
  let v3718 : BitVec 1 := Scalar.cmpi .sgt arg2 c0_i32_1110
  let v3719 : BitVec 32 := Scalar.extui v3718
  let c0_i32_1111 : BitVec 32 := 0#32
  let v3720 : BitVec 1 := Scalar.cmpi .slt arg2 c0_i32_1111
  let v3721 : BitVec 32 := Scalar.extui v3720
  let v3722 : BitVec 32 := Scalar.subi v3719 v3721
  let c8_i32_1109 : BitVec 32 := 8#32
  let c0_i32_1112 : BitVec 32 := 0#32
  let v3723 : BitVec 1 := Scalar.cmpi .sgt c8_i32_1109 c0_i32_1112
  let v3724 : BitVec 32 := Scalar.extui v3723
  let c0_i32_1113 : BitVec 32 := 0#32
  let v3725 : BitVec 1 := Scalar.cmpi .slt c8_i32_1109 c0_i32_1113
  let v3726 : BitVec 32 := Scalar.extui v3725
  let v3727 : BitVec 32 := Scalar.subi v3724 v3726
  let v3728 : BitVec 1 := Scalar.cmpi .ne v3722 v3727
  let v3729 : BitVec 32 := Scalar.remsi arg2 c8_i32_1109
  let c0_i32_1114 : BitVec 32 := 0#32
  let v3730 : BitVec 1 := Scalar.cmpi .ne v3729 c0_i32_1114
  let v3731 : BitVec 1 := Scalar.andi v3728 v3730
  let v3717 : BitVec 32 := Scalar.divsi arg2 c8_i32_1109
  let c1_i32_1115 : BitVec 32 := 1#32
  let v3732 : BitVec 32 := Scalar.subi v3717 c1_i32_1115
  let v3733 : BitVec 32 := Scalar.select v3731 v3732 v3717
  let c1_i32_1116 : BitVec 32 := 1#32
  let v3734 : BitVec 32 := Scalar.addi v3733 c1_i32_1116
  let v3735 : BitVec 32 := Scalar.subi v3734 c0_i32_1117
  let c1_i32_1118 : BitVec 32 := 1#32
  let v3737 : BitVec 32 := Scalar.divsi v3735 c1_i32_1118
  let v3738 : BitVec 32 := Scalar.muli v3737 c1_i32_1118
  let v3739 : BitVec 32 := Scalar.addi c0_i32_1117 v3738
  let c1_i32_1120 : BitVec 32 := 1#32
  let arg14 : BitVec 32 := Scf.iv v3739 c1_i32_1120 k0_t2
  let c8_i32_1256 : BitVec 32 := 8#32
  let v4023 : BitVec 32 := Scalar.muli arg14 c8_i32_1256
  let c128_i32_1396 : BitVec 32 := 128#32
  let v4203 : BitVec 32 := Scalar.muli v4023 c128_i32_1396
  v4203
def k0_mult5 (i : grid0.Coords) : BitVec 32 :=
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let c128_i32_1135 : BitVec 32 := 128#32
  let v3776 : BitVec 32 := Scalar.muli v3775 c128_i32_1135
  v3776
def k0_off11 (i : grid0.Coords) : Fin 3 → Nat :=
  let c0_1136 : Index := 0#32
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let c128_i32_1135 : BitVec 32 := 128#32
  let v3776 : BitVec 32 := Scalar.muli v3775 c128_i32_1135
  let v3777 : BitVec 32 := v3776
  let v3778 : Index := Scalar.indexCast v3777
  let c0_1137 : Index := 0#32
  ![0, v3778.toNat, 0]
def k0_off12 (i : grid0.Coords) (c0_i32_1139 : BitVec 32) : Fin 4 → Nat :=
  let c0_1154 : Index := 0#32
  let c2_i32_1141 : BitVec 32 := 2#32
  let c0_i32_1140 : BitVec 32 := 0#32
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let v3788 : BitVec 32 := Scalar.subi arg2 v3775
  let v3789 : BitVec 32 := Scalar.subi v3788 c0_i32_1139
  let v3790 : BitVec 32 := Scalar.maxsi c0_i32_1140 v3789
  let v3791 : BitVec 32 := Scalar.minsi c2_i32_1141 v3790
  let v3808 : Index := Scalar.indexCast v3791
  let c0_1155 : Index := 0#32
  let c0_1156 : Index := 0#32
  ![0, v3808.toNat, 0, 0]
def k0_off13 (i : grid0.Coords) (c0_i32_1139 : BitVec 32) : Fin 4 → Nat :=
  let c1_1171 : Index := 1#32
  let c2_i32_1141 : BitVec 32 := 2#32
  let c0_i32_1140 : BitVec 32 := 0#32
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let v3788 : BitVec 32 := Scalar.subi arg2 v3775
  let v3789 : BitVec 32 := Scalar.subi v3788 c0_i32_1139
  let v3790 : BitVec 32 := Scalar.maxsi c0_i32_1140 v3789
  let v3791 : BitVec 32 := Scalar.minsi c2_i32_1141 v3790
  let v3828 : Index := Scalar.indexCast v3791
  let c0_1172 : Index := 0#32
  let c0_1173 : Index := 0#32
  ![1, v3828.toNat, 0, 0]
def k0_off14 (i : grid0.Coords) (c0_i32_1139 : BitVec 32) : Fin 4 → Nat :=
  let c2_1188 : Index := 2#32
  let c2_i32_1141 : BitVec 32 := 2#32
  let c0_i32_1140 : BitVec 32 := 0#32
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let v3788 : BitVec 32 := Scalar.subi arg2 v3775
  let v3789 : BitVec 32 := Scalar.subi v3788 c0_i32_1139
  let v3790 : BitVec 32 := Scalar.maxsi c0_i32_1140 v3789
  let v3791 : BitVec 32 := Scalar.minsi c2_i32_1141 v3790
  let v3848 : Index := Scalar.indexCast v3791
  let c0_1189 : Index := 0#32
  let c0_1190 : Index := 0#32
  ![2, v3848.toNat, 0, 0]
def k0_off15 (i : grid0.Coords) (c0_i32_1139 : BitVec 32) : Fin 4 → Nat :=
  let c3_1205 : Index := 3#32
  let c2_i32_1141 : BitVec 32 := 2#32
  let c0_i32_1140 : BitVec 32 := 0#32
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let v3788 : BitVec 32 := Scalar.subi arg2 v3775
  let v3789 : BitVec 32 := Scalar.subi v3788 c0_i32_1139
  let v3790 : BitVec 32 := Scalar.maxsi c0_i32_1140 v3789
  let v3791 : BitVec 32 := Scalar.minsi c2_i32_1141 v3790
  let v3868 : Index := Scalar.indexCast v3791
  let c0_1206 : Index := 0#32
  let c0_1207 : Index := 0#32
  ![3, v3868.toNat, 0, 0]
def k0_mult6 (i : grid0.Coords) : BitVec 32 :=
  let arg2 : BitVec 32 := BitVec.ofNat 32 (i 2).val
  let c4_i32_1133 : BitVec 32 := 4#32
  let v3774 : BitVec 32 := Scalar.subi arg2 c4_i32_1133
  let c0_i32_1134 : BitVec 32 := 0#32
  let v3775 : BitVec 32 := Scalar.maxsi v3774 c0_i32_1134
  let c128_i32_1225 : BitVec 32 := 128#32
  let v3896 : BitVec 32 := Scalar.muli v3775 c128_i32_1225
  v3896
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x3x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Kernel7Ideal.lean ====
variable {F : FTy → Type} [FloatOps F] [Named F]
def κ : String → Option EReal := fun
  | "mask" => some ⊥
  | _ => none
-- ==== Reference7Ideal.lean ====
abbrev S2x4096x5120 : Shape := ⟨3, ![2, 4096, 5120]⟩
abbrev S2x2x4x256x128 : Shape := ⟨5, ![2, 2, 4, 256, 128]⟩
abbrev S2x4096x512 : Shape := ⟨3, ![2, 4096, 512]⟩
abbrev S16x3x128x128 : Shape := ⟨4, ![16, 3, 128, 128]⟩
abbrev S16x128x128 : Shape := ⟨3, ![16, 128, 128]⟩
abbrev S2x4096x2048 : Shape := ⟨3, ![2, 4096, 2048]⟩
abbrev S2x4096x4x4x128 : Shape := ⟨5, ![2, 4096, 4, 4, 128]⟩
abbrev S2x4x4x4096x128 : Shape := ⟨5, ![2, 4, 4, 4096, 128]⟩
abbrev S2x4096x3072 : Shape := ⟨3, ![2, 4096, 3072]⟩
abbrev S2x4096x6x4x128 : Shape := ⟨5, ![2, 4096, 6, 4, 128]⟩
abbrev S6x2x4x4096x128 : Shape := ⟨5, ![6, 2, 4, 4096, 128]⟩
abbrev S1x2x4x4096x128 : Shape := ⟨5, ![1, 2, 4, 4096, 128]⟩
abbrev S2x4x4096x128 : Shape := ⟨4, ![2, 4, 4096, 128]⟩
abbrev S2x1x4x255x128 : Shape := ⟨5, ![2, 1, 4, 255, 128]⟩
abbrev S2x4x255x128 : Shape := ⟨4, ![2, 4, 255, 128]⟩
abbrev S2x4096x4x128 : Shape := ⟨4, ![2, 4096, 4, 128]⟩
abbrev S2x4096x4x12 : Shape := ⟨4, ![2, 4096, 4, 12]⟩
abbrev S2x4096x4x3x4 : Shape := ⟨5, ![2, 4096, 4, 3, 4]⟩
abbrev S3x2x4x4x4096 : Shape := ⟨5, ![3, 2, 4, 4, 4096]⟩
abbrev S3x2x4x4x4096x1 : Shape := ⟨6, ![3, 2, 4, 4, 4096, 1]⟩
abbrev S4096 : Shape := ⟨1, ![4096]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x1x32x1 : Shape := ⟨4, ![32, 1, 32, 1]⟩
abbrev S16x1x128x128 : Shape := ⟨4, ![16, 1, 128, 128]⟩
abbrev S4x4x1x128x1x128 : Shape := ⟨6, ![4, 4, 1, 128, 1, 128]⟩
abbrev S_ : Shape := ⟨0, ![]⟩
abbrev S4x4x32x128x32x128 : Shape := ⟨6, ![4, 4, 32, 128, 32, 128]⟩
abbrev S4x4x4096x4096 : Shape := ⟨4, ![4, 4, 4096, 4096]⟩
abbrev S255 : Shape := ⟨1, ![255]⟩
abbrev S1x255 : Shape := ⟨2, ![1, 255]⟩
abbrev S32x255 : Shape := ⟨2, ![32, 255]⟩
abbrev S32x255x1 : Shape := ⟨3, ![32, 255, 1]⟩
abbrev S16x128x32x255 : Shape := ⟨4, ![16, 128, 32, 255]⟩
abbrev S16x32x128x255 : Shape := ⟨4, ![16, 32, 128, 255]⟩
abbrev S32x1x255 : Shape := ⟨3, ![32, 1, 255]⟩
abbrev S16x128x256 : Shape := ⟨3, ![16, 128, 256]⟩
abbrev S16x128x255 : Shape := ⟨3, ![16, 128, 255]⟩
abbrev S16x1x128x255 : Shape := ⟨4, ![16, 1, 128, 255]⟩
abbrev S4x4x4096x255 : Shape := ⟨4, ![4, 4, 4096, 255]⟩
abbrev S2x4x4x4096x255 : Shape := ⟨5, ![2, 4, 4, 4096, 255]⟩
abbrev S1x4x4x4096x255 : Shape := ⟨5, ![1, 4, 4, 4096, 255]⟩
abbrev S4096x1 : Shape := ⟨2, ![4096, 1]⟩
abbrev S4096x255 : Shape := ⟨2, ![4096, 255]⟩
abbrev S2x4x4x4096 : Shape := ⟨4, ![2, 4, 4, 4096]⟩
abbrev S2x4x4x4096x1 : Shape := ⟨5, ![2, 4, 4, 4096, 1]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S2x4x4096x255 : Shape := ⟨4, ![2, 4, 4096, 255]⟩
abbrev S2x4x4096x64 : Shape := ⟨4, ![2, 4, 4096, 64]⟩
abbrev S4096x64 : Shape := ⟨2, ![4096, 64]⟩
abbrev S2x4x4096x16 : Shape := ⟨4, ![2, 4, 4096, 16]⟩
abbrev S2x4x4096x16x1 : Shape := ⟨5, ![2, 4, 4096, 16, 1]⟩
abbrev S1x1x1x1x64 : Shape := ⟨5, ![1, 1, 1, 1, 64]⟩
abbrev S2x4x4096x16x64 : Shape := ⟨5, ![2, 4, 4096, 16, 64]⟩
abbrev S1x4096 : Shape := ⟨2, ![1, 4096]⟩
abbrev S4096x4096 : Shape := ⟨2, ![4096, 4096]⟩
abbrev S2x4x4096x64x1 : Shape := ⟨5, ![2, 4, 4096, 64, 1]⟩
abbrev S2x4x4096x64x64 : Shape := ⟨5, ![2, 4, 4096, 64, 64]⟩
abbrev S2x4x1x4096x4096 : Shape := ⟨5, ![2, 4, 1, 4096, 4096]⟩
abbrev S2x4x4x4096x4096 : Shape := ⟨5, ![2, 4, 4, 4096, 4096]⟩
abbrev S1x4x4x4096x4096 : Shape := ⟨5, ![1, 4, 4, 4096, 4096]⟩
abbrev S1x1x1x4096x4096 : Shape := ⟨5, ![1, 1, 1, 4096, 4096]⟩
abbrev S1x2x4x4x4096x1 : Shape := ⟨6, ![1, 2, 4, 4, 4096, 1]⟩

abbrev nBuf : Space → Nat
  | .hbm => 325
  | .vmem => 0
  | .smem => 0
  | _ => 0

abbrev hbmTy0_0 (i : Nat) : BufTy := match i % 128 with
  | 0 => ⟨S2x4096x5120, .bf16⟩
  | 1 => ⟨S2x2x4x256x128, .bf16⟩
  | 2 => ⟨S2x4096x512, .f32⟩
  | 3 => ⟨S16x3x128x128, .f32⟩
  | 4 => ⟨S16x128x128, .f32⟩
  | 5 => ⟨S2x4096x5120, .f32⟩
  | 6 => ⟨S2x4096x2048, .f32⟩
  | 7 => ⟨S2x4096x4x4x128, .f32⟩
  | 8 => ⟨S2x4x4x4096x128, .f32⟩
  | 9 => ⟨S2x4096x3072, .f32⟩
  | 10 => ⟨S2x4096x6x4x128, .f32⟩
  | 11 => ⟨S6x2x4x4096x128, .f32⟩
  | 12 => ⟨S1x2x4x4096x128, .f32⟩
  | 13 => ⟨S2x4x4096x128, .f32⟩
  | 14 => ⟨S1x2x4x4096x128, .f32⟩
  | 15 => ⟨S2x4x4096x128, .f32⟩
  | 16 => ⟨S1x2x4x4096x128, .f32⟩
  | 17 => ⟨S2x4x4096x128, .f32⟩
  | 18 => ⟨S1x2x4x4096x128, .f32⟩
  | 19 => ⟨S2x4x4096x128, .f32⟩
  | 20 => ⟨S2x1x4x255x128, .bf16⟩
  | 21 => ⟨S2x4x255x128, .bf16⟩
  | 22 => ⟨S2x4x255x128, .f32⟩
  | 23 => ⟨S2x1x4x255x128, .bf16⟩
  | 24 => ⟨S2x4x255x128, .bf16⟩
  | 25 => ⟨S2x4x255x128, .f32⟩
  | 26 => ⟨S2x4096x4x128, .f32⟩
  | 27 => ⟨S2x4096x4x12, .f32⟩
  | 28 => ⟨S2x4096x4x3x4, .f32⟩
  | 29 => ⟨S3x2x4x4x4096, .f32⟩
  | 30 => ⟨S3x2x4x4x4096x1, .f32⟩
  | 31 => ⟨S4096, .i32⟩
  | 32 => ⟨S32, .i32⟩
  | 33 => ⟨S32x1, .i32⟩
  | 34 => ⟨S1x32, .i32⟩
  | 35 => ⟨S32x32, .i32⟩
  | 36 => ⟨S32x32, .i32⟩
  | 37 => ⟨S32x32, .i32⟩
  | 38 => ⟨S32x1x32x1, .i32⟩
  | 39 => ⟨S16x1x128x128, .f32⟩
  | 40 => ⟨S16x128x128, .f32⟩
  | 41 => ⟨S4x4x1x128x1x128, .f32⟩
  | 42 => ⟨S16x1x128x128, .f32⟩
  | 43 => ⟨S16x128x128, .f32⟩
  | 44 => ⟨S4x4x1x128x1x128, .f32⟩
  | 45 => ⟨S16x1x128x128, .f32⟩
  | 46 => ⟨S16x128x128, .f32⟩
  | 47 => ⟨S4x4x1x128x1x128, .f32⟩
  | 48 => ⟨S_, .i32⟩
  | 49 => ⟨S32x1x32x1, .i32⟩
  | 50 => ⟨S32x1x32x1, .i1⟩
  | 51 => ⟨S_, .i32⟩
  | 52 => ⟨S32x1x32x1, .i32⟩
  | 53 => ⟨S32x1x32x1, .i1⟩
  | 54 => ⟨S4x4x32x128x32x128, .i1⟩
  | 55 => ⟨S4x4x32x128x32x128, .f32⟩
  | 56 => ⟨S4x4x32x128x32x128, .f32⟩
  | 57 => ⟨S4x4x32x128x32x128, .f32⟩
  | 58 => ⟨S4x4x32x128x32x128, .i1⟩
  | 59 => ⟨S4x4x32x128x32x128, .f32⟩
  | 60 => ⟨S4x4x32x128x32x128, .f32⟩
  | 61 => ⟨S4x4x4096x4096, .f32⟩
  | 62 => ⟨S255, .i32⟩
  | 63 => ⟨S32x1, .i32⟩
  | 64 => ⟨S_, .i32⟩
  | 65 => ⟨S32x1, .i32⟩
  | 66 => ⟨S32x1, .i32⟩
  | 67 => ⟨S1x255, .i32⟩
  | 68 => ⟨S32x255, .i32⟩
  | 69 => ⟨S32x255, .i32⟩
  | 70 => ⟨S32x255, .i32⟩
  | 71 => ⟨S_, .i32⟩
  | 72 => ⟨S32x255, .i32⟩
  | 73 => ⟨S32x255, .i32⟩
  | 74 => ⟨S_, .i32⟩
  | 75 => ⟨S_, .i32⟩
  | 76 => ⟨S_, .i32⟩
  | 77 => ⟨S32x255, .i32⟩
  | 78 => ⟨S32x255, .i32⟩
  | 79 => ⟨S_, .i32⟩
  | 80 => ⟨S32x255, .i32⟩
  | 81 => ⟨S32x255, .i32⟩
  | 82 => ⟨S32x255x1, .i32⟩
  | 83 => ⟨S16x128x32x255, .f32⟩
  | 84 => ⟨S16x32x128x255, .f32⟩
  | 85 => ⟨S_, .i32⟩
  | 86 => ⟨S32x255, .i32⟩
  | 87 => ⟨S32x255, .i1⟩
  | 88 => ⟨S_, .i32⟩
  | 89 => ⟨S32x255, .i32⟩
  | 90 => ⟨S32x255, .i1⟩
  | 91 => ⟨S32x255, .i1⟩
  | 92 => ⟨S32x1x255, .i1⟩
  | 93 => ⟨S16x32x128x255, .i1⟩
  | 94 => ⟨S_, .f32⟩
  | 95 => ⟨S16x32x128x255, .f32⟩
  | 96 => ⟨S16x32x128x255, .f32⟩
  | 97 => ⟨S16x1x128x128, .f32⟩
  | 98 => ⟨S16x128x128, .f32⟩
  | 99 => ⟨S16x1x128x128, .f32⟩
  | 100 => ⟨S16x128x128, .f32⟩
  | 101 => ⟨S16x128x256, .f32⟩
  | 102 => ⟨S16x128x255, .f32⟩
  | 103 => ⟨S16x1x128x255, .f32⟩
  | 104 => ⟨S16x32x128x255, .f32⟩
  | 105 => ⟨S16x32x128x255, .f32⟩
  | 106 => ⟨S4x4x4096x255, .f32⟩
  | 107 => ⟨S_, .i32⟩
  | 108 => ⟨S255, .i32⟩
  | 109 => ⟨S255, .i32⟩
  | 110 => ⟨S_, .i32⟩
  | 111 => ⟨S255, .i32⟩
  | 112 => ⟨S255, .i32⟩
  | 113 => ⟨S_, .i32⟩
  | 114 => ⟨S255, .i32⟩
  | 115 => ⟨S255, .i32⟩
  | 116 => ⟨S2x4x4x4096x255, .f32⟩
  | 117 => ⟨S_, .f32⟩
  | 118 => ⟨S2x4x4x4096x255, .f32⟩
  | 119 => ⟨S2x4x4x4096x255, .f32⟩
  | 120 => ⟨S1x4x4x4096x255, .f32⟩
  | 121 => ⟨S2x4x4x4096x255, .f32⟩
  | 122 => ⟨S2x4x4x4096x255, .f32⟩
  | 123 => ⟨S4096x1, .i32⟩
  | 124 => ⟨S1x255, .i32⟩
  | 125 => ⟨S4096x255, .i32⟩
  | 126 => ⟨S4096x255, .i32⟩
  | 127 => ⟨S4096x255, .i32⟩
  | _ => ⟨S2x4096x5120, .bf16⟩

abbrev hbmTy0_1 (i : Nat) : BufTy := match i % 128 with
  | 0 => ⟨S_, .i32⟩
  | 1 => ⟨S4096x255, .i32⟩
  | 2 => ⟨S4096x255, .i1⟩
  | 3 => ⟨S2x4x4x4096x255, .i1⟩
  | 4 => ⟨S_, .f32⟩
  | 5 => ⟨S2x4x4x4096x255, .f32⟩
  | 6 => ⟨S2x4x4x4096x255, .f32⟩
  | 7 => ⟨S_, .f32⟩
  | 8 => ⟨S2x4x4x4096, .f32⟩
  | 9 => ⟨S_, .f32⟩
  | 10 => ⟨S2x4x4x4096, .f32⟩
  | 11 => ⟨S2x4x4x4096, .f32⟩
  | 12 => ⟨S2x4x4x4096x1, .f32⟩
  | 13 => ⟨S2x4x4x4096x255, .f32⟩
  | 14 => ⟨S2x4x4x4096x255, .f32⟩
  | 15 => ⟨S2x4x4x4096x255, .f32⟩
  | 16 => ⟨S_, .f32⟩
  | 17 => ⟨S2x4x4x4096, .f32⟩
  | 18 => ⟨S2x4x4x4096x1, .f32⟩
  | 19 => ⟨S2x4x4x4096x255, .f32⟩
  | 20 => ⟨S2x4x4x4096x255, .f32⟩
  | 21 => ⟨S2x4x4x4096x255, .i1⟩
  | 22 => ⟨S_, .f32⟩
  | 23 => ⟨S2x4x4x4096x255, .f32⟩
  | 24 => ⟨S2x4x4x4096x255, .f32⟩
  | 25 => ⟨S2x4x4x4096x128, .f32⟩
  | 26 => ⟨S64, .i32⟩
  | 27 => ⟨S255x1, .i32⟩
  | 28 => ⟨S1x64, .i32⟩
  | 29 => ⟨S_, .i32⟩
  | 30 => ⟨S1x64, .i32⟩
  | 31 => ⟨S1x64, .i32⟩
  | 32 => ⟨S_, .i32⟩
  | 33 => ⟨S1x64, .i32⟩
  | 34 => ⟨S1x64, .i32⟩
  | 35 => ⟨S255x64, .i32⟩
  | 36 => ⟨S255x64, .i32⟩
  | 37 => ⟨S255x64, .i1⟩
  | 38 => ⟨S1x64, .i32⟩
  | 39 => ⟨S_, .i32⟩
  | 40 => ⟨S1x64, .i32⟩
  | 41 => ⟨S1x64, .i32⟩
  | 42 => ⟨S255x1, .i32⟩
  | 43 => ⟨S255x64, .i32⟩
  | 44 => ⟨S255x64, .i32⟩
  | 45 => ⟨S255x64, .i1⟩
  | 46 => ⟨S255x64, .i1⟩
  | 47 => ⟨S255x64, .f32⟩
  | 48 => ⟨S_, .f32⟩
  | 49 => ⟨S2x4x4096x255, .f32⟩
  | 50 => ⟨S2x4x4096x64, .f32⟩
  | 51 => ⟨S_, .i32⟩
  | 52 => ⟨S4096, .i32⟩
  | 53 => ⟨S4096, .i32⟩
  | 54 => ⟨S1x64, .i32⟩
  | 55 => ⟨S_, .i32⟩
  | 56 => ⟨S1x64, .i32⟩
  | 57 => ⟨S1x64, .i1⟩
  | 58 => ⟨S1x64, .i32⟩
  | 59 => ⟨S4096x1, .i32⟩
  | 60 => ⟨S4096x64, .i32⟩
  | 61 => ⟨S4096x64, .i32⟩
  | 62 => ⟨S4096x64, .i1⟩
  | 63 => ⟨S4096x64, .i1⟩
  | 64 => ⟨S4096x64, .i1⟩
  | 65 => ⟨S1x64, .i32⟩
  | 66 => ⟨S4096x1, .i32⟩
  | 67 => ⟨S_, .i32⟩
  | 68 => ⟨S4096x1, .i32⟩
  | 69 => ⟨S4096x1, .i32⟩
  | 70 => ⟨S4096x64, .i32⟩
  | 71 => ⟨S4096x64, .i32⟩
  | 72 => ⟨S4096x64, .i1⟩
  | 73 => ⟨S4096x64, .i1⟩
  | 74 => ⟨S1x64, .i32⟩
  | 75 => ⟨S_, .i32⟩
  | 76 => ⟨S1x64, .i32⟩
  | 77 => ⟨S1x64, .i32⟩
  | 78 => ⟨S4096x1, .i32⟩
  | 79 => ⟨S4096x64, .i32⟩
  | 80 => ⟨S4096x64, .i32⟩
  | 81 => ⟨S4096x64, .i1⟩
  | 82 => ⟨S2x4x4096x64, .i1⟩
  | 83 => ⟨S_, .f32⟩
  | 84 => ⟨S2x4x4096x64, .f32⟩
  | 85 => ⟨S2x4x4096x64, .f32⟩
  | 86 => ⟨S2x4x4096x64, .i1⟩
  | 87 => ⟨S_, .f32⟩
  | 88 => ⟨S2x4x4096x64, .f32⟩
  | 89 => ⟨S2x4x4096x64, .f32⟩
  | 90 => ⟨S2x4x4096x16, .f32⟩
  | 91 => ⟨S2x4x4096x16, .i32⟩
  | 92 => ⟨S2x4x4096x16x1, .i32⟩
  | 93 => ⟨S1x1x1x1x64, .i32⟩
  | 94 => ⟨S2x4x4096x16x64, .i32⟩
  | 95 => ⟨S2x4x4096x16x64, .i32⟩
  | 96 => ⟨S2x4x4096x16x64, .i1⟩
  | 97 => ⟨S_, .i1⟩
  | 98 => ⟨S2x4x4096x64, .i1⟩
  | 99 => ⟨S4096x1, .i32⟩
  | 100 => ⟨S1x4096, .i32⟩
  | 101 => ⟨S4096x4096, .i32⟩
  | 102 => ⟨S4096x4096, .i32⟩
  | 103 => ⟨S4096x4096, .i32⟩
  | 104 => ⟨S2x4x4096x64x1, .i1⟩
  | 105 => ⟨S2x4x4096x64x64, .i1⟩
  | 106 => ⟨S2x4x1x4096x4096, .i1⟩
  | 107 => ⟨S2x4x4x4096x4096, .f32⟩
  | 108 => ⟨S_, .f32⟩
  | 109 => ⟨S2x4x4x4096x4096, .f32⟩
  | 110 => ⟨S2x4x4x4096x4096, .f32⟩
  | 111 => ⟨S1x4x4x4096x4096, .f32⟩
  | 112 => ⟨S2x4x4x4096x4096, .f32⟩
  | 113 => ⟨S2x4x4x4096x4096, .f32⟩
  | 114 => ⟨S_, .i32⟩
  | 115 => ⟨S4096x4096, .i32⟩
  | 116 => ⟨S4096x4096, .i1⟩
  | 117 => ⟨S1x1x1x4096x4096, .i1⟩
  | 118 => ⟨S2x4x1x4096x4096, .i1⟩
  | 119 => ⟨S2x4x1x4096x4096, .i1⟩
  | 120 => ⟨S2x4x4x4096x4096, .i1⟩
  | 121 => ⟨S_, .f32⟩
  | 122 => ⟨S2x4x4x4096x4096, .f32⟩
  | 123 => ⟨S2x4x4x4096x4096, .f32⟩
  | 124 => ⟨S_, .f32⟩
  | 125 => ⟨S2x4x4x4096, .f32⟩
  | 126 => ⟨S_, .f32⟩
  | 127 => ⟨S2x4x4x4096, .f32⟩
  | _ => ⟨S2x4096x5120, .bf16⟩

abbrev hbmTy0_2 (i : Nat) : BufTy := match i % 128 with
  | 0 => ⟨S2x4x4x4096, .f32⟩
  | 1 => ⟨S2x4x4x4096x1, .f32⟩
  | 2 => ⟨S2x4x4x4096x4096, .f32⟩
  | 3 => ⟨S2x4x4x4096x4096, .f32⟩
  | 4 => ⟨S2x4x4x4096x4096, .f32⟩
  | 5 => ⟨S_, .f32⟩
  | 6 => ⟨S2x4x4x4096, .f32⟩
  | 7 => ⟨S2x4x4x4096x1, .f32⟩
  | 8 => ⟨S2x4x4x4096x4096, .f32⟩
  | 9 => ⟨S2x4x4x4096x4096, .f32⟩
  | 10 => ⟨S2x4x4x4096x4096, .i1⟩
  | 11 => ⟨S_, .f32⟩
  | 12 => ⟨S2x4x4x4096x4096, .f32⟩
  | 13 => ⟨S2x4x4x4096x4096, .f32⟩
  | 14 => ⟨S2x4x4x4096x128, .f32⟩
  | 15 => ⟨S2x4x4x4096x4096, .f32⟩
  | 16 => ⟨S_, .f32⟩
  | 17 => ⟨S2x4x4x4096x4096, .f32⟩
  | 18 => ⟨S2x4x4x4096x4096, .f32⟩
  | 19 => ⟨S1x4x4x4096x4096, .f32⟩
  | 20 => ⟨S2x4x4x4096x4096, .f32⟩
  | 21 => ⟨S2x4x4x4096x4096, .f32⟩
  | 22 => ⟨S_, .i32⟩
  | 23 => ⟨S4096x4096, .i32⟩
  | 24 => ⟨S4096x4096, .i1⟩
  | 25 => ⟨S_, .i32⟩
  | 26 => ⟨S4096x4096, .i32⟩
  | 27 => ⟨S4096x4096, .i1⟩
  | 28 => ⟨S4096x4096, .i1⟩
  | 29 => ⟨S2x4x4x4096x4096, .i1⟩
  | 30 => ⟨S_, .f32⟩
  | 31 => ⟨S2x4x4x4096x4096, .f32⟩
  | 32 => ⟨S2x4x4x4096x4096, .f32⟩
  | 33 => ⟨S_, .f32⟩
  | 34 => ⟨S2x4x4x4096, .f32⟩
  | 35 => ⟨S_, .f32⟩
  | 36 => ⟨S2x4x4x4096, .f32⟩
  | 37 => ⟨S2x4x4x4096, .f32⟩
  | 38 => ⟨S2x4x4x4096x1, .f32⟩
  | 39 => ⟨S2x4x4x4096x4096, .f32⟩
  | 40 => ⟨S2x4x4x4096x4096, .f32⟩
  | 41 => ⟨S2x4x4x4096x4096, .f32⟩
  | 42 => ⟨S_, .f32⟩
  | 43 => ⟨S2x4x4x4096, .f32⟩
  | 44 => ⟨S2x4x4x4096x1, .f32⟩
  | 45 => ⟨S2x4x4x4096x4096, .f32⟩
  | 46 => ⟨S2x4x4x4096x4096, .f32⟩
  | 47 => ⟨S2x4x4x4096x4096, .i1⟩
  | 48 => ⟨S_, .f32⟩
  | 49 => ⟨S2x4x4x4096x4096, .f32⟩
  | 50 => ⟨S2x4x4x4096x4096, .f32⟩
  | 51 => ⟨S2x4x4x4096x128, .f32⟩
  | 52 => ⟨S1x2x4x4x4096x1, .f32⟩
  | 53 => ⟨S2x4x4x4096x1, .f32⟩
  | 54 => ⟨S2x4x4x4096x128, .f32⟩
  | 55 => ⟨S2x4x4x4096x128, .f32⟩
  | 56 => ⟨S1x2x4x4x4096x1, .f32⟩
  | 57 => ⟨S2x4x4x4096x1, .f32⟩
  | 58 => ⟨S2x4x4x4096x128, .f32⟩
  | 59 => ⟨S2x4x4x4096x128, .f32⟩
  | 60 => ⟨S2x4x4x4096x128, .f32⟩
  | 61 => ⟨S1x2x4x4x4096x1, .f32⟩
  | 62 => ⟨S2x4x4x4096x1, .f32⟩
  | 63 => ⟨S2x4x4x4096x128, .f32⟩
  | 64 => ⟨S2x4x4x4096x128, .f32⟩
  | 65 => ⟨S2x4x4x4096x128, .f32⟩
  | 66 => ⟨S2x4096x4x4x128, .f32⟩
  | 67 => ⟨S2x4096x2048, .f32⟩
  | 68 => ⟨S2x4096x2048, .bf16⟩
  | _ => ⟨S2x4096x5120, .bf16⟩

abbrev hbmTy (i : Nat) : BufTy := match i / 128 with
  | 0 => hbmTy0_0 i
  | 1 => hbmTy0_1 i
  | 2 => hbmTy0_2 i
  | _ => ⟨S2x4096x5120, .bf16⟩

abbrev bufTy : (tb : Table) → Fin (tcTables nBuf tb) → BufTy
  | .hbm, ⟨i, _⟩ => hbmTy i
  | _, _ => ⟨S2x4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c : Ref sig .tc := ⟨.hbm, 48, rfl⟩
abbrev main_v43 : Ref sig .tc := ⟨.hbm, 49, rfl⟩
abbrev main_v44 : Ref sig .tc := ⟨.hbm, 50, rfl⟩
abbrev main_c_0 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_c_1 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_c_2 : Ref sig .tc := ⟨.hbm, 71, rfl⟩
abbrev main_v63 : Ref sig .tc := ⟨.hbm, 72, rfl⟩
abbrev main_v64 : Ref sig .tc := ⟨.hbm, 73, rfl⟩
abbrev main_c_3 : Ref sig .tc := ⟨.hbm, 74, rfl⟩
abbrev main_c_4 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v65 : Ref sig .tc := ⟨.hbm, 81, rfl⟩
abbrev main_call1_v0 : Ref sig .tc := ⟨.hbm, 82, rfl⟩
abbrev main_v66 : Ref sig .tc := ⟨.hbm, 83, rfl⟩
abbrev main_v67 : Ref sig .tc := ⟨.hbm, 84, rfl⟩
abbrev main_c_5 : Ref sig .tc := ⟨.hbm, 85, rfl⟩
abbrev main_v68 : Ref sig .tc := ⟨.hbm, 86, rfl⟩
abbrev main_v69 : Ref sig .tc := ⟨.hbm, 87, rfl⟩
abbrev main_c_6 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_c_7 : Ref sig .tc := ⟨.hbm, 107, rfl⟩
abbrev main_v87 : Ref sig .tc := ⟨.hbm, 108, rfl⟩
abbrev main_v88 : Ref sig .tc := ⟨.hbm, 109, rfl⟩
abbrev main_c_8 : Ref sig .tc := ⟨.hbm, 110, rfl⟩
abbrev main_v89 : Ref sig .tc := ⟨.hbm, 111, rfl⟩
abbrev main_v90 : Ref sig .tc := ⟨.hbm, 112, rfl⟩
abbrev main_c_9 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_10 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_c_11 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_12 : Ref sig .tc := ⟨.hbm, 132, rfl⟩
abbrev main_v107 : Ref sig .tc := ⟨.hbm, 133, rfl⟩
abbrev main_v108 : Ref sig .tc := ⟨.hbm, 134, rfl⟩
abbrev main_cst_13 : Ref sig .tc := ⟨.hbm, 135, rfl⟩
abbrev main_v109 : Ref sig .tc := ⟨.hbm, 136, rfl⟩
abbrev main_cst_14 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_15 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_16 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_c_17 : Ref sig .tc := ⟨.hbm, 157, rfl⟩
abbrev main_v127 : Ref sig .tc := ⟨.hbm, 158, rfl⟩
abbrev main_v128 : Ref sig .tc := ⟨.hbm, 159, rfl⟩
abbrev main_c_18 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_c_19 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_20 : Ref sig .tc := ⟨.hbm, 176, rfl⟩
abbrev main_v143 : Ref sig .tc := ⟨.hbm, 177, rfl⟩
abbrev main_v144 : Ref sig .tc := ⟨.hbm, 178, rfl⟩
abbrev main_c_21 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_c_22 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_c_23 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_c_24 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_cst_25 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_26 : Ref sig .tc := ⟨.hbm, 215, rfl⟩
abbrev main_v176 : Ref sig .tc := ⟨.hbm, 216, rfl⟩
abbrev main_v177 : Ref sig .tc := ⟨.hbm, 217, rfl⟩
abbrev main_values : Ref sig .tc := ⟨.hbm, 218, rfl⟩
abbrev main_indices : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_c_27 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_cst_28 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_c_29 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_cst_30 : Ref sig .tc := ⟨.hbm, 249, rfl⟩
abbrev main_v204 : Ref sig .tc := ⟨.hbm, 250, rfl⟩
abbrev main_v205 : Ref sig .tc := ⟨.hbm, 251, rfl⟩
abbrev main_cst_31 : Ref sig .tc := ⟨.hbm, 252, rfl⟩
abbrev main_v206 : Ref sig .tc := ⟨.hbm, 253, rfl⟩
abbrev main_cst_32 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_cst_33 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_cst_34 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_cst_35 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_c_36 : Ref sig .tc := ⟨.hbm, 278, rfl⟩
abbrev main_v227 : Ref sig .tc := ⟨.hbm, 279, rfl⟩
abbrev main_v228 : Ref sig .tc := ⟨.hbm, 280, rfl⟩
abbrev main_c_37 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_cst_38 : Ref sig .tc := ⟨.hbm, 286, rfl⟩
abbrev main_v233 : Ref sig .tc := ⟨.hbm, 287, rfl⟩
abbrev main_v234 : Ref sig .tc := ⟨.hbm, 288, rfl⟩
abbrev main_cst_39 : Ref sig .tc := ⟨.hbm, 289, rfl⟩
abbrev main_v235 : Ref sig .tc := ⟨.hbm, 290, rfl⟩
abbrev main_cst_40 : Ref sig .tc := ⟨.hbm, 291, rfl⟩
abbrev main_v236 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_cst_41 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_v245 : Ref sig .tc := ⟨.hbm, 302, rfl⟩
abbrev main_v246 : Ref sig .tc := ⟨.hbm, 303, rfl⟩
abbrev main_cst_42 : Ref sig .tc := ⟨.hbm, 304, rfl⟩
abbrev main_v247 : Ref sig .tc := ⟨.hbm, 305, rfl⟩
abbrev main_v248 : Ref sig .tc := ⟨.hbm, 306, rfl⟩
abbrev main_v249 : Ref sig .tc := ⟨.hbm, 307, rfl⟩
abbrev main_v250 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_v254 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩

abbrev nD : Nat := 1
abbrev τ : Topo := Topo.v7x

variable {F : FTy → Type} [FloatOps F]
-- ==== Kernel8.lean ====
abbrev S2x4096x5120 : Shape := ⟨3, ![2, 4096, 5120]⟩
abbrev S32x128 : Shape := ⟨2, ![32, 128]⟩
abbrev S4096x256 : Shape := ⟨2, ![4096, 256]⟩
abbrev S256x128 : Shape := ⟨2, ![256, 128]⟩
abbrev S1x32x128 : Shape := ⟨3, ![1, 32, 128]⟩
abbrev S2x32x128 : Shape := ⟨3, ![2, 32, 128]⟩
abbrev S1x4096x256 : Shape := ⟨3, ![1, 4096, 256]⟩
abbrev S2x4096x256 : Shape := ⟨3, ![2, 4096, 256]⟩
abbrev S1x256x128 : Shape := ⟨3, ![1, 256, 128]⟩
abbrev S2x256x128 : Shape := ⟨3, ![2, 256, 128]⟩
abbrev S2x2x4x256x128 : Shape := ⟨5, ![2, 2, 4, 256, 128]⟩
abbrev S1x4096x128 : Shape := ⟨3, ![1, 4096, 128]⟩
abbrev S1x1x1x256x128 : Shape := ⟨5, ![1, 1, 1, 256, 128]⟩
abbrev S4096x128 : Shape := ⟨2, ![4096, 128]⟩
abbrev S256x256 : Shape := ⟨2, ![256, 256]⟩
abbrev S1x1x128 : Shape := ⟨3, ![1, 1, 128]⟩
abbrev S1x128 : Shape := ⟨2, ![1, 128]⟩
abbrev S1x128x256 : Shape := ⟨3, ![1, 128, 256]⟩
abbrev S128x256 : Shape := ⟨2, ![128, 256]⟩

abbrev nBuf : Space → Nat
  | .hbm => 19
  | .vmem => 11
  | .smem => 0
  | _ => 0

abbrev bufTy : (tb : Table) → Fin (tcTables nBuf tb) → BufTy
  | .hbm, ⟨0, _⟩ => ⟨S2x4096x5120, .bf16⟩
  | .hbm, ⟨1, _⟩ => ⟨S32x128, .f32⟩
  | .hbm, ⟨2, _⟩ => ⟨S32x128, .f32⟩
  | .hbm, ⟨3, _⟩ => ⟨S4096x256, .f32⟩
  | .hbm, ⟨4, _⟩ => ⟨S256x128, .f32⟩
  | .hbm, ⟨5, _⟩ => ⟨S4096x256, .f32⟩
  | .hbm, ⟨6, _⟩ => ⟨S256x128, .f32⟩
  | .hbm, ⟨7, _⟩ => ⟨S1x32x128, .f32⟩
  | .hbm, ⟨8, _⟩ => ⟨S1x32x128, .f32⟩
  | .hbm, ⟨9, _⟩ => ⟨S2x32x128, .f32⟩
  | .hbm, ⟨10, _⟩ => ⟨S1x4096x256, .f32⟩
  | .hbm, ⟨11, _⟩ => ⟨S1x4096x256, .f32⟩
  | .hbm, ⟨12, _⟩ => ⟨S2x4096x256, .f32⟩
  | .hbm, ⟨13, _⟩ => ⟨S2x4096x256, .bf16⟩
  | .hbm, ⟨14, _⟩ => ⟨S1x256x128, .f32⟩
  | .hbm, ⟨15, _⟩ => ⟨S1x256x128, .f32⟩
  | .hbm, ⟨16, _⟩ => ⟨S2x256x128, .f32⟩
  | .hbm, ⟨17, _⟩ => ⟨S2x256x128, .bf16⟩
  | .hbm, ⟨18, _⟩ => ⟨S2x2x4x256x128, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x32x128, .f32⟩
  | .local _ .vmem, ⟨3, _⟩ => ⟨S1x32x128, .f32⟩
  | .local _ .vmem, ⟨4, _⟩ => ⟨S1x4096x256, .bf16⟩
  | .local _ .vmem, ⟨5, _⟩ => ⟨S1x4096x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x1x1x256x128, .bf16⟩
  | .local _ .vmem, ⟨9, _⟩ => ⟨S1x1x1x256x128, .bf16⟩
  | .local _ .vmem, ⟨10, _⟩ => ⟨S4096x128, .f32⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c16_i32 : BitVec 32 := 16#32
  let v1 : BitVec 32 := Scalar.addi c16_i32 v0
  let v2 : BitVec 32 := Scalar.addi v1 arg2
  let c0_i32 : BitVec 32 := 0#32
  let c0_i32_0 : BitVec 32 := 0#32
  ![arg0.toNat, c0_i32.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference8Ideal.lean ====
abbrev S2x4096x5120 : Shape := ⟨3, ![2, 4096, 5120]⟩
abbrev S32x128 : Shape := ⟨2, ![32, 128]⟩
abbrev S4096x256 : Shape := ⟨2, ![4096, 256]⟩
abbrev S256x128 : Shape := ⟨2, ![256, 128]⟩
abbrev S2x4096x3072 : Shape := ⟨3, ![2, 4096, 3072]⟩
abbrev S2x4096x6x4x128 : Shape := ⟨5, ![2, 4096, 6, 4, 128]⟩
abbrev S6x2x4x4096x128 : Shape := ⟨5, ![6, 2, 4, 4096, 128]⟩
abbrev S1x2x4x4096x128 : Shape := ⟨5, ![1, 2, 4, 4096, 128]⟩
abbrev S2x4x4096x128 : Shape := ⟨4, ![2, 4, 4096, 128]⟩
abbrev S2x4x256x16x128 : Shape := ⟨5, ![2, 4, 256, 16, 128]⟩
abbrev S2x4x255x16x128 : Shape := ⟨5, ![2, 4, 255, 16, 128]⟩
abbrev S2x4x1x16x128 : Shape := ⟨5, ![2, 4, 1, 16, 128]⟩
abbrev S2x4x256x32x128 : Shape := ⟨5, ![2, 4, 256, 32, 128]⟩
abbrev S1x1x1x32x128 : Shape := ⟨5, ![1, 1, 1, 32, 128]⟩
abbrev S2x4x256x4096 : Shape := ⟨4, ![2, 4, 256, 4096]⟩
abbrev S2x4x256x256 : Shape := ⟨4, ![2, 4, 256, 256]⟩
abbrev S_ : Shape := ⟨0, ![]⟩
abbrev S2x4x256x128 : Shape := ⟨4, ![2, 4, 256, 128]⟩
abbrev S2x1x4x256x128 : Shape := ⟨5, ![2, 1, 4, 256, 128]⟩
abbrev S2x2x4x256x128 : Shape := ⟨5, ![2, 2, 4, 256, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x4096x5120, .bf16⟩
  | .hbm, ⟨1, _⟩ => ⟨S32x128, .f32⟩
  | .hbm, ⟨2, _⟩ => ⟨S32x128, .f32⟩
  | .hbm, ⟨3, _⟩ => ⟨S4096x256, .f32⟩
  | .hbm, ⟨4, _⟩ => ⟨S256x128, .f32⟩
  | .hbm, ⟨5, _⟩ => ⟨S4096x256, .f32⟩
  | .hbm, ⟨6, _⟩ => ⟨S256x128, .f32⟩
  | .hbm, ⟨7, _⟩ => ⟨S2x4096x5120, .f32⟩
  | .hbm, ⟨8, _⟩ => ⟨S2x4096x3072, .f32⟩
  | .hbm, ⟨9, _⟩ => ⟨S2x4096x6x4x128, .f32⟩
  | .hbm, ⟨10, _⟩ => ⟨S6x2x4x4096x128, .f32⟩
  | .hbm, ⟨11, _⟩ => ⟨S1x2x4x4096x128, .f32⟩
  | .hbm, ⟨12, _⟩ => ⟨S2x4x4096x128, .f32⟩
  | .hbm, ⟨13, _⟩ => ⟨S2x4x256x16x128, .f32⟩
  | .hbm, ⟨14, _⟩ => ⟨S2x4x255x16x128, .f32⟩
  | .hbm, ⟨15, _⟩ => ⟨S2x4x1x16x128, .f32⟩
  | .hbm, ⟨16, _⟩ => ⟨S2x4x256x16x128, .f32⟩
  | .hbm, ⟨17, _⟩ => ⟨S2x4x256x32x128, .f32⟩
  | .hbm, ⟨18, _⟩ => ⟨S1x1x1x32x128, .f32⟩
  | .hbm, ⟨19, _⟩ => ⟨S2x4x256x32x128, .f32⟩
  | .hbm, ⟨20, _⟩ => ⟨S2x4x256x32x128, .f32⟩
  | .hbm, ⟨21, _⟩ => ⟨S2x4x256x4096, .f32⟩
  | .hbm, ⟨22, _⟩ => ⟨S2x4x256x256, .f32⟩
  | .hbm, ⟨23, _⟩ => ⟨S2x4x256x256, .f32⟩
  | .hbm, ⟨24, _⟩ => ⟨S2x4x256x256, .f32⟩
  | .hbm, ⟨25, _⟩ => ⟨S_, .f32⟩
  | .hbm, ⟨26, _⟩ => ⟨S2x4x256x256, .f32⟩
  | .hbm, ⟨27, _⟩ => ⟨S2x4x256x256, .f32⟩
  | .hbm, ⟨28, _⟩ => ⟨S2x4x256x256, .f32⟩
  | .hbm, ⟨29, _⟩ => ⟨S_, .f32⟩
  | .hbm, ⟨30, _⟩ => ⟨S2x4x256x256, .f32⟩
  | .hbm, ⟨31, _⟩ => ⟨S2x4x256x256, .f32⟩
  | .hbm, ⟨32, _⟩ => ⟨S2x4x256x256, .f32⟩
  | .hbm, ⟨33, _⟩ => ⟨S_, .f32⟩
  | .hbm, ⟨34, _⟩ => ⟨S2x4x256x256, .f32⟩
  | .hbm, ⟨35, _⟩ => ⟨S2x4x256x256, .f32⟩
  | .hbm, ⟨36, _⟩ => ⟨S_, .f32⟩
  | .hbm, ⟨37, _⟩ => ⟨S2x4x256x256, .f32⟩
  | .hbm, ⟨38, _⟩ => ⟨S2x4x256x256, .f32⟩
  | .hbm, ⟨39, _⟩ => ⟨S2x4x256x256, .f32⟩
  | .hbm, ⟨40, _⟩ => ⟨S2x4x256x128, .f32⟩
  | .hbm, ⟨41, _⟩ => ⟨S1x2x4x4096x128, .f32⟩
  | .hbm, ⟨42, _⟩ => ⟨S2x4x4096x128, .f32⟩
  | .hbm, ⟨43, _⟩ => ⟨S2x4x256x16x128, .f32⟩
  | .hbm, ⟨44, _⟩ => ⟨S2x4x255x16x128, .f32⟩
  | .hbm, ⟨45, _⟩ => ⟨S2x4x1x16x128, .f32⟩
  | .hbm, ⟨46, _⟩ => ⟨S2x4x256x16x128, .f32⟩
  | .hbm, ⟨47, _⟩ => ⟨S2x4x256x32x128, .f32⟩
  | .hbm, ⟨48, _⟩ => ⟨S1x1x1x32x128, .f32⟩
  | .hbm, ⟨49, _⟩ => ⟨S2x4x256x32x128, .f32⟩
  | .hbm, ⟨50, _⟩ => ⟨S2x4x256x32x128, .f32⟩
  | .hbm, ⟨51, _⟩ => ⟨S2x4x256x4096, .f32⟩
  | .hbm, ⟨52, _⟩ => ⟨S2x4x256x256, .f32⟩
  | .hbm, ⟨53, _⟩ => ⟨S2x4x256x256, .f32⟩
  | .hbm, ⟨54, _⟩ => ⟨S2x4x256x256, .f32⟩
  | .hbm, ⟨55, _⟩ => ⟨S_, .f32⟩
  | .hbm, ⟨56, _⟩ => ⟨S2x4x256x256, .f32⟩
  | .hbm, ⟨57, _⟩ => ⟨S2x4x256x256, .f32⟩
  | .hbm, ⟨58, _⟩ => ⟨S2x4x256x256, .f32⟩
  | .hbm, ⟨59, _⟩ => ⟨S_, .f32⟩
  | .hbm, ⟨60, _⟩ => ⟨S2x4x256x256, .f32⟩
  | .hbm, ⟨61, _⟩ => ⟨S2x4x256x256, .f32⟩
  | .hbm, ⟨62, _⟩ => ⟨S2x4x256x256, .f32⟩
  | .hbm, ⟨63, _⟩ => ⟨S_, .f32⟩
  | .hbm, ⟨64, _⟩ => ⟨S2x4x256x256, .f32⟩
  | .hbm, ⟨65, _⟩ => ⟨S2x4x256x256, .f32⟩
  | .hbm, ⟨66, _⟩ => ⟨S_, .f32⟩
  | .hbm, ⟨67, _⟩ => ⟨S2x4x256x256, .f32⟩
  | .hbm, ⟨68, _⟩ => ⟨S2x4x256x256, .f32⟩
  | .hbm, ⟨69, _⟩ => ⟨S2x4x256x256, .f32⟩
  | .hbm, ⟨70, _⟩ => ⟨S2x4x256x128, .f32⟩
  | .hbm, ⟨71, _⟩ => ⟨S2x1x4x256x128, .f32⟩
  | .hbm, ⟨72, _⟩ => ⟨S2x1x4x256x128, .f32⟩
  | .hbm, ⟨73, _⟩ => ⟨S2x2x4x256x128, .f32⟩
  | .hbm, ⟨74, _⟩ => ⟨S2x2x4x256x128, .bf16⟩
  | _, _ => ⟨S2x4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_4 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.ConvBody.lean ====
/-
  What one grid point of the short-convolution kernel leaves, read at an index over the extended reals.
-/
module

public import proofs.«01_k».proof.Proof.Gen.KernelIdeal.Value
public import Idealize.ShloMosaic.Lib.Pipeline.Value
public import Idealize.ShloMosaic.Lib.Pointwise
public import Idealize.ShloMosaic.Lib.ValueIdx
public import Idealize.ShloMosaic.Lib.Tactic
public import Idealize.ShloMosaic.Lib.WordCmp

@[expose] public section

set_option maxRecDepth 16384

noncomputable section

open Idealize.ShloMosaic Idealize.ShloMosaic.TcCoe Idealize.SL.Sem

namespace Cert.KernelIdeal.Conv

open Cert.KernelIdeal Cert.KernelIdeal.Gen

theorem hz : (![0, 0] : Fin 2 → Nat) = fun _ => 0 := funext fun a => by fin_cases a <;> rfl

/-- A block's product `x @ w` at an index. -/
def prod (x : Vec Ideal S512x2048 .bf16) (w : Vec Ideal S2048x512 .bf16) (r l : Fin 512) : EReal :=
  ∑ k : Fin 2048, x (ix2 r k) * w (ix2 k l)

theorem pay5_at (x : Vec Ideal S512x2048 .bf16) (w : Vec Ideal S2048x512 .bf16) (r l : Fin 512) :
    k0_pay5 (F := Ideal) x w (ix2 r l) = prod x w r l := by
  unfold prod
  unfold_payloads
  pointwise [dot_S512x2048_S2048x512_S512x512_1_0_0_1_n_n]

theorem pay6_at (x : Vec Ideal S512x2048 .bf16) (wc wu : Vec Ideal S2048x512 .bf16) (r l : Fin 512) :
    k0_pay6 (F := Ideal) x wc wu (ix2 r l) = prod x wc r l * prod x wu r l := by
  unfold prod
  unfold_payloads
  pointwise [dot_S512x2048_S2048x512_S512x512_1_0_0_1_n_n]

theorem pay1_at (b z : FVec Ideal S512x512 .f32) (p1 p2 : Vec Ideal S1x512 .f32) (ck : Vec Ideal S3x512 .f32) (r l : Fin 512) :
    k0_pay1 (F := Ideal) b z (iota .tc S512x512 32 [0] iota_S512x512_d0_w32) p1 p2 k0_pay7
      (dynamicRotate 0 1#32 none z rotates_S512x512_d0) (k0_pay9 p1) ck (ix2 r l)
    = b (ix2 r l) * (ck (ix2 2 l) * z (ix2 r l)
        + ck (ix2 1 l) * (if r.val = 0 then p1 (ix2 0 l) else z (ix2 ⟨r.val - 1, by omega⟩ l))
        + ck (ix2 0 l) * (if r.val = 0 then p2 (ix2 0 l) else if r.val = 1 then p1 (ix2 0 l) else z (ix2 ⟨r.val - 2, by omega⟩ l))) := by
  unfold_payloads
  pointwise
  have hr := r.isLt
  have s0 : ∀ a b : EReal, Scalar.select (IntOp.cmpi .eq (BitVec.ofNat 32 r.val) 0#32) a b = if r.val = 0 then a else b := by
    intro a b
    rw [show (0#32) = BitVec.ofNat 32 0 from rfl, WordCmp.cmpi_eq_ofNat (by omega) (by omega)]
    by_cases h : r.val = 0 <;> simp [h, Scalar.select]
  have s1 : ∀ a b : EReal, Scalar.select (IntOp.cmpi .eq (BitVec.ofNat 32 r.val) 1#32) a b = if r.val = 1 then a else b := by
    intro a b
    rw [show (1#32) = BitVec.ofNat 32 1 from rfl, WordCmp.cmpi_eq_ofNat (by omega) (by omega)]
    by_cases h : r.val = 1 <;> simp [h, Scalar.select]
  rw [s0, s0, s1]
  have e1 : ∀ (h : r.val ≠ 0) (h' : (r.val + 512 - 1) % 512 < 512), (⟨(r.val + 512 - 1) % 512, h'⟩ : Fin 512) = ⟨r.val - 1, by omega⟩ :=
    fun h h' => Fin.ext (by show (r.val + 512 - 1) % 512 = r.val - 1; omega)
  have e2 : ∀ (h : r.val ≠ 0) (h0 : r.val ≠ 1) (h' : (r.val + 512 - 2) % 512 < 512), (⟨(r.val + 512 - 2) % 512, h'⟩ : Fin 512) = ⟨r.val - 2, by omega⟩ :=
    fun h h0 h' => Fin.ext (by show (r.val + 512 - 2) % 512 = r.val - 2; omega)
  by_cases h : r.val = 0
  · simp only [h, if_true]
  · by_cases h1 : r.val = 1
    · simp only [h, h1, if_true, if_false]
    · simp only [h, h1, if_false]
      rw [e1 h, e2 h h1]

theorem readCov_ld (v : View sig .tc .vmem S8x512 .f32) (w : Vec Ideal S8x512 .f32) (B : Rect S8x512) (inb : ∀ a, (![0, 0] : Fin 2 → Nat) a + S8x512.size a ≤ S8x512.size a) :
    v.readCov [(⟨Rect.unit ![0, 0] S8x512.size inb, w⟩ : View.Piece (Elt Ideal) S8x512 .f32)] B.toLoadRect = View.ld w B := by
  rw [View.readCov_eq_canon_ld _ _ _ (fun y => ⟨_, List.mem_singleton_self _, View.mem_set_unit_zero hz inb y⟩), View.canon_unit_zero hz]

theorem out_B (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S512x512 .bf16) (harg7 : arg7.IsWhole) (arg8 : Memref sig .tc .vmem S8x512 .f32) (harg8 : arg8.IsWhole) (hc0 : ¬cond0_0 i)
    (x0 : Vec Ideal S512x2048 .bf16) (x1 : Vec Ideal S2048x512 .bf16) (x2 : Vec Ideal S2048x512 .bf16) (x3 : Vec Ideal S2048x512 .bf16) (x4 : Vec Ideal S3x512 .f32) (xs0 : Vec Ideal S8x512 .f32) :
    out0_B_5 c i arg2 harg2 arg3 harg3 arg4 harg4 arg5 harg5 arg6 harg6 arg7 harg7 arg8 harg8 hc0 x0 x1 x2 x3 x4 xs0
    = k0_pay1 (k0_pay5 x0 x1) (k0_pay6 x0 x2 x3) (iota .tc S512x512 32 [0] iota_S512x512_d0_w32)
        (extractStridedSlice S1x512 ![7, 0] xs0 (by decide)) (extractStridedSlice S1x512 ![6, 0] xs0 (by decide))
        k0_pay7 (k0_pay8 x0 x2 x3) (k0_pay9 (extractStridedSlice S1x512 ![7, 0] xs0 (by decide))) x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S512x2048) hz, View.ld_unit_zero (S := S2048x512) hz, View.ld_unit_zero (S := S3x512) hz]
  simp only [View.ld_unit]

theorem sout_B (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S512x512 .bf16) (harg7 : arg7.IsWhole) (arg8 : Memref sig .tc .vmem S8x512 .f32) (harg8 : arg8.IsWhole) (hc0 : ¬cond0_0 i)
    (x0 : Vec Ideal S512x2048 .bf16) (x1 : Vec Ideal S2048x512 .bf16) (x2 : Vec Ideal S2048x512 .bf16) (x3 : Vec Ideal S2048x512 .bf16) (x4 : Vec Ideal S3x512 .f32) (xs0 : Vec Ideal S8x512 .f32) :
    sout0_B_0 c i arg2 harg2 arg3 harg3 arg4 harg4 arg5 harg5 arg6 harg6 arg7 harg7 arg8 harg8 hc0 x0 x1 x2 x3 x4 xs0 = k0_pay2 (k0_pay6 x0 x2 x3) := by
  unfold sout0_B_0
  rw [View.read_writes_eq_canon _ _ _ (scover0_B_0 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg8.read_unread, View.ld_unit_zero (S := S512x2048) hz, View.ld_unit_zero (S := S2048x512) hz, View.ld_unit_zero (S := S3x512) hz]

theorem out_A (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S512x512 .bf16) (harg7 : arg7.IsWhole) (arg8 : Memref sig .tc .vmem S8x512 .f32) (harg8 : arg8.IsWhole) (hc0 : cond0_0 i)
    (x0 : Vec Ideal S512x2048 .bf16) (x1 : Vec Ideal S2048x512 .bf16) (x2 : Vec Ideal S2048x512 .bf16) (x3 : Vec Ideal S2048x512 .bf16) (x4 : Vec Ideal S3x512 .f32) :
    out0_A_5 c i arg2 harg2 arg3 harg3 arg4 harg4 arg5 harg5 arg6 harg6 arg7 harg7 arg8 harg8 hc0 x0 x1 x2 x3 x4
    = k0_pay1 (k0_pay5 x0 x1) (k0_pay6 x0 x2 x3) (iota .tc S512x512 32 [0] iota_S512x512_d0_w32)
        (extractStridedSlice S1x512 ![7, 0] (k0_pay3 (F := Ideal)) (by decide)) (extractStridedSlice S1x512 ![6, 0] (k0_pay3 (F := Ideal)) (by decide))
        k0_pay7 (k0_pay8 x0 x2 x3) (k0_pay9 (extractStridedSlice S1x512 ![7, 0] (k0_pay3 (F := Ideal)) (by decide))) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg2.read_unread, harg3.read_unread, harg4.read_unread, harg5.read_unread, harg6.read_unread, harg8.read_unread, View.ld_unit_zero (S := S512x2048) hz, View.ld_unit_zero (S := S2048x512) hz, View.ld_unit_zero (S := S3x512) hz]
  erw [readCov_ld, readCov_ld]
  simp only [View.ld_unit]

theorem sout_A (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S512x512 .bf16) (harg7 : arg7.IsWhole) (arg8 : Memref sig .tc .vmem S8x512 .f32) (harg8 : arg8.IsWhole) (hc0 : cond0_0 i)
    (x0 : Vec Ideal S512x2048 .bf16) (x1 : Vec Ideal S2048x512 .bf16) (x2 : Vec Ideal S2048x512 .bf16) (x3 : Vec Ideal S2048x512 .bf16) (x4 : Vec Ideal S3x512 .f32) :
    sout0_A_0 c i arg2 harg2 arg3 harg3 arg4 harg4 arg5 harg5 arg6 harg6 arg7 harg7 arg8 harg8 hc0 x0 x1 x2 x3 x4 = k0_pay2 (k0_pay6 x0 x2 x3) := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S8x512) hz]
  simp only [View.readAt_eq_ld, harg2.read_unread, harg3.read_unread, harg4.read_unread, harg5.read_unread, harg6.read_unread, harg8.read_unread, View.ld_unit_zero (S := S512x2048) hz, View.ld_unit_zero (S := S2048x512) hz, View.ld_unit_zero (S := S3x512) hz]

end Cert.KernelIdeal.Conv

end
-- ==== Proof.ConvValue.lean ====
/-
  The short-convolution kernel's result as one function of its arguments over the extended reals: the two gates around
  a causal convolution of three taps along each sequence, whose row blocks take the two rows before them from the block
  before.
-/
module

public import proofs.«01_k».proof.Proof.ConvBody
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Conv

open Cert.KernelIdeal Cert.KernelIdeal.Gen

variable (m : (ℓ : Loc nD τ sig) → Buf (Elt Ideal) ℓ)

theorem idx : ∀ t : Fin grid0.N, win0_0.index t = ![t.val % 16, 0] ∧ win0_1.index t = ![0, t.val / 16]
    ∧ win0_2.index t = ![0, 4 + t.val / 16] ∧ win0_3.index t = ![0, 8 + t.val / 16] ∧ win0_4.index t = ![0, t.val / 16]
    ∧ win0_5.index t = ![t.val % 16, t.val / 16] := by decide +kernel

/-- The activations as the call reads them. -/
def act (c : Dev nD) : Vec Ideal S8192x2048 .bf16 := Gen.V m c main_v1

/-- The weights as the call reads them. -/
def wt (c : Dev nD) : Vec Ideal S2048x6144 .bf16 := Gen.V m c main_v2

/-- The projection of a token to a column. -/
def pr (c : Dev nD) (r : Fin 8192) (n : Fin 6144) : EReal := ∑ k : Fin 2048, act m c (ix2 r k) * wt m c (ix2 k n)

/-- The gated signal the convolution runs over. -/
def zz (c : Dev nD) (r : Fin 8192) (l : Fin 2048) : EReal :=
  pr m c r ⟨2048 + l.val, by omega⟩ * pr m c r ⟨4096 + l.val, by omega⟩

/-- The taps. -/
def ck (c : Dev nD) : Vec Ideal S3x2048 .f32 := m ((c : Thread nD τ).loc main_arg2)

/-- The result of a token and a column. -/
def conv (c : Dev nD) (r : Fin 8192) (l : Fin 2048) : EReal :=
  pr m c r ⟨l.val, by omega⟩
    * (ck m c (ix2 2 l) * zz m c r l
      + ck m c (ix2 1 l) * (if r.val % 4096 = 0 then 0 else zz m c ⟨r.val - 1, by omega⟩ l)
      + ck m c (ix2 0 l) * (if r.val % 4096 < 2 then 0 else zz m c ⟨r.val - 2, by omega⟩ l))

/-- The result. -/
def G (c : Dev nD) : Vec Ideal S8192x2048 .bf16 := fun i => conv m c (i 0) (i 1)

theorem x_at (c : Dev nD) (t : Fin cfg0.N) (r : Fin 512) (k : Fin 2048) :
    iblk m c 0 t (ix2 r k) = act m c (ix2 (⟨512 * (t.val % 16) + r.val, by omega⟩ : Fin 8192) k) := by
  unfold act
  blk_ext [iblk, (idx t).1]

theorem wb_at (c : Dev nD) (t : Fin cfg0.N) (k : Fin 2048) (l : Fin 512) (ht : t.val < 64) :
    iblk m c 1 t (ix2 k l) = wt m c (ix2 k (⟨512 * (t.val / 16) + l.val, by omega⟩ : Fin 6144)) := by
  unfold wt
  blk_ext [iblk, (idx t).2.1]

theorem wc_at (c : Dev nD) (t : Fin cfg0.N) (k : Fin 2048) (l : Fin 512) (ht : t.val < 64) :
    iblk m c 2 t (ix2 k l) = wt m c (ix2 k (⟨2048 + (512 * (t.val / 16) + l.val), by omega⟩ : Fin 6144)) := by
  unfold wt
  blk_ext [iblk, (idx t).2.2.1]

theorem wu_at (c : Dev nD) (t : Fin cfg0.N) (k : Fin 2048) (l : Fin 512) (ht : t.val < 64) :
    iblk m c 3 t (ix2 k l) = wt m c (ix2 k (⟨4096 + (512 * (t.val / 16) + l.val), by omega⟩ : Fin 6144)) := by
  unfold wt
  blk_ext [iblk, (idx t).2.2.2.1]

theorem ck_at (c : Dev nD) (t : Fin cfg0.N) (k : Fin 3) (l : Fin 512) (ht : t.val < 64) :
    iblk m c 4 t (ix2 k l) = ck m c (ix2 k (⟨512 * (t.val / 16) + l.val, by omega⟩ : Fin 2048)) := by
  unfold ck
  blk_ext [iblk, V, (idx t).2.2.2.2.1]

/-- The first gate of a block. -/
theorem b_at (c : Dev nD) (t : Fin cfg0.N) (r l : Fin 512) (ht : t.val < 64) :
    k0_pay5 (F := Ideal) (iblk m c 0 t) (iblk m c 1 t) (ix2 r l)
    = pr m c (⟨512 * (t.val % 16) + r.val, by omega⟩ : Fin 8192) (⟨512 * (t.val / 16) + l.val, by omega⟩ : Fin 6144) := by
  rw [pay5_at]
  exact Finset.sum_congr rfl fun k _ => congrArg₂ (fun a b : EReal => a * b) (x_at m c t r k) (wb_at m c t k l ht)

/-- The gated signal of a block. -/
theorem z_at (c : Dev nD) (t : Fin cfg0.N) (r l : Fin 512) (ht : t.val < 64) :
    k0_pay6 (F := Ideal) (iblk m c 0 t) (iblk m c 2 t) (iblk m c 3 t) (ix2 r l)
    = zz m c (⟨512 * (t.val % 16) + r.val, by omega⟩ : Fin 8192) (⟨512 * (t.val / 16) + l.val, by omega⟩ : Fin 2048) := by
  rw [pay6_at]
  exact congrArg₂ (fun a b : EReal => a * b)
    (Finset.sum_congr rfl fun k _ => congrArg₂ (fun a b : EReal => a * b) (x_at m c t r k) (wc_at m c t k l ht))
    (Finset.sum_congr rfl fun k _ => congrArg₂ (fun a b : EReal => a * b) (x_at m c t r k) (wu_at m c t k l ht))

/-- What every point leaves for the next one: the last rows of its gated signal. -/
theorem halo (c : Dev nD) (t : Fin cfg0.N) :
    (outsAt0 m c t.val t.isLt).2 = k0_pay2 (k0_pay6 (iblk m c 0 t) (iblk m c 2 t) (iblk m c 3 t)) := by
  by_cases h : t.val % 8 = 0
  · have e := congrArg Prod.snd (outsAt0_A m c t h)
    dsimp only at e
    rw [sout_A] at e
    exact e
  · have e := congrArg Prod.snd (outsAt0_B m c t h)
    dsimp only at e
    rw [sout_B] at e
    exact e

theorem last_at (z : FVec Ideal S512x512 .f32) (l : Fin 512) :
    extractStridedSlice S1x512 ![7, 0] (k0_pay2 (F := Ideal) z) (by decide) (ix2 0 l) = z (ix2 511 l) := by
  unfold_payloads
  pointwise

theorem second_at (z : FVec Ideal S512x512 .f32) (l : Fin 512) :
    extractStridedSlice S1x512 ![6, 0] (k0_pay2 (F := Ideal) z) (by decide) (ix2 0 l) = z (ix2 510 l) := by
  unfold_payloads
  pointwise

theorem zero7_at (l : Fin 512) : extractStridedSlice S1x512 ![7, 0] (k0_pay3 (F := Ideal)) (by decide) (ix2 0 l) = (0 : EReal) := by
  unfold_payloads
  pointwise

theorem zero6_at (l : Fin 512) : extractStridedSlice S1x512 ![6, 0] (k0_pay3 (F := Ideal)) (by decide) (ix2 0 l) = (0 : EReal) := by
  unfold_payloads
  pointwise

/-- A block's result given the two rows before it. -/
theorem blk_eq (c : Dev nD) (t : Fin cfg0.N) (r l : Fin 512) (ht : t.val < 64) (p1 p2 : Vec Ideal S1x512 .f32)
    (h1 : p1 (ix2 0 l) = if t.val % 8 = 0 then (0 : EReal) else zz m c (⟨512 * (t.val % 16) - 1, by omega⟩ : Fin 8192) (⟨512 * (t.val / 16) + l.val, by omega⟩ : Fin 2048))
    (h2 : p2 (ix2 0 l) = if t.val % 8 = 0 then (0 : EReal) else zz m c (⟨512 * (t.val % 16) - 2, by omega⟩ : Fin 8192) (⟨512 * (t.val / 16) + l.val, by omega⟩ : Fin 2048)) :
    k0_pay1 (F := Ideal) (k0_pay5 (iblk m c 0 t) (iblk m c 1 t)) (k0_pay6 (iblk m c 0 t) (iblk m c 2 t) (iblk m c 3 t))
      (iota .tc S512x512 32 [0] iota_S512x512_d0_w32) p1 p2 k0_pay7 (k0_pay8 (iblk m c 0 t) (iblk m c 2 t) (iblk m c 3 t)) (k0_pay9 p1) (iblk m c 4 t) (ix2 r l)
    = G m c (ix2 (⟨512 * (t.val % 16) + r.val, by omega⟩ : Fin 8192) (⟨512 * (t.val / 16) + l.val, by omega⟩ : Fin 2048)) := by
  refine (pay1_at _ _ p1 p2 _ r l).trans ?_
  rw [b_at m c t r l ht, z_at m c t r l ht, h1, h2]
  simp only [z_at m c t _ l ht, ck_at m c t _ l ht]
  show _ = conv m c (⟨512 * (t.val % 16) + r.val, by omega⟩ : Fin 8192) (⟨512 * (t.val / 16) + l.val, by omega⟩ : Fin 2048)
  unfold conv
  refine congrArg₂ (fun a b : EReal => a * b) rfl (congrArg₂ (fun a b : EReal => a + b) (congrArg₂ (fun a b : EReal => a + b) rfl
    (congrArg₂ (fun a b : EReal => a * b) rfl ?_)) (congrArg₂ (fun a b : EReal => a * b) rfl ?_))
  · by_cases hr : r.val = 0
    · by_cases h8 : t.val % 8 = 0
      · rw [if_pos hr, if_pos h8, if_pos (by dsimp only; omega)]
      · rw [if_pos hr, if_neg h8, if_neg (by dsimp only; omega)]
        exact congrArg (fun a => zz m c a _) (Fin.ext (by dsimp only; omega))
    · rw [if_neg hr, if_neg (by dsimp only; omega)]
      exact congrArg (fun a => zz m c a _) (Fin.ext (by dsimp only; omega))
  · by_cases hr : r.val = 0
    · by_cases h8 : t.val % 8 = 0
      · rw [if_pos hr, if_pos h8, if_pos (by dsimp only; omega)]
      · rw [if_pos hr, if_neg h8, if_neg (by dsimp only; omega)]
        exact congrArg (fun a => zz m c a _) (Fin.ext (by dsimp only; omega))
    · by_cases hr1 : r.val = 1
      · by_cases h8 : t.val % 8 = 0
        · rw [if_neg hr, if_pos hr1, if_pos h8, if_pos (by dsimp only; omega)]
        · rw [if_neg hr, if_pos hr1, if_neg h8, if_neg (by dsimp only; omega)]
          exact congrArg (fun a => zz m c a _) (Fin.ext (by dsimp only; omega))
      · rw [if_neg hr, if_neg hr1, if_neg (by dsimp only; omega)]
        exact congrArg (fun a => zz m c a _) (Fin.ext (by dsimp only; omega))

/-- What the run leaves in the block of a point. -/
theorem point_at (c : Dev nD) (t : Fin cfg0.N) (r l : Fin 512) (ht : t.val < 64) :
    (outsAt0 m c t.val t.isLt).1 (ix2 r l)
    = G m c (ix2 (⟨512 * (t.val % 16) + r.val, by omega⟩ : Fin 8192) (⟨512 * (t.val / 16) + l.val, by omega⟩ : Fin 2048)) := by
  by_cases h : t.val % 8 = 0
  · have e := congrArg Prod.fst (outsAt0_A m c t h)
    dsimp only at e
    rw [out_A] at e
    refine (congrFun e _).trans (blk_eq m c t r l ht _ _ ?_ ?_)
    · rw [if_pos h]; exact zero7_at l
    · rw [if_pos h]; exact zero6_at l
  · have hh := halo m c (⟨t.val - 1, by omega⟩ : Fin cfg0.N)
    have hz := fun r : Fin 512 => z_at m c (⟨t.val - 1, by omega⟩ : Fin cfg0.N) r l (by simp only []; omega)
    have e := congrArg Prod.fst (outsAt0_B m c t h)
    dsimp only at e hh hz
    rw [out_B, hh] at e
    refine (congrFun e _).trans (blk_eq m c t r l ht _ _ ?_ ?_)
    · rw [if_neg h, last_at, hz]
      exact congrArg₂ (zz m c) (Fin.ext (by dsimp only; omega)) (Fin.ext (by dsimp only; omega))
    · rw [if_neg h, second_at, hz]
      exact congrArg₂ (zz m c) (Fin.ext (by dsimp only; omega)) (Fin.ext (by dsimp only; omega))

theorem final (c : Dev nD) : (dats m 0 c).arrAt 5 cfg0.N = G m c := by
  refine (dats m 0 c).arrAt_eq_of_covers 5 _ (by decide +kernel) fun t hf y => ?_
  blk_simp
  rw [after0_5]
  have ht : t.val < 64 := t.isLt
  idx_vars y
  refine (point_at m c t y0 y1 ht).trans (congrArg (G m c) ?_)
  blk_ext [(idx t).2.2.2.2.2]

/-- The projection of a token to a column, from the arguments. -/
def projOf (x : FVec Ideal S2x4096x2048 .f32) (w : FVec Ideal S2048x6144 .f32) (r : Fin 8192) (n : Fin 6144) : EReal :=
  ∑ k : Fin 2048, x (ix3 (⟨r.val / 4096, by omega⟩ : Fin 2) (⟨r.val % 4096, by omega⟩ : Fin 4096) k) * w (ix2 k n)

/-- The gated signal, from the arguments. -/
def sigOf (x : FVec Ideal S2x4096x2048 .f32) (w : FVec Ideal S2048x6144 .f32) (r : Fin 8192) (l : Fin 2048) : EReal :=
  projOf x w r ⟨2048 + l.val, by omega⟩ * projOf x w r ⟨4096 + l.val, by omega⟩

/-- The gated causal convolution of a token and a column, from the arguments: a row before a sequence's start counts as
    zero. -/
def convOf (x : FVec Ideal S2x4096x2048 .f32) (w : FVec Ideal S2048x6144 .f32) (k : FVec Ideal S3x2048 .f32) (r : Fin 8192) (l : Fin 2048) : EReal :=
  projOf x w r ⟨l.val, by omega⟩
    * (k (ix2 2 l) * sigOf x w r l
      + k (ix2 1 l) * (if r.val % 4096 = 0 then 0 else sigOf x w ⟨r.val - 1, by omega⟩ l)
      + k (ix2 0 l) * (if r.val % 4096 < 2 then 0 else sigOf x w ⟨r.val - 2, by omega⟩ l))

theorem act_at (c : Dev nD) (r : Fin 8192) (k : Fin 2048) : act m c (ix2 r k)
    = m ((c : Thread nD τ).loc main_arg0) (ix3 (⟨r.val / 4096, by omega⟩ : Fin 2) (⟨r.val % 4096, by omega⟩ : Fin 4096) k) := by
  unfold act
  entry_read
  pointwise

theorem wt_at (c : Dev nD) (k : Fin 2048) (n : Fin 6144) : wt m c (ix2 k n)
    = m ((c : Thread nD τ).loc main_arg1) (ix2 k n) := by
  unfold wt
  entry_read
  pointwise

theorem pr_eq (c : Dev nD) (r : Fin 8192) (n : Fin 6144) :
    pr m c r n = projOf (m ((c : Thread nD τ).loc main_arg0)) (m ((c : Thread nD τ).loc main_arg1)) r n :=
  Finset.sum_congr rfl fun k _ => congrArg₂ (fun a b : EReal => a * b) (act_at m c r k) (wt_at m c k n)

theorem conv_eq (c : Dev nD) (r : Fin 8192) (l : Fin 2048) : conv m c r l
    = convOf (m ((c : Thread nD τ).loc main_arg0)) (m ((c : Thread nD τ).loc main_arg1)) (m ((c : Thread nD τ).loc main_arg2)) r l := by
  unfold conv convOf sigOf zz
  simp only [pr_eq]
  rfl

theorem G_eq (c : Dev nD) (i : S8192x2048.Idx) : G m c i
    = convOf (m ((c : Thread nD τ).loc main_arg0)) (m ((c : Thread nD τ).loc main_arg1)) (m ((c : Thread nD τ).loc main_arg2)) (i 0) (i 1) :=
  conv_eq m c (i 0) (i 1)

end Cert.KernelIdeal.Conv

end
-- ==== Proof.RefConv.lean ====
/-
  The reference's short convolution is the same function of the arguments.
-/
module

public import proofs.«01_k».proof.Proof.ConvValue
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Val

open Cert.ReferenceIdeal Cert.ReferenceIdeal.Gen Idealize.ShloMosaic.StableHlo

theorem pad_zero : (FloatOps.sitofp (F := Ideal) .f32 0#32 : EReal) = 0 := by
  simp [FloatOps.sitofp, Ideal.scalar_sitofp_def]

/-- The taps added in the other order, each equal to its partner. -/
theorem taps (b k0 k1 k2 a0 a1 a2 c0 c1 c2 : EReal) (h0 : a0 = c0) (h1 : a1 = c1) (h2 : a2 = c2) :
    b * (k0 * a0 + k1 * a1 + k2 * a2) = b * (k2 * c2 + k1 * c1 + k0 * c0) := by
  subst h0 h1 h2
  rw [add_comm (k0 * a0), add_comm (k1 * a1 + k0 * a0), add_assoc (k2 * a2)]

/-- A row read only inside its sequence, the padding value being zero. -/
theorem tap_eq (P Q : Prop) [Decidable P] [Decidable Q] (f : P → EReal) (z s : EReal) (hPQ : P ↔ ¬Q) (hz : z = 0) (h : ∀ p, f p = s) :
    (if p : P then f p else z) = if Q then 0 else s := by
  by_cases p : P
  · rw [dif_pos p, if_neg (hPQ.mp p), h]
  · rw [dif_neg p, if_pos (by by_contra q; exact p (hPQ.mpr q)), hz]

/-- The gated signal of a row given by its sequence and its place in it. -/
theorem sig_shift (x : FVec Ideal S2x4096x2048 .f32) (w : FVec Ideal S2048x6144 .f32) (l : Fin 2048) (r : Fin 8192) (q : Fin 2) (s : Fin 4096)
    (hq : r.val / 4096 = q.val) (hs : r.val % 4096 = s.val) :
    Cert.KernelIdeal.Conv.sigOf x w r l
    = (∑ k : Fin 2048, x (ix3 q s k) * w (ix2 k (⟨2048 + l.val, by omega⟩ : Fin 6144))) * ∑ k : Fin 2048, x (ix3 q s k) * w (ix2 k (⟨4096 + l.val, by omega⟩ : Fin 6144)) := by
  have e1 : (⟨r.val / 4096, by omega⟩ : Fin 2) = q := Fin.ext hq
  have e2 : (⟨r.val % 4096, by omega⟩ : Fin 4096) = s := Fin.ext hs
  unfold Cert.KernelIdeal.Conv.sigOf Cert.KernelIdeal.Conv.projOf
  rw [e1, e2]

theorem value_at (x : FVec Ideal S2x4096x2048 .f32) (w : FVec Ideal S2048x6144 .f32) (ck : FVec Ideal S3x2048 .f32) (r : Fin 8192) (l : Fin 2048) :
    (truncf .bf16 (shapeCast _ (mulf (extractStridedSlice S2x4096x2048 ![0, 0, 0] (Host.dotGeneral dot_S2x4096x2048_S2048x6144_S2x4096x6144_2_0_01_1_n_n none x w) slices_S2x4096x6144_S2x4096x2048_0_0_0) (addf (addf (mulf (broadcastInDim S2x4096x2048 ![0, 1, 2] bcast_S1x1x2048_S2x4096x2048_0_1_2 (broadcastInDim S1x1x2048 ![2] bcast_S2048_S1x1x2048_2 (shapeCast _ (extractStridedSlice S1x2048 ![0, 0] ck slices_S3x2048_S1x2048_0_0) shapeCasts_S1x2048_S2048))) (extractStridedSlice S2x4096x2048 ![0, 0, 0] (pad S2x4098x2048 ![0, 2, 0] ![0, 0, 0] ![0, 0, 0] (mulf (extractStridedSlice S2x4096x2048 ![0, 0, 2048] (Host.dotGeneral dot_S2x4096x2048_S2048x6144_S2x4096x6144_2_0_01_1_n_n none x w) slices_S2x4096x6144_S2x4096x2048_0_0_2048) (extractStridedSlice S2x4096x2048 ![0, 0, 4096] (Host.dotGeneral dot_S2x4096x2048_S2048x6144_S2x4096x6144_2_0_01_1_n_n none x w) slices_S2x4096x6144_S2x4096x2048_0_0_4096)) (sitofp .f32 (constantI S_ 32 0#32)) pads_S2x4096x2048_S2x4098x2048_000_200_000 h_S_) slices_S2x4098x2048_S2x4096x2048_0_0_0)) (mulf (broadcastInDim S2x4096x2048 ![0, 1, 2] bcast_S1x1x2048_S2x4096x2048_0_1_2 (broadcastInDim S1x1x2048 ![2] bcast_S2048_S1x1x2048_2 (shapeCast _ (extractStridedSlice S1x2048 ![1, 0] ck slices_S3x2048_S1x2048_1_0) shapeCasts_S1x2048_S2048))) (extractStridedSlice S2x4096x2048 ![0, 1, 0] (pad S2x4098x2048 ![0, 2, 0] ![0, 0, 0] ![0, 0, 0] (mulf (extractStridedSlice S2x4096x2048 ![0, 0, 2048] (Host.dotGeneral dot_S2x4096x2048_S2048x6144_S2x4096x6144_2_0_01_1_n_n none x w) slices_S2x4096x6144_S2x4096x2048_0_0_2048) (extractStridedSlice S2x4096x2048 ![0, 0, 4096] (Host.dotGeneral dot_S2x4096x2048_S2048x6144_S2x4096x6144_2_0_01_1_n_n none x w) slices_S2x4096x6144_S2x4096x2048_0_0_4096)) (sitofp .f32 (constantI S_ 32 0#32)) pads_S2x4096x2048_S2x4098x2048_000_200_000 h_S_) slices_S2x4098x2048_S2x4096x2048_0_1_0))) (mulf (broadcastInDim S2x4096x2048 ![0, 1, 2] bcast_S1x1x2048_S2x4096x2048_0_1_2 (broadcastInDim S1x1x2048 ![2] bcast_S2048_S1x1x2048_2 (shapeCast _ (extractStridedSlice S1x2048 ![2, 0] ck slices_S3x2048_S1x2048_2_0) shapeCasts_S1x2048_S2048))) (extractStridedSlice S2x4096x2048 ![0, 2, 0] (pad S2x4098x2048 ![0, 2, 0] ![0, 0, 0] ![0, 0, 0] (mulf (extractStridedSlice S2x4096x2048 ![0, 0, 2048] (Host.dotGeneral dot_S2x4096x2048_S2048x6144_S2x4096x6144_2_0_01_1_n_n none x w) slices_S2x4096x6144_S2x4096x2048_0_0_2048) (extractStridedSlice S2x4096x2048 ![0, 0, 4096] (Host.dotGeneral dot_S2x4096x2048_S2048x6144_S2x4096x6144_2_0_01_1_n_n none x w) slices_S2x4096x6144_S2x4096x2048_0_0_4096)) (sitofp .f32 (constantI S_ 32 0#32)) pads_S2x4096x2048_S2x4098x2048_000_200_000 h_S_) slices_S2x4098x2048_S2x4096x2048_0_2_0)))) shapeCasts_S2x4096x2048_S8192x2048) bitsLt_bf16_f32) (ix2 r l)
    = Cert.KernelIdeal.Conv.convOf x w ck r l := by
  pointwise [dot_S2x4096x2048_S2048x6144_S2x4096x6144_2_0_01_1_n_n]
  unfold Cert.KernelIdeal.Conv.convOf
  have hr := r.isLt
  refine taps _ _ _ _ _ _ _ _ _ _ ?_ ?_ ?_
  · refine tap_eq _ _ _ _ _ (by omega) pad_zero fun p => ?_
    exact (sig_shift x w l _ _ _ (by dsimp only; omega) (by dsimp only; omega)).symm
  · refine tap_eq _ _ _ _ _ (by omega) pad_zero fun p => ?_
    exact (sig_shift x w l _ _ _ (by dsimp only; omega) (by dsimp only; omega)).symm
  · rw [dif_pos (⟨by omega, by omega⟩ : r.val / 4096 < 2 ∧ r.val % 4096 < 4096)]
    rfl

/-- The reference's result is the kernel's. -/
theorem value (m : (ℓ : Loc Cert.KernelIdeal.nD Cert.KernelIdeal.τ Cert.KernelIdeal.sig) → Buf (Elt Ideal) ℓ) (c : Dev Cert.KernelIdeal.nD)
    (x : FVec Ideal S2x4096x2048 .f32) (w : FVec Ideal S2048x6144 .f32) (ck : FVec Ideal S3x2048 .f32)
    (hx : x = m ((c.tc : Thread Cert.KernelIdeal.nD Cert.KernelIdeal.τ).loc Cert.KernelIdeal.main_arg0))
    (hw : w = m ((c.tc : Thread Cert.KernelIdeal.nD Cert.KernelIdeal.τ).loc Cert.KernelIdeal.main_arg1))
    (hk : ck = m ((c.tc : Thread Cert.KernelIdeal.nD Cert.KernelIdeal.τ).loc Cert.KernelIdeal.main_arg2)) :
    (truncf .bf16 (shapeCast _ (mulf (extractStridedSlice S2x4096x2048 ![0, 0, 0] (Host.dotGeneral dot_S2x4096x2048_S2048x6144_S2x4096x6144_2_0_01_1_n_n none x w) slices_S2x4096x6144_S2x4096x2048_0_0_0) (addf (addf (mulf (broadcastInDim S2x4096x2048 ![0, 1, 2] bcast_S1x1x2048_S2x4096x2048_0_1_2 (broadcastInDim S1x1x2048 ![2] bcast_S2048_S1x1x2048_2 (shapeCast _ (extractStridedSlice S1x2048 ![0, 0] ck slices_S3x2048_S1x2048_0_0) shapeCasts_S1x2048_S2048))) (extractStridedSlice S2x4096x2048 ![0, 0, 0] (pad S2x4098x2048 ![0, 2, 0] ![0, 0, 0] ![0, 0, 0] (mulf (extractStridedSlice S2x4096x2048 ![0, 0, 2048] (Host.dotGeneral dot_S2x4096x2048_S2048x6144_S2x4096x6144_2_0_01_1_n_n none x w) slices_S2x4096x6144_S2x4096x2048_0_0_2048) (extractStridedSlice S2x4096x2048 ![0, 0, 4096] (Host.dotGeneral dot_S2x4096x2048_S2048x6144_S2x4096x6144_2_0_01_1_n_n none x w) slices_S2x4096x6144_S2x4096x2048_0_0_4096)) (sitofp .f32 (constantI S_ 32 0#32)) pads_S2x4096x2048_S2x4098x2048_000_200_000 h_S_) slices_S2x4098x2048_S2x4096x2048_0_0_0)) (mulf (broadcastInDim S2x4096x2048 ![0, 1, 2] bcast_S1x1x2048_S2x4096x2048_0_1_2 (broadcastInDim S1x1x2048 ![2] bcast_S2048_S1x1x2048_2 (shapeCast _ (extractStridedSlice S1x2048 ![1, 0] ck slices_S3x2048_S1x2048_1_0) shapeCasts_S1x2048_S2048))) (extractStridedSlice S2x4096x2048 ![0, 1, 0] (pad S2x4098x2048 ![0, 2, 0] ![0, 0, 0] ![0, 0, 0] (mulf (extractStridedSlice S2x4096x2048 ![0, 0, 2048] (Host.dotGeneral dot_S2x4096x2048_S2048x6144_S2x4096x6144_2_0_01_1_n_n none x w) slices_S2x4096x6144_S2x4096x2048_0_0_2048) (extractStridedSlice S2x4096x2048 ![0, 0, 4096] (Host.dotGeneral dot_S2x4096x2048_S2048x6144_S2x4096x6144_2_0_01_1_n_n none x w) slices_S2x4096x6144_S2x4096x2048_0_0_4096)) (sitofp .f32 (constantI S_ 32 0#32)) pads_S2x4096x2048_S2x4098x2048_000_200_000 h_S_) slices_S2x4098x2048_S2x4096x2048_0_1_0))) (mulf (broadcastInDim S2x4096x2048 ![0, 1, 2] bcast_S1x1x2048_S2x4096x2048_0_1_2 (broadcastInDim S1x1x2048 ![2] bcast_S2048_S1x1x2048_2 (shapeCast _ (extractStridedSlice S1x2048 ![2, 0] ck slices_S3x2048_S1x2048_2_0) shapeCasts_S1x2048_S2048))) (extractStridedSlice S2x4096x2048 ![0, 2, 0] (pad S2x4098x2048 ![0, 2, 0] ![0, 0, 0] ![0, 0, 0] (mulf (extractStridedSlice S2x4096x2048 ![0, 0, 2048] (Host.dotGeneral dot_S2x4096x2048_S2048x6144_S2x4096x6144_2_0_01_1_n_n none x w) slices_S2x4096x6144_S2x4096x2048_0_0_2048) (extractStridedSlice S2x4096x2048 ![0, 0, 4096] (Host.dotGeneral dot_S2x4096x2048_S2048x6144_S2x4096x6144_2_0_01_1_n_n none x w) slices_S2x4096x6144_S2x4096x2048_0_0_4096)) (sitofp .f32 (constantI S_ 32 0#32)) pads_S2x4096x2048_S2x4098x2048_000_200_000 h_S_) slices_S2x4098x2048_S2x4096x2048_0_2_0)))) shapeCasts_S2x4096x2048_S8192x2048) bitsLt_bf16_f32)
    = Cert.KernelIdeal.Conv.G m c := by
  funext i
  refine Eq.trans ?_ (Cert.KernelIdeal.Conv.G_eq m c i).symm
  rw [← hx, ← hw, ← hk]
  idx_vars i
  exact value_at x w ck i0 i1

end Cert.ReferenceIdeal.Val

end
-- ==== Proof.OutProj.lean ====
/-
  The output projection with its residual, as one function of the arguments over the extended reals.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel2Ideal.Val

open Cert.Kernel2Ideal Cert.Kernel2Ideal.Gen

variable (m : (ℓ : Loc nD τ sig) → Buf (Elt Ideal) ℓ)

/-- The result: the residual plus the product. -/
def G (y : Vec Ideal S8192x2048 .bf16) (w : Vec Ideal S2048x2048 .f32) (h : Vec Ideal S8192x2048 .f32) : Vec Ideal S8192x2048 .f32 := fun i =>
  h i + ∑ k : Fin 2048, y (ix2 (i 0) k) * w (ix2 k (i 1))

theorem idx : ∀ t : Fin grid0.N, win0_0.index t = ![t.val % 8, 0] ∧ win0_1.index t = ![0, t.val / 8]
    ∧ win0_2.index t = ![t.val % 8, t.val / 8] ∧ win0_3.index t = ![t.val % 8, t.val / 8] := by decide +kernel

theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold G
  idx_vars y
  unfold_payloads
  pointwise [dot_S1024x2048_S2048x1024_S1024x1024_1_0_0_1_n_n]
  blk_point [iblk, V, (idx t).1, (idx t).2.1, (idx t).2.2.1, (idx t).2.2.2]

end Cert.Kernel2Ideal.Val

end
-- ==== Proof.RefOutProj.lean ====
/-
  The reference's output projection is the same function of the arguments.
-/
module

public import proofs.«01_k».proof.Proof.OutProj
public import proofs.«01_k».proof.Proof.Gen.Reference2Ideal.Run

@[expose] public section

set_option maxRecDepth 16384

noncomputable section

open Idealize.ShloMosaic Idealize.ShloMosaic.TcCoe Idealize.SL.Sem

namespace Cert.Reference2Ideal.Val

open Cert.Reference2Ideal Cert.Reference2Ideal.Gen Idealize.ShloMosaic.StableHlo

theorem value (y : FVec Ideal S8192x2048 .bf16) (w : FVec Ideal S2048x2048 .f32) (h : FVec Ideal S8192x2048 .f32) :
    addf h (Host.dotGeneral dot_S8192x2048_S2048x2048_S8192x2048_1_0_0_1_n_n none (extf .f32 y bitsLt_bf16_f32) w)
    = Cert.Kernel2Ideal.Val.G y w h := by
  funext i
  unfold Cert.Kernel2Ideal.Val.G
  idx_vars i
  pointwise [dot_S8192x2048_S2048x2048_S8192x2048_1_0_0_1_n_n]

end Cert.Reference2Ideal.Val

end
-- ==== Proof.QkvProj.lean ====
/-
  The projection of the attention layer, as one function of the arguments over the extended reals.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel3Ideal.Val

open Cert.Kernel3Ideal Cert.Kernel3Ideal.Gen

variable (m : (ℓ : Loc nD τ sig) → Buf (Elt Ideal) ℓ)

/-- The result: the first 5120 columns of the product, the tokens of both sequences one after the other. -/
def G (x : Vec Ideal S2x4096x2048 .f32) (w : Vec Ideal S2048x5168 .f32) : Vec Ideal S8192x5120 .bf16 := fun i =>
  ∑ k : Fin 2048, x (ix3 (⟨(i 0).val / 4096, by have := (i 0).isLt; change _ < 8192 at this; omega⟩ : Fin 2) (⟨(i 0).val % 4096, by omega⟩ : Fin 4096) k)
    * w (ix2 k (⟨(i 1).val, by have := (i 1).isLt; change _ < 5120 at this; omega⟩ : Fin 5168))

theorem idx : ∀ t : Fin grid0.N, win0_0.index t = ![t.val % 8, 0] ∧ win0_1.index t = ![0, t.val / 8]
    ∧ win0_2.index t = ![t.val % 8, t.val / 8] := by decide +kernel

/-- The activations as the call reads them. -/
def act (c : Dev nD) : Vec Ideal S8192x2048 .bf16 := Gen.V m c main_v1

/-- The weights as the call reads them. -/
def wt (c : Dev nD) : Vec Ideal S2048x5120 .bf16 := Gen.V m c main_v3

theorem act_at (c : Dev nD) (r : Fin 8192) (k : Fin 2048) : act m c (ix2 r k)
    = m ((c : Thread nD τ).loc main_arg0) (ix3 (⟨r.val / 4096, by omega⟩ : Fin 2) (⟨r.val % 4096, by omega⟩ : Fin 4096) k) := by
  unfold act
  entry_read
  pointwise

theorem wt_at (c : Dev nD) (k : Fin 2048) (l : Fin 5120) : wt m c (ix2 k l)
    = m ((c : Thread nD τ).loc main_arg1) (ix2 k (⟨l.val, by omega⟩ : Fin 5168)) := by
  unfold wt
  entry_read
  pointwise

/-- The product at an index of the result. -/
theorem prod_at (c : Dev nD) (i : S8192x5120.Idx) :
    (∑ k : Fin 2048, act m c (ix2 (i 0) k) * wt m c (ix2 k (i 1)))
    = G (m ((c : Thread nD τ).loc main_arg0)) (m ((c : Thread nD τ).loc main_arg1)) i := by
  unfold G
  refine Finset.sum_congr rfl fun k _ => ?_
  exact congrArg₂ (fun a b : EReal => a * b) (act_at m c (i 0) k) (wt_at m c k (i 1))

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold_payloads
  pointwise [dot_S1024x2048_S2048x1024_S1024x1024_1_0_0_1_n_n]
  have h0 : ∀ k : Fin 2048, iblk m c 0 t (ix2 y0 k) = Gen.V m c main_v1 (ix2 (((View.whole main_v4).slice (win0_2.rect t)).emb (ix2 y0 y1) 0) k) := fun k => by
    blk_ext [iblk, (idx t).1, (idx t).2.1, (idx t).2.2]
  have h1 : ∀ k : Fin 2048, iblk m c 1 t (ix2 k y1) = Gen.V m c main_v3 (ix2 k (((View.whole main_v4).slice (win0_2.rect t)).emb (ix2 y0 y1) 1)) := fun k => by
    blk_ext [iblk, (idx t).1, (idx t).2.1, (idx t).2.2]
  simp only [h0, h1]
  exact prod_at m c _

end Cert.Kernel3Ideal.Val

end
-- ==== Proof.RefQkvProj.lean ====
/-
  The reference's projection is the same function of the arguments.
-/
module

public import proofs.«01_k».proof.Proof.QkvProj
public import proofs.«01_k».proof.Proof.Gen.Reference3Ideal.Run

@[expose] public section

set_option maxRecDepth 16384

noncomputable section

open Idealize.ShloMosaic Idealize.ShloMosaic.TcCoe Idealize.SL.Sem

namespace Cert.Reference3Ideal.Val

open Cert.Reference3Ideal Cert.Reference3Ideal.Gen Idealize.ShloMosaic.StableHlo

theorem value (x : FVec Ideal S2x4096x2048 .f32) (w : FVec Ideal S2048x5168 .f32) :
    truncf .bf16 (shapeCast _ (extractStridedSlice S2x4096x5120 ![0, 0, 0] (Host.dotGeneral dot_S2x4096x2048_S2048x5168_S2x4096x5168_2_0_01_1_n_n none x w) slices_S2x4096x5168_S2x4096x5120_0_0_0) shapeCasts_S2x4096x5120_S8192x5120) bitsLt_bf16_f32
    = Cert.Kernel3Ideal.Val.G x w := by
  funext i
  unfold Cert.Kernel3Ideal.Val.G
  idx_vars i
  pointwise [dot_S2x4096x2048_S2048x5168_S2x4096x5168_2_0_01_1_n_n]

end Cert.Reference3Ideal.Val

end
-- ==== Proof.Scores.lean ====
/-
  The scores of the product keys, as one function of the arguments over the extended reals.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel4Ideal.Val

open Cert.Kernel4Ideal Cert.Kernel4Ideal.Gen

variable (m : (ℓ : Loc nD τ sig) → Buf (Elt Ideal) ℓ)

theorem idx : ∀ t : Fin grid0.N, win0_0.index t = ![t.val, 0] ∧ win0_1.index t = ![0, 0]
    ∧ win0_2.index t = ![0, 0] ∧ win0_3.index t = ![0, 0, 0] ∧ win0_4.index t = ![0, 0, t.val] := by decide +kernel

/-- The queries: the normed rows against the projection's columns. -/
theorem query_at (x0 : Vec Ideal S256x2048 .f32) (x1 : Vec Ideal S1x2048 .f32) (x2 : Vec Ideal S2048x2048 .bf16) (r : Fin 256) (l : Fin 2048) :
    k0_pay3 x0 x1 x2 (ix2 r l) = ∑ k : Fin 2048, (x0 (ix2 r k) * Ideal.rsqrt (Ideal.div (∑ j : Fin 2048, x0 (ix2 r j) * x0 (ix2 r j)) (Scalar.ofBits (F := Ideal) .f32 0x45000000#32) + Scalar.ofBits (F := Ideal) .f32 0x358637BD#32) * x1 (ix2 0 k)) * x2 (ix2 k l) := by
  unfold_payloads
  pointwise [dot_S256x2048_S2048x2048_S256x2048_1_0_0_1_n_n]

/-- What a grid point leaves in its block: every half key against the query columns of its own head and half. -/
theorem block_at (A0 : Vec Ideal S256x2048 .f32) (A1 : Vec Ideal S1x2048 .f32) (A2 : Vec Ideal S2048x2048 .bf16) (A3 : Vec Ideal S16x128x128 .bf16)
    (y : S16x128x256.Idx) : out0_4 (F := Ideal) A0 A1 A2 A3 y
      = ∑ d : Fin 128, A3 (ix3 (y 0) (y 1) d) * k0_pay3 A0 A1 A2 (ix2 (y 2) (⟨128 * (y 0).val + d.val, by have := (y 0).isLt; change _ < 16 at this; omega⟩ : Fin 2048)) := by
  idx_vars y
  have hz2 : (![0, 0] : Fin 2 → Nat) = fun _ => 0 := funext fun a => by fin_cases a <;> rfl
  have hq : k0_pay3 (View.ld A0 r0_0) (View.ld A1 r0_1) (View.ld A2 r0_2) = k0_pay3 A0 A1 A2 := by
    rw [View.ld_unit_zero (S := S256x2048) hz2, View.ld_unit_zero (S := S1x2048) hz2, View.ld_unit_zero (S := S2048x2048) hz2]
  unfold out0_4
  canon_tiles x h
  all_goals
    idx_vars x
    simp only [k0_pay1, k0_pay2, k0_pay4, k0_pay5, k0_pay6, k0_pay7, k0_pay8, k0_pay9, k0_pay10, k0_pay11, k0_pay12, k0_pay13, k0_pay14, k0_pay15, k0_pay16, k0_pay17, k0_pay18]
    rw [hq]
    generalize k0_pay3 A0 A1 A2 = q
    pointwise [dot_S128x128_S256x128_S128x256_1_1_0_0_n_n]
    obtain ⟨y0, hy0⟩ := y0
    obtain rfl : y1 = x1 := Fin.ext h1
    obtain rfl : y2 = x2 := Fin.ext h2
    obtain rfl : x0 = 0 := Subsingleton.elim _ _
    simp only [ix3_0, Fin.val_zero, Nat.add_zero] at h0
    subst h0
    exact Finset.sum_congr rfl fun d _ => congrArg₂ (fun a b : EReal => a * b) rfl (congrArg q (congrArg (ix2 y2) (Fin.ext (by first | (dsimp only; done) | (dsimp only; omega)))))

/-- The block with its queries written out. -/
theorem block_sum (x0 : Vec Ideal S256x2048 .f32) (x1 : Vec Ideal S1x2048 .f32) (x2 : Vec Ideal S2048x2048 .bf16) (x3 : Vec Ideal S16x128x128 .bf16)
    (y : S16x128x256.Idx) : out0_4 (F := Ideal) x0 x1 x2 x3 y
      = ∑ d : Fin 128, x3 (ix3 (y 0) (y 1) d) * ∑ k : Fin 2048, (x0 (ix2 (y 2) k) * Ideal.rsqrt (Ideal.div (∑ j : Fin 2048, x0 (ix2 (y 2) j) * x0 (ix2 (y 2) j)) (Scalar.ofBits (F := Ideal) .f32 0x45000000#32) + Scalar.ofBits (F := Ideal) .f32 0x358637BD#32) * x1 (ix2 0 k))
          * x2 (ix2 k (⟨128 * (y 0).val + d.val, by have := (y 0).isLt; change _ < 16 at this; omega⟩ : Fin 2048)) := by
  rw [block_at]
  exact Finset.sum_congr rfl fun d _ => congrArg _ (query_at _ _ _ _ _)

/-- The normed activations. -/
def nrm (x : Vec Ideal S8192x2048 .f32) (g : Vec Ideal S2048 .f32) (r : Fin 8192) (k : Fin 2048) : EReal :=
  x (ix2 r k) * Ideal.rsqrt (Ideal.div (∑ j : Fin 2048, x (ix2 r j) * x (ix2 r j)) (Scalar.ofBits (F := Ideal) .f32 0x45000000#32) + Scalar.ofBits (F := Ideal) .f32 0x358637BD#32) * g (ix1 k)

/-- The result: head and half along the first axis, the half key along the second, the token along the last. -/
def G (x : Vec Ideal S8192x2048 .f32) (g : Vec Ideal S2048 .f32) (w : Vec Ideal S2048x2048 .f32) (key : Vec Ideal S8x2x128x128 .f32) : Vec Ideal S16x128x8192 .f32 := fun i =>
  ∑ d : Fin 128, key (ix4 (⟨(i 0).val / 2, by have := (i 0).isLt; change _ < 16 at this; omega⟩ : Fin 8) (⟨(i 0).val % 2, by omega⟩ : Fin 2) (i 1) d)
    * ∑ k : Fin 2048, nrm x g (i 2) k * w (ix2 k (⟨128 * (i 0).val + d.val, by have := (i 0).isLt; change _ < 16 at this; omega⟩ : Fin 2048))

theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3))  := by
  refine (dats m 0 c).arrAt_eq_of_covers 4 _ (by decide +kernel) fun t hf y => ?_
  blk_simp
  rw [after0_4]
  refine (block_sum _ _ _ _ _).trans ?_
  unfold G nrm
  idx_vars y
  blk_point [iblk, V, (idx t).1, (idx t).2.1, (idx t).2.2.1, (idx t).2.2.2.1, (idx t).2.2.2.2]

end Cert.Kernel4Ideal.Val

end
-- ==== Proof.RefScores.lean ====
/-
  The reference's scores are the same function of the arguments.
-/
module

public import proofs.«01_k».proof.Proof.Scores
public import proofs.«01_k».proof.Proof.Gen.Reference4Ideal.Run

@[expose] public section

set_option maxRecDepth 16384

noncomputable section

open Idealize.ShloMosaic Idealize.ShloMosaic.TcCoe Idealize.SL.Sem

namespace Cert.Reference4Ideal.Val

open Cert.Reference4Ideal Cert.Reference4Ideal.Gen Idealize.ShloMosaic.StableHlo

theorem value (x : FVec Ideal S8192x2048 .f32) (g : FVec Ideal S2048 .f32) (w : FVec Ideal S2048x2048 .f32) (key : FVec Ideal S8x2x128x128 .f32) :
    shapeCast _ (transpose S8x2x128x8192 [1, 2, 3, 0] (transpose S8192x8x2x128 [3, 0, 1, 2] (Host.dotGeneral dot_S8x2x128x128_S8192x8x2x128_S8x2x128x8192_3_3_2_0_01_12 none key (shapeCast _ (Host.dotGeneral dot_S8192x2048_S2048x2048_S8192x2048_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) w) shapeCasts_S8192x2048_S8192x8x2x128)) transposes_S8x2x128x8192_S8192x8x2x128_3_0_1_2) transposes_S8192x8x2x128_S8x2x128x8192_1_2_3_0) shapeCasts_S8x2x128x8192_S16x128x8192
    = Cert.Kernel4Ideal.Val.G x g w key := by
  funext i
  unfold Cert.Kernel4Ideal.Val.G Cert.Kernel4Ideal.Val.nrm
  idx_vars i
  pointwise [dot_S8192x2048_S2048x2048_S8192x2048_1_0_0_1_n_n, dot_S8x2x128x128_S8192x8x2x128_S8x2x128x8192_3_3_2_0_01_12]
  have e : ∀ (d : Fin 128) (h : i0.val / 2 * 256 + i0.val % 2 * 128 + d.val < 2048),
      (⟨i0.val / 2 * 256 + i0.val % 2 * 128 + d.val, h⟩ : Fin 2048) = ⟨128 * i0.val + d.val, by omega⟩ := fun d h => Fin.ext (by dsimp only; omega)
  simp only [e]

end Cert.Reference4Ideal.Val

end
-- ==== Proof.LastNorm.lean ====
/-
  The last norm, as one function of the arguments over the extended reals.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel5Ideal.Val

open Cert.Kernel5Ideal Cert.Kernel5Ideal.Gen

variable (m : (ℓ : Loc nD τ sig) → Buf (Elt Ideal) ℓ)

/-- The result: every row over the root of its mean square, scaled per column. -/
def G (x : Vec Ideal S8192x2048 .f32) (g : Vec Ideal S2048 .f32) : Vec Ideal S8192x2048 .f32 := fun i =>
  x i * Ideal.rsqrt (Ideal.div (∑ k : Fin 2048, x (ix2 (i 0) k) * x (ix2 (i 0) k)) (Scalar.ofBits (F := Ideal) .f32 0x45000000#32) + Scalar.ofBits (F := Ideal) .f32 0x358637BD#32) * g (ix1 (i 1))

theorem idx : ∀ t : Fin grid0.N, win0_0.index t = ![t.val, 0] ∧ win0_1.index t = ![0, 0]
    ∧ win0_2.index t = ![t.val, 0] := by decide +kernel

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold G
  idx_vars y
  unfold_payloads
  pointwise
  blk_point [iblk, V, (idx t).1, (idx t).2.1, (idx t).2.2]

end Cert.Kernel5Ideal.Val

end
-- ==== Proof.RefLastNorm.lean ====
/-
  The reference's norm is the same function of the arguments.
-/
module

public import proofs.«01_k».proof.Proof.LastNorm
public import proofs.«01_k».proof.Proof.Gen.Reference5Ideal.Run

@[expose] public section

set_option maxRecDepth 16384

noncomputable section

open Idealize.ShloMosaic Idealize.ShloMosaic.TcCoe Idealize.SL.Sem

namespace Cert.Reference5Ideal.Val

open Cert.Reference5Ideal Cert.Reference5Ideal.Gen Idealize.ShloMosaic.StableHlo

theorem value (x : FVec Ideal S8192x2048 .f32) (g : FVec Ideal S2048 .f32) :
    mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))
    = Cert.Kernel5Ideal.Val.G x g := by
  funext i
  unfold Cert.Kernel5Ideal.Val.G
  idx_vars i
  pointwise

end Cert.Reference5Ideal.Val

end
-- ==== Proof.Gates.lean ====
/-
  The gates of the attention layer, as one function of the arguments over the extended reals.
-/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel6Ideal.Val

open Cert.Kernel6Ideal Cert.Kernel6Ideal.Gen

variable (m : (ℓ : Loc nD τ sig) → Buf (Elt Ideal) ℓ)

theorem idx : ∀ t : Fin grid0.N, win0_0.index t = ![t.val, 0] ∧ win0_1.index t = ![0, 0]
    ∧ win0_2.index t = ![t.val, 0] := by decide +kernel

/-- The activations as the call reads them. -/
def act (c : Dev nD) : Vec Ideal S8192x2048 .bf16 := Gen.V m c main_v7

/-- The weights as the call reads them: the last 48 columns, head groups first, each group's twelve columns padded. -/
def wt (c : Dev nD) : Vec Ideal S2048x512 .bf16 := Gen.V m c main_v8

/-- Both sequences' rows one after the other. -/
def flat (x : FVec Ideal S2x4096x2048 .f32) : FVec Ideal S8192x2048 .bf16 :=
  truncf .bf16 (shapeCast _ x shapeCasts_S2x4096x2048_S8192x2048) bitsLt_bf16_f32

/-- The gate columns of the weights, head groups first, each group's twelve padded to 128. -/
def padw (w : FVec Ideal S2048x5168 .f32) : FVec Ideal S2048x512 .bf16 :=
  truncf .bf16 (shapeCast _ (pad S2048x4x128 ![0, 0, 0] ![0, 0, 116] ![0, 0, 0]
    (shapeCast _ (transpose S2048x4x3x4 [0, 2, 1, 3] (shapeCast _ (extractStridedSlice S2048x48 ![0, 5120] w slices_S2048x5168_S2048x48_0_5120) shapeCasts_S2048x48_S2048x3x4x4) transposes_S2048x3x4x4_S2048x4x3x4_0_2_1_3) shapeCasts_S2048x4x3x4_S2048x4x12)
    (sitofp .f32 (constantI S_ 32 0#32)) pads_S2048x4x12_S2048x4x128_000_000_01160 h_S_) shapeCasts_S2048x4x128_S2048x512) bitsLt_bf16_f32

theorem act_eq (c : Dev nD) : act m c = flat (m ((c : Thread nD τ).loc main_arg0)) := by
  unfold act
  unfold_abbrev_sides
  simp only [List.flatten_cons, List.flatten_nil, List.append_nil, List.cons_append, List.nil_append]
  simp only [StableHlo.TRef.binary, StableHlo.TRef.unary, StableHlo.TRef.toBuf, StableHlo.TRef.ofBuf, cast_eq]
  after_results <;> rfl

theorem wt_eq (c : Dev nD) : wt m c = padw (m ((c : Thread nD τ).loc main_arg1)) := by
  unfold wt
  unfold_abbrev_sides
  simp only [List.flatten_cons, List.flatten_nil, List.append_nil, List.cons_append, List.nil_append]
  simp only [StableHlo.TRef.binary, StableHlo.TRef.unary, StableHlo.TRef.toBuf, StableHlo.TRef.ofBuf, cast_eq]
  after_results <;> rfl

theorem act_at (c : Dev nD) (r : Fin 8192) (k : Fin 2048) : act m c (ix2 r k)
    = m ((c : Thread nD τ).loc main_arg0) (ix3 (⟨r.val / 4096, by omega⟩ : Fin 2) (⟨r.val % 4096, by omega⟩ : Fin 4096) k) := by
  rw [act_eq]
  unfold flat
  pointwise

/-- The padding value. -/
theorem pad_zero : (FloatOps.sitofp (F := Ideal) .f32 0#32 : EReal) = 0 := by
  simp [FloatOps.sitofp, Ideal.scalar_sitofp_def]

/-- The sigmoid written out, over a padded value. -/
theorem gate_eq (P : Prop) [Decidable P] (a : P → EReal) (z : EReal) (hz : z = 0) :
    Ideal.div 1 (1 + Ideal.exp (-(if h : P then a h else z))) = Ideal.logistic (if h : P then a h else 0) := by
  subst hz
  rfl

theorem wt_at (c : Dev nD) (k : Fin 2048) (l : Fin 512) : wt m c (ix2 k l)
    = if h : l.val / 128 < 4 ∧ l.val % 128 < 12 then
        m ((c : Thread nD τ).loc main_arg1) (ix2 k (⟨5120 + (l.val % 128 / 4 * 16 + l.val / 128 * 4 + l.val % 128 % 4), by omega⟩ : Fin 5168))
      else (0 : EReal) := by
  rw [wt_eq]
  unfold padw
  pointwise
  split
  · rfl
  · exact pad_zero

/-- The result: the sigmoid of every token's gate products, the padding columns' being of zero. -/
def G (x : Vec Ideal S2x4096x2048 .f32) (w : Vec Ideal S2048x5168 .f32) : Vec Ideal S8192x512 .f32 := fun i =>
  Ideal.logistic (if h : (i 1).val / 128 < 4 ∧ (i 1).val % 128 < 12 then
      ∑ k : Fin 2048, x (ix3 (⟨(i 0).val / 4096, by have := (i 0).isLt; change _ < 8192 at this; omega⟩ : Fin 2) (⟨(i 0).val % 4096, by omega⟩ : Fin 4096) k)
        * w (ix2 k (⟨5120 + ((i 1).val % 128 / 4 * 16 + (i 1).val / 128 * 4 + (i 1).val % 128 % 4), by omega⟩ : Fin 5168))
    else 0)

/-- The product at an index of the result. -/
theorem prod_at (c : Dev nD) (i : S8192x512.Idx) :
    Ideal.logistic (∑ k : Fin 2048, act m c (ix2 (i 0) k) * wt m c (ix2 k (i 1)))
    = G (m ((c : Thread nD τ).loc main_arg0)) (m ((c : Thread nD τ).loc main_arg1)) i := by
  unfold G
  refine congrArg Ideal.logistic ?_
  by_cases h : (i 1).val / 128 < 4 ∧ (i 1).val % 128 < 12
  · rw [dif_pos h]
    refine Finset.sum_congr rfl fun k _ => ?_
    exact congrArg₂ (fun a b : EReal => a * b) (act_at m c (i 0) k) ((wt_at m c k (i 1)).trans (dif_pos h))
  · rw [dif_neg h]
    refine Finset.sum_eq_zero fun k _ => ?_
    rw [(wt_at m c k (i 1)).trans (dif_neg h), mul_zero]

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold_payloads
  pointwise [dot_S1024x2048_S2048x512_S1024x512_1_0_0_1_n_n]
  have h0 : ∀ k : Fin 2048, iblk m c 0 t (ix2 y0 k) = act m c (ix2 (((View.whole main_v9).slice (win0_2.rect t)).emb (ix2 y0 y1) 0) k) := fun k => by
    unfold act
    blk_ext [iblk, (idx t).1, (idx t).2.1, (idx t).2.2]
  have h1 : ∀ k : Fin 2048, iblk m c 1 t (ix2 k y1) = wt m c (ix2 k (((View.whole main_v9).slice (win0_2.rect t)).emb (ix2 y0 y1) 1)) := fun k => by
    unfold wt
    blk_ext [iblk, (idx t).1, (idx t).2.1, (idx t).2.2]
  simp only [h0, h1]
  exact prod_at m c _

end Cert.Kernel6Ideal.Val

end
-- ==== Proof.RefGates.lean ====
/-
  The reference's gates are the same function of the arguments.
-/
module

public import proofs.«01_k».proof.Proof.Gates
public import proofs.«01_k».proof.Proof.Gen.Reference6Ideal.Run

@[expose] public section

set_option maxRecDepth 16384

noncomputable section

open Idealize.ShloMosaic Idealize.ShloMosaic.TcCoe Idealize.SL.Sem

namespace Cert.Reference6Ideal.Val

open Cert.Reference6Ideal Cert.Reference6Ideal.Gen Idealize.ShloMosaic.StableHlo

theorem value (x : FVec Ideal S2x4096x2048 .f32) (w : FVec Ideal S2048x5168 .f32) :
    Host.divf (broadcastInDim S8192x512 ![] bcast_S_S8192x512 (constant S_ .f32 0x3F800000#32)) (addf (broadcastInDim S8192x512 ![] bcast_S_S8192x512 (constant S_ .f32 0x3F800000#32)) (Host.exp (Host.negf (shapeCast _ (pad S8192x4x128 ![0, 0, 0] ![0, 0, 116] ![0, 0, 0] (shapeCast _ (transpose S8192x4x3x4 [0, 2, 1, 3] (shapeCast _ (extractStridedSlice S2x4096x48 ![0, 0, 5120] (Host.dotGeneral dot_S2x4096x2048_S2048x5168_S2x4096x5168_2_0_01_1_n_n none x w) slices_S2x4096x5168_S2x4096x48_0_0_5120) shapeCasts_S2x4096x48_S8192x3x4x4) transposes_S8192x3x4x4_S8192x4x3x4_0_2_1_3) shapeCasts_S8192x4x3x4_S8192x4x12) (sitofp .f32 (constantI S_ 32 0#32)) pads_S8192x4x12_S8192x4x128_000_000_01160 h_S_) shapeCasts_S8192x4x128_S8192x512))))
    = Cert.Kernel6Ideal.Val.G x w := by
  funext i
  unfold Cert.Kernel6Ideal.Val.G
  idx_vars i
  pointwise [dot_S2x4096x2048_S2048x5168_S2x4096x5168_2_0_01_1_n_n]
  exact Cert.Kernel6Ideal.Val.gate_eq _ _ _ Cert.Kernel6Ideal.Val.pad_zero

end Cert.Reference6Ideal.Val

end
-- ==== Proof.AttnMath.lean ====
/-
  Softmax weights of real numbers among the extended reals, and the layer's attention as a function of real numbers.
-/
module

public import Idealize.ShloMosaic.Lib.Pointwise
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Attn

/-! ## Sums and softmax weights of real numbers among the extended reals -/

/-- A finite sum of real numbers, taken among the extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Sum of the exponentials of the entries that count. -/
def mass {n : ℕ} (v : Fin n → Prop) [DecidablePred v] (x : Fin n → ℝ) : ℝ := ∑ c, if v c then Real.exp (x c) else 0

/-- The softmax weight of entry `c` among the entries that count; zero where none does. -/
def weight {n : ℕ} (v : Fin n → Prop) [DecidablePred v] (x : Fin n → ℝ) (c : Fin n) : ℝ :=
  if v c then Real.exp (x c) / mass v x else 0

theorem mass_pos {n : ℕ} (v : Fin n → Prop) [DecidablePred v] (x : Fin n → ℝ) (h : ∃ c, v c) : 0 < mass v x := by
  obtain ⟨c, hc⟩ := h
  refine Finset.sum_pos' (fun k _ => by split <;> positivity) ⟨c, Finset.mem_univ c, ?_⟩
  rw [if_pos hc]; positivity

/-- The maximum of numbers of which some are replaced by minus infinity: a number, unless all are replaced. -/
theorem fold_max_real {n : ℕ} (v : Fin n → Prop) [DecidablePred v] (x : Fin n → ℝ) (z : Fin n → EReal)
    (hz : ∀ c, z c = if v c then ((x c : ℝ) : EReal) else ⊥) (h : ∃ c, v c) :
    ∃ μ : ℝ, Finset.univ.fold max ⊥ z = ((μ : ℝ) : EReal) := by
  obtain ⟨c, hc⟩ := h
  have hlt : Finset.univ.fold max ⊥ z < ⊤ := by
    rw [Finset.fold_max_lt]
    refine ⟨bot_lt_top, fun k _ => ?_⟩
    rw [hz k]; split
    · exact EReal.coe_lt_top _
    · exact bot_lt_top
  have hgt : ⊥ < Finset.univ.fold max ⊥ z := by
    rw [Finset.lt_fold_max]
    refine Or.inr ⟨c, Finset.mem_univ c, ?_⟩
    rw [hz c, if_pos hc]; exact EReal.bot_lt_coe _
  exact ⟨_, (EReal.coe_toReal hlt.ne hgt.ne').symm⟩

theorem fold_max_bot {n : ℕ} (v : Fin n → Prop) [DecidablePred v] (x : Fin n → ℝ) (z : Fin n → EReal)
    (hz : ∀ c, z c = if v c then ((x c : ℝ) : EReal) else ⊥) (h : ¬ ∃ c, v c) :
    Finset.univ.fold max ⊥ z = ⊥ := by
  have : z = fun _ => ⊥ := funext fun c => by rw [hz c, if_neg fun hc => h ⟨c, hc⟩]
  rw [this]
  refine le_bot_iff.1 ?_
  rw [Finset.fold_max_le]; exact ⟨le_rfl, fun _ _ => le_rfl⟩

theorem exp_masked {p : Prop} [Decidable p] (x μ : ℝ) :
    Ideal.exp ((if p then ((x : ℝ) : EReal) else ⊥) - ((μ : ℝ) : EReal)) = ((if p then Real.exp (x - μ) else 0 : ℝ) : EReal) := by
  split
  · rw [← EReal.coe_sub, Ideal.exp_coe]
  · simp

/-- A common factor of all the exponentials falls out of a softmax weight. -/
theorem weight_shift {n : ℕ} (v : Fin n → Prop) [DecidablePred v] (x : Fin n → ℝ) (μ : ℝ) (c : Fin n) (hc : v c) :
    Real.exp (x c - μ) / (∑ k, if v k then Real.exp (x k - μ) else 0) = Real.exp (x c) / mass v x := by
  have e : ∀ k, (if v k then Real.exp (x k - μ) else 0) = (if v k then Real.exp (x k) else 0) * (Real.exp μ)⁻¹ := by
    intro k; split
    · rw [Real.exp_sub, div_eq_mul_inv]
    · rw [zero_mul]
  rw [Finset.sum_congr rfl fun k _ => e k, ← Finset.sum_mul, Real.exp_sub]
  change _ / (mass v x * _) = _
  have h1 := mass_pos v x ⟨c, hc⟩
  have h2 := Real.exp_pos μ
  field_simp

theorem shift_pos {n : ℕ} (v : Fin n → Prop) [DecidablePred v] (x : Fin n → ℝ) (μ : ℝ) (h : ∃ c, v c) :
    0 < ∑ k, if v k then Real.exp (x k - μ) else 0 := mass_pos v (fun k => x k - μ) h

/-- Masked softmax as a quotient after the fact times the mask. -/
theorem softmax_times {n : ℕ} (v : Fin n → Prop) [DecidablePred v] (x : Fin n → ℝ) (z : Fin n → EReal)
    (hz : ∀ c, z c = if v c then ((x c : ℝ) : EReal) else ⊥) (c : Fin n) :
    Ideal.div (Ideal.exp (z c - Finset.univ.fold max ⊥ z)) (∑ k, Ideal.exp (z k - Finset.univ.fold max ⊥ z))
      * (if v c then 1 else 0) = ((weight v x c : ℝ) : EReal) := by
  by_cases hc : v c
  · obtain ⟨μ, hμ⟩ := fold_max_real v x z hz ⟨c, hc⟩
    rw [hμ]
    simp only [hz, exp_masked]
    rw [coe_sum, Ideal.div_coe (shift_pos v x μ ⟨c, hc⟩).ne', if_pos hc, if_pos hc, mul_one, ← EReal.coe_mul, weight, if_pos hc, mul_one_div,
      weight_shift v x μ c hc]
  · rw [if_neg hc, mul_zero, weight, if_neg hc, EReal.coe_zero]

/-- Masked softmax with the mask put on the exponentials and the reciprocal of a sum guarded against zero. -/
theorem softmax_guarded {n : ℕ} (v : Fin n → Prop) [DecidablePred v] (x : Fin n → ℝ) (z : Fin n → EReal)
    (hz : ∀ c, z c = if v c then ((x c : ℝ) : EReal) else ⊥) (c : Fin n) (e : Fin n → EReal)
    (he : ∀ c, e c = if v c then Ideal.exp (z c - Finset.univ.fold max ⊥ z) else 0) :
    e c * Ideal.div 1 (if 0 < ∑ k, e k then ∑ k, e k else 1) = ((weight v x c : ℝ) : EReal) := by
  by_cases hc : v c
  · obtain ⟨μ, hμ⟩ := fold_max_real v x z hz ⟨c, hc⟩
    have he' : ∀ k, e k = ((if v k then Real.exp (x k - μ) else 0 : ℝ) : EReal) := by
      intro k
      rw [he k, hμ, hz k]; split
      · rw [← EReal.coe_sub, Ideal.exp_coe]
      · rw [EReal.coe_zero]
    have hp := shift_pos v x μ ⟨c, hc⟩
    simp only [he']
    rw [coe_sum, if_pos hc, if_pos (EReal.coe_pos.2 hp), Ideal.div_coe hp.ne', one_mul, ← EReal.coe_mul, weight, if_pos hc, mul_one_div,
      weight_shift v x μ c hc]
  · rw [he c, if_neg hc, zero_mul, weight, if_neg hc, EReal.coe_zero]

/-! ## The layer's attention over real numbers -/

/-- The factor of the logits. -/
def scale : ℝ := (Ideal.ofBits .f32 0x3DB504F3#32).toReal

theorem scale_coe : Ideal.ofBits .f32 0x3DB504F3#32 = ((scale : ℝ) : EReal) := by
  unfold scale
  rw [EReal.coe_toReal] <;> simp [Ideal.ofBits, Ideal.ieee] <;> rw [← EReal.coe_mul] <;> first | exact EReal.coe_ne_top _ | exact EReal.coe_ne_bot _

/-- The score of the blocks every query takes. -/
def force : ℝ := (Ideal.ofBits .f32 1176256512#32).toReal

theorem force_coe : Ideal.ofBits .f32 1176256512#32 = ((force : ℝ) : EReal) := by
  unfold force
  rw [EReal.coe_toReal] <;> simp [Ideal.ofBits, Ideal.ieee] <;> rw [← EReal.coe_mul] <;> first | exact EReal.coe_ne_top _ | exact EReal.coe_ne_bot _

/-- The score of the blocks past the query. -/
def past : ℝ := (Ideal.ofBits .f32 3212836864#32).toReal

theorem past_coe : Ideal.ofBits .f32 3212836864#32 = ((past : ℝ) : EReal) := by
  unfold past
  rw [EReal.coe_toReal] <;> simp [Ideal.ofBits, Ideal.ieee] <;> rw [← EReal.coe_mul] <;> first | exact EReal.coe_ne_top _ | exact EReal.coe_ne_bot _

/-- What one group's four heads attend with: queries, the keys and values of the three branches, and the tables of biases. -/
structure Heads where
  q : Fin 4 → Fin 4096 → Fin 128 → ℝ
  ks : Fin 4096 → Fin 128 → ℝ
  vs : Fin 4096 → Fin 128 → ℝ
  kw : Fin 4096 → Fin 128 → ℝ
  vw : Fin 4096 → Fin 128 → ℝ
  kc : Fin 256 → Fin 128 → ℝ
  vc : Fin 256 → Fin 128 → ℝ
  tb : Fin 4 → Fin 3 → Fin 128 → Fin 128 → ℝ
  fd : Fin 4 → Fin 128 → Fin 128 → ℝ

namespace Heads

variable (D : Heads)

/-- The bias of compressed block `c` for query `t`. -/
def biasc (r : Fin 4) (t : Fin 4096) (c : Fin 256) : ℝ :=
  D.tb r 2 ⟨t % 128, by omega⟩ ⟨c % 128, by omega⟩
    + if h : c.val ≤ 8 * (t.val / 128) + 7 ∧ 8 * (t.val / 128) + 7 - c.val < 128 then D.fd r ⟨t % 128, by omega⟩ ⟨8 * (t.val / 128) + 7 - c.val, h.2⟩ else 0

/-- The logit of compressed block `c`. -/
def zc (r : Fin 4) (t : Fin 4096) (c : Fin 256) : ℝ := (∑ d, D.q r t d * D.kc c d) * scale + D.biasc r t c

/-- The weight of compressed block `c`: the blocks that end at the query or before it count. -/
def pc (r : Fin 4) (t : Fin 4096) (c : Fin 256) : ℝ := weight (fun c : Fin 256 => 16 * c.val + 31 ≤ t.val) (D.zc r t) c

def oc (r : Fin 4) (t : Fin 4096) (d : Fin 128) : ℝ := ∑ c, D.pc r t c * D.vc c d

/-- The importance of selected block `j`: the weights of the compressed blocks that overlap it, over the four heads. -/
def imp (t : Fin 4096) (j : Fin 64) : ℝ := ∑ c : Fin 256, (∑ r, D.pc r t c) * if 4 * j.val ≤ c.val + 1 ∧ c.val ≤ 4 * j.val + 3 then 1 else 0

/-- The score of block `j`: the first block, the query's own and the one before it come first, those past it last. -/
def score (t : Fin 4096) (j : Fin 64) : ℝ :=
  if j.val = 0 ∨ j.val = t.val / 64 ∨ j.val + 1 = t.val / 64 then force else if 64 * j.val ≤ t.val then D.imp t j else past

/-- Block `j'` comes before block `j`: by score, then by position. -/
def ahead (t : Fin 4096) (j j' : Fin 64) : Prop := D.score t j < D.score t j' ∨ (D.score t j = D.score t j' ∧ j' < j)

open Classical in
/-- Block `j` is one of the sixteen chosen. -/
def chosen (t : Fin 4096) (j : Fin 64) : Prop := (∑ j', if D.ahead t j j' then 1 else 0 : ℕ) < 16

/-- The bias of key `u`, by how many tiles it lies behind. -/
def bias (r : Fin 4) (t u : Fin 4096) : ℝ :=
  D.tb r (if u.val / 128 + 2 ≤ t.val / 128 then 2 else if u.val / 128 + 1 = t.val / 128 then 1 else 0) ⟨t % 128, by omega⟩ ⟨u % 128, by omega⟩

def zs (r : Fin 4) (t u : Fin 4096) : ℝ := (∑ d, D.q r t d * D.ks u d) * scale + D.bias r t u

def zw (r : Fin 4) (t u : Fin 4096) : ℝ := (∑ d, D.q r t d * D.kw u d) * scale + D.bias r t u

def seen (t u : Fin 4096) : Prop := u ≤ t ∧ D.chosen t ⟨u / 64, by omega⟩

open Classical in
def os (r : Fin 4) (t : Fin 4096) (d : Fin 128) : ℝ := ∑ u, weight (D.seen t) (D.zs r t) u * D.vs u d

def ow (r : Fin 4) (t : Fin 4096) (d : Fin 128) : ℝ := ∑ u, weight (fun u : Fin 4096 => u ≤ t ∧ t.val < u.val + 512) (D.zw r t) u * D.vw u d

end Heads
-- ==== Proof.AttnSpec.lean ====
/-
  The attention layer's arrays of real numbers, one head group's share of them, and what the layer makes of them.
-/
module

public import proofs.«01_k».proof.Proof.Gen.Kernel7Ideal.Value
public import proofs.«01_k».proof.Proof.AttnMath
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Attn

/-- The arrays the attention reads, as real numbers: projections, compressed keys and values, and the two bias tables. -/
structure Arrays where
  P : Fin 2 → Fin 4096 → Fin 5120 → ℝ
  C : Fin 2 → Fin 2 → Fin 4 → Fin 256 → Fin 128 → ℝ
  T : Fin 16 → Fin 3 → Fin 128 → Fin 128 → ℝ
  E : Fin 16 → Fin 128 → Fin 128 → ℝ

/-- Column `k` of head group `g` in the `n`th of the ten 512-column parts of the projections. -/
abbrev col (n : Fin 10) (g : Fin 4) (k : Fin 128) : Fin 5120 := ⟨512 * n.val + 128 * g.val + k.val, by omega⟩

/-- Head `r` of group `g`. -/
abbrev head (g r : Fin 4) : Fin 16 := ⟨4 * g.val + r.val, by omega⟩

/-- What head group `g` reads in sequence `b`: its four heads' queries, its keys and values of the three branches, its bias tables. -/
def Arrays.heads (A : Arrays) (b : Fin 2) (g : Fin 4) : Heads where
  q r t k := A.P b t ⟨512 * g.val + 128 * r.val + k.val, by omega⟩
  ks u k := A.P b u (col 6 g k)
  vs u k := A.P b u (col 7 g k)
  kw u k := A.P b u (col 8 g k)
  vw u k := A.P b u (col 9 g k)
  kc n k := A.C b 0 g n k
  vc n k := A.C b 1 g n k
  tb r n a l := A.T (head g r) n a l
  fd r a l := A.E (head g r) a l

/-- One number of the result: the three branches, each times its gate. -/
def Arrays.mixed (A : Arrays) (gate : Fin 2 → Fin 4096 → Fin 512 → EReal) (b : Fin 2) (t : Fin 4096) (g r : Fin 4) (k : Fin 128) : EReal :=
  gate b t ⟨128 * g.val + r.val, by omega⟩ * (((A.heads b g).oc r t k : ℝ) : EReal)
    + gate b t ⟨128 * g.val + (4 + r.val), by omega⟩ * (((A.heads b g).os r t k : ℝ) : EReal)
    + gate b t ⟨128 * g.val + (8 + r.val), by omega⟩ * (((A.heads b g).ow r t k : ℝ) : EReal)

/-- The result, heads and their columns side by side. -/
def Arrays.out (A : Arrays) (gate : Fin 2 → Fin 4096 → Fin 512 → EReal) (b : Fin 2) (t : Fin 4096) (l : Fin 2048) : EReal :=
  A.mixed gate b t ⟨l.val / 512, by omega⟩ ⟨l.val / 128 % 4, by omega⟩ ⟨l.val % 128, by omega⟩

end Cert.Attn
-- ==== Proof.AttnWords.lean ====
/-
  Words that hold small numbers: their sums and comparisons, and one-bit words that hold a proposition.
-/
module

public import Idealize.ShloMosaic.Lib.Pointwise
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Attn

/-! ## Words that hold small numbers -/

theorem ti_nat (n : ℕ) (h : n < 2147483648) : (BitVec.ofNat 32 n).toInt = (n : ℤ) := by
  rw [BitVec.toInt_ofNat']
  exact Int.bmod_eq_of_le (by omega) (by omega)

theorem ti_add {x y : BitVec 32} {a b : ℤ} (hx : x.toInt = a) (hy : y.toInt = b) (h : -2147483648 ≤ a + b ∧ a + b < 2147483648) :
    (IntOp.addi x y).toInt = a + b := by
  change (x + y).toInt = _
  rw [BitVec.toInt_add, hx, hy]
  exact Int.bmod_eq_of_le (by omega) (by omega)

theorem ti_sub {x y : BitVec 32} {a b : ℤ} (hx : x.toInt = a) (hy : y.toInt = b) (h : -2147483648 ≤ a - b ∧ a - b < 2147483648) :
    (IntOp.subi x y).toInt = a - b := by
  change (x - y).toInt = _
  rw [BitVec.toInt_sub, hx, hy]
  exact Int.bmod_eq_of_le (by omega) (by omega)

theorem ti_mul {x y : BitVec 32} {a b : ℤ} (hx : x.toInt = a) (hy : y.toInt = b) (h : -2147483648 ≤ a * b ∧ a * b < 2147483648) :
    (IntOp.muli x y).toInt = a * b := by
  change (x * y).toInt = _
  rw [BitVec.toInt_mul, hx, hy]
  exact Int.bmod_eq_of_le (by omega) (by omega)

theorem ti_shr (u : ArithUnit) {x : BitVec 32} {a : ℕ} (hx : x.toInt = a) (h : a < 2147483648) : (IntOp.shrui u x 6#32).toInt = (a / 64 : ℕ) := by
  have e : x = BitVec.ofNat 32 a := BitVec.eq_of_toInt_eq (by rw [hx, ti_nat a h])
  have e' : IntOp.shrui u x 6#32 = BitVec.ofNat 32 (a / 64) := by
    subst e
    apply BitVec.eq_of_toNat_eq
    simp [IntOp.shrui, Nat.shiftRight_eq_div_pow]
    omega
  rw [e', ti_nat _ (by omega)]

theorem cmp_sge {x y : BitVec 32} {a b : ℤ} (hx : x.toInt = a) (hy : y.toInt = b) :
    IntOp.cmpi .sge x y = if b ≤ a then 1#1 else 0#1 := by
  simp only [IntOp.cmpi, BitVec.sle, hx, hy]
  split <;> rename_i h <;> simp [h, -not_le, -not_lt]

theorem cmp_sle {x y : BitVec 32} {a b : ℤ} (hx : x.toInt = a) (hy : y.toInt = b) :
    IntOp.cmpi .sle x y = if a ≤ b then 1#1 else 0#1 := by
  simp only [IntOp.cmpi, BitVec.sle, hx, hy]
  split <;> rename_i h <;> simp [h, -not_le, -not_lt]

theorem cmp_slt {x y : BitVec 32} {a b : ℤ} (hx : x.toInt = a) (hy : y.toInt = b) :
    IntOp.cmpi .slt x y = if a < b then 1#1 else 0#1 := by
  simp only [IntOp.cmpi, BitVec.slt, hx, hy]
  split <;> rename_i h <;> simp [h, -not_le, -not_lt]

theorem cmp_sgt {x y : BitVec 32} {a b : ℤ} (hx : x.toInt = a) (hy : y.toInt = b) :
    IntOp.cmpi .sgt x y = if b < a then 1#1 else 0#1 := by
  simp only [IntOp.cmpi, BitVec.slt, hx, hy]
  split <;> rename_i h <;> simp [h]

theorem cmp_eq {x y : BitVec 32} {a b : ℤ} (hx : x.toInt = a) (hy : y.toInt = b) :
    IntOp.cmpi .eq x y = if a = b then 1#1 else 0#1 := by
  have : (x == y) = decide (a = b) := by
    rw [← hx, ← hy]
    by_cases h : x = y
    · subst h; simp
    · have : x.toInt ≠ y.toInt := fun e => h (BitVec.eq_of_toInt_eq e)
      simp [h, this]
  simp only [IntOp.cmpi, this]
  split <;> simp_all

theorem bit_and {p q : Prop} [Decidable p] [Decidable q] :
    IntOp.andi (if p then 1#1 else 0#1) (if q then 1#1 else 0#1) = if p ∧ q then 1#1 else 0#1 := by
  by_cases hp : p <;> by_cases hq : q <;> simp [hp, hq, IntOp.andi]

theorem bit_or {p q : Prop} [Decidable p] [Decidable q] :
    IntOp.ori (if p then 1#1 else 0#1) (if q then 1#1 else 0#1) = if p ∨ q then 1#1 else 0#1 := by
  by_cases hp : p <;> by_cases hq : q <;> simp [hp, hq, IntOp.ori]

theorem bit_select {α : Type} {p : Prop} [Decidable p] (x y : α) :
    Scalar.select (if p then 1#1 else 0#1) x y = if p then x else y := by
  by_cases hp : p <;> simp [hp, Scalar.select]

theorem bit_sitofp {p : Prop} [Decidable p] :
    (FloatOps.sitofp (F := Ideal) FTy.f32 (BitVec.setWidth 32 (if p then 1#1 else 0#1) : BitVec 32) : EReal) = if p then 1 else 0 := by
  by_cases hp : p
  · simp [hp, FloatOps.sitofp]
  · simp [hp, FloatOps.sitofp]
-- ==== Proof.RefLoads.lean ====
/-
  What the reference's arrays hold: queries, keys, values, gates and the keys' biases.
-/
module

public import proofs.«01_k».proof.Proof.Gen.Reference7Ideal.Run
public import proofs.«01_k».proof.Proof.AttnSpec
public import proofs.«01_k».proof.Proof.AttnWords
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

/-- The reference's arguments are the arrays `A` and the gates `gate`. -/
structure Given (V0 : Valuation τ sig (Elt Ideal)) (A : Arrays) (gate : Fin 2 → Fin 4096 → Fin 512 → EReal) : Prop where
  P : ∀ b t k, V0 (Proc.devRef .tc main_arg0) (ix3 b t k) = ((A.P b t k : ℝ) : EReal)
  C : ∀ b n g u k, V0 (Proc.devRef .tc main_arg1) (ix5 b n g u k) = ((A.C b n g u k : ℝ) : EReal)
  G : ∀ b t l, V0 (Proc.devRef .tc main_arg2) (ix3 b t l) = gate b t l
  T : ∀ h n a l, V0 (Proc.devRef .tc main_arg3) (ix4 h n a l) = ((A.T h n a l : ℝ) : EReal)
  E : ∀ h a l, V0 (Proc.devRef .tc main_arg4) (ix3 h a l) = ((A.E h a l : ℝ) : EReal)

variable (V0 : Valuation τ sig (Elt Ideal)) {A : Arrays} {gate : Fin 2 → Fin 4096 → Fin 512 → EReal}

theorem q_at (h : Given V0 A gate) (b : Fin 2) (g r : Fin 4) (t : Fin 4096) (d : Fin 128) :
    res_main_v3 V0 (ix5 b g r t d) = (((A.heads b g).q r t d : ℝ) : EReal) := by
  unfold res_main_v3 res_main_v0
  pointwise
  refine Eq.trans ?_ (h.P _ _ _)
  congr 2
  exact Fin.ext (by dsimp only; omega)

theorem kv_at (h : Given V0 A gate) (n : Fin 6) (b : Fin 2) (g : Fin 4) (t : Fin 4096) (d : Fin 128) :
    res_main_v6 V0 (ix5 n b g t d) = ((A.P b t (col ⟨4 + n.val, by omega⟩ g d) : ℝ) : EReal) := by
  unfold res_main_v6 res_main_v0
  pointwise
  refine Eq.trans ?_ (h.P _ _ _)
  congr 2
  exact Fin.ext (by dsimp only [col]; omega)

theorem gate_at (h : Given V0 A gate) (n : Fin 3) (b : Fin 2) (g r : Fin 4) (t : Fin 4096) (z : Fin 1) :
    res_main_v25 V0 (ix6 n b g r t z) = gate b t ⟨128 * g.val + (4 * n.val + r.val), by omega⟩ := by
  unfold res_main_v25
  pointwise
  refine Eq.trans ?_ (h.G _ _ _)
  congr 2
  exact Fin.ext (by dsimp only; omega)

theorem tile_pick (t u : Fin 4096) (X : Fin 3 → EReal) :
    Scalar.select (IntOp.cmpi .sge (IntOp.subi (BitVec.ofNat 32 (t.val / 128)) (BitVec.ofNat 32 (u.val / 128))) 2#32) (X 2)
      (Scalar.select (IntOp.cmpi .eq (IntOp.subi (BitVec.ofNat 32 (t.val / 128)) (BitVec.ofNat 32 (u.val / 128))) 1#32) (X 1) (X 0))
    = X (if u.val / 128 + 2 ≤ t.val / 128 then 2 else if u.val / 128 + 1 = t.val / 128 then 1 else 0) := by
  have hd := ti_sub (ti_nat (t.val / 128) (by omega)) (ti_nat (u.val / 128) (by omega)) (by omega)
  rw [cmp_sge hd (ti_nat 2 (by omega)), cmp_eq hd (ti_nat 1 (by omega)), bit_select, bit_select]
  by_cases h1 : u.val / 128 + 2 ≤ t.val / 128
  · rw [if_pos h1, if_pos (by omega)]
  · rw [if_neg h1, if_neg (by omega)]
    by_cases h2 : u.val / 128 + 1 = t.val / 128
    · rw [if_pos h2, if_pos (by omega)]
    · rw [if_neg h2, if_neg (by omega)]

theorem bias_at (h : Given V0 A gate) (b : Fin 2) (g r : Fin 4) (t u : Fin 4096) :
    res_main_v54 V0 (ix4 g r t u) = (((A.heads b g).bias r t u : ℝ) : EReal) := by
  unfold res_main_v54 res_main_v33 res_main_v27
  pointwise
  refine (tile_pick t u (fun n => V0 (Proc.devRef .tc main_arg3) (ix4 ⟨g.val * 4 + r.val, by omega⟩ n ⟨t.val % 128, by omega⟩ ⟨u.val % 128, by omega⟩))).trans ?_
  refine (h.T _ _ _ _).trans ?_
  have hh : (⟨g.val * 4 + r.val, by omega⟩ : Fin 16) = head g r := Fin.ext (by dsimp only; omega)
  rw [hh]
  rfl

end Cert.Reference7Ideal.Val

end
-- ==== Proof.RefMask.lean ====
/-
  Which keys the reference's masks leave: compressed blocks that end at the query or before, and the window's keys.
-/
module

public import proofs.«01_k».proof.Proof.Gen.Reference7Ideal.Run
public import proofs.«01_k».proof.Proof.AttnSpec
public import proofs.«01_k».proof.Proof.AttnWords
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal))

theorem dist_at (t u : Fin 4096) : BitVec.toInt (res_main_v188 V0 (ix2 t u) : BitVec 32) = (t.val : ℤ) - (u.val : ℤ) := by
  have e : (res_main_v188 V0 (ix2 t u) : BitVec 32) = IntOp.subi (BitVec.ofNat 32 t.val) (BitVec.ofNat 32 u.val) := by
    unfold res_main_v188 res_main_v26
    pointwise
  rw [e, ti_sub (ti_nat _ (by omega)) (ti_nat _ (by omega)) (by omega)]

theorem win_at (t u : Fin 4096) : (res_main_v231 V0 (ix2 t u) : BitVec 1) = if u ≤ t ∧ t.val < u.val + 512 then 1#1 else 0#1 := by
  have e : (res_main_v231 V0 (ix2 t u) : BitVec 1) = IntOp.andi (IntOp.cmpi .sge (res_main_v188 V0 (ix2 t u) : BitVec 32) (BitVec.ofNat 32 0))
      (IntOp.cmpi .slt (res_main_v188 V0 (ix2 t u) : BitVec 32) (BitVec.ofNat 32 512)) := by
    unfold res_main_v231
    pointwise
  rw [e, cmp_sge (dist_at V0 t u) (ti_nat 0 (by omega)), cmp_slt (dist_at V0 t u) (ti_nat 512 (by omega)), bit_and]
  have : (((0 : ℕ) : ℤ) ≤ (t.val : ℤ) - (u.val : ℤ) ∧ (t.val : ℤ) - (u.val : ℤ) < ((512 : ℕ) : ℤ)) ↔ (u ≤ t ∧ t.val < u.val + 512) := by
    rw [Fin.le_def]; omega
  simp only [this]

theorem cend_at (c : Fin 255) : BitVec.toInt (res_main_v92 V0 (ix1 c) : BitVec 32) = 16 * (c.val : ℤ) + 31 := by
  have e : (res_main_v92 V0 (ix1 c) : BitVec 32) = IntOp.subi (IntOp.addi (IntOp.muli (BitVec.ofNat 32 c.val) (BitVec.ofNat 32 16)) (BitVec.ofNat 32 32)) (BitVec.ofNat 32 1) := by
    unfold res_main_v92 res_main_v88 res_main_v55
    pointwise
  rw [e, ti_sub (ti_add (ti_mul (ti_nat _ (by omega)) (ti_nat 16 (by omega)) (by omega)) (ti_nat 32 (by omega)) (by omega)) (ti_nat 1 (by omega)) (by omega)]
  push_cast
  ring

theorem cstart_at (c : Fin 255) : BitVec.toInt (res_main_v88 V0 (ix1 c) : BitVec 32) = 16 * (c.val : ℤ) := by
  have e : (res_main_v88 V0 (ix1 c) : BitVec 32) = IntOp.muli (BitVec.ofNat 32 c.val) (BitVec.ofNat 32 16) := by
    unfold res_main_v88 res_main_v55
    pointwise
  rw [e, ti_mul (ti_nat _ (by omega)) (ti_nat 16 (by omega)) (by omega)]
  push_cast
  ring

theorem comp_at (t : Fin 4096) (c : Fin 255) : (res_main_v105 V0 (ix2 t c) : BitVec 1) = if 16 * c.val + 31 ≤ t.val then 1#1 else 0#1 := by
  have e : (res_main_v105 V0 (ix2 t c) : BitVec 1) = IntOp.cmpi .sge (IntOp.subi (BitVec.ofNat 32 t.val) (res_main_v92 V0 (ix1 c) : BitVec 32)) (BitVec.ofNat 32 0) := by
    unfold res_main_v105 res_main_v26
    pointwise
  rw [e, cmp_sge (ti_sub (ti_nat _ (by omega)) (cend_at V0 c) (by omega)) (ti_nat 0 (by omega))]
  have : ((0 : ℕ) : ℤ) ≤ (t.val : ℤ) - (16 * (c.val : ℤ) + 31) ↔ 16 * c.val + 31 ≤ t.val := by omega
  simp only [this]

end Cert.Reference7Ideal.Val

end
-- ==== Proof.RefSoft.lean ====
/-
  The reference's masked weights of the selected and the window branch, and what they add up to.
-/
module

public import proofs.«01_k».proof.Proof.Gen.Reference7Ideal.Run
public import proofs.«01_k».proof.Proof.RefLoads
public import proofs.«01_k».proof.Proof.RefMask
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

theorem lowest : (Ideal.ofBits FTy.f32 4286578688#32 : EReal) = ⊥ := by
  simp [Ideal.ofBits, Ideal.ieee]

/-- A maximum along an axis, as a fold along it. -/
theorem max_axis {s t u : Shape} {a : Fin s.rank} (x : FVec Ideal s .f32) (h : s.ReducesTo [a] t) (hu : 0 < u.numel) (h' : s.Reduces [a] t) (j : t.Idx) :
    Host.reduce FloatOps.maximumf x (constant u .f32 0xFF800000#32) h hu j = Finset.univ.fold max (⊥ : EReal) (fun k => x (h'.lift j k)) := by
  rw [hostReduce_maximumf_eq_multiReduction x 0xFF800000#32 h hu h' (by decide) (by decide), Ideal.multiReduction_maximumf_single]
  exact congrArg (fun e : EReal => Finset.univ.fold max e (fun k => x (h'.lift j k))) lowest

theorem max_keys (x : FVec Ideal S2x4x4x4096x4096 .f32) (b : Fin 2) (g r : Fin 4) (t : Fin 4096) :
    Host.reduce FloatOps.maximumf x (constant S_ .f32 0xFF800000#32) reducesTo_S2x4x4x4096x4096_S2x4x4x4096_d4 h_S_ (ix4 b g r t)
      = Finset.univ.fold max (⊥ : EReal) (fun u : Fin 4096 => x (ix5 b g r t u)) := by
  have h := reducesTo_S2x4x4x4096x4096_S2x4x4x4096_d4
  have h' : S2x4x4x4096x4096.Reduces [4] S2x4x4x4096 := ⟨h.1, by decide, h.2⟩
  refine (max_axis x _ _ h' _).trans ?_
  refine congrArg (fun f : Fin 4096 → EReal => Finset.univ.fold max (⊥ : EReal) f) (funext fun u => ?_)
  refine congrArg x (funext fun a => Fin.ext ?_)
  match a with
  | ⟨0, _⟩ => rfl
  | ⟨1, _⟩ => rfl
  | ⟨2, _⟩ => rfl
  | ⟨3, _⟩ => rfl
  | ⟨4, _⟩ => rfl

theorem max_blocks (x : FVec Ideal S2x4x4x4096x255 .f32) (b : Fin 2) (g r : Fin 4) (t : Fin 4096) :
    Host.reduce FloatOps.maximumf x (constant S_ .f32 0xFF800000#32) reducesTo_S2x4x4x4096x255_S2x4x4x4096_d4 h_S_ (ix4 b g r t)
      = Finset.univ.fold max (⊥ : EReal) (fun u : Fin 255 => x (ix5 b g r t u)) := by
  have h := reducesTo_S2x4x4x4096x255_S2x4x4x4096_d4
  have h' : S2x4x4x4096x255.Reduces [4] S2x4x4x4096 := ⟨h.1, by decide, h.2⟩
  refine (max_axis x _ _ h' _).trans ?_
  refine congrArg (fun f : Fin 255 → EReal => Finset.univ.fold max (⊥ : EReal) f) (funext fun u => ?_)
  refine congrArg x (funext fun a => Fin.ext ?_)
  match a with
  | ⟨0, _⟩ => rfl
  | ⟨1, _⟩ => rfl
  | ⟨2, _⟩ => rfl
  | ⟨3, _⟩ => rfl
  | ⟨4, _⟩ => rfl

/-- A sum along an axis. -/
theorem sum_axis {s t u : Shape} {a : Fin s.rank} (x : FVec Ideal s .f32) (h : s.ReducesTo [a] t) (hu : 0 < u.numel) (h' : s.Reduces [a] t) (j : t.Idx) :
    Host.reduceAdd x (constant u .f32 0x00000000#32) h hu j = ∑ k, x (h'.lift j k) := by
  show Ideal.hostReduceAdd _ _ _ j = _
  rw [Ideal.hostReduceAdd_single h h']
  refine Eq.trans (congrArg (fun e : EReal => e + ∑ k, x (h'.lift j k)) ?_) (zero_add _)
  exact Ideal.ofBits_zero_f32

theorem sum_keys (x : FVec Ideal S2x4x4x4096x4096 .f32) (b : Fin 2) (g r : Fin 4) (t : Fin 4096) :
    Host.reduceAdd x (constant S_ .f32 0x00000000#32) reducesTo_S2x4x4x4096x4096_S2x4x4x4096_d4 h_S_ (ix4 b g r t) = ∑ u : Fin 4096, x (ix5 b g r t u) := by
  have h := reducesTo_S2x4x4x4096x4096_S2x4x4x4096_d4
  have h' : S2x4x4x4096x4096.Reduces [4] S2x4x4x4096 := ⟨h.1, by decide, h.2⟩
  refine (sum_axis x _ _ h' _).trans ?_
  refine congrArg (fun f : Fin 4096 → EReal => ∑ u, f u) (funext fun u => ?_)
  refine congrArg x (funext fun a => Fin.ext ?_)
  match a with
  | ⟨0, _⟩ => rfl
  | ⟨1, _⟩ => rfl
  | ⟨2, _⟩ => rfl
  | ⟨3, _⟩ => rfl
  | ⟨4, _⟩ => rfl

theorem sum_blocks (x : FVec Ideal S2x4x4x4096x255 .f32) (b : Fin 2) (g r : Fin 4) (t : Fin 4096) :
    Host.reduceAdd x (constant S_ .f32 0x00000000#32) reducesTo_S2x4x4x4096x255_S2x4x4x4096_d4 h_S_ (ix4 b g r t) = ∑ u : Fin 255, x (ix5 b g r t u) := by
  have h := reducesTo_S2x4x4x4096x255_S2x4x4x4096_d4
  have h' : S2x4x4x4096x255.Reduces [4] S2x4x4x4096 := ⟨h.1, by decide, h.2⟩
  refine (sum_axis x _ _ h' _).trans ?_
  refine congrArg (fun f : Fin 255 → EReal => ∑ u, f u) (funext fun u => ?_)
  refine congrArg x (funext fun a => Fin.ext ?_)
  match a with
  | ⟨0, _⟩ => rfl
  | ⟨1, _⟩ => rfl
  | ⟨2, _⟩ => rfl
  | ⟨3, _⟩ => rfl
  | ⟨4, _⟩ => rfl

/-- Exponentials less the row's maximum, divided by their sum, where the mask leaves the key: the weights. -/
theorem softmax_where {n : ℕ} {v : Fin n → Prop} (dv : DecidablePred v) (x : Fin n → ℝ) (z : Fin n → EReal) (hz : ∀ c, z c = if v c then ((x c : ℝ) : EReal) else ⊥) (c : Fin n)
    (m : BitVec 1) (hm : m = if v c then 1#1 else 0#1) :
    Scalar.select m (Ideal.div (Ideal.exp (z c - max ⊥ (Finset.univ.fold max (⊥ : EReal) z))) (∑ k, Ideal.exp (z k - max ⊥ (Finset.univ.fold max (⊥ : EReal) z)))) 0
      = ((weight v x c : ℝ) : EReal) := by
  have h := softmax_times v x z hz c
  rw [max_eq_right bot_le, hm, bit_select]
  by_cases hc : v c
  · rw [if_pos hc, mul_one] at h
    rw [if_pos hc, h]
  · rw [if_neg hc]
    unfold weight
    rw [if_neg hc, EReal.coe_zero]

theorem logit_of (f k : Fin 128 → ℝ) (q z : Fin 128 → EReal) (hq : ∀ d, q d = ((f d : ℝ) : EReal)) (hk : ∀ d, z d = ((k d : ℝ) : EReal)) (w : EReal) (β : ℝ) (hw : w = ((β : ℝ) : EReal)) :
    (∑ d, q d * z d) * Ideal.ofBits FTy.f32 1035273459#32 + w = (((∑ d, f d * k d) * scale + β : ℝ) : EReal) := by
  simp only [hq, hk, hw]
  rw [show (Ideal.ofBits FTy.f32 1035273459#32 : EReal) = ((scale : ℝ) : EReal) from scale_coe]
  simp only [← EReal.coe_mul]
  rw [coe_sum, ← EReal.coe_mul, ← EReal.coe_add]

theorem exp_keys (z : FVec Ideal S2x4x4x4096x4096 .f32) (M : FVec Ideal S2x4x4x4096 .f32) (b : Fin 2) (g r : Fin 4) (t : Fin 4096) (u : Fin 4096) :
    Host.exp (subf z (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (maximumf (broadcastInDim S2x4x4x4096 ![] bcast_S_S2x4x4x4096 (constant S_ .f32 0xFF800000#32)) M)))) (ix5 b g r t u)
      = Ideal.exp (z (ix5 b g r t u) - max (Ideal.ofBits FTy.f32 4286578688#32) (M (ix4 b g r t))) := by
  pointwise

theorem div_keys (m : IVec S2x4x4x4096x4096 1) (e : FVec Ideal S2x4x4x4096x4096 .f32) (T : FVec Ideal S2x4x4x4096 .f32) (b : Fin 2) (g r : Fin 4) (t : Fin 4096) (u : Fin 4096) :
    select m (Host.divf e (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 T))) (broadcastInDim S2x4x4x4096x4096 ![] bcast_S_S2x4x4x4096x4096 (constant S_ .f32 0x00000000#32)) (ix5 b g r t u)
      = Scalar.select (m (ix5 b g r t u)) (Ideal.div (e (ix5 b g r t u)) (T (ix4 b g r t))) 0 := by
  pointwise

/-- What the softmax makes of logits `z` under a mask `m`. -/
theorem keys_at (m : IVec S2x4x4x4096x4096 1) (z : FVec Ideal S2x4x4x4096x4096 .f32) (b : Fin 2) (g r : Fin 4) (t : Fin 4096) {v : Fin 4096 → Prop} (dv : DecidablePred v) (x : Fin 4096 → ℝ)
    (hz : ∀ u, z (ix5 b g r t u) = if v u then ((x u : ℝ) : EReal) else ⊥) (hm : ∀ u, m (ix5 b g r t u) = if v u then 1#1 else 0#1) (u : Fin 4096)
    (e : FVec Ideal S2x4x4x4096x4096 .f32)
    (he : e = Host.exp (subf z (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (maximumf (broadcastInDim S2x4x4x4096 ![] bcast_S_S2x4x4x4096 (constant S_ .f32 0xFF800000#32)) (Host.reduce FloatOps.maximumf z (constant S_ .f32 0xFF800000#32) reducesTo_S2x4x4x4096x4096_S2x4x4x4096_d4 h_S_)))))) :
    select m (Host.divf e (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd e (constant S_ .f32 0x00000000#32) reducesTo_S2x4x4x4096x4096_S2x4x4x4096_d4 h_S_)))) (broadcastInDim S2x4x4x4096x4096 ![] bcast_S_S2x4x4x4096x4096 (constant S_ .f32 0x00000000#32)) (ix5 b g r t u)
     = ((weight v x u : ℝ) : EReal) := by
  have hM := max_keys z b g r t
  have hT := sum_keys e b g r t
  have hE : ∀ k, e (ix5 b g r t k) = Ideal.exp (z (ix5 b g r t k) - max ⊥ (Finset.univ.fold max (⊥ : EReal) (fun u : Fin 4096 => z (ix5 b g r t u)))) := by
    intro k
    rw [he]
    refine (exp_keys z _ b g r t k).trans ?_
    exact congrArg₂ (fun w y : EReal => Ideal.exp (z (ix5 b g r t k) - max w y)) lowest hM
  refine (div_keys m e _ b g r t u).trans ?_
  refine Eq.trans ?_ (softmax_where dv x (fun u => z (ix5 b g r t u)) hz u (m (ix5 b g r t u)) (hm u))
  refine congrArg₂ (fun w y : EReal => Scalar.select (m (ix5 b g r t u)) (Ideal.div w y) 0) (hE u) (hT.trans ?_)
  exact Finset.sum_congr rfl fun k _ => hE k

theorem exp_blocks (z : FVec Ideal S2x4x4x4096x255 .f32) (M : FVec Ideal S2x4x4x4096 .f32) (b : Fin 2) (g r : Fin 4) (t : Fin 4096) (u : Fin 255) :
    Host.exp (subf z (broadcastInDim S2x4x4x4096x255 ![0, 1, 2, 3, 4] bcast_S2x4x4x4096x1_S2x4x4x4096x255_0_1_2_3_4 (broadcastInDim S2x4x4x4096x1 ![0, 1, 2, 3] bcast_S2x4x4x4096_S2x4x4x4096x1_0_1_2_3 (maximumf (broadcastInDim S2x4x4x4096 ![] bcast_S_S2x4x4x4096 (constant S_ .f32 0xFF800000#32)) M)))) (ix5 b g r t u)
      = Ideal.exp (z (ix5 b g r t u) - max (Ideal.ofBits FTy.f32 4286578688#32) (M (ix4 b g r t))) := by
  pointwise

theorem div_blocks (m : IVec S2x4x4x4096x255 1) (e : FVec Ideal S2x4x4x4096x255 .f32) (T : FVec Ideal S2x4x4x4096 .f32) (b : Fin 2) (g r : Fin 4) (t : Fin 4096) (u : Fin 255) :
    select m (Host.divf e (broadcastInDim S2x4x4x4096x255 ![0, 1, 2, 3, 4] bcast_S2x4x4x4096x1_S2x4x4x4096x255_0_1_2_3_4 (broadcastInDim S2x4x4x4096x1 ![0, 1, 2, 3] bcast_S2x4x4x4096_S2x4x4x4096x1_0_1_2_3 T))) (broadcastInDim S2x4x4x4096x255 ![] bcast_S_S2x4x4x4096x255 (constant S_ .f32 0x00000000#32)) (ix5 b g r t u)
      = Scalar.select (m (ix5 b g r t u)) (Ideal.div (e (ix5 b g r t u)) (T (ix4 b g r t))) 0 := by
  pointwise

/-- What the softmax makes of logits `z` under a mask `m`. -/
theorem blocks_at (m : IVec S2x4x4x4096x255 1) (z : FVec Ideal S2x4x4x4096x255 .f32) (b : Fin 2) (g r : Fin 4) (t : Fin 4096) {v : Fin 255 → Prop} (dv : DecidablePred v) (x : Fin 255 → ℝ)
    (hz : ∀ u, z (ix5 b g r t u) = if v u then ((x u : ℝ) : EReal) else ⊥) (hm : ∀ u, m (ix5 b g r t u) = if v u then 1#1 else 0#1) (u : Fin 255)
    (e : FVec Ideal S2x4x4x4096x255 .f32)
    (he : e = Host.exp (subf z (broadcastInDim S2x4x4x4096x255 ![0, 1, 2, 3, 4] bcast_S2x4x4x4096x1_S2x4x4x4096x255_0_1_2_3_4 (broadcastInDim S2x4x4x4096x1 ![0, 1, 2, 3] bcast_S2x4x4x4096_S2x4x4x4096x1_0_1_2_3 (maximumf (broadcastInDim S2x4x4x4096 ![] bcast_S_S2x4x4x4096 (constant S_ .f32 0xFF800000#32)) (Host.reduce FloatOps.maximumf z (constant S_ .f32 0xFF800000#32) reducesTo_S2x4x4x4096x255_S2x4x4x4096_d4 h_S_)))))) :
    select m (Host.divf e (broadcastInDim S2x4x4x4096x255 ![0, 1, 2, 3, 4] bcast_S2x4x4x4096x1_S2x4x4x4096x255_0_1_2_3_4 (broadcastInDim S2x4x4x4096x1 ![0, 1, 2, 3] bcast_S2x4x4x4096_S2x4x4x4096x1_0_1_2_3 (Host.reduceAdd e (constant S_ .f32 0x00000000#32) reducesTo_S2x4x4x4096x255_S2x4x4x4096_d4 h_S_)))) (broadcastInDim S2x4x4x4096x255 ![] bcast_S_S2x4x4x4096x255 (constant S_ .f32 0x00000000#32)) (ix5 b g r t u)
     = ((weight v x u : ℝ) : EReal) := by
  have hM := max_blocks z b g r t
  have hT := sum_blocks e b g r t
  have hE : ∀ k, e (ix5 b g r t k) = Ideal.exp (z (ix5 b g r t k) - max ⊥ (Finset.univ.fold max (⊥ : EReal) (fun u : Fin 255 => z (ix5 b g r t u)))) := by
    intro k
    rw [he]
    refine (exp_blocks z _ b g r t k).trans ?_
    exact congrArg₂ (fun w y : EReal => Ideal.exp (z (ix5 b g r t k) - max w y)) lowest hM
  refine (div_blocks m e _ b g r t u).trans ?_
  refine Eq.trans ?_ (softmax_where dv x (fun u => z (ix5 b g r t u)) hz u (m (ix5 b g r t u)) (hm u))
  refine congrArg₂ (fun w y : EReal => Scalar.select (m (ix5 b g r t u)) (Ideal.div w y) 0) (hE u) (hT.trans ?_)
  exact Finset.sum_congr rfl fun k _ => hE k

end Cert.Reference7Ideal.Val

end
-- ==== Proof.RefCompBias.lean ====
/-
  The reference's bias of a compressed block.
-/
module

public import proofs.«01_k».proof.Proof.Gen.Reference7Ideal.Run
public import proofs.«01_k».proof.Proof.RefLoads
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

/-- The gather reads its table at the index, held in range. -/
theorem gather_at (x : S16x128x128.Idx → EReal) (idx : IVec S32x255x1 32) (h : Fin 16) (a : Fin 128) (i : Fin 32) (c : Fin 255) :
    Host.gather gather_S16x128x128_S32x255x1_S16x128x32x255_01_2_n_n_2_2_161281 x idx (ix4 h a i c)
      = x (ix3 h a ⟨min (idx (ix3 i c 0)).toInt.toNat 127, by omega⟩) := by
  unfold Host.gather
  congr 1
  funext n
  refine Fin.ext ?_
  show gather_S16x128x128_S32x255x1_S16x128x32x255_01_2_n_n_2_2_161281.start (ix4 h a i c) idx n + gather_S16x128x128_S32x255x1_S16x128x32x255_01_2_n_n_2_2_161281.batchCoord (ix4 h a i c) n
      + gather_S16x128x128_S32x255x1_S16x128x32x255_01_2_n_n_2_2_161281.offCoord (ix4 h a i c) n = _
  rw [GatherDims.batchCoord_eq_zero _ _ _ List.not_mem_nil]
  have hn : n = 0 ∨ n = 1 ∨ n = 2 := by
    match n with
    | ⟨0, _⟩ => exact Or.inl rfl
    | ⟨1, _⟩ => exact Or.inr (Or.inl rfl)
    | ⟨2, _⟩ => exact Or.inr (Or.inr rfl)
  rcases hn with rfl | rfl | rfl
  · unfold GatherDims.start
    rw [dif_neg (by decide)]
    simp only [Nat.zero_add]
    rfl
  · unfold GatherDims.start
    rw [dif_neg (by decide)]
    simp only [Nat.zero_add]
    rfl
  · rw [GatherDims.offCoord_eq_zero _ _ _ (by decide)]
    simp only [Nat.add_zero]
    unfold GatherDims.start
    rw [dif_pos (by decide)]
    have hsi : gather_S16x128x128_S32x255x1_S16x128x32x255_01_2_n_n_2_2_161281.siIdx (ix4 h a i c) ⟨0, by decide⟩ = ix3 i c 0 := by
      funext b; refine Fin.ext ?_
      match b with
      | ⟨0, _⟩ => rfl
      | ⟨1, _⟩ => rfl
      | ⟨2, _⟩ => rfl
    exact congrArg (fun y => min (idx y).toInt.toNat 127) hsi

/-- The bias of the compressed blocks. -/
def biasc : FVec Ideal S4x4x4096x255 .f32 := shapeCast _ (addf (broadcastInDim S16x32x128x255 ![0, 1, 2, 3] bcast_S16x1x128x255_S16x32x128x255_0_1_2_3 (broadcastInDim S16x1x128x255 ![0, 2, 3] bcast_S16x128x255_S16x1x128x255_0_2_3 (extractStridedSlice S16x128x255 ![0, 0, 0] (concatenate S16x128x256 2 [⟨S16x128x128, (shapeCast _ (extractStridedSlice S16x1x128x128 ![0, 2, 0, 0] (V0 (Proc.devRef .tc main_arg3)) slices_S16x3x128x128_S16x1x128x128_0_2_0_0) shapeCasts_S16x1x128x128_S16x128x128)⟩, ⟨S16x128x128, (shapeCast _ (extractStridedSlice S16x1x128x128 ![0, 2, 0, 0] (V0 (Proc.devRef .tc main_arg3)) slices_S16x3x128x128_S16x1x128x128_0_2_0_0) shapeCasts_S16x1x128x128_S16x128x128)⟩] concatenates_S16x128x128_S16x128x128_S16x128x256_d2) slices_S16x128x256_S16x128x255_0_0_0))) (select (broadcastInDim S16x32x128x255 ![1, 2, 3] bcast_S32x1x255_S16x32x128x255_1_2_3 (broadcastInDim S32x1x255 ![0, 2] bcast_S32x255_S32x1x255_0_2 (andi (cmpi .sge (res_main_v64 V0) (broadcastInDim S32x255 ![] bcast_S_S32x255 (constantI S_ 32 0#32))) (cmpi .slt (res_main_v64 V0) (broadcastInDim S32x255 ![] bcast_S_S32x255 (constantI S_ 32 128#32)))))) (transpose S16x32x128x255 [0, 2, 1, 3] (Host.gather gather_S16x128x128_S32x255x1_S16x128x32x255_01_2_n_n_2_2_161281 (V0 (Proc.devRef .tc main_arg4)) (broadcastInDim S32x255x1 ![0, 1] bcast_S32x255_S32x255x1_0_1 (minsi (broadcastInDim S32x255 ![] bcast_S_S32x255 (id (constantI S_ 32 127#32))) (maxsi (broadcastInDim S32x255 ![] bcast_S_S32x255 (id (constantI S_ 32 0#32))) (res_main_v64 V0))))) transposes_S16x128x32x255_S16x32x128x255_0_2_1_3) (broadcastInDim S16x32x128x255 ![] bcast_S_S16x32x128x255 (constant S_ .f32 0x00000000#32)))) shapeCasts_S16x32x128x255_S4x4x4096x255

theorem place_at (i : Fin 32) (c : Fin 255) : BitVec.toInt (res_main_v64 V0 (ix2 i c) : BitVec 32) = 8 * (i.val : ℤ) - (c.val : ℤ) + 7 := by
  have e : (res_main_v64 V0 (ix2 i c) : BitVec 32) = IntOp.addi (IntOp.subi (IntOp.muli (BitVec.ofNat 32 8) (BitVec.ofNat 32 i.val)) (BitVec.ofNat 32 c.val)) (BitVec.ofNat 32 7) := by
    unfold res_main_v64 res_main_v55 res_main_v27
    pointwise
  rw [e, ti_add (ti_sub (ti_mul (ti_nat 8 (by omega)) (ti_nat _ (by omega)) (by omega)) (ti_nat _ (by omega)) (by omega)) (ti_nat 7 (by omega)) (by omega)]
  push_cast
  ring

theorem bias_pick (t : Fin 4096) (c : Fin 255) (p : BitVec 32) (hp : p.toInt = 8 * ((t.val / 128 : ℕ) : ℤ) - (c.val : ℤ) + 7) (X Y : Fin 128 → ℝ) (x y : EReal)
    (h1 : ∀ h : c.val < 128, x = ((X ⟨c.val, h⟩ : ℝ) : EReal)) (h2 : ∀ h : ¬ c.val < 128, x = ((X ⟨c.val - 128, by omega⟩ : ℝ) : EReal))
    (h3 : y = ((Y ⟨min (IntOp.minsi 127#32 (IntOp.maxsi 0#32 p)).toInt.toNat 127, by omega⟩ : ℝ) : EReal)) :
    x + Scalar.select (IntOp.andi (IntOp.cmpi .sge p 0#32) (IntOp.cmpi .slt p 128#32)) y 0
      = ((X ⟨c.val % 128, by omega⟩ + if h : c.val ≤ 8 * (t.val / 128) + 7 ∧ 8 * (t.val / 128) + 7 - c.val < 128 then Y ⟨8 * (t.val / 128) + 7 - c.val, h.2⟩ else 0 : ℝ) : EReal) := by
  rw [cmp_sge hp (ti_nat 0 (by omega)), cmp_slt hp (ti_nat 128 (by omega)), bit_and, bit_select, EReal.coe_add]
  congr 1
  · by_cases hc : c.val < 128
    · rw [h1 hc]
      exact congrArg (fun n => ((X n : ℝ) : EReal)) (Fin.ext (by dsimp only; omega))
    · rw [h2 hc]
      exact congrArg (fun n => ((X n : ℝ) : EReal)) (Fin.ext (by dsimp only; omega))
  · by_cases hc : c.val ≤ 8 * (t.val / 128) + 7 ∧ 8 * (t.val / 128) + 7 - c.val < 128
    · rw [if_pos (by omega), dif_pos hc, h3]
      refine congrArg (fun n => ((Y n : ℝ) : EReal)) (Fin.ext ?_)
      have e : (IntOp.minsi 127#32 (IntOp.maxsi 0#32 p)).toInt = p.toInt := by
        have h0 : (0#32 : BitVec 32).toInt = 0 := ti_nat 0 (by omega)
        have h7 : (127#32 : BitVec 32).toInt = 127 := ti_nat 127 (by omega)
        have hm : (IntOp.maxsi 0#32 p).toInt = p.toInt := by
          unfold IntOp.maxsi
          split
          · rename_i hs
            rw [BitVec.slt_iff_toInt_lt, h0] at hs
            omega
          · rfl
        unfold IntOp.minsi
        split
        · rename_i hs
          rw [BitVec.slt_iff_toInt_lt, hm, h7] at hs
          omega
        · exact hm
      dsimp only
      rw [e, hp]
      omega
    · rw [if_neg (by omega), dif_neg hc, EReal.coe_zero]

theorem biasc_at (h : Given V0 A gate) (b : Fin 2) (g r : Fin 4) (t : Fin 4096) (c : Fin 255) :
    biasc V0 (ix4 g r t c) = (((A.heads b g).biasc r t ⟨c.val, by omega⟩ : ℝ) : EReal) := by
  have hp := place_at V0 ⟨t.val / 128, by omega⟩ c
  unfold Val.biasc
  generalize res_main_v64 V0 = pl at hp ⊢
  pointwise
  have hh : (⟨g.val * 4 + r.val, by omega⟩ : Fin 16) = head g r := Fin.ext (by dsimp only; omega)
  refine bias_pick t c _ (by rw [hp]) (fun n => A.T (head g r) 2 ⟨t.val % 128, by omega⟩ n) (fun n => A.E (head g r) ⟨t.val % 128, by omega⟩ n) _ _ (fun hc => ?_) (fun hc => ?_) ?_
  · exact (dif_pos hc).trans ((h.T _ _ _ _).trans (congrArg (fun n => ((A.T n _ _ _ : ℝ) : EReal)) hh))
  · exact (dif_neg hc).trans ((h.T _ _ _ _).trans (congrArg (fun n => ((A.T n _ _ _ : ℝ) : EReal)) hh))
  · refine (gather_at _ _ _ _ _ _).trans ((h.E _ _ _).trans ?_)
    rw [hh]
    have e : (broadcastInDim S32x255x1 ![0, 1] bcast_S32x255_S32x255x1_0_1
        (minsi (broadcastInDim S32x255 ![] bcast_S_S32x255 (id (constantI S_ 32 127#32)))
          (maxsi (broadcastInDim S32x255 ![] bcast_S_S32x255 (id (constantI S_ 32 0#32))) pl)) (ix3 ⟨t.val / 128, by omega⟩ c 0) : BitVec 32)
        = IntOp.minsi 127#32 (IntOp.maxsi 0#32 (pl (ix2 ⟨t.val / 128, by omega⟩ c))) := by
      pointwise
      rfl
    exact congrArg (fun n : BitVec 32 => ((A.E (head g r) ⟨t.val % 128, by omega⟩ ⟨min n.toInt.toNat 127, by omega⟩ : ℝ) : EReal)) e

end Cert.Reference7Ideal.Val

end
-- ==== Proof.RefComp.lean ====
/-
  The reference's masked weights of the compressed blocks.
-/
module

public import proofs.«01_k».proof.Proof.Gen.Reference7Ideal.Run
public import proofs.«01_k».proof.Proof.RefLoads
public import proofs.«01_k».proof.Proof.RefMask
public import proofs.«01_k».proof.Proof.RefSoft
public import proofs.«01_k».proof.Proof.RefCompBias
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

/-- The masked logit of a block, whatever its operands are. -/
theorem zc_of (MM : IVec S4096x255 1) (QQ : FVec Ideal S2x4x4x4096x128 .f32) (CC : FVec Ideal S2x2x4x256x128 .bf16) (BB : FVec Ideal S4x4x4096x255 .f32)
    (b : Fin 2) (g r : Fin 4) (t : Fin 4096) (c : Fin 255) (p : Prop) (dp : Decidable p) (f k : Fin 128 → ℝ) (β : ℝ) (hm : MM (ix2 t c) = if p then 1#1 else 0#1)
    (hq : ∀ d, QQ (ix5 b g r t d) = ((f d : ℝ) : EReal)) (hk : ∀ d, CC (ix5 b 0 g ⟨c.val, by omega⟩ d) = ((k d : ℝ) : EReal)) (hb : BB (ix4 g r t c) = ((β : ℝ) : EReal)) :
    (select (broadcastInDim S2x4x4x4096x255 ![3, 4] bcast_S4096x255_S2x4x4x4096x255_3_4 MM) (addf (mulf (Host.dotGeneral dot_S2x4x4x4096x128_S2x4x255x128_S2x4x4x4096x255_4_3_23_2_01_01 none QQ (extf .f32 (shapeCast _ (extractStridedSlice S2x1x4x255x128 ![0, 0, 0, 0, 0] CC slices_S2x2x4x256x128_S2x1x4x255x128_0_0_0_0_0) shapeCasts_S2x1x4x255x128_S2x4x255x128) bitsLt_bf16_f32)) (broadcastInDim S2x4x4x4096x255 ![] bcast_S_S2x4x4x4096x255 (constant S_ .f32 0x3DB504F3#32))) (broadcastInDim S2x4x4x4096x255 ![0, 1, 2, 3, 4] bcast_S1x4x4x4096x255_S2x4x4x4096x255_0_1_2_3_4 (broadcastInDim S1x4x4x4096x255 ![1, 2, 3, 4] bcast_S4x4x4096x255_S1x4x4x4096x255_1_2_3_4 BB))) (broadcastInDim S2x4x4x4096x255 ![] bcast_S_S2x4x4x4096x255 (constant S_ .f32 0xFF800000#32)) : FVec Ideal S2x4x4x4096x255 .f32) (ix5 b g r t c) = if p then (((∑ d, f d * k d) * scale + β : ℝ) : EReal) else ⊥ := by
  pointwise [dot_S2x4x4x4096x128_S2x4x255x128_S2x4x4x4096x255_4_3_23_2_01_01]
  have e := logit_of f k (fun d => QQ (ix5 b g r t d)) (fun d => CC (ix5 b 0 g ⟨c.val, by omega⟩ d)) hq hk (BB (ix4 g r t c)) _ hb
  refine (congrArg₂ (fun (x : BitVec 1) (y : EReal) => Scalar.select x y (Ideal.ofBits FTy.f32 4286578688#32)) hm e).trans ?_
  exact (bit_select _ _).trans (congrArg (fun y : EReal => if p then (((∑ d, f d * k d) * scale + β : ℝ) : EReal) else y) lowest)

theorem zc_at (h : Given V0 A gate) (b : Fin 2) (g r : Fin 4) (t : Fin 4096) (c : Fin 255) :
    res_main_v108 V0 (ix5 b g r t c) = if 16 * c.val + 31 ≤ t.val then (((A.heads b g).zc r t ⟨c.val, by omega⟩ : ℝ) : EReal) else ⊥ :=
  zc_of _ _ _ (biasc V0) b g r t c _ _ _ (fun d => A.C b 0 g ⟨c.val, by omega⟩ d) _ (comp_at V0 t c) (q_at V0 h b g r t) (fun d => h.C _ _ _ _ _) (biasc_at V0 h b g r t c)

/-- The last block is never seen, so leaving it out changes no weight. -/
theorem drop_last (D : Heads) (r : Fin 4) (t : Fin 4096) (c : Fin 255) :
    weight (fun c : Fin 255 => 16 * c.val + 31 ≤ t.val) (fun c => D.zc r t ⟨c.val, by omega⟩) c = D.pc r t ⟨c.val, by omega⟩ := by
  unfold Heads.pc weight mass
  rw [Fin.sum_univ_castSucc (n := 255) (fun c : Fin 256 => if 16 * c.val + 31 ≤ t.val then Real.exp (D.zc r t c) else 0)]
  rw [if_neg (c := 16 * (Fin.last 255).val + 31 ≤ t.val) (by have := t.isLt; simp only [Fin.val_last]; omega), add_zero]
  rfl

theorem pc_last (D : Heads) (r : Fin 4) (t : Fin 4096) : D.pc r t (Fin.last 255) = 0 := by
  unfold Heads.pc weight
  exact if_neg (by have := t.isLt; simp only [Fin.val_last]; omega)

theorem pc_at (h : Given V0 A gate) (b : Fin 2) (g r : Fin 4) (t : Fin 4096) (c : Fin 255) :
    res_main_v122 V0 (ix5 b g r t c) = (((A.heads b g).pc r t ⟨c.val, by omega⟩ : ℝ) : EReal) := by
  refine Eq.trans ?_ (congrArg (fun x : ℝ => (x : EReal)) (drop_last (A.heads b g) r t c))
  refine blocks_at _ (res_main_v108 V0) b g r t _ _ (fun u => zc_at V0 h b g r t u) (fun u => ?_) c _ rfl
  refine Eq.trans ?_ (comp_at V0 t u)
  generalize res_main_v105 V0 = m
  pointwise

/-- A sum over the blocks but the last, where the last adds nothing. -/
theorem all_but_last (f : Fin 256 → ℝ) (h : f (Fin.last 255) = 0) : ∑ c : Fin 255, f ⟨c.val, by omega⟩ = ∑ c, f c := by
  rw [Fin.sum_univ_castSucc (n := 255) f, h, add_zero]
  rfl

end Cert.Reference7Ideal.Val

end
-- ==== Proof.RefScore.lean ====
/-
  The reference's scores of the key blocks.
-/
module

public import proofs.«01_k».proof.Proof.Gen.Reference7Ideal.Run
public import proofs.«01_k».proof.Proof.RefComp
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

theorem sum_heads (x : FVec Ideal S2x4x4x4096x255 .f32) (b : Fin 2) (g : Fin 4) (t : Fin 4096) (c : Fin 255) :
    Host.reduceAdd x (constant S_ .f32 0x00000000#32) reducesTo_S2x4x4x4096x255_S2x4x4096x255_d2 h_S_ (ix4 b g t c) = ∑ r : Fin 4, x (ix5 b g r t c) := by
  have h := reducesTo_S2x4x4x4096x255_S2x4x4096x255_d2
  have h' : S2x4x4x4096x255.Reduces [2] S2x4x4096x255 := ⟨h.1, by decide, h.2⟩
  refine (sum_axis x _ _ h' _).trans ?_
  refine congrArg (fun f : Fin 4 → EReal => ∑ u, f u) (funext fun u => ?_)
  refine congrArg x (funext fun a => Fin.ext ?_)
  match a with
  | ⟨0, _⟩ => rfl
  | ⟨1, _⟩ => rfl
  | ⟨2, _⟩ => rfl
  | ⟨3, _⟩ => rfl
  | ⟨4, _⟩ => rfl

theorem bit_uitofp {p : Prop} [Decidable p] : (FloatOps.uitofp (F := Ideal) FTy.f32 (if p then 1#1 else 0#1 : BitVec 1) : EReal) = if p then 1 else 0 := by
  by_cases hp : p <;> simp [hp, FloatOps.uitofp]

theorem overlap_at (c : Fin 255) (j : Fin 64) :
    ((uitofp .f32 (andi (cmpi .slt (broadcastInDim S255x64 ![0, 1] bcast_S255x1_S255x64_0_1 (broadcastInDim S255x1 ![0] bcast_S255_S255x1_0 (res_main_v88 V0))) (broadcastInDim S255x64 ![0, 1] bcast_S1x64_S255x64_0_1 (muli (addi (broadcastInDim S1x64 ![1] bcast_S64_S1x64_1 (res_main_v124 V0)) (broadcastInDim S1x64 ![] bcast_S_S1x64 (constantI S_ 32 1#32))) (broadcastInDim S1x64 ![] bcast_S_S1x64 (constantI S_ 32 64#32))))) (cmpi .sle (broadcastInDim S255x64 ![0, 1] bcast_S1x64_S255x64_0_1 (muli (broadcastInDim S1x64 ![1] bcast_S64_S1x64_1 (res_main_v124 V0)) (broadcastInDim S1x64 ![] bcast_S_S1x64 (constantI S_ 32 64#32)))) (broadcastInDim S255x64 ![0, 1] bcast_S255x1_S255x64_0_1 (broadcastInDim S255x1 ![0] bcast_S255_S255x1_0 (res_main_v92 V0)))))) : FVec Ideal S255x64 .f32) (ix2 c j) = if 4 * j.val ≤ c.val + 1 ∧ c.val ≤ 4 * j.val + 3 then 1 else 0 := by
  have h1 := cstart_at V0 c
  have h2 := cend_at V0 c
  have e : ((uitofp .f32 (andi (cmpi .slt (broadcastInDim S255x64 ![0, 1] bcast_S255x1_S255x64_0_1 (broadcastInDim S255x1 ![0] bcast_S255_S255x1_0 (res_main_v88 V0))) (broadcastInDim S255x64 ![0, 1] bcast_S1x64_S255x64_0_1 (muli (addi (broadcastInDim S1x64 ![1] bcast_S64_S1x64_1 (res_main_v124 V0)) (broadcastInDim S1x64 ![] bcast_S_S1x64 (constantI S_ 32 1#32))) (broadcastInDim S1x64 ![] bcast_S_S1x64 (constantI S_ 32 64#32))))) (cmpi .sle (broadcastInDim S255x64 ![0, 1] bcast_S1x64_S255x64_0_1 (muli (broadcastInDim S1x64 ![1] bcast_S64_S1x64_1 (res_main_v124 V0)) (broadcastInDim S1x64 ![] bcast_S_S1x64 (constantI S_ 32 64#32)))) (broadcastInDim S255x64 ![0, 1] bcast_S255x1_S255x64_0_1 (broadcastInDim S255x1 ![0] bcast_S255_S255x1_0 (res_main_v92 V0)))))) : FVec Ideal S255x64 .f32) (ix2 c j)
      = FloatOps.uitofp (F := Ideal) FTy.f32 (IntOp.andi (IntOp.cmpi .slt (res_main_v88 V0 (ix1 c) : BitVec 32) (IntOp.muli (IntOp.addi (BitVec.ofNat 32 j.val) (BitVec.ofNat 32 1)) (BitVec.ofNat 32 64))) (IntOp.cmpi .sle (IntOp.muli (BitVec.ofNat 32 j.val) (BitVec.ofNat 32 64)) (res_main_v92 V0 (ix1 c) : BitVec 32))) := by
    unfold res_main_v124
    generalize res_main_v88 V0 = x
    generalize res_main_v92 V0 = y
    pointwise
  have hj : BitVec.toInt (BitVec.ofNat 32 j.val) = (j.val : ℤ) := ti_nat _ (by omega)
  have h3 := ti_mul (ti_add hj (ti_nat 1 (by omega)) (by omega)) (ti_nat 64 (by omega)) (by omega)
  have h4 := ti_mul hj (ti_nat 64 (by omega)) (by omega)
  rw [e, cmp_slt h1 h3, cmp_sle h4 h2, bit_and, bit_uitofp]
  refine if_congr ?_ rfl rfl
  push_cast
  omega

theorem forced_at (t : Fin 4096) (j : Fin 64) :
    ((ori (ori (broadcastInDim S4096x64 ![0, 1] bcast_S1x64_S4096x64_0_1 (cmpi .eq (broadcastInDim S1x64 ![1] bcast_S64_S1x64_1 (res_main_v124 V0)) (broadcastInDim S1x64 ![] bcast_S_S1x64 (constantI S_ 32 0#32)))) (cmpi .eq (broadcastInDim S4096x64 ![0, 1] bcast_S1x64_S4096x64_0_1 (broadcastInDim S1x64 ![1] bcast_S64_S1x64_1 (res_main_v124 V0))) (broadcastInDim S4096x64 ![0, 1] bcast_S4096x1_S4096x64_0_1 (broadcastInDim S4096x1 ![0] bcast_S4096_S4096x1_0 (res_main_v146 V0))))) (cmpi .eq (broadcastInDim S4096x64 ![0, 1] bcast_S1x64_S4096x64_0_1 (broadcastInDim S1x64 ![1] bcast_S64_S1x64_1 (res_main_v124 V0))) (broadcastInDim S4096x64 ![0, 1] bcast_S4096x1_S4096x64_0_1 (subi (broadcastInDim S4096x1 ![0] bcast_S4096_S4096x1_0 (res_main_v146 V0)) (broadcastInDim S4096x1 ![] bcast_S_S4096x1 (constantI S_ 32 1#32)))))) : IVec S4096x64 1) (ix2 t j) = if j.val = 0 ∨ j.val = t.val / 64 ∨ j.val + 1 = t.val / 64 then 1#1 else 0#1 := by
  have e : ((ori (ori (broadcastInDim S4096x64 ![0, 1] bcast_S1x64_S4096x64_0_1 (cmpi .eq (broadcastInDim S1x64 ![1] bcast_S64_S1x64_1 (res_main_v124 V0)) (broadcastInDim S1x64 ![] bcast_S_S1x64 (constantI S_ 32 0#32)))) (cmpi .eq (broadcastInDim S4096x64 ![0, 1] bcast_S1x64_S4096x64_0_1 (broadcastInDim S1x64 ![1] bcast_S64_S1x64_1 (res_main_v124 V0))) (broadcastInDim S4096x64 ![0, 1] bcast_S4096x1_S4096x64_0_1 (broadcastInDim S4096x1 ![0] bcast_S4096_S4096x1_0 (res_main_v146 V0))))) (cmpi .eq (broadcastInDim S4096x64 ![0, 1] bcast_S1x64_S4096x64_0_1 (broadcastInDim S1x64 ![1] bcast_S64_S1x64_1 (res_main_v124 V0))) (broadcastInDim S4096x64 ![0, 1] bcast_S4096x1_S4096x64_0_1 (subi (broadcastInDim S4096x1 ![0] bcast_S4096_S4096x1_0 (res_main_v146 V0)) (broadcastInDim S4096x1 ![] bcast_S_S4096x1 (constantI S_ 32 1#32)))))) : IVec S4096x64 1) (ix2 t j)
      = IntOp.ori (IntOp.ori (IntOp.cmpi .eq (BitVec.ofNat 32 j.val) (BitVec.ofNat 32 0)) (IntOp.cmpi .eq (BitVec.ofNat 32 j.val) (IntOp.shrui ArithUnit.host (BitVec.ofNat 32 t.val) 6#32))) (IntOp.cmpi .eq (BitVec.ofNat 32 j.val) (IntOp.subi (IntOp.shrui ArithUnit.host (BitVec.ofNat 32 t.val) 6#32) (BitVec.ofNat 32 1))) := by
    unfold res_main_v124 res_main_v146 res_main_v26
    pointwise
  have hj : BitVec.toInt (BitVec.ofNat 32 j.val) = (j.val : ℤ) := ti_nat _ (by omega)
  have ht := ti_shr ArithUnit.host (ti_nat t.val (by omega)) (by omega)
  rw [e, cmp_eq hj (ti_nat 0 (by omega)), cmp_eq hj ht, cmp_eq hj (ti_sub ht (ti_nat 1 (by omega)) (by omega)), bit_or, bit_or]
  refine if_congr ?_ rfl rfl
  omega

theorem begun_at (t : Fin 4096) (j : Fin 64) :
    ((cmpi .sle (broadcastInDim S4096x64 ![0, 1] bcast_S1x64_S4096x64_0_1 (muli (broadcastInDim S1x64 ![1] bcast_S64_S1x64_1 (res_main_v124 V0)) (broadcastInDim S1x64 ![] bcast_S_S1x64 (constantI S_ 32 64#32)))) (broadcastInDim S4096x64 ![0, 1] bcast_S4096x1_S4096x64_0_1 (broadcastInDim S4096x1 ![0] bcast_S4096_S4096x1_0 (res_main_v26 V0)))) : IVec S4096x64 1) (ix2 t j) = if 64 * j.val ≤ t.val then 1#1 else 0#1 := by
  have e : ((cmpi .sle (broadcastInDim S4096x64 ![0, 1] bcast_S1x64_S4096x64_0_1 (muli (broadcastInDim S1x64 ![1] bcast_S64_S1x64_1 (res_main_v124 V0)) (broadcastInDim S1x64 ![] bcast_S_S1x64 (constantI S_ 32 64#32)))) (broadcastInDim S4096x64 ![0, 1] bcast_S4096x1_S4096x64_0_1 (broadcastInDim S4096x1 ![0] bcast_S4096_S4096x1_0 (res_main_v26 V0)))) : IVec S4096x64 1) (ix2 t j)
      = IntOp.cmpi .sle (IntOp.muli (BitVec.ofNat 32 j.val) (BitVec.ofNat 32 64)) (BitVec.ofNat 32 t.val) := by
    unfold res_main_v124 res_main_v26
    pointwise
  have hj : BitVec.toInt (BitVec.ofNat 32 j.val) = (j.val : ℤ) := ti_nat _ (by omega)
  rw [e, cmp_sle (ti_mul hj (ti_nat 64 (by omega)) (by omega)) (ti_nat t.val (by omega))]
  refine if_congr ?_ rfl rfl
  omega

theorem score_of (FF PP : IVec S4096x64 1) (SS : FVec Ideal S2x4x4096x255 .f32) (OO : FVec Ideal S255x64 .f32) (b : Fin 2) (g : Fin 4) (t : Fin 4096) (j : Fin 64) :
    (select (broadcastInDim S2x4x4096x64 ![2, 3] bcast_S4096x64_S2x4x4096x64_2_3 FF) (broadcastInDim S2x4x4096x64 ![] bcast_S_S2x4x4096x64 (constant S_ .f32 0x461C4000#32)) (select (broadcastInDim S2x4x4096x64 ![2, 3] bcast_S4096x64_S2x4x4096x64_2_3 PP) (Host.dotGeneral dot_S2x4x4096x255_S255x64_S2x4x4096x64_3_0_012_1_n_n none SS OO) (broadcastInDim S2x4x4096x64 ![] bcast_S_S2x4x4096x64 (constant S_ .f32 0xBF800000#32))) : FVec Ideal S2x4x4096x64 .f32) (ix4 b g t j)
      = Scalar.select (FF (ix2 t j)) (Ideal.ofBits FTy.f32 1176256512#32) (Scalar.select (PP (ix2 t j)) (∑ c : Fin 255, SS (ix4 b g t c) * OO (ix2 c j)) (Ideal.ofBits FTy.f32 3212836864#32)) := by
  pointwise [dot_S2x4x4096x255_S255x64_S2x4x4096x64_3_0_012_1_n_n]

theorem score_at (h : Given V0 A gate) (b : Fin 2) (g : Fin 4) (t : Fin 4096) (j : Fin 64) :
    res_main_v177 V0 (ix4 b g t j) = (((A.heads b g).score t j : ℝ) : EReal) := by
  have hs : ∀ c : Fin 255, Host.reduceAdd (res_main_v122 V0) (constant S_ .f32 0x00000000#32) reducesTo_S2x4x4x4096x255_S2x4x4096x255_d2 h_S_ (ix4 b g t c) = ((∑ r, (A.heads b g).pc r t ⟨c.val, by omega⟩ : ℝ) : EReal) := by
    intro c
    refine (sum_heads _ b g t c).trans (Eq.trans ?_ (coe_sum _ _))
    exact Finset.sum_congr rfl fun r _ => pc_at V0 h b g r t c
  refine (score_of _ _ _ _ b g t j).trans ?_
  refine (congrArg₂ (fun (x y : BitVec 1) => Scalar.select x _ (Scalar.select y _ _)) (forced_at V0 t j) (begun_at V0 t j)).trans ?_
  rw [bit_select, bit_select]
  unfold Heads.score
  split
  · exact force_coe
  · split
    · have e : ∀ c : Fin 255, Host.reduceAdd (res_main_v122 V0) (constant S_ .f32 0x00000000#32) reducesTo_S2x4x4x4096x255_S2x4x4096x255_d2 h_S_ (ix4 b g t c) * ((uitofp .f32 (andi (cmpi .slt (broadcastInDim S255x64 ![0, 1] bcast_S255x1_S255x64_0_1 (broadcastInDim S255x1 ![0] bcast_S255_S255x1_0 (res_main_v88 V0))) (broadcastInDim S255x64 ![0, 1] bcast_S1x64_S255x64_0_1 (muli (addi (broadcastInDim S1x64 ![1] bcast_S64_S1x64_1 (res_main_v124 V0)) (broadcastInDim S1x64 ![] bcast_S_S1x64 (constantI S_ 32 1#32))) (broadcastInDim S1x64 ![] bcast_S_S1x64 (constantI S_ 32 64#32))))) (cmpi .sle (broadcastInDim S255x64 ![0, 1] bcast_S1x64_S255x64_0_1 (muli (broadcastInDim S1x64 ![1] bcast_S64_S1x64_1 (res_main_v124 V0)) (broadcastInDim S1x64 ![] bcast_S_S1x64 (constantI S_ 32 64#32)))) (broadcastInDim S255x64 ![0, 1] bcast_S255x1_S255x64_0_1 (broadcastInDim S255x1 ![0] bcast_S255_S255x1_0 (res_main_v92 V0)))))) : FVec Ideal S255x64 .f32) (ix2 c j)
          = (((∑ r, (A.heads b g).pc r t ⟨c.val, by omega⟩) * (if 4 * j.val ≤ c.val + 1 ∧ c.val ≤ 4 * j.val + 3 then 1 else 0) : ℝ) : EReal) := by
        intro c
        rw [hs c, overlap_at V0 c j, EReal.coe_mul]
        split <;> simp
      refine (Finset.sum_congr rfl fun c _ => e c).trans ((coe_sum _ _).trans (congrArg (fun x : ℝ => (x : EReal)) ?_))
      refine all_but_last (fun c : Fin 256 => (∑ r, (A.heads b g).pc r t c) * if 4 * j.val ≤ c.val + 1 ∧ c.val ≤ 4 * j.val + 3 then 1 else 0) ?_
      rw [Finset.sum_eq_zero fun r _ => pc_last (A.heads b g) r t, zero_mul]
    · exact past_coe

end Cert.Reference7Ideal.Val

end
-- ==== Proof.RefTop.lean ====
/-
  Where a stable sort by falling value puts a place: at the number of places that come before it.
-/
module

public import Idealize.ShloMosaic.Lib.SortFacts
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Attn

/-- Place `a` comes before place `b`: by value, greater first, then by position. -/
def first {n : ℕ} (S : Fin n → EReal) (a b : Fin n) : Prop := S b < S a ∨ (S b = S a ∧ a < b)

open Classical in
theorem stable_first {n : ℕ} (S : Fin n → EReal) (B : Fin n → Fin n → Bool) (hB : ∀ a b, B a b = true ↔ S b < S a) (l : List (Fin n))
    (hl : l.Pairwise (· < ·)) : stableSort B l = stableSort (fun a b => decide (first S a b)) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    rw [Bool.eq_iff_iff, hB, decide_eq_true_iff]
    exact ⟨Or.inl, fun h => h.elim id fun h => absurd h.2 (not_lt.2 hab.le)⟩

theorem first_total {n : ℕ} (S : Fin n → EReal) (a b : Fin n) (h : a ≠ b) : first S a b ∨ first S b a := by
  unfold first
  rcases lt_trichotomy (S a) (S b) with h1 | h1 | h1
  · exact Or.inr (Or.inl h1)
  · rcases lt_or_gt_of_ne h with h2 | h2
    · exact Or.inl (Or.inr ⟨h1.symm, h2⟩)
    · exact Or.inr (Or.inr ⟨h1, h2⟩)
  · exact Or.inl (Or.inl h1)

theorem first_asymm {n : ℕ} (S : Fin n → EReal) (a b : Fin n) (h : first S a b) : ¬ first S b a := by
  rintro (h' | h') <;> rcases h with h | h
  · exact lt_asymm h h'
  · exact (ne_of_lt h') h.1.symm
  · exact (ne_of_lt h) h'.1.symm
  · exact lt_asymm h.2 h'.2

theorem first_trans {n : ℕ} (S : Fin n → EReal) (a b c : Fin n) (h : first S a b) (h' : first S b c) : first S a c := by
  rcases h with h | h <;> rcases h' with h' | h'
  · exact Or.inl (lt_trans h' h)
  · exact Or.inl (h'.1 ▸ h)
  · exact Or.inl (h.1 ▸ h')
  · exact Or.inr ⟨h'.1.trans h.1, lt_trans h.2 h'.2⟩

open Classical in
theorem sorted_first {n : ℕ} (S : Fin n → EReal) (B : Fin n → Fin n → Bool) (hB : ∀ a b, B a b = true ↔ S b < S a) (i j : Fin n) (hij : i < j) :
    first S (sortedFrom B i) (sortedFrom B j) := by
  have hs : sortPositions n B = sortPositions n (fun a b => decide (first S a b)) := stable_first S B hB _ (List.pairwise_lt_finRange n)
  have he : ∀ k, sortedFrom B k = sortedFrom (fun a b => decide (first S a b)) k := by
    intro k
    simp [sortedFrom, List.get_eq_getElem, hs]
  rw [he, he]
  have h := sortedFrom_noInversion (fun a b => decide (first S a b)) (fun a b => decide (first S a b))
    (fun a b h => by rw [decide_eq_true_iff] at h; exact decide_eq_false (first_asymm S a b h)) (fun _ _ h => h)
    (fun a b c h h' => by
      rw [decide_eq_false_iff_not] at h h' ⊢
      intro hac
      by_cases e : a = b
      · subst e; exact h' hac
      by_cases e' : b = c
      · subst e'; exact h hac
      have h1 := (first_total S a b e).resolve_left h
      have h2 := (first_total S b c e').resolve_left h'
      exact first_asymm S a c hac (first_trans S c b a h2 h1)) i j hij
  rw [decide_eq_false_iff_not] at h
  exact (first_total S _ _ fun e => absurd (sortedFrom_injective _ e) (ne_of_lt hij)).resolve_right h

open Classical in
/-- The place a stable sort by falling value puts at `k` has exactly `k` places before it. -/
theorem sorted_rank {n : ℕ} (S : Fin n → EReal) (B : Fin n → Fin n → Bool) (hB : ∀ a b, B a b = true ↔ S b < S a) (k : Fin n) :
    (∑ j, if first S j (sortedFrom B k) then 1 else 0 : ℕ) = k.val := by
  have hb : Function.Bijective (sortedFrom B) := ⟨sortedFrom_injective B, sortedFrom_surjective B⟩
  rw [← hb.sum_comp]
  have h : ∀ i : Fin n, (if first S (sortedFrom B i) (sortedFrom B k) then 1 else 0 : ℕ) = if i < k then 1 else 0 := by
    intro i
    rcases lt_trichotomy i k with h | h | h
    · rw [if_pos h, if_pos (sorted_first S B hB i k h)]
    · subst h
      rw [if_neg (lt_irrefl i), if_neg fun e => first_asymm S _ _ e e]
    · rw [if_neg (not_lt.2 h.le), if_neg (first_asymm S _ _ (sorted_first S B hB k i h))]
  rw [Finset.sum_congr rfl fun i _ => h i]
  simp [Finset.sum_boole, Finset.filter_gt_eq_Iio]

open Classical in
/-- A place is among the first `w` sorted exactly when fewer than `w` come before it. -/
theorem sorted_among {n : ℕ} (S : Fin n → EReal) (B : Fin n → Fin n → Bool) (hB : ∀ a b, B a b = true ↔ S b < S a) (w : ℕ) (j : Fin n) :
    (∃ k : Fin n, k.val < w ∧ sortedFrom B k = j) ↔ (∑ i, if first S i j then 1 else 0 : ℕ) < w := by
  constructor
  · rintro ⟨k, hk, rfl⟩
    rw [sorted_rank S B hB]
    exact hk
  · intro h
    obtain ⟨k, rfl⟩ := sortedFrom_surjective B j
    rw [sorted_rank S B hB] at h
    exact ⟨k, h, rfl⟩

end Cert.Attn

end
-- ==== Proof.RefPick.lean ====
/-
  The key blocks the reference picks, and its weights of the keys seen through them.
-/
module

public import proofs.«01_k».proof.Proof.Gen.Reference7Ideal.Run
public import proofs.«01_k».proof.Proof.RefScore
public import proofs.«01_k».proof.Proof.RefTop
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

/-- Whether any of some bits is set. -/
theorem any_bit {ι : Type} [DecidableEq ι] (s : Finset ι) (f : ι → BitVec 1) : (s.fold IntOp.ori 0#1 f = 1#1) ↔ ∃ k ∈ s, f k = 1#1 := by
  induction s using Finset.induction_on with
  | empty => simp
  | insert a s ha ih =>
    rw [Finset.fold_insert ha]
    have e : ∀ x y : BitVec 1, IntOp.ori x y = 1#1 ↔ x = 1#1 ∨ y = 1#1 := by decide
    rw [e, ih]
    simp

theorem any_axis (x : IVec S2x4x4096x16x64 1) (b : Fin 2) (g : Fin 4) (t : Fin 4096) (j : Fin 64) :
    Host.reduce IntOp.ori x (constantI S_ 1 0#1) reducesTo_S2x4x4096x16x64_S2x4x4096x64_d3 h_S_ (ix4 b g t j) = 1#1 ↔ ∃ k : Fin 16, x (ix5 b g t k j) = 1#1 := by
  have h := reducesTo_S2x4x4096x16x64_S2x4x4096x64_d3
  have h' : S2x4x4096x16x64.Reduces [3] S2x4x4096x64 := ⟨h.1, by decide, h.2⟩
  rw [Host.reduce_eq_fold_single IntOp.ori x _ h h' h_S_]
  refine (any_bit (ι := Fin 16) Finset.univ (fun k : Fin 16 => x (h'.lift (ix4 b g t j) k))).trans ?_
  have e : ∀ k : Fin 16, h'.lift (ix4 b g t j) k = ix5 b g t k j := by
    intro k
    funext a
    refine Fin.ext ?_
    match a with
    | ⟨0, _⟩ => rfl
    | ⟨1, _⟩ => rfl
    | ⟨2, _⟩ => rfl
    | ⟨3, _⟩ => rfl
    | ⟨4, _⟩ => rfl
  constructor
  · rintro ⟨k, -, hk⟩
    exact ⟨k, (congrArg x (e k)).symm.trans hk⟩
  · rintro ⟨k, hk⟩
    exact ⟨k, Finset.mem_univ _, (congrArg x (e k)).trans hk⟩

/-- The comparison the sort goes by. -/
def before (S : Fin 64 → EReal) (a a' : Fin 64) : Bool := FloatOps.cmpfTotal (F := Ideal) (φ := .f32) .gt (S a) (S a') == 1#1

theorem before_iff (S : Fin 64 → EReal) (a a' : Fin 64) : before S a a' = true ↔ S a' < S a := by
  unfold before
  by_cases h : S a' < S a <;> simp [FloatOps.cmpfTotal, Ideal.cmpTotal, Ideal.cmp, CmpDirection.ordered, h]

/-- A place of the second of two arrays sorted together. -/
theorem sorted_snd {s : Shape} {α β : Type} (d : ℕ) (hd : d < s.rank) (cmp : α × β → α × β → BitVec 1) (x : s.Idx → α) (y : s.Idx → β) (j : s.Idx) :
    (Host.sort2 s d cmp x y).2 j = y (j.along ⟨d, hd⟩ (sortedFrom (fun k k' => cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- The positions of the greatest: those a sort puts first. -/
theorem top_snd {s t : Shape} {α : Type} (d : ℕ) (hd : d < s.rank) (gt : α → α → BitVec 1) (x : s.Idx → α) (h : s.Slices (fun _ => 0) t) (j : t.Idx) (J : s.Idx) (hJ : ∀ a, (J a).val = (j (a.cast h.1.symm)).val) :
    (Host.topK t d gt x h).2 j = BitVec.ofNat 32 (sortedFrom (fun k k' => gt (x (J.along ⟨d, hd⟩ k)) (x (J.along ⟨d, hd⟩ k')) == 1#1) (J ⟨d, hd⟩)).val := by
  have e : (fun a => ⟨0 + (j (a.cast h.1.symm)).val, Nat.lt_of_lt_of_le (Nat.add_lt_add_left (j _).isLt _) (h.2 a)⟩ : s.Idx) = J := funext fun a => Fin.ext ((Nat.zero_add _).trans (hJ a).symm)
  unfold Host.topK
  show (Host.sort2 s d _ x _).2 (fun a => ⟨0 + (j (a.cast h.1.symm)).val, Nat.lt_of_lt_of_le (Nat.add_lt_add_left (j _).isLt _) (h.2 a)⟩ : s.Idx) = _
  rw [e, sorted_snd d hd, dif_pos hd]
  unfold iotaInDim
  rw [show ∀ k, (J.along ⟨d, hd⟩ k) ⟨d, hd⟩ = k from fun k => Function.update_self _ _ _]

theorem top_at (SS : FVec Ideal S2x4x4096x64 .f32) (b : Fin 2) (g : Fin 4) (t : Fin 4096) (k : Fin 16) :
    ((Host.topK S2x4x4096x16 3 (FloatOps.cmpfTotal .gt) SS sliceFits_S2x4x4096x64_S2x4x4096x16).2) (ix4 b g t k) = BitVec.ofNat 32 (sortedFrom (before fun j => SS (ix4 b g t j)) ⟨k.val, by omega⟩).val := by
  have e : ∀ l : Fin 64, (ix4 b g t (⟨k.val, by omega⟩ : Fin 64) : S2x4x4096x64.Idx).along (⟨3, Nat.lt_succ_self 3⟩ : Fin 4) l = ix4 b g t l := by
    intro l
    funext a
    match a with
    | ⟨0, _⟩ => rfl
    | ⟨1, _⟩ => rfl
    | ⟨2, _⟩ => rfl
    | ⟨3, _⟩ => rfl
  refine (top_snd (s := S2x4x4096x64) 3 (by decide) _ SS _ (ix4 b g t k) (ix4 b g t (⟨k.val, by omega⟩ : Fin 64)) ?_).trans ?_
  · intro a
    match a with
    | ⟨0, _⟩ => rfl
    | ⟨1, _⟩ => rfl
    | ⟨2, _⟩ => rfl
    | ⟨3, _⟩ => rfl
  · have hB : ∀ B : Fin 64 → Fin 64 → Bool, B = (before fun j => SS (ix4 b g t j)) → BitVec.ofNat 32 (sortedFrom B ⟨k.val, by omega⟩).val = BitVec.ofNat 32 (sortedFrom (before fun j => SS (ix4 b g t j)) ⟨k.val, by omega⟩).val := by
      rintro _ rfl
      rfl
    refine hB _ ?_
    funext l l'
    unfold before
    rw [e l, e l']

theorem hit_at (II : IVec S2x4x4096x16 32) (b : Fin 2) (g : Fin 4) (t : Fin 4096) (k : Fin 16) (j : Fin 64) :
    ((cmpi .eq (broadcastInDim S2x4x4096x16x64 ![0, 1, 2, 3, 4] bcast_S2x4x4096x16x1_S2x4x4096x16x64_0_1_2_3_4 (broadcastInDim S2x4x4096x16x1 ![0, 1, 2, 3] bcast_S2x4x4096x16_S2x4x4096x16x1_0_1_2_3 II)) (broadcastInDim S2x4x4096x16x64 ![0, 1, 2, 3, 4] bcast_S1x1x1x1x64_S2x4x4096x16x64_0_1_2_3_4 (broadcastInDim S1x1x1x1x64 ![4] bcast_S64_S1x1x1x1x64_4 (iotaInDim S64 32 0)))) : IVec S2x4x4096x16x64 1) (ix5 b g t k j) = IntOp.cmpi .eq (II (ix4 b g t k)) (BitVec.ofNat 32 j.val) := by
  pointwise

theorem picked_at (SS : FVec Ideal S2x4x4096x64 .f32) (b : Fin 2) (g : Fin 4) (t : Fin 4096) (j : Fin 64) :
    (Host.reduce IntOp.ori (cmpi .eq (broadcastInDim S2x4x4096x16x64 ![0, 1, 2, 3, 4] bcast_S2x4x4096x16x1_S2x4x4096x16x64_0_1_2_3_4 (broadcastInDim S2x4x4096x16x1 ![0, 1, 2, 3] bcast_S2x4x4096x16_S2x4x4096x16x1_0_1_2_3 ((Host.topK S2x4x4096x16 3 (FloatOps.cmpfTotal .gt) SS sliceFits_S2x4x4096x64_S2x4x4096x16).2))) (broadcastInDim S2x4x4096x16x64 ![0, 1, 2, 3, 4] bcast_S1x1x1x1x64_S2x4x4096x16x64_0_1_2_3_4 (broadcastInDim S1x1x1x1x64 ![4] bcast_S64_S1x1x1x1x64_4 (iotaInDim S64 32 0)))) (constantI S_ 1 0#1) reducesTo_S2x4x4096x16x64_S2x4x4096x64_d3 h_S_) (ix4 b g t j) = 1#1 ↔ (open Classical in (∑ i, if first (fun j => SS (ix4 b g t j)) i j then 1 else 0 : ℕ)) < 16 := by
  refine (any_axis _ b g t j).trans ?_
  rw [← sorted_among _ (before fun j => SS (ix4 b g t j)) (before_iff _) 16 j]
  have e : ∀ k : Fin 16, ((cmpi .eq (broadcastInDim S2x4x4096x16x64 ![0, 1, 2, 3, 4] bcast_S2x4x4096x16x1_S2x4x4096x16x64_0_1_2_3_4 (broadcastInDim S2x4x4096x16x1 ![0, 1, 2, 3] bcast_S2x4x4096x16_S2x4x4096x16x1_0_1_2_3 ((Host.topK S2x4x4096x16 3 (FloatOps.cmpfTotal .gt) SS sliceFits_S2x4x4096x64_S2x4x4096x16).2))) (broadcastInDim S2x4x4096x16x64 ![0, 1, 2, 3, 4] bcast_S1x1x1x1x64_S2x4x4096x16x64_0_1_2_3_4 (broadcastInDim S1x1x1x1x64 ![4] bcast_S64_S1x1x1x1x64_4 (iotaInDim S64 32 0)))) : IVec S2x4x4096x16x64 1) (ix5 b g t k j) = 1#1 ↔ sortedFrom (before fun j => SS (ix4 b g t j)) ⟨k.val, by omega⟩ = j := by
    intro k
    refine (iff_of_eq (congrArg (fun x => x = 1#1) ((hit_at _ b g t k j).trans (congrArg (fun x => IntOp.cmpi .eq x (BitVec.ofNat 32 j.val)) (top_at SS b g t k))))).trans ?_
    generalize sortedFrom (before fun j => SS (ix4 b g t j)) ⟨k.val, by omega⟩ = s
    show IntOp.cmpi .eq (BitVec.ofNat 32 s.val) (BitVec.ofNat 32 j.val) = 1#1 ↔ s = j
    rw [cmp_eq (ti_nat s.val (by omega)) (ti_nat j.val (by omega))]
    by_cases hs : s = j
    · simp [hs]
    · have : ¬ ((s.val : ℤ) = (j.val : ℤ)) := fun h => hs (Fin.ext (by omega))
      simp [hs, this]
  constructor
  · rintro ⟨k, hk⟩
    exact ⟨⟨k.val, by omega⟩, k.isLt, (e k).1 hk⟩
  · rintro ⟨k, hk, hj⟩
    exact ⟨⟨k.val, hk⟩, (e ⟨k.val, hk⟩).2 hj⟩

theorem seen_of (DD : IVec S4096x4096 32) (KK : IVec S2x4x4096x64 1) (b : Fin 2) (g : Fin 4) (t u : Fin 4096) :
    (andi (broadcastInDim S2x4x1x4096x4096 ![0, 1, 2, 3, 4] bcast_S1x1x1x4096x4096_S2x4x1x4096x4096_0_1_2_3_4 (broadcastInDim S1x1x1x4096x4096 ![3, 4] bcast_S4096x4096_S1x1x1x4096x4096_3_4 (cmpi .sge DD (broadcastInDim S4096x4096 ![] bcast_S_S4096x4096 (constantI S_ 32 0#32))))) (shapeCast _ (broadcastInDim S2x4x4096x64x64 ![0, 1, 2, 3, 4] bcast_S2x4x4096x64x1_S2x4x4096x64x64_0_1_2_3_4 (broadcastInDim S2x4x4096x64x1 ![0, 1, 2, 3] bcast_S2x4x4096x64_S2x4x4096x64x1_0_1_2_3 KK)) shapeCasts_S2x4x4096x64x64_S2x4x1x4096x4096) : IVec S2x4x1x4096x4096 1) (ix5 b g 0 t u) = IntOp.andi (IntOp.cmpi .sge (DD (ix2 t u)) (BitVec.ofNat 32 0)) (KK (ix4 b g t ⟨u.val / 64, by omega⟩)) := by
  pointwise

open Classical in
theorem picked_real (SS : FVec Ideal S2x4x4096x64 .f32) (b : Fin 2) (g : Fin 4) (t : Fin 4096) (j : Fin 64) (σ : Fin 64 → ℝ) (hσ : ∀ j, SS (ix4 b g t j) = ((σ j : ℝ) : EReal)) :
    (Host.reduce IntOp.ori (cmpi .eq (broadcastInDim S2x4x4096x16x64 ![0, 1, 2, 3, 4] bcast_S2x4x4096x16x1_S2x4x4096x16x64_0_1_2_3_4 (broadcastInDim S2x4x4096x16x1 ![0, 1, 2, 3] bcast_S2x4x4096x16_S2x4x4096x16x1_0_1_2_3 ((Host.topK S2x4x4096x16 3 (FloatOps.cmpfTotal .gt) SS sliceFits_S2x4x4096x64_S2x4x4096x16).2))) (broadcastInDim S2x4x4096x16x64 ![0, 1, 2, 3, 4] bcast_S1x1x1x1x64_S2x4x4096x16x64_0_1_2_3_4 (broadcastInDim S1x1x1x1x64 ![4] bcast_S64_S1x1x1x1x64_4 (iotaInDim S64 32 0)))) (constantI S_ 1 0#1) reducesTo_S2x4x4096x16x64_S2x4x4096x64_d3 h_S_) (ix4 b g t j) = 1#1 ↔ (∑ i, if σ j < σ i ∨ (σ j = σ i ∧ i < j) then 1 else 0 : ℕ) < 16 := by
  refine (picked_at SS b g t j).trans (iff_of_eq (congrArg (fun n : ℕ => n < 16) (Finset.sum_congr rfl fun i _ => if_congr ?_ rfl rfl)))
  unfold first
  show SS (ix4 b g t j) < SS (ix4 b g t i) ∨ (SS (ix4 b g t j) = SS (ix4 b g t i) ∧ i < j) ↔ _
  rw [hσ i, hσ j, EReal.coe_lt_coe_iff, EReal.coe_eq_coe_iff]

open Classical in
theorem chosen_at (h : Given V0 A gate) (b : Fin 2) (g : Fin 4) (t : Fin 4096) (j : Fin 64) :
    (Host.reduce IntOp.ori (cmpi .eq (broadcastInDim S2x4x4096x16x64 ![0, 1, 2, 3, 4] bcast_S2x4x4096x16x1_S2x4x4096x16x64_0_1_2_3_4 (broadcastInDim S2x4x4096x16x1 ![0, 1, 2, 3] bcast_S2x4x4096x16_S2x4x4096x16x1_0_1_2_3 ((Host.topK S2x4x4096x16 3 (FloatOps.cmpfTotal .gt) (res_main_v177 V0) sliceFits_S2x4x4096x64_S2x4x4096x16).2))) (broadcastInDim S2x4x4096x16x64 ![0, 1, 2, 3, 4] bcast_S1x1x1x1x64_S2x4x4096x16x64_0_1_2_3_4 (broadcastInDim S1x1x1x1x64 ![4] bcast_S64_S1x1x1x1x64_4 (res_main_v124 V0)))) (constantI S_ 1 0#1) reducesTo_S2x4x4096x16x64_S2x4x4096x64_d3 h_S_) (ix4 b g t j) = if (A.heads b g).chosen t j then 1#1 else 0#1 := by
  unfold res_main_v124
  have e := picked_real (res_main_v177 V0) b g t j ((A.heads b g).score t) (score_at V0 h b g t)
  have e' : ((A.heads b g).chosen t j) ↔ (∑ i, if (A.heads b g).score t j < (A.heads b g).score t i ∨ ((A.heads b g).score t j = (A.heads b g).score t i ∧ i < j) then 1 else 0 : ℕ) < 16 := by
    unfold Heads.chosen Heads.ahead
    exact iff_of_eq (congrArg (fun n : ℕ => n < 16) (Finset.sum_congr rfl fun i _ => by congr))
  replace e := e.trans e'.symm
  by_cases hc : (A.heads b g).chosen t j
  · rw [if_pos hc]
    exact e.2 hc
  · rw [if_neg hc]
    have z : ∀ x : BitVec 1, ¬ x = 1#1 → x = 0#1 := by decide
    exact z _ fun y => hc (e.1 y)

open Classical in
theorem seen_at (h : Given V0 A gate) (b : Fin 2) (g : Fin 4) (t u : Fin 4096) :
    res_main_v202 V0 (ix5 b g 0 t u) = if (A.heads b g).seen t u then 1#1 else 0#1 := by
  refine (seen_of _ _ b g t u).trans ?_
  refine (congrArg₂ IntOp.andi (cmp_sge (dist_at V0 t u) (ti_nat 0 (by omega))) (chosen_at V0 h b g t ⟨u.val / 64, by omega⟩)).trans ?_
  rw [bit_and]
  refine if_congr ?_ rfl rfl
  unfold Heads.seen
  refine and_congr ?_ Iff.rfl
  rw [Fin.le_def]
  omega

open Classical in
theorem zs_at (h : Given V0 A gate) (b : Fin 2) (g r : Fin 4) (t u : Fin 4096) :
    res_main_v205 V0 (ix5 b g r t u) = if (A.heads b g).seen t u then (((A.heads b g).zs r t u : ℝ) : EReal) else ⊥ := by
  have hm := seen_at V0 h b g t u
  have hq := q_at V0 h b g r t
  have hk := kv_at V0 h 2 b g u
  have hb := bias_at V0 h b g r t u
  unfold res_main_v205
  generalize res_main_v202 V0 = m at hm ⊢
  generalize res_main_v3 V0 = q at hq ⊢
  generalize res_main_v6 V0 = kv at hk ⊢
  generalize res_main_v54 V0 = bb at hb ⊢
  pointwise [dot_S2x4x4x4096x128_S2x4x4096x128_S2x4x4x4096x4096_4_3_23_2_01_01]
  have e := logit_of _ _ (fun d => q (ix5 b g r t d)) (fun d => kv (ix5 2 b g u d)) hq hk (bb (ix4 g r t u)) _ hb
  refine (congrArg₂ (fun (x : BitVec 1) (y : EReal) => Scalar.select x y (Ideal.ofBits FTy.f32 4286578688#32)) hm e).trans ?_
  exact (bit_select _ _).trans (congrArg (fun y : EReal => if (A.heads b g).seen t u then (((A.heads b g).zs r t u : ℝ) : EReal) else y) lowest)

open Classical in
theorem ps_at (h : Given V0 A gate) (b : Fin 2) (g r : Fin 4) (t u : Fin 4096) :
    select (broadcastInDim S2x4x4x4096x4096 ![0, 1, 2, 3, 4] bcast_S2x4x1x4096x4096_S2x4x4x4096x4096_0_1_2_3_4 (res_main_v202 V0)) (Host.divf (res_main_v212 V0) (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd (res_main_v212 V0) (constant S_ .f32 0x00000000#32) reducesTo_S2x4x4x4096x4096_S2x4x4x4096_d4 h_S_)))) (broadcastInDim S2x4x4x4096x4096 ![] bcast_S_S2x4x4x4096x4096 (constant S_ .f32 0x00000000#32)) (ix5 b g r t u)
     = ((weight ((A.heads b g).seen t) ((A.heads b g).zs r t) u : ℝ) : EReal) := by
  refine keys_at _ (res_main_v205 V0) b g r t _ _ (fun u => zs_at V0 h b g r t u) (fun u => ?_) u _ rfl
  refine Eq.trans ?_ (seen_at V0 h b g t u)
  generalize res_main_v202 V0 = m
  pointwise

end Cert.Reference7Ideal.Val

end
-- ==== Proof.RefWin.lean ====
/-
  The reference's weights of the window's keys.
-/
module

public import proofs.«01_k».proof.Proof.Gen.Reference7Ideal.Run
public import proofs.«01_k».proof.Proof.RefSoft
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

theorem zw_at (h : Given V0 A gate) (b : Fin 2) (g r : Fin 4) (t u : Fin 4096) :
    res_main_v234 V0 (ix5 b g r t u) = if u ≤ t ∧ t.val < u.val + 512 then (((A.heads b g).zw r t u : ℝ) : EReal) else ⊥ := by
  have hm := win_at V0 t u
  have hq := q_at V0 h b g r t
  have hk := kv_at V0 h 4 b g u
  have hb := bias_at V0 h b g r t u
  unfold res_main_v234
  generalize res_main_v231 V0 = m at hm ⊢
  generalize res_main_v3 V0 = q at hq ⊢
  generalize res_main_v6 V0 = kv at hk ⊢
  generalize res_main_v54 V0 = bb at hb ⊢
  pointwise [dot_S2x4x4x4096x128_S2x4x4096x128_S2x4x4x4096x4096_4_3_23_2_01_01]
  have e := logit_of _ _ (fun d => q (ix5 b g r t d)) (fun d => kv (ix5 4 b g u d)) hq hk (bb (ix4 g r t u)) _ hb
  refine (congrArg₂ (fun (x : BitVec 1) (y : EReal) => Scalar.select x y (Ideal.ofBits FTy.f32 4286578688#32)) hm e).trans ?_
  exact (bit_select _ _).trans (congrArg (fun y : EReal => if u ≤ t ∧ t.val < u.val + 512 then (((A.heads b g).zw r t u : ℝ) : EReal) else y) lowest)

theorem pw_at (h : Given V0 A gate) (b : Fin 2) (g r : Fin 4) (t u : Fin 4096) :
    select (broadcastInDim S2x4x4x4096x4096 ![3, 4] bcast_S4096x4096_S2x4x4x4096x4096_3_4 (res_main_v231 V0)) (Host.divf (res_main_v241 V0) (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd (res_main_v241 V0) (constant S_ .f32 0x00000000#32) reducesTo_S2x4x4x4096x4096_S2x4x4x4096_d4 h_S_)))) (broadcastInDim S2x4x4x4096x4096 ![] bcast_S_S2x4x4x4096x4096 (constant S_ .f32 0x00000000#32)) (ix5 b g r t u)
     = ((weight (fun u : Fin 4096 => u ≤ t ∧ t.val < u.val + 512) ((A.heads b g).zw r t) u : ℝ) : EReal) := by
  refine keys_at _ (res_main_v234 V0) b g r t _ _ (fun u => zw_at V0 h b g r t u) (fun u => ?_) u _ rfl
  refine Eq.trans ?_ (win_at V0 t u)
  generalize res_main_v231 V0 = m
  pointwise

end Cert.Reference7Ideal.Val

end
-- ==== Proof.RefAttn.lean ====
/-
  What the reference writes: the gated sum of the three branches.
-/
module

public import proofs.«01_k».proof.Proof.Gen.Reference7Ideal.Run
public import proofs.«01_k».proof.Proof.RefPick
public import proofs.«01_k».proof.Proof.RefWin
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable (V0 : Valuation τ sig (Elt Ideal)) {A : Arrays} {gate : Fin 2 → Fin 4096 → Fin 512 → EReal}

/-- The gated sum of the branches, of the gates, the weights and the values. -/
def mixture (GG : FVec Ideal S3x2x4x4x4096x1 .f32) (PC : FVec Ideal S2x4x4x4096x255 .f32) (CC : FVec Ideal S2x2x4x256x128 .bf16) (PS PW : FVec Ideal S2x4x4x4096x4096 .f32) (KV : FVec Ideal S6x2x4x4096x128 .f32) : FVec Ideal S2x4096x2048 .bf16 :=
  truncf .bf16 (shapeCast _ (transpose S2x4096x4x4x128 [0, 3, 1, 2, 4] (addf (addf (mulf (broadcastInDim S2x4x4x4096x128 ![0, 1, 2, 3, 4] bcast_S2x4x4x4096x1_S2x4x4x4096x128_0_1_2_3_4 (shapeCast _ (extractStridedSlice S1x2x4x4x4096x1 ![0, 0, 0, 0, 0, 0] GG slices_S3x2x4x4x4096x1_S1x2x4x4x4096x1_0_0_0_0_0_0) shapeCasts_S1x2x4x4x4096x1_S2x4x4x4096x1)) (Host.dotGeneral dot_S2x4x4x4096x255_S2x4x255x128_S2x4x4x4096x128_4_2_23_3_01_01 none PC (extf .f32 (shapeCast _ (extractStridedSlice S2x1x4x255x128 ![0, 1, 0, 0, 0] CC slices_S2x2x4x256x128_S2x1x4x255x128_0_1_0_0_0) shapeCasts_S2x1x4x255x128_S2x4x255x128) bitsLt_bf16_f32))) (mulf (broadcastInDim S2x4x4x4096x128 ![0, 1, 2, 3, 4] bcast_S2x4x4x4096x1_S2x4x4x4096x128_0_1_2_3_4 (shapeCast _ (extractStridedSlice S1x2x4x4x4096x1 ![1, 0, 0, 0, 0, 0] GG slices_S3x2x4x4x4096x1_S1x2x4x4x4096x1_1_0_0_0_0_0) shapeCasts_S1x2x4x4x4096x1_S2x4x4x4096x1)) (Host.dotGeneral dot_S2x4x4x4096x4096_S2x4x4096x128_S2x4x4x4096x128_4_2_23_3_01_01 none PS (shapeCast _ (extractStridedSlice S1x2x4x4096x128 ![3, 0, 0, 0, 0] KV slices_S6x2x4x4096x128_S1x2x4x4096x128_3_0_0_0_0) shapeCasts_S1x2x4x4096x128_S2x4x4096x128)))) (mulf (broadcastInDim S2x4x4x4096x128 ![0, 1, 2, 3, 4] bcast_S2x4x4x4096x1_S2x4x4x4096x128_0_1_2_3_4 (shapeCast _ (extractStridedSlice S1x2x4x4x4096x1 ![2, 0, 0, 0, 0, 0] GG slices_S3x2x4x4x4096x1_S1x2x4x4x4096x1_2_0_0_0_0_0) shapeCasts_S1x2x4x4x4096x1_S2x4x4x4096x1)) (Host.dotGeneral dot_S2x4x4x4096x4096_S2x4x4096x128_S2x4x4x4096x128_4_2_23_3_01_01 none PW (shapeCast _ (extractStridedSlice S1x2x4x4096x128 ![5, 0, 0, 0, 0] KV slices_S6x2x4x4096x128_S1x2x4x4096x128_5_0_0_0_0) shapeCasts_S1x2x4x4096x128_S2x4x4096x128)))) transposes_S2x4x4x4096x128_S2x4096x4x4x128_0_3_1_2_4) shapeCasts_S2x4096x4x4x128_S2x4096x2048) bitsLt_bf16_f32

theorem out_of (GG : FVec Ideal S3x2x4x4x4096x1 .f32) (PC : FVec Ideal S2x4x4x4096x255 .f32) (CC : FVec Ideal S2x2x4x256x128 .bf16) (PS PW : FVec Ideal S2x4x4x4096x4096 .f32) (KV : FVec Ideal S6x2x4x4096x128 .f32)
    (b : Fin 2) (t : Fin 4096) (l : Fin 2048) (g r : Fin 4) (d : Fin 128) (hg : g = ⟨l.val / 512, by omega⟩) (hr : r = ⟨l.val / 128 % 4, by omega⟩) (hd : d = ⟨l.val % 128, by omega⟩) :
    mixture GG PC CC PS PW KV (ix3 b t l)
      = GG (ix6 0 b g r t 0) * (∑ c : Fin 255, PC (ix5 b g r t c) * CC (ix5 b 1 g ⟨c.val, by omega⟩ d))
        + GG (ix6 1 b g r t 0) * (∑ u : Fin 4096, PS (ix5 b g r t u) * KV (ix5 3 b g u d))
        + GG (ix6 2 b g r t 0) * (∑ u : Fin 4096, PW (ix5 b g r t u) * KV (ix5 5 b g u d)) := by
  subst hg hr hd
  unfold mixture
  pointwise [dot_S2x4x4x4096x255_S2x4x255x128_S2x4x4x4096x128_4_2_23_3_01_01, dot_S2x4x4x4096x4096_S2x4x4096x128_S2x4x4x4096x128_4_2_23_3_01_01]

/-- A sum of products of real numbers, taken among the extended reals. -/
theorem dot_real {n : ℕ} (x y : Fin n → EReal) (f k : Fin n → ℝ) (hx : ∀ u, x u = ((f u : ℝ) : EReal)) (hy : ∀ u, y u = ((k u : ℝ) : EReal)) : ∑ u, x u * y u = ((∑ u, f u * k u : ℝ) : EReal) := by
  simp only [hx, hy, ← EReal.coe_mul]
  exact coe_sum _ _

open Classical in
theorem out_at (h : Given V0 A gate) (b : Fin 2) (t : Fin 4096) (l : Fin 2048) :
    mixture (res_main_v25 V0) (res_main_v122 V0) (V0 (Proc.devRef .tc main_arg1)) (select (broadcastInDim S2x4x4x4096x4096 ![0, 1, 2, 3, 4] bcast_S2x4x1x4096x4096_S2x4x4x4096x4096_0_1_2_3_4 (res_main_v202 V0)) (Host.divf (res_main_v212 V0) (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd (res_main_v212 V0) (constant S_ .f32 0x00000000#32) reducesTo_S2x4x4x4096x4096_S2x4x4x4096_d4 h_S_)))) (broadcastInDim S2x4x4x4096x4096 ![] bcast_S_S2x4x4x4096x4096 (constant S_ .f32 0x00000000#32))) (select (broadcastInDim S2x4x4x4096x4096 ![3, 4] bcast_S4096x4096_S2x4x4x4096x4096_3_4 (res_main_v231 V0)) (Host.divf (res_main_v241 V0) (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd (res_main_v241 V0) (constant S_ .f32 0x00000000#32) reducesTo_S2x4x4x4096x4096_S2x4x4x4096_d4 h_S_)))) (broadcastInDim S2x4x4x4096x4096 ![] bcast_S_S2x4x4x4096x4096 (constant S_ .f32 0x00000000#32))) (res_main_v6 V0) (ix3 b t l) = A.out gate b t l := by
  refine (out_of _ _ _ _ _ _ b t l _ _ _ rfl rfl rfl).trans ?_
  unfold Arrays.out Arrays.mixed
  generalize (⟨l.val / 512, by omega⟩ : Fin 4) = g
  generalize (⟨l.val / 128 % 4, by omega⟩ : Fin 4) = r
  generalize (⟨l.val % 128, by omega⟩ : Fin 128) = d
  refine congrArg₂ (fun x y : EReal => x + y) (congrArg₂ (fun x y : EReal => x + y) ?_ ?_) ?_
  · refine congrArg₂ (fun x y : EReal => x * y) ((gate_at V0 h 0 b g r t 0).trans (congrArg (gate b t) (Fin.ext (by simp)))) ?_
    refine (dot_real (fun c : Fin 255 => res_main_v122 V0 (ix5 b g r t c)) (fun c : Fin 255 => V0 (Proc.devRef .tc main_arg1) (ix5 b 1 g ⟨c.val, by omega⟩ d)) (fun c => (A.heads b g).pc r t ⟨c.val, by omega⟩) (fun c => A.C b 1 g ⟨c.val, by omega⟩ d) (fun c => pc_at V0 h b g r t c) (fun c => h.C _ _ _ _ _)).trans (congrArg (fun x : ℝ => (x : EReal)) ?_)
    refine all_but_last (fun c : Fin 256 => (A.heads b g).pc r t c * A.C b 1 g c d) ?_
    show (A.heads b g).pc r t (Fin.last 255) * _ = 0
    rw [pc_last, zero_mul]
  · refine congrArg₂ (fun x y : EReal => x * y) ((gate_at V0 h 1 b g r t 0).trans (congrArg (gate b t) (Fin.ext (by simp)))) ?_
    exact dot_real _ _ _ _ (fun u => ps_at V0 h b g r t u) (fun u => kv_at V0 h 3 b g u d)
  · refine congrArg₂ (fun x y : EReal => x * y) ((gate_at V0 h 2 b g r t 0).trans (congrArg (gate b t) (Fin.ext (by simp)))) ?_
    exact dot_real _ _ _ _ (fun u => pw_at V0 h b g r t u) (fun u => kv_at V0 h 5 b g u d)

end Cert.Reference7Ideal.Val

end
-- ==== Proof.AttnLoads.lean ====
/-
  The attention kernel's loads and index arithmetic, read at an index.
-/
module

public import proofs.«01_k».proof.Proof.Gen.Kernel7Ideal.Value
public import proofs.«01_k».proof.Proof.AttnMath
public import proofs.«01_k».proof.Proof.AttnWords
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

/-- A load of a rectangle of a whole buffer, at an index of any spelling. -/
theorem rd {s : Shape} {e : EltTy} {sp : Space} (a : Memref sig .tc sp s e) (ha : a.IsWhole) (X : s.Idx → Elt Ideal e)
    (off size : Fin s.rank → Nat) (inb) (x : (Rect.unit off size inb).toLoadRect.shape.Idx) (j : s.Idx) (hj : ∀ d, (j d : Nat) = off d + x d) :
    View.readAt (Elt Ideal) a.view (Rect.unit off size inb).toLoadRect (ha.unread X) x = X j := by
  rw [ha.readAt_unread]
  exact congrArg X (funext fun d => Fin.ext ((Rect.idx_unit_val off size inb x d).trans (hj d).symm))

/-- The mask's constant is minus infinity. -/
theorem mask_bot : Named.named (F := Ideal) Cert.Kernel7Ideal.κ "mask" (φ := .f32) 0xF149F2CA#32 = (⊥ : EReal) := by
  simp [Named.named, Cert.Kernel7Ideal.κ]

theorem i2_lt : (i 2).val < 32 := (i 2).isLt

/-- Row `a` of the tile of queries is query `128 n + a`. -/
abbrev tq (a : Fin 128) : Fin 4096 := ⟨128 * (i 2).val + a.val, by have := i2_lt i; omega⟩

/-- The blocks hold one group's numbers: the tile's queries, all the keys and values, and the tables. -/
structure Blk (D : Heads) : Prop where
  h0 : ∀ (r : Fin 4) (a d : Fin 128), x0 (ix3 0 a (⟨128 * r.val + d.val, by omega⟩ : Fin 512)) = ((D.q r (tq i a) d : ℝ) : EReal)
  h1 : ∀ (u : Fin 4096) (d : Fin 128), x1 (ix3 0 u d) = ((D.ks u d : ℝ) : EReal)
  h2 : ∀ (u : Fin 4096) (d : Fin 128), x2 (ix3 0 u d) = ((D.vs u d : ℝ) : EReal)
  h3 : ∀ (u : Fin 4096) (d : Fin 128), x3 (ix3 0 u d) = ((D.kw u d : ℝ) : EReal)
  h4 : ∀ (u : Fin 4096) (d : Fin 128), x4 (ix3 0 u d) = ((D.vw u d : ℝ) : EReal)
  h5 : ∀ (k : Fin 256) (d : Fin 128), x5 (ix5 0 0 0 k d) = ((D.kc k d : ℝ) : EReal)
  h6 : ∀ (k : Fin 256) (d : Fin 128), x6 (ix5 0 0 0 k d) = ((D.vc k d : ℝ) : EReal)
  h8 : ∀ (r : Fin 4) (k : Fin 3) (a l : Fin 128), x8 (ix4 r k a l) = ((D.tb r k a l : ℝ) : EReal)
  h9 : ∀ (r : Fin 4) (a l : Fin 128), x9 (ix3 r a l) = ((D.fd r a l : ℝ) : EReal)

variable {i x0 x1 x2 x3 x4 x5 x6 x8 x9} {D : Heads} (hD : Blk i x0 x1 x2 x3 x4 x5 x6 x8 x9 D)

include hD

theorem v1_at (r : Fin 4) (a d : Fin 128) : sl.v1 (F := Ideal) c arg3 harg3 x0 (ix2 a (⟨128 * r.val + d.val, by omega⟩ : Fin 512))
    = ((D.q r (tq i a) d : ℝ) : EReal) := by
  rw [← hD.h0]
  unfold sl.v1
  pointwise
  exact rd _ _ _ _ _ _ _ _ (by intro d; fin_cases d <;> simp)

theorem v6_at (r : Fin 4) (a d : Fin 128) : sl.v6 (F := Ideal) c arg3 harg3 x0 (ix2 (⟨128 * r.val + a.val, by omega⟩ : Fin 512) d)
    = ((D.q r (tq i a) d : ℝ) : EReal) := by
  rw [← v1_at c arg3 harg3 hD r a d]
  unfold sl.v6 sl.v2 sl.v3 sl.v4 sl.v5
  pointwise
  fin_cases r <;> simp only [Fin.zero_eta, Fin.mk_one, Fin.reduceFinMk, Fin.isValue, Fin.val_zero, Fin.val_one, Fin.val_two, Fin.coe_ofNat_eq_mod, Nat.reduceMod]
  · rw [dif_pos (by omega)]
    have e1 : (⟨128 * 0 + a.val, by omega⟩ : Fin 128) = a := Fin.ext (by dsimp only; omega)
    have e2 : (⟨128 * 0 + d.val, by omega⟩ : Fin 512) = ⟨d.val, by omega⟩ := Fin.ext (by dsimp only; omega)
    rw [e1, e2]
  · rw [dif_neg (by omega), dif_pos (by omega)]
    congr 2; apply Fin.ext; dsimp only; omega
  · rw [dif_neg (by omega), dif_neg (by omega), dif_pos (by omega)]
    congr 2; apply Fin.ext; dsimp only; omega
  · rw [dif_neg (by omega), dif_neg (by omega), dif_neg (by omega)]
    congr 2; apply Fin.ext; dsimp only; omega

theorem v33_at (r : Fin 4) (a d : Fin 128) : sl.v33 (F := Ideal) c arg12 harg12 x9 (ix2 (⟨128 * r.val + a.val, by omega⟩ : Fin 512) d)
    = ((D.fd r a d : ℝ) : EReal) := by
  rw [← hD.h9]
  unfold sl.v33 sl.v32
  pointwise
  refine rd _ _ _ _ _ _ _ _ (by intro d; fin_cases d <;> simp <;> omega)

theorem v36_at (r : Fin 4) (a d : Fin 128) : sl.v36 (F := Ideal) c arg12 harg12 x9 (ix2 (⟨128 * r.val + a.val, by omega⟩ : Fin 512) d) = (0 : EReal) := by
  have h := v33_at c arg12 harg12 hD r a d
  have h' : sl.v32 (F := Ideal) c arg12 harg12 x9 (ix2 (⟨128 * r.val + a.val, by omega⟩ : Fin 512) d) = ((D.fd r a d : ℝ) : EReal) := by
    rw [← h]; unfold sl.v33; pointwise
  unfold sl.v36 sl.v35 sl.v34
  pointwise [h, h']
  rw [← EReal.coe_sub, sub_self, EReal.coe_zero]

theorem v39_at (a : Fin 128) (d : Fin 256) : sl.v39 (F := Ideal) c arg11 harg11 x8 (ix2 a d)
    = ((D.tb 0 2 a ⟨d % 128, by omega⟩ : ℝ) : EReal) := by
  rw [← hD.h8]
  unfold sl.v39 sl.v38
  pointwise
  split
  · refine rd _ _ _ _ _ _ _ _ (by intro d; fin_cases d <;> simp <;> omega)
  · refine rd _ _ _ _ _ _ _ _ (by intro d; fin_cases d <;> simp <;> omega)

omit hD

theorem v20_at (a : Fin 128) (d : Fin 256) : sl.v20 i (ix2 a d)
    = if 16 * d.val + 31 ≤ (tq i a).val then 1#1 else 0#1 := by
  have := i2_lt i
  unfold sl.v20 sl.v19 sl.v18 sl.v16 sl.v15 sl.v14 sl.v12 sl.v11 sl.v10 sl.v9 sl.v8 sl.v7
  pointwise
  rw [cmp_sge (a := (128 * (i 2).val + a.val : ℤ) - (16 * d.val + 32 - 1)) (b := 0)]
  · refine if_congr ?_ rfl rfl
    dsimp only; omega
  · refine ti_sub (a := 128 * (i 2).val + a.val) (b := 16 * d.val + 32 - 1) (ti_add (a := 128 * (i 2).val) ?_ (ti_nat _ (by omega)) (by omega)) (ti_sub (ti_add (a := 16 * d.val) ?_ (ti_nat 32 (by omega)) (by omega)) (ti_nat 1 (by omega)) (by omega)) (by omega)
    · rw [mul_comm]; exact ti_mul (ti_nat _ (by omega)) (ti_nat 128 (by omega)) (by omega)
    · rw [mul_comm]; exact ti_mul (ti_nat _ (by omega)) (ti_nat 16 (by omega)) (by omega)
  · exact ti_nat 0 (by omega)

theorem v21_at (r : Fin 4) (a : Fin 128) (d : Fin 256) : sl.v21 i (ix2 (⟨128 * r.val + a.val, by omega⟩ : Fin 512) d)
    = if 16 * d.val + 31 ≤ (tq i a).val then 1#1 else 0#1 := by
  rw [← v20_at]
  unfold sl.v21
  pointwise
  split
  · congr 2; apply Fin.ext; dsimp only; omega
  split
  · congr 2; apply Fin.ext; dsimp only; omega
  split
  · congr 2; apply Fin.ext; dsimp only; omega
  · congr 2; apply Fin.ext; dsimp only; omega

theorem v30_at (k : Fin 128) (d : Fin 256) : sl.v30 (F := Ideal) i (ix2 k d)
    = (if 8 * (i 2).val + 7 = d.val + k.val then 1 else 0 : EReal) := by
  have := i2_lt i
  unfold sl.v30 sl.v29 sl.v28 sl.v27 sl.v26 sl.v25 sl.v24 sl.v23 sl.v22 sl.v8 sl.v7
  pointwise
  rw [cmp_eq (a := 8 * (i 2).val - d.val + 7) (b := k.val)]
  · rw [bit_sitofp]
    refine if_congr ?_ rfl rfl
    omega
  · refine ti_add (ti_sub ?_ (ti_nat _ (by omega)) (by omega)) (ti_nat 7 (by omega)) (by omega)
    rw [mul_comm]; exact ti_mul (ti_nat _ (by omega)) (ti_nat 8 (by omega)) (by omega)
  · exact ti_nat _ (by omega)
-- ==== Proof.AttnComp.lean ====
/-
  The attention kernel's compressed branch and the scores of its blocks, read at an index.
-/
module

public import proofs.«01_k».proof.Proof.Gen.Kernel7Ideal.Value
public import proofs.«01_k».proof.Proof.AttnLoads
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

/-- The masked logits of a query over the compressed blocks. -/
def zmask (D : Heads) (r : Fin 4) (t : Fin 4096) (k : Fin 256) : EReal := if 16 * k.val + 31 ≤ t.val then ((D.zc r t k : ℝ) : EReal) else ⊥

/-- A product with a column that holds a single one. -/
theorem onehot_sum (f : Fin 128 → ℝ) (n k : ℕ) : (∑ x : Fin 128, ((f x : ℝ) : EReal) * (if 8 * n + 7 = k + x.val then 1 else 0))
    = ((if h : k ≤ 8 * n + 7 ∧ 8 * n + 7 - k < 128 then f ⟨8 * n + 7 - k, h.2⟩ else 0 : ℝ) : EReal) := by
  by_cases h : k ≤ 8 * n + 7 ∧ 8 * n + 7 - k < 128
  · rw [dif_pos h, Finset.sum_eq_single (⟨8 * n + 7 - k, h.2⟩ : Fin 128)]
    · rw [if_pos (by dsimp only; omega), mul_one]
    · intro x _ hx
      rw [if_neg fun e => hx (Fin.ext (by dsimp only; omega)), mul_zero]
    · intro hx; exact absurd (Finset.mem_univ _) hx
  · rw [dif_neg h, EReal.coe_zero]
    refine Finset.sum_eq_zero fun x _ => ?_
    have := x.isLt
    rw [if_neg fun e => h (by omega), mul_zero]

theorem masked_exp (Z z : Fin 256 → EReal) (A : EReal) (k : Fin 256) (p : Prop) [Decidable p] (hA : A = Z k) (hZ : ∀ x, Z x = z x) :
    (Scalar.select (if p then 1#1 else 0#1) (Ideal.exp (A - Finset.univ.fold max (Ideal.ofBits FTy.f32 4286578688#32) Z)) 0 : EReal)
      = if p then Ideal.exp (z k - Finset.univ.fold max ⊥ z) else 0 := by
  have e : Z = z := funext hZ
  have hb : Ideal.ofBits FTy.f32 4286578688#32 = ⊥ := by simp [Ideal.ofBits, Ideal.ieee]
  subst e
  rw [bit_select, hb, hA]

/-- A logit from its parts. -/
theorem masked_logit (p : Prop) [Decidable p] (A X O₁ O₂ : EReal) (α ξ ω z : ℝ) (hA : A = ((α : ℝ) : EReal)) (hX : X = ((ξ : ℝ) : EReal))
    (h₁ : O₁ = ((ω : ℝ) : EReal)) (h₂ : O₂ = 0) (hz : α * scale + (ξ + ω) = z) :
    (Scalar.select (if p then 1#1 else 0#1) (A * Ideal.ofBits FTy.f32 1035273459#32 + (X + O₁ + O₂)) ⊥ : EReal)
      = if p then ((z : ℝ) : EReal) else ⊥ := by
  subst hA hX h₁ h₂ hz
  rw [bit_select, scale_coe, add_zero, ← EReal.coe_mul, ← EReal.coe_add, ← EReal.coe_add]

/-- The masked exponentials, from the payload's operands. -/
theorem pay74_at (D : Heads) (n : ℕ) (t : Fin 128 → Fin 4096) (ht : ∀ a, (t a).val = 128 * n + a.val) (hn : n < 32)
    (v6 : FVec Ideal S512x128 .bf16) (v21 : IVec S512x256 1) (v30 : FVec Ideal S128x256 .bf16) (v33 : FVec Ideal S512x128 .bf16) (v36 : FVec Ideal S512x128 .bf16) (v39 : FVec Ideal S128x256 .f32) (v40 : Vec Ideal S1x1x128x128 .f32) (v43 : Vec Ideal S1x1x128x128 .f32) (v46 : Vec Ideal S1x1x128x128 .f32) (v54 : Vec Ideal S1x1x1x256x128 .bf16)
    (h6 : ∀ (r : Fin 4) (a d : Fin 128), v6 (ix2 (⟨128 * r.val + a.val, by omega⟩ : Fin 512) d) = ((D.q r (t a) d : ℝ) : EReal))
    (h21 : ∀ (r : Fin 4) (a : Fin 128) (d : Fin 256), v21 (ix2 (⟨128 * r.val + a.val, by omega⟩ : Fin 512) d) = if 16 * d.val + 31 ≤ (t a).val then 1#1 else 0#1)
    (h30 : ∀ (k : Fin 128) (d : Fin 256), v30 (ix2 k d) = (if 8 * n + 7 = d.val + k.val then 1 else 0 : EReal))
    (h33 : ∀ (r : Fin 4) (a d : Fin 128), v33 (ix2 (⟨128 * r.val + a.val, by omega⟩ : Fin 512) d) = ((D.fd r a d : ℝ) : EReal))
    (h36 : ∀ (r : Fin 4) (a d : Fin 128), v36 (ix2 (⟨128 * r.val + a.val, by omega⟩ : Fin 512) d) = (0 : EReal))
    (h39 : ∀ (a : Fin 128) (d : Fin 256), v39 (ix2 a d) = ((D.tb 0 2 a ⟨d % 128, by omega⟩ : ℝ) : EReal))
    (h40 : ∀ (a l : Fin 128), v40 (ix4 0 0 a l) = ((D.tb 1 2 a l : ℝ) : EReal))
    (h43 : ∀ (a l : Fin 128), v43 (ix4 0 0 a l) = ((D.tb 2 2 a l : ℝ) : EReal))
    (h46 : ∀ (a l : Fin 128), v46 (ix4 0 0 a l) = ((D.tb 3 2 a l : ℝ) : EReal))
    (h54 : ∀ (k : Fin 256) (d : Fin 128), v54 (ix5 0 0 0 k d) = ((D.kc k d : ℝ) : EReal))
    (r : Fin 4) (a : Fin 128) (k : Fin 256) :
    k0_pay74 v6 v21 v30 v33 v36 v39 v40 v43 v46 v54 (ix2 (⟨128 * r.val + a.val, by omega⟩ : Fin 512) k)
      = if 16 * k.val + 31 ≤ (t a).val then Ideal.exp (zmask D r (t a) k - Finset.univ.fold max ⊥ (zmask D r (t a))) else 0 := by
  unfold k0_pay74
  pointwise [h6, h21, h30, h33, h36, h39, h40, h43, h46, h54, mask_bot]
  refine masked_exp _ (zmask D r (t a)) _ k (16 * k.val + 31 ≤ (t a).val) rfl fun x => ?_
  have e1 : (t a).val / 128 = n := by have := ht a; omega
  have e2 : (⟨(t a).val % 128, by omega⟩ : Fin 128) = a := Fin.ext (by have := ht a; dsimp only; omega)
  refine masked_logit _ _ _ _ _ (∑ d, D.q r (t a) d * D.kc x d) (D.tb r 2 a ⟨x % 128, by omega⟩)
    (if h : x.val ≤ 8 * n + 7 ∧ 8 * n + 7 - x.val < 128 then D.fd r a ⟨8 * n + 7 - x.val, h.2⟩ else 0) _ ?_ ?_ (onehot_sum (D.fd r a) n x.val) ?_ ?_
  · rw [← coe_sum]; exact Finset.sum_congr rfl fun k _ => (EReal.coe_mul _ _).symm
  rotate_left
  · exact Finset.sum_eq_zero fun k _ => zero_mul _
  · rw [Heads.zc, Heads.biasc]
    simp only [e1, e2]
  have hx := x.isLt
  have ha := a.isLt
  rcases (by omega : r.val = 0 ∨ r.val = 1 ∨ r.val = 2 ∨ r.val = 3) with h | h | h | h
  · rw [dif_pos (by omega)]
    obtain rfl : r = 0 := Fin.ext h
    try split
    all_goals refine congrArg Real.toEReal ?_; congr 1 <;> apply Fin.ext <;> dsimp only <;> omega
  · rw [dif_neg (by omega), dif_pos (by omega)]
    obtain rfl : r = 1 := Fin.ext h
    try split
    all_goals refine congrArg Real.toEReal ?_; congr 1 <;> apply Fin.ext <;> dsimp only <;> omega
  · rw [dif_neg (by omega), dif_neg (by omega), dif_pos (by omega)]
    obtain rfl : r = 2 := Fin.ext h
    try split
    all_goals refine congrArg Real.toEReal ?_; congr 1 <;> apply Fin.ext <;> dsimp only <;> omega
  · rw [dif_neg (by omega), dif_neg (by omega), dif_neg (by omega)]
    obtain rfl : r = 3 := Fin.ext h
    try split
    all_goals refine congrArg Real.toEReal ?_; congr 1 <;> apply Fin.ext <;> dsimp only <;> omega

variable {i x0 x1 x2 x3 x4 x5 x6 x8 x9} {D : Heads} (hD : Blk i x0 x1 x2 x3 x4 x5 x6 x8 x9 D)

include hD

theorem r_at (r : Fin 4) (a : Fin 128) (k : Fin 256) : sl.r (F := Ideal) c i arg3 harg3 arg8 harg8 arg11 harg11 arg12 harg12 x0 x5 x8 x9 (ix2 (⟨128 * r.val + a.val, by omega⟩ : Fin 512) k)
    = if 16 * k.val + 31 ≤ (tq i a).val then Ideal.exp (zmask D r (tq i a) k - Finset.univ.fold max ⊥ (zmask D r (tq i a))) else 0 := by
  unfold sl.r
  refine pay74_at D (i 2).val (tq i) (fun _ => rfl) (i2_lt i) _ _ _ _ _ _ _ _ _ _ (v6_at c arg3 harg3 hD) v21_at v30_at (v33_at c arg12 harg12 hD) (v36_at c arg12 harg12 hD) (v39_at c arg11 harg11 hD) ?_ ?_ ?_ ?_ r a k
  · intro a l; rw [← hD.h8]; refine rd _ _ _ _ _ _ _ _ (by intro d; fin_cases d <;> simp)
  · intro a l; rw [← hD.h8]; refine rd _ _ _ _ _ _ _ _ (by intro d; fin_cases d <;> simp)
  · intro a l; rw [← hD.h8]; refine rd _ _ _ _ _ _ _ _ (by intro d; fin_cases d <;> simp)
  · intro a l; rw [← hD.h5]; refine rd _ _ _ _ _ _ _ _ (by intro d; fin_cases d <;> simp)

/-- The weights of the compressed blocks. -/
theorem v78_at (r : Fin 4) (a : Fin 128) (k : Fin 256) : sl.v78 (F := Ideal) c i arg3 harg3 arg8 harg8 arg11 harg11 arg12 harg12 x0 x5 x8 x9 (ix2 (⟨128 * r.val + a.val, by omega⟩ : Fin 512) k)
    = ((D.pc r (tq i a) k : ℝ) : EReal) := by
  unfold sl.v78 sl.v77 sl.v76 sl.v74 sl.v73 sl.cst_31 sl.r_2 sl.r_1 k0_pay76 k0_pay75
  pointwise
  exact softmax_guarded (fun k : Fin 256 => 16 * k.val + 31 ≤ (tq i a).val) (D.zc r (tq i a)) (zmask D r (tq i a)) (fun _ => rfl) k
    (fun k => sl.r (F := Ideal) c i arg3 harg3 arg8 harg8 arg11 harg11 arg12 harg12 x0 x5 x8 x9 (ix2 (⟨128 * r.val + a.val, by omega⟩ : Fin 512) k))
    (fun k => r_at c arg3 harg3 arg8 harg8 arg11 harg11 arg12 harg12 hD r a k)

/-- The compressed branch of head `r`. -/
theorem v82_at (r : Fin 4) (a d : Fin 128) : sl.v82 (F := Ideal) c i arg3 harg3 arg8 harg8 arg9 harg9 arg11 harg11 arg12 harg12 x0 x5 x6 x8 x9 (ix2 (⟨128 * r.val + a.val, by omega⟩ : Fin 512) d)
    = ((D.oc r (tq i a) d : ℝ) : EReal) := by
  have h : ∀ k : Fin 256, sl.v81 (F := Ideal) c arg9 harg9 x6 (ix2 k d) = ((D.vc k d : ℝ) : EReal) := by
    intro k
    rw [← hD.h6]
    unfold sl.v81
    pointwise
    refine rd _ _ _ _ _ _ _ _ (by intro d; fin_cases d <;> simp)
  unfold sl.v82 sl.v79 sl.cst_38
  pointwise [h, v78_at c arg3 harg3 arg8 harg8 arg11 harg11 arg12 harg12 hD]
  rw [Heads.oc, ← coe_sum]
  exact Finset.sum_congr rfl fun k _ => (EReal.coe_mul _ _).symm

/-- The weights summed over the four heads. -/
theorem v89_at (a : Fin 128) (k : Fin 256) : sl.v89 (F := Ideal) c i arg3 harg3 arg8 harg8 arg11 harg11 arg12 harg12 x0 x5 x8 x9 (ix2 a k)
    = ((∑ r, D.pc r (tq i a) k : ℝ) : EReal) := by
  have h := fun r => v78_at c arg3 harg3 arg8 harg8 arg11 harg11 arg12 harg12 hD r a k
  have h0 := h 0
  have h1 := h 1
  have h2 := h 2
  have h3 := h 3
  have e0 : (⟨128 * (0 : Fin 4).val + a.val, by simp; omega⟩ : Fin 512) = ⟨a.val, by omega⟩ := Fin.ext (by simp)
  unfold sl.v89 sl.v88 sl.v87 sl.v86 sl.v85 sl.v84 sl.v83
  pointwise
  rw [e0] at h0
  rw [Fin.sum_univ_four, EReal.coe_add, EReal.coe_add, EReal.coe_add, ← h0, ← h1, ← h2, ← h3]
  rfl

omit hD in
/-- Which compressed blocks overlap which selected block. -/
theorem v107_at (j : Fin 64) (k : Fin 256) : sl.v107 (F := Ideal) (ix2 j k) = ((if 4 * j.val ≤ k.val + 1 ∧ k.val ≤ 4 * j.val + 3 then 1 else 0 : ℝ) : EReal) := by
  unfold sl.v107 sl.v106 sl.v105 sl.v104 sl.v103 sl.v100 sl.v95 sl.v94 sl.v92 sl.v91 sl.v90
  pointwise
  rw [cmp_sge (a := k.val) (b := 4 * j.val - 1) (ti_nat _ (by omega)) (ti_sub (ti_mul (ti_nat 4 (by omega)) (ti_nat _ (by omega)) (by omega)) (ti_nat 1 (by omega)) (by omega)),
    cmp_sle (a := k.val) (b := 4 * j.val + 4 - 1) (ti_nat _ (by omega)) (ti_sub (ti_add (ti_mul (ti_nat 4 (by omega)) (ti_nat _ (by omega)) (by omega)) (ti_nat 4 (by omega)) (by omega)) (ti_nat 1 (by omega)) (by omega)),
    bit_and, bit_sitofp]
  split_ifs <;> first | omega | simp

theorem v121_at (a : Fin 128) (j : Fin 64) : sl.v121 (F := Ideal) c i arg3 harg3 arg8 harg8 arg11 harg11 arg12 harg12 x0 x5 x8 x9 (ix2 j a)
    = ((D.imp (tq i a) j : ℝ) : EReal) := by
  have h := v89_at c arg3 harg3 arg8 harg8 arg11 harg11 arg12 harg12 hD a
  unfold sl.v121 sl.v120 sl.v119 sl.v118 sl.v117 sl.v116 sl.v115 sl.v114 sl.v113 sl.v112 sl.v111 sl.v110 sl.v109 sl.v108 sl.cst_44 sl.cst_43
  pointwise [h]
  simp only [v107_at, ← EReal.coe_mul, ← EReal.coe_sub, sub_self, mul_zero, coe_sum, Finset.sum_const_zero, EReal.coe_zero, sub_zero, mul_zero, Finset.sum_const_zero, add_zero]
  rw [Heads.imp]

  exact congrArg Real.toEReal (Finset.sum_congr rfl fun k _ => mul_comm _ _)

/-- The scores of the blocks. -/
theorem v143_at (a : Fin 128) (j : Fin 64) : sl.v143 (F := Ideal) c i arg3 harg3 arg8 harg8 arg11 harg11 arg12 harg12 x0 x5 x8 x9 (ix2 j a)
    = ((D.score (tq i a) j : ℝ) : EReal) := by
  have h := v121_at c arg3 harg3 arg8 harg8 arg11 harg11 arg12 harg12 hD a j
  unfold sl.v143 sl.v142 sl.v141 sl.v140 sl.v139 sl.v137 sl.v136 sl.v135 sl.v134 sl.v133 sl.v132 sl.v131 sl.v129 sl.v128 sl.v127 sl.v126 sl.v125 sl.v124 sl.v122 sl.v9 sl.cst_50 sl.cst_51
  pointwise [h]
  have := i2_lt i
  have ht : (IntOp.addi (Scalar.muli (BitVec.ofNat 32 (i 2).val) 128#32) (BitVec.ofNat 32 a.val)).toInt = ((128 * (i 2).val + a.val : ℕ) : ℤ) := by
    push_cast
    refine ti_add ?_ (ti_nat _ (by omega)) (by omega)
    rw [mul_comm]; exact ti_mul (ti_nat _ (by omega)) (ti_nat 128 (by omega)) (by omega)
  have hc := ti_shr .vector ht (by omega)
  rw [cmp_eq (ti_nat j.val (by omega)) (ti_nat 0 (by omega)), cmp_eq (ti_nat j.val (by omega)) hc,
    cmp_eq (ti_nat j.val (by omega)) (ti_sub hc (ti_nat 1 (by omega)) (by omega)),
    cmp_sle (ti_mul (ti_nat j.val (by omega)) (ti_nat 64 (by omega)) (by omega)) ht, bit_or, bit_or, bit_select, bit_select, force_coe, past_coe, Heads.score]
  by_cases h1 : j.val = 0 ∨ j.val = (tq i a).val / 64 ∨ j.val + 1 = (tq i a).val / 64
  · rw [if_pos h1, if_pos (by dsimp only at h1; omega)]
  · rw [if_neg h1, if_neg (by dsimp only at h1; omega)]
    by_cases h2 : 64 * j.val ≤ (tq i a).val
    · rw [if_pos h2, if_pos (by dsimp only at h2; omega)]
    · rw [if_neg h2, if_neg (by dsimp only at h2; omega)]
-- ==== Proof.AttnRank.lean ====
/-
  The kernel's ranks.
-/
module

public import proofs.«01_k».proof.Proof.Gen.Kernel7Ideal.Value
public import proofs.«01_k».proof.Proof.AttnComp
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

/-- One where row `k` comes before row `J`: by the value, then by position. -/
def cnt (S : Fin 64 → EReal) (J k : Fin 64) : EReal := if S J < S k ∨ (S J = S k ∧ k < J) then 1 else 0

theorem ite_iff {p q : Prop} (dp : Decidable p) (dq : Decidable q) (h : p ↔ q) : @ite EReal p dp 1 0 = @ite EReal q dq 1 0 := by
  by_cases hp : p
  · rw [if_pos hp, if_pos (h.1 hp)]
  · rw [if_neg hp, if_neg fun hq => hp (h.2 hq)]

theorem cnt_ge (S : Fin 64 → EReal) (J k : Fin 64) (h : k < J) (d : Decidable (S J ≤ S k)) : (@ite EReal (S J ≤ S k) d 1 0) = cnt S J k := by
  refine ite_iff _ _ ?_
  constructor
  · intro h'
    rcases lt_or_eq_of_le h' with h1 | h1
    · exact Or.inl h1
    · exact Or.inr ⟨h1, h⟩
  · rintro (h1 | h1)
    · exact h1.le
    · exact h1.1.le

theorem cnt_gt (S : Fin 64 → EReal) (J k : Fin 64) (h : J < k) (d : Decidable (S J < S k)) : (@ite EReal (S J < S k) d 1 0) = cnt S J k := by
  refine ite_iff _ _ ?_
  constructor
  · exact Or.inl
  · rintro (h1 | h1)
    · exact h1
    · exact absurd h1.2 (not_lt.2 h.le)

theorem cnt_tie (S : Fin 64 → EReal) (J k : Fin 64) (n : ℕ) (hn : n = J.val) (d : Decidable (S J < S k)) (d' : Decidable (S k = S J)) :
    (Scalar.select (IntOp.ori (BitVec.ofBool (@decide (S J < S k) d)) (IntOp.andi (BitVec.ofBool (@decide (S k = S J) d'))
      (IntOp.cmpi .sgt (BitVec.ofNat 32 n) (BitVec.ofNat 32 k.val)))) 1 0 : EReal) = cnt S J k := by
  have e1 : BitVec.ofBool (@decide (S J < S k) d) = if S J < S k then 1#1 else 0#1 := by
    by_cases h : S J < S k <;> simp [h]
  have e2 : BitVec.ofBool (@decide (S k = S J) d') = if S k = S J then 1#1 else 0#1 := by
    by_cases h : S k = S J <;> simp [h]
  rw [e1, e2, cmp_sgt (ti_nat n (by omega)) (ti_nat k.val (by omega)), bit_and, bit_or, bit_select]
  refine ite_iff _ _ ?_
  rw [eq_comm (a := S k), hn]
  simp only [Fin.lt_def, Nat.cast_lt]

/-- How many of the first rows come before row `J`. -/
def rank (S : Fin 64 → EReal) (J : Fin 64) (n : ℕ) : EReal := ∑ k ∈ Finset.range n, cnt S J (Fin.ofNat 64 k)

theorem rank_succ (S : Fin 64 → EReal) (J : Fin 64) (n : ℕ) : rank S J (n + 1) = rank S J n + cnt S J (Fin.ofNat 64 n) := Finset.sum_range_succ _ _

set_option maxHeartbeats 4000000 in
theorem band0 (s : Fin 8) (a : Fin 128) : sl.r_172 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨s.val, by omega⟩ 64 := by
  simp only [sl.cst_44, sl.v144, sl.v1048, sl.v1049, sl.v1050, sl.v160, sl.cst_31, sl.v177, sl.v1053, sl.v168, sl.v169, sl.v170, sl.v122, sl.v152, sl.v172, sl.v173, sl.v175, sl.v176, sl.v179, sl.v180, sl.v223, sl.v224, sl.v225, sl.v227, sl.v228, sl.v230, sl.v231, sl.v234, sl.v235, sl.v278, sl.v279, sl.v280, sl.v282, sl.v283, sl.v285, sl.v286, sl.v289, sl.v290, sl.v333, sl.v334, sl.v335, sl.v337, sl.v338, sl.v340, sl.v341, sl.v344, sl.v345, sl.v388, sl.v389, sl.v390, sl.v392, sl.v393, sl.v395, sl.v396, sl.v399, sl.v400, sl.v443, sl.v444, sl.v445, sl.v447, sl.v448, sl.v450, sl.v451, sl.v454, sl.v455, sl.v498, sl.v499, sl.v500, sl.v502, sl.v503, sl.v505, sl.v506, sl.v509, sl.v510, sl.v553, sl.v554, sl.v555, sl.v557, sl.v558, sl.v560, sl.v561, sl.v564, sl.v565, sl.v608, sl.v609, sl.v610, sl.v613, sl.v614, sl.v663, sl.v664, sl.v665, sl.v668, sl.v669, sl.v718, sl.v719, sl.v720, sl.v723, sl.v724, sl.v773, sl.v774, sl.v775, sl.v778, sl.v779, sl.v828, sl.v829, sl.v830, sl.v833, sl.v834, sl.v883, sl.v884, sl.v885, sl.v888, sl.v889, sl.v938, sl.v939, sl.v940, sl.v943, sl.v944, sl.v993, sl.v994, sl.v995, sl.v998, sl.v999, sl.v1054, sl.v1103, sl.v1104, sl.v1105, sl.v1108, sl.v1109, sl.v1158, sl.v1159, sl.v1160, sl.v1163, sl.v1164, sl.v1213, sl.v1214, sl.v1215, sl.v1218, sl.v1219, sl.v1268, sl.v1269, sl.v1270, sl.v1273, sl.v1274, sl.v1323, sl.v1324, sl.v1325, sl.v1328, sl.v1329, sl.v1378, sl.v1379, sl.v1380, sl.v1383, sl.v1384, sl.v1433, sl.v1434, sl.v1435, sl.v1438, sl.v1439, sl.v1488, sl.v1489, sl.v1490, sl.v1493, sl.v1494, sl.v1543, sl.v1544, sl.v1545, sl.v1548, sl.v1549, sl.v1598, sl.v1599, sl.v1600, sl.v1603, sl.v1604, sl.v1653, sl.v1654, sl.v1655, sl.v1658, sl.v1659, sl.v1708, sl.v1709, sl.v1710, sl.v1713, sl.v1714, sl.v1763, sl.v1764, sl.v1765, sl.v1768, sl.v1769, sl.v1818, sl.v1819, sl.v1820, sl.v1823, sl.v1824, sl.v1873, sl.v1874, sl.v1875, sl.v1878, sl.v1879, sl.v1928, sl.v1929, sl.v1930, sl.v1933, sl.v1934, sl.v1983, sl.v1984, sl.v1985, sl.v1988, sl.v1989, sl.v2038, sl.v2039, sl.v2040, sl.v2043, sl.v2044, sl.v2093, sl.v2094, sl.v2095, sl.v2098, sl.v2099, sl.v2148, sl.v2149, sl.v2150, sl.v2153, sl.v2154, sl.v2203, sl.v2204, sl.v2205, sl.v2208, sl.v2209, sl.v2258, sl.v2259, sl.v2260, sl.v2263, sl.v2264, sl.v2313, sl.v2314, sl.v2315, sl.v2318, sl.v2319, sl.v2368, sl.v2369, sl.v2370, sl.v2373, sl.v2374, sl.v2423, sl.v2424, sl.v2425, sl.v2428, sl.v2429, sl.v2478, sl.v2479, sl.v2480, sl.v2483, sl.v2484, sl.v2533, sl.v2534, sl.v2535, sl.v2538, sl.v2539, sl.v2588, sl.v2589, sl.v2590, sl.v2593, sl.v2594, sl.v2643, sl.v2644, sl.v2645, sl.v2648, sl.v2649, sl.v2698, sl.v2699, sl.v2700, sl.v2703, sl.v2704, sl.r_7, sl.r_17, sl.r_27, sl.r_28, sl.r_38, sl.r_49, sl.r_59, sl.r_69, sl.r_79, sl.r_80, sl.r_90, sl.r_101, sl.r_111, sl.r_121, sl.r_131, sl.r_132, sl.r_142, sl.r_152, sl.r_162, sl.r_172, k0_pay633, k0_pay634, k0_pay644, k0_pay645, k0_pay654, k0_pay655, k0_pay656, k0_pay657, k0_pay666, k0_pay667, k0_pay677, k0_pay678, k0_pay687, k0_pay688, k0_pay698, k0_pay699, k0_pay708, k0_pay709, k0_pay710, k0_pay711, k0_pay720, k0_pay721, k0_pay731, k0_pay732, k0_pay741, k0_pay742, k0_pay752, k0_pay753, k0_pay762, k0_pay763, k0_pay764, k0_pay765, k0_pay774, k0_pay775, k0_pay785, k0_pay786, k0_pay795, k0_pay796, k0_pay806, k0_pay807]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_tie (fun j => V (ix2 j a)) ⟨s.val, by omega⟩ 0 _ rfl _ _
  · exact cnt_tie (fun j => V (ix2 j a)) ⟨s.val, by omega⟩ 1 _ rfl _ _
  · exact cnt_tie (fun j => V (ix2 j a)) ⟨s.val, by omega⟩ 2 _ rfl _ _
  · exact cnt_tie (fun j => V (ix2 j a)) ⟨s.val, by omega⟩ 3 _ rfl _ _
  · exact cnt_tie (fun j => V (ix2 j a)) ⟨s.val, by omega⟩ 4 _ rfl _ _
  · exact cnt_tie (fun j => V (ix2 j a)) ⟨s.val, by omega⟩ 5 _ rfl _ _
  · exact cnt_tie (fun j => V (ix2 j a)) ⟨s.val, by omega⟩ 6 _ rfl _ _
  · exact cnt_tie (fun j => V (ix2 j a)) ⟨s.val, by omega⟩ 7 _ rfl _ _
  · exact cnt_gt (fun j => V (ix2 j a)) ⟨s.val, by omega⟩ 8 (by change s.val < 8; omega) _
  · exact cnt_gt (fun j => V (ix2 j a)) ⟨s.val, by omega⟩ 9 (by change s.val < 9; omega) _
  · exact cnt_gt (fun j => V (ix2 j a)) ⟨s.val, by omega⟩ 10 (by change s.val < 10; omega) _
  · exact cnt_gt (fun j => V (ix2 j a)) ⟨s.val, by omega⟩ 11 (by change s.val < 11; omega) _
  · exact cnt_gt (fun j => V (ix2 j a)) ⟨s.val, by omega⟩ 12 (by change s.val < 12; omega) _
  · exact cnt_gt (fun j => V (ix2 j a)) ⟨s.val, by omega⟩ 13 (by change s.val < 13; omega) _
  · exact cnt_gt (fun j => V (ix2 j a)) ⟨s.val, by omega⟩ 14 (by change s.val < 14; omega) _
  · exact cnt_gt (fun j => V (ix2 j a)) ⟨s.val, by omega⟩ 15 (by change s.val < 15; omega) _
  · exact cnt_gt (fun j => V (ix2 j a)) ⟨s.val, by omega⟩ 16 (by change s.val < 16; omega) _
  · exact cnt_gt (fun j => V (ix2 j a)) ⟨s.val, by omega⟩ 17 (by change s.val < 17; omega) _
  · exact cnt_gt (fun j => V (ix2 j a)) ⟨s.val, by omega⟩ 18 (by change s.val < 18; omega) _
  · exact cnt_gt (fun j => V (ix2 j a)) ⟨s.val, by omega⟩ 19 (by change s.val < 19; omega) _
  · exact cnt_gt (fun j => V (ix2 j a)) ⟨s.val, by omega⟩ 20 (by change s.val < 20; omega) _
  · exact cnt_gt (fun j => V (ix2 j a)) ⟨s.val, by omega⟩ 21 (by change s.val < 21; omega) _
  · exact cnt_gt (fun j => V (ix2 j a)) ⟨s.val, by omega⟩ 22 (by change s.val < 22; omega) _
  · exact cnt_gt (fun j => V (ix2 j a)) ⟨s.val, by omega⟩ 23 (by change s.val < 23; omega) _
  · exact cnt_gt (fun j => V (ix2 j a)) ⟨s.val, by omega⟩ 24 (by change s.val < 24; omega) _
  · exact cnt_gt (fun j => V (ix2 j a)) ⟨s.val, by omega⟩ 25 (by change s.val < 25; omega) _
  · exact cnt_gt (fun j => V (ix2 j a)) ⟨s.val, by omega⟩ 26 (by change s.val < 26; omega) _
  · exact cnt_gt (fun j => V (ix2 j a)) ⟨s.val, by omega⟩ 27 (by change s.val < 27; omega) _
  · exact cnt_gt (fun j => V (ix2 j a)) ⟨s.val, by omega⟩ 28 (by change s.val < 28; omega) _
  · exact cnt_gt (fun j => V (ix2 j a)) ⟨s.val, by omega⟩ 29 (by change s.val < 29; omega) _
  · exact cnt_gt (fun j => V (ix2 j a)) ⟨s.val, by omega⟩ 30 (by change s.val < 30; omega) _
  · exact cnt_gt (fun j => V (ix2 j a)) ⟨s.val, by omega⟩ 31 (by change s.val < 31; omega) _
  · exact cnt_gt (fun j => V (ix2 j a)) ⟨s.val, by omega⟩ 32 (by change s.val < 32; omega) _
  · exact cnt_gt (fun j => V (ix2 j a)) ⟨s.val, by omega⟩ 33 (by change s.val < 33; omega) _
  · exact cnt_gt (fun j => V (ix2 j a)) ⟨s.val, by omega⟩ 34 (by change s.val < 34; omega) _
  · exact cnt_gt (fun j => V (ix2 j a)) ⟨s.val, by omega⟩ 35 (by change s.val < 35; omega) _
  · exact cnt_gt (fun j => V (ix2 j a)) ⟨s.val, by omega⟩ 36 (by change s.val < 36; omega) _
  · exact cnt_gt (fun j => V (ix2 j a)) ⟨s.val, by omega⟩ 37 (by change s.val < 37; omega) _
  · exact cnt_gt (fun j => V (ix2 j a)) ⟨s.val, by omega⟩ 38 (by change s.val < 38; omega) _
  · exact cnt_gt (fun j => V (ix2 j a)) ⟨s.val, by omega⟩ 39 (by change s.val < 39; omega) _
  · exact cnt_gt (fun j => V (ix2 j a)) ⟨s.val, by omega⟩ 40 (by change s.val < 40; omega) _
  · exact cnt_gt (fun j => V (ix2 j a)) ⟨s.val, by omega⟩ 41 (by change s.val < 41; omega) _
  · exact cnt_gt (fun j => V (ix2 j a)) ⟨s.val, by omega⟩ 42 (by change s.val < 42; omega) _
  · exact cnt_gt (fun j => V (ix2 j a)) ⟨s.val, by omega⟩ 43 (by change s.val < 43; omega) _
  · exact cnt_gt (fun j => V (ix2 j a)) ⟨s.val, by omega⟩ 44 (by change s.val < 44; omega) _
  · exact cnt_gt (fun j => V (ix2 j a)) ⟨s.val, by omega⟩ 45 (by change s.val < 45; omega) _
  · exact cnt_gt (fun j => V (ix2 j a)) ⟨s.val, by omega⟩ 46 (by change s.val < 46; omega) _
  · exact cnt_gt (fun j => V (ix2 j a)) ⟨s.val, by omega⟩ 47 (by change s.val < 47; omega) _
  · exact cnt_gt (fun j => V (ix2 j a)) ⟨s.val, by omega⟩ 48 (by change s.val < 48; omega) _
  · exact cnt_gt (fun j => V (ix2 j a)) ⟨s.val, by omega⟩ 49 (by change s.val < 49; omega) _
  · exact cnt_gt (fun j => V (ix2 j a)) ⟨s.val, by omega⟩ 50 (by change s.val < 50; omega) _
  · exact cnt_gt (fun j => V (ix2 j a)) ⟨s.val, by omega⟩ 51 (by change s.val < 51; omega) _
  · exact cnt_gt (fun j => V (ix2 j a)) ⟨s.val, by omega⟩ 52 (by change s.val < 52; omega) _
  · exact cnt_gt (fun j => V (ix2 j a)) ⟨s.val, by omega⟩ 53 (by change s.val < 53; omega) _
  · exact cnt_gt (fun j => V (ix2 j a)) ⟨s.val, by omega⟩ 54 (by change s.val < 54; omega) _
  · exact cnt_gt (fun j => V (ix2 j a)) ⟨s.val, by omega⟩ 55 (by change s.val < 55; omega) _
  · exact cnt_gt (fun j => V (ix2 j a)) ⟨s.val, by omega⟩ 56 (by change s.val < 56; omega) _
  · exact cnt_gt (fun j => V (ix2 j a)) ⟨s.val, by omega⟩ 57 (by change s.val < 57; omega) _
  · exact cnt_gt (fun j => V (ix2 j a)) ⟨s.val, by omega⟩ 58 (by change s.val < 58; omega) _
  · exact cnt_gt (fun j => V (ix2 j a)) ⟨s.val, by omega⟩ 59 (by change s.val < 59; omega) _
  · exact cnt_gt (fun j => V (ix2 j a)) ⟨s.val, by omega⟩ 60 (by change s.val < 60; omega) _
  · exact cnt_gt (fun j => V (ix2 j a)) ⟨s.val, by omega⟩ 61 (by change s.val < 61; omega) _
  · exact cnt_gt (fun j => V (ix2 j a)) ⟨s.val, by omega⟩ 62 (by change s.val < 62; omega) _
  · exact cnt_gt (fun j => V (ix2 j a)) ⟨s.val, by omega⟩ 63 (by change s.val < 63; omega) _

set_option maxHeartbeats 4000000 in
theorem band1 (s : Fin 8) (a : Fin 128) : sl.r_173 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨8 + s.val, by omega⟩ 64 := by
  simp only [sl.v145, sl.v993, sl.v994, sl.v1001, sl.v1003, sl.v1004, sl.v122, sl.v153, sl.v1006, sl.v1007, sl.cst_44, sl.v160, sl.cst_31, sl.v177, sl.v1010, sl.v168, sl.v169, sl.v182, sl.v185, sl.v186, sl.v223, sl.v224, sl.v237, sl.v240, sl.v241, sl.v278, sl.v279, sl.v292, sl.v295, sl.v296, sl.v333, sl.v334, sl.v347, sl.v350, sl.v351, sl.v388, sl.v389, sl.v402, sl.v405, sl.v406, sl.v443, sl.v444, sl.v457, sl.v460, sl.v461, sl.v498, sl.v499, sl.v512, sl.v515, sl.v516, sl.v553, sl.v554, sl.v567, sl.v570, sl.v571, sl.v608, sl.v609, sl.v616, sl.v618, sl.v619, sl.v621, sl.v622, sl.v625, sl.v626, sl.v663, sl.v664, sl.v671, sl.v673, sl.v674, sl.v676, sl.v677, sl.v680, sl.v681, sl.v718, sl.v719, sl.v726, sl.v728, sl.v729, sl.v731, sl.v732, sl.v735, sl.v736, sl.v773, sl.v774, sl.v781, sl.v783, sl.v784, sl.v786, sl.v787, sl.v790, sl.v791, sl.v828, sl.v829, sl.v836, sl.v838, sl.v839, sl.v841, sl.v842, sl.v845, sl.v846, sl.v883, sl.v884, sl.v891, sl.v893, sl.v894, sl.v896, sl.v897, sl.v900, sl.v901, sl.v938, sl.v939, sl.v946, sl.v948, sl.v949, sl.v951, sl.v952, sl.v955, sl.v956, sl.v1011, sl.v1048, sl.v1049, sl.v1056, sl.v1059, sl.v1060, sl.v1103, sl.v1104, sl.v1111, sl.v1114, sl.v1115, sl.v1158, sl.v1159, sl.v1166, sl.v1169, sl.v1170, sl.v1213, sl.v1214, sl.v1221, sl.v1224, sl.v1225, sl.v1268, sl.v1269, sl.v1276, sl.v1279, sl.v1280, sl.v1323, sl.v1324, sl.v1331, sl.v1334, sl.v1335, sl.v1378, sl.v1379, sl.v1386, sl.v1389, sl.v1390, sl.v1433, sl.v1434, sl.v1441, sl.v1444, sl.v1445, sl.v1488, sl.v1489, sl.v1496, sl.v1499, sl.v1500, sl.v1543, sl.v1544, sl.v1551, sl.v1554, sl.v1555, sl.v1598, sl.v1599, sl.v1606, sl.v1609, sl.v1610, sl.v1653, sl.v1654, sl.v1661, sl.v1664, sl.v1665, sl.v1708, sl.v1709, sl.v1716, sl.v1719, sl.v1720, sl.v1763, sl.v1764, sl.v1771, sl.v1774, sl.v1775, sl.v1818, sl.v1819, sl.v1826, sl.v1829, sl.v1830, sl.v1873, sl.v1874, sl.v1881, sl.v1884, sl.v1885, sl.v1928, sl.v1929, sl.v1936, sl.v1939, sl.v1940, sl.v1983, sl.v1984, sl.v1991, sl.v1994, sl.v1995, sl.v2038, sl.v2039, sl.v2046, sl.v2049, sl.v2050, sl.v2093, sl.v2094, sl.v2101, sl.v2104, sl.v2105, sl.v2148, sl.v2149, sl.v2156, sl.v2159, sl.v2160, sl.v2203, sl.v2204, sl.v2211, sl.v2214, sl.v2215, sl.v2258, sl.v2259, sl.v2266, sl.v2269, sl.v2270, sl.v2313, sl.v2314, sl.v2321, sl.v2324, sl.v2325, sl.v2368, sl.v2369, sl.v2376, sl.v2379, sl.v2380, sl.v2423, sl.v2424, sl.v2431, sl.v2434, sl.v2435, sl.v2478, sl.v2479, sl.v2486, sl.v2489, sl.v2490, sl.v2533, sl.v2534, sl.v2541, sl.v2544, sl.v2545, sl.v2588, sl.v2589, sl.v2596, sl.v2599, sl.v2600, sl.v2643, sl.v2644, sl.v2651, sl.v2654, sl.v2655, sl.v2698, sl.v2699, sl.v2706, sl.v2709, sl.v2710, sl.r_8, sl.r_18, sl.r_26, sl.r_29, sl.r_39, sl.r_50, sl.r_60, sl.r_70, sl.r_78, sl.r_81, sl.r_91, sl.r_102, sl.r_112, sl.r_122, sl.r_130, sl.r_133, sl.r_143, sl.r_153, sl.r_163, sl.r_173, k0_pay633, k0_pay635, k0_pay644, k0_pay646, k0_pay654, k0_pay658, k0_pay666, k0_pay668, k0_pay677, k0_pay679, k0_pay687, k0_pay689, k0_pay698, k0_pay700, k0_pay708, k0_pay712, k0_pay720, k0_pay722, k0_pay731, k0_pay733, k0_pay741, k0_pay743, k0_pay752, k0_pay754, k0_pay762, k0_pay766, k0_pay774, k0_pay776, k0_pay785, k0_pay787, k0_pay795, k0_pay797, k0_pay806, k0_pay808]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨8 + s.val, by omega⟩ 0 (by change 0 < 8 + s.val; omega) _
  · exact cnt_ge (fun j => V (ix2 j a)) ⟨8 + s.val, by omega⟩ 1 (by change 1 < 8 + s.val; omega) _
  · exact cnt_ge (fun j => V (ix2 j a)) ⟨8 + s.val, by omega⟩ 2 (by change 2 < 8 + s.val; omega) _
  · exact cnt_ge (fun j => V (ix2 j a)) ⟨8 + s.val, by omega⟩ 3 (by change 3 < 8 + s.val; omega) _
  · exact cnt_ge (fun j => V (ix2 j a)) ⟨8 + s.val, by omega⟩ 4 (by change 4 < 8 + s.val; omega) _
  · exact cnt_ge (fun j => V (ix2 j a)) ⟨8 + s.val, by omega⟩ 5 (by change 5 < 8 + s.val; omega) _
  · exact cnt_ge (fun j => V (ix2 j a)) ⟨8 + s.val, by omega⟩ 6 (by change 6 < 8 + s.val; omega) _
  · exact cnt_ge (fun j => V (ix2 j a)) ⟨8 + s.val, by omega⟩ 7 (by change 7 < 8 + s.val; omega) _
  · exact cnt_tie (fun j => V (ix2 j a)) ⟨8 + s.val, by omega⟩ 8 _ rfl _ _
  · exact cnt_tie (fun j => V (ix2 j a)) ⟨8 + s.val, by omega⟩ 9 _ rfl _ _
  · exact cnt_tie (fun j => V (ix2 j a)) ⟨8 + s.val, by omega⟩ 10 _ rfl _ _
  · exact cnt_tie (fun j => V (ix2 j a)) ⟨8 + s.val, by omega⟩ 11 _ rfl _ _
  · exact cnt_tie (fun j => V (ix2 j a)) ⟨8 + s.val, by omega⟩ 12 _ rfl _ _
  · exact cnt_tie (fun j => V (ix2 j a)) ⟨8 + s.val, by omega⟩ 13 _ rfl _ _
  · exact cnt_tie (fun j => V (ix2 j a)) ⟨8 + s.val, by omega⟩ 14 _ rfl _ _
  · exact cnt_tie (fun j => V (ix2 j a)) ⟨8 + s.val, by omega⟩ 15 _ rfl _ _
  · exact cnt_gt (fun j => V (ix2 j a)) ⟨8 + s.val, by omega⟩ 16 (by change 8 + s.val < 16; omega) _
  · exact cnt_gt (fun j => V (ix2 j a)) ⟨8 + s.val, by omega⟩ 17 (by change 8 + s.val < 17; omega) _
  · exact cnt_gt (fun j => V (ix2 j a)) ⟨8 + s.val, by omega⟩ 18 (by change 8 + s.val < 18; omega) _
  · exact cnt_gt (fun j => V (ix2 j a)) ⟨8 + s.val, by omega⟩ 19 (by change 8 + s.val < 19; omega) _
  · exact cnt_gt (fun j => V (ix2 j a)) ⟨8 + s.val, by omega⟩ 20 (by change 8 + s.val < 20; omega) _
  · exact cnt_gt (fun j => V (ix2 j a)) ⟨8 + s.val, by omega⟩ 21 (by change 8 + s.val < 21; omega) _
  · exact cnt_gt (fun j => V (ix2 j a)) ⟨8 + s.val, by omega⟩ 22 (by change 8 + s.val < 22; omega) _
  · exact cnt_gt (fun j => V (ix2 j a)) ⟨8 + s.val, by omega⟩ 23 (by change 8 + s.val < 23; omega) _
  · exact cnt_gt (fun j => V (ix2 j a)) ⟨8 + s.val, by omega⟩ 24 (by change 8 + s.val < 24; omega) _
  · exact cnt_gt (fun j => V (ix2 j a)) ⟨8 + s.val, by omega⟩ 25 (by change 8 + s.val < 25; omega) _
  · exact cnt_gt (fun j => V (ix2 j a)) ⟨8 + s.val, by omega⟩ 26 (by change 8 + s.val < 26; omega) _
  · exact cnt_gt (fun j => V (ix2 j a)) ⟨8 + s.val, by omega⟩ 27 (by change 8 + s.val < 27; omega) _
  · exact cnt_gt (fun j => V (ix2 j a)) ⟨8 + s.val, by omega⟩ 28 (by change 8 + s.val < 28; omega) _
  · exact cnt_gt (fun j => V (ix2 j a)) ⟨8 + s.val, by omega⟩ 29 (by change 8 + s.val < 29; omega) _
  · exact cnt_gt (fun j => V (ix2 j a)) ⟨8 + s.val, by omega⟩ 30 (by change 8 + s.val < 30; omega) _
  · exact cnt_gt (fun j => V (ix2 j a)) ⟨8 + s.val, by omega⟩ 31 (by change 8 + s.val < 31; omega) _
  · exact cnt_gt (fun j => V (ix2 j a)) ⟨8 + s.val, by omega⟩ 32 (by change 8 + s.val < 32; omega) _
  · exact cnt_gt (fun j => V (ix2 j a)) ⟨8 + s.val, by omega⟩ 33 (by change 8 + s.val < 33; omega) _
  · exact cnt_gt (fun j => V (ix2 j a)) ⟨8 + s.val, by omega⟩ 34 (by change 8 + s.val < 34; omega) _
  · exact cnt_gt (fun j => V (ix2 j a)) ⟨8 + s.val, by omega⟩ 35 (by change 8 + s.val < 35; omega) _
  · exact cnt_gt (fun j => V (ix2 j a)) ⟨8 + s.val, by omega⟩ 36 (by change 8 + s.val < 36; omega) _
  · exact cnt_gt (fun j => V (ix2 j a)) ⟨8 + s.val, by omega⟩ 37 (by change 8 + s.val < 37; omega) _
  · exact cnt_gt (fun j => V (ix2 j a)) ⟨8 + s.val, by omega⟩ 38 (by change 8 + s.val < 38; omega) _
  · exact cnt_gt (fun j => V (ix2 j a)) ⟨8 + s.val, by omega⟩ 39 (by change 8 + s.val < 39; omega) _
  · exact cnt_gt (fun j => V (ix2 j a)) ⟨8 + s.val, by omega⟩ 40 (by change 8 + s.val < 40; omega) _
  · exact cnt_gt (fun j => V (ix2 j a)) ⟨8 + s.val, by omega⟩ 41 (by change 8 + s.val < 41; omega) _
  · exact cnt_gt (fun j => V (ix2 j a)) ⟨8 + s.val, by omega⟩ 42 (by change 8 + s.val < 42; omega) _
  · exact cnt_gt (fun j => V (ix2 j a)) ⟨8 + s.val, by omega⟩ 43 (by change 8 + s.val < 43; omega) _
  · exact cnt_gt (fun j => V (ix2 j a)) ⟨8 + s.val, by omega⟩ 44 (by change 8 + s.val < 44; omega) _
  · exact cnt_gt (fun j => V (ix2 j a)) ⟨8 + s.val, by omega⟩ 45 (by change 8 + s.val < 45; omega) _
  · exact cnt_gt (fun j => V (ix2 j a)) ⟨8 + s.val, by omega⟩ 46 (by change 8 + s.val < 46; omega) _
  · exact cnt_gt (fun j => V (ix2 j a)) ⟨8 + s.val, by omega⟩ 47 (by change 8 + s.val < 47; omega) _
  · exact cnt_gt (fun j => V (ix2 j a)) ⟨8 + s.val, by omega⟩ 48 (by change 8 + s.val < 48; omega) _
  · exact cnt_gt (fun j => V (ix2 j a)) ⟨8 + s.val, by omega⟩ 49 (by change 8 + s.val < 49; omega) _
  · exact cnt_gt (fun j => V (ix2 j a)) ⟨8 + s.val, by omega⟩ 50 (by change 8 + s.val < 50; omega) _
  · exact cnt_gt (fun j => V (ix2 j a)) ⟨8 + s.val, by omega⟩ 51 (by change 8 + s.val < 51; omega) _
  · exact cnt_gt (fun j => V (ix2 j a)) ⟨8 + s.val, by omega⟩ 52 (by change 8 + s.val < 52; omega) _
  · exact cnt_gt (fun j => V (ix2 j a)) ⟨8 + s.val, by omega⟩ 53 (by change 8 + s.val < 53; omega) _
  · exact cnt_gt (fun j => V (ix2 j a)) ⟨8 + s.val, by omega⟩ 54 (by change 8 + s.val < 54; omega) _
  · exact cnt_gt (fun j => V (ix2 j a)) ⟨8 + s.val, by omega⟩ 55 (by change 8 + s.val < 55; omega) _
  · exact cnt_gt (fun j => V (ix2 j a)) ⟨8 + s.val, by omega⟩ 56 (by change 8 + s.val < 56; omega) _
  · exact cnt_gt (fun j => V (ix2 j a)) ⟨8 + s.val, by omega⟩ 57 (by change 8 + s.val < 57; omega) _
  · exact cnt_gt (fun j => V (ix2 j a)) ⟨8 + s.val, by omega⟩ 58 (by change 8 + s.val < 58; omega) _
  · exact cnt_gt (fun j => V (ix2 j a)) ⟨8 + s.val, by omega⟩ 59 (by change 8 + s.val < 59; omega) _
  · exact cnt_gt (fun j => V (ix2 j a)) ⟨8 + s.val, by omega⟩ 60 (by change 8 + s.val < 60; omega) _
  · exact cnt_gt (fun j => V (ix2 j a)) ⟨8 + s.val, by omega⟩ 61 (by change 8 + s.val < 61; omega) _
  · exact cnt_gt (fun j => V (ix2 j a)) ⟨8 + s.val, by omega⟩ 62 (by change 8 + s.val < 62; omega) _
  · exact cnt_gt (fun j => V (ix2 j a)) ⟨8 + s.val, by omega⟩ 63 (by change 8 + s.val < 63; omega) _

set_option maxHeartbeats 4000000 in
theorem band2 (s : Fin 8) (a : Fin 128) : sl.r_164 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨16 + s.val, by omega⟩ 63 := by
  simp only [sl.r_19, sl.v146, sl.v993, sl.v994, sl.v1013, sl.cst_44, sl.v160, sl.cst_31, sl.v177, sl.v1016, sl.v168, sl.v169, sl.v188, sl.v191, sl.v192, sl.v223, sl.v224, sl.v243, sl.v246, sl.v247, sl.v278, sl.v279, sl.v298, sl.v301, sl.v302, sl.v333, sl.v334, sl.v353, sl.v356, sl.v357, sl.v388, sl.v389, sl.v408, sl.v411, sl.v412, sl.v443, sl.v444, sl.v463, sl.v466, sl.v467, sl.v498, sl.v499, sl.v518, sl.v521, sl.v522, sl.v553, sl.v554, sl.v573, sl.v576, sl.v577, sl.v608, sl.v609, sl.v628, sl.v631, sl.v632, sl.v663, sl.v664, sl.v683, sl.v686, sl.v687, sl.v718, sl.v719, sl.v738, sl.v741, sl.v742, sl.v773, sl.v774, sl.v793, sl.v796, sl.v797, sl.v828, sl.v829, sl.v848, sl.v851, sl.v852, sl.v883, sl.v884, sl.v903, sl.v906, sl.v907, sl.v938, sl.v939, sl.v958, sl.v961, sl.v962, sl.v1017, sl.v1048, sl.v1049, sl.v1062, sl.v1064, sl.v1065, sl.v122, sl.v154, sl.v1067, sl.v1068, sl.v1071, sl.v1072, sl.v1103, sl.v1104, sl.v1117, sl.v1119, sl.v1120, sl.v1122, sl.v1123, sl.v1126, sl.v1127, sl.v1158, sl.v1159, sl.v1172, sl.v1174, sl.v1175, sl.v1177, sl.v1178, sl.v1181, sl.v1182, sl.v1213, sl.v1214, sl.v1227, sl.v1229, sl.v1230, sl.v1232, sl.v1233, sl.v1236, sl.v1237, sl.v1268, sl.v1269, sl.v1282, sl.v1284, sl.v1285, sl.v1287, sl.v1288, sl.v1291, sl.v1292, sl.v1323, sl.v1324, sl.v1337, sl.v1339, sl.v1340, sl.v1342, sl.v1343, sl.v1346, sl.v1347, sl.v1378, sl.v1379, sl.v1392, sl.v1394, sl.v1395, sl.v1397, sl.v1398, sl.v1401, sl.v1402, sl.v1433, sl.v1434, sl.v1447, sl.v1449, sl.v1450, sl.v1452, sl.v1453, sl.v1456, sl.v1457, sl.v1488, sl.v1489, sl.v1502, sl.v1505, sl.v1506, sl.v1543, sl.v1544, sl.v1557, sl.v1560, sl.v1561, sl.v1598, sl.v1599, sl.v1612, sl.v1615, sl.v1616, sl.v1653, sl.v1654, sl.v1667, sl.v1670, sl.v1671, sl.v1708, sl.v1709, sl.v1722, sl.v1725, sl.v1726, sl.v1763, sl.v1764, sl.v1777, sl.v1780, sl.v1781, sl.v1818, sl.v1819, sl.v1832, sl.v1835, sl.v1836, sl.v1873, sl.v1874, sl.v1887, sl.v1890, sl.v1891, sl.v1928, sl.v1929, sl.v1942, sl.v1945, sl.v1946, sl.v1983, sl.v1984, sl.v1997, sl.v2000, sl.v2001, sl.v2038, sl.v2039, sl.v2052, sl.v2055, sl.v2056, sl.v2093, sl.v2094, sl.v2107, sl.v2110, sl.v2111, sl.v2148, sl.v2149, sl.v2162, sl.v2165, sl.v2166, sl.v2203, sl.v2204, sl.v2217, sl.v2220, sl.v2221, sl.v2258, sl.v2259, sl.v2272, sl.v2275, sl.v2276, sl.v2313, sl.v2314, sl.v2327, sl.v2330, sl.v2331, sl.v2368, sl.v2369, sl.v2382, sl.v2385, sl.v2386, sl.v2423, sl.v2424, sl.v2437, sl.v2440, sl.v2441, sl.v2478, sl.v2479, sl.v2492, sl.v2495, sl.v2496, sl.v2533, sl.v2534, sl.v2547, sl.v2550, sl.v2551, sl.v2588, sl.v2589, sl.v2602, sl.v2605, sl.v2606, sl.v2643, sl.v2644, sl.v2657, sl.v2660, sl.v2661, sl.v2698, sl.v2699, sl.v2712, sl.v2715, sl.v2716, sl.r_9, sl.r_20, sl.r_26, sl.r_30, sl.r_40, sl.r_51, sl.r_61, sl.r_71, sl.r_72, sl.r_78, sl.r_82, sl.r_92, sl.r_103, sl.r_113, sl.r_123, sl.r_124, sl.r_130, sl.r_134, sl.r_144, sl.r_154, sl.r_164, k0_pay633, k0_pay636, k0_pay644, k0_pay647, k0_pay648, k0_pay654, k0_pay659, k0_pay666, k0_pay669, k0_pay677, k0_pay680, k0_pay687, k0_pay690, k0_pay698, k0_pay701, k0_pay702, k0_pay708, k0_pay713, k0_pay720, k0_pay723, k0_pay731, k0_pay734, k0_pay741, k0_pay744, k0_pay752, k0_pay755, k0_pay756, k0_pay762, k0_pay767, k0_pay774, k0_pay777, k0_pay785, k0_pay788, k0_pay795, k0_pay798]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨16 + s.val, by omega⟩ 0 (by change 0 < 16 + s.val; omega) _
  · exact cnt_ge (fun j => V (ix2 j a)) ⟨16 + s.val, by omega⟩ 1 (by change 1 < 16 + s.val; omega) _
  · exact cnt_ge (fun j => V (ix2 j a)) ⟨16 + s.val, by omega⟩ 2 (by change 2 < 16 + s.val; omega) _
  · exact cnt_ge (fun j => V (ix2 j a)) ⟨16 + s.val, by omega⟩ 3 (by change 3 < 16 + s.val; omega) _
  · exact cnt_ge (fun j => V (ix2 j a)) ⟨16 + s.val, by omega⟩ 4 (by change 4 < 16 + s.val; omega) _
  · exact cnt_ge (fun j => V (ix2 j a)) ⟨16 + s.val, by omega⟩ 5 (by change 5 < 16 + s.val; omega) _
  · exact cnt_ge (fun j => V (ix2 j a)) ⟨16 + s.val, by omega⟩ 6 (by change 6 < 16 + s.val; omega) _
  · exact cnt_ge (fun j => V (ix2 j a)) ⟨16 + s.val, by omega⟩ 7 (by change 7 < 16 + s.val; omega) _
  · exact cnt_ge (fun j => V (ix2 j a)) ⟨16 + s.val, by omega⟩ 8 (by change 8 < 16 + s.val; omega) _
  · exact cnt_ge (fun j => V (ix2 j a)) ⟨16 + s.val, by omega⟩ 9 (by change 9 < 16 + s.val; omega) _
  · exact cnt_ge (fun j => V (ix2 j a)) ⟨16 + s.val, by omega⟩ 10 (by change 10 < 16 + s.val; omega) _
  · exact cnt_ge (fun j => V (ix2 j a)) ⟨16 + s.val, by omega⟩ 11 (by change 11 < 16 + s.val; omega) _
  · exact cnt_ge (fun j => V (ix2 j a)) ⟨16 + s.val, by omega⟩ 12 (by change 12 < 16 + s.val; omega) _
  · exact cnt_ge (fun j => V (ix2 j a)) ⟨16 + s.val, by omega⟩ 13 (by change 13 < 16 + s.val; omega) _
  · exact cnt_ge (fun j => V (ix2 j a)) ⟨16 + s.val, by omega⟩ 14 (by change 14 < 16 + s.val; omega) _
  · exact cnt_ge (fun j => V (ix2 j a)) ⟨16 + s.val, by omega⟩ 15 (by change 15 < 16 + s.val; omega) _
  · exact cnt_tie (fun j => V (ix2 j a)) ⟨16 + s.val, by omega⟩ 16 _ rfl _ _
  · exact cnt_tie (fun j => V (ix2 j a)) ⟨16 + s.val, by omega⟩ 17 _ rfl _ _
  · exact cnt_tie (fun j => V (ix2 j a)) ⟨16 + s.val, by omega⟩ 18 _ rfl _ _
  · exact cnt_tie (fun j => V (ix2 j a)) ⟨16 + s.val, by omega⟩ 19 _ rfl _ _
  · exact cnt_tie (fun j => V (ix2 j a)) ⟨16 + s.val, by omega⟩ 20 _ rfl _ _
  · exact cnt_tie (fun j => V (ix2 j a)) ⟨16 + s.val, by omega⟩ 21 _ rfl _ _
  · exact cnt_tie (fun j => V (ix2 j a)) ⟨16 + s.val, by omega⟩ 22 _ rfl _ _
  · exact cnt_tie (fun j => V (ix2 j a)) ⟨16 + s.val, by omega⟩ 23 _ rfl _ _
  · exact cnt_gt (fun j => V (ix2 j a)) ⟨16 + s.val, by omega⟩ 24 (by change 16 + s.val < 24; omega) _
  · exact cnt_gt (fun j => V (ix2 j a)) ⟨16 + s.val, by omega⟩ 25 (by change 16 + s.val < 25; omega) _
  · exact cnt_gt (fun j => V (ix2 j a)) ⟨16 + s.val, by omega⟩ 26 (by change 16 + s.val < 26; omega) _
  · exact cnt_gt (fun j => V (ix2 j a)) ⟨16 + s.val, by omega⟩ 27 (by change 16 + s.val < 27; omega) _
  · exact cnt_gt (fun j => V (ix2 j a)) ⟨16 + s.val, by omega⟩ 28 (by change 16 + s.val < 28; omega) _
  · exact cnt_gt (fun j => V (ix2 j a)) ⟨16 + s.val, by omega⟩ 29 (by change 16 + s.val < 29; omega) _
  · exact cnt_gt (fun j => V (ix2 j a)) ⟨16 + s.val, by omega⟩ 30 (by change 16 + s.val < 30; omega) _
  · exact cnt_gt (fun j => V (ix2 j a)) ⟨16 + s.val, by omega⟩ 31 (by change 16 + s.val < 31; omega) _
  · exact cnt_gt (fun j => V (ix2 j a)) ⟨16 + s.val, by omega⟩ 32 (by change 16 + s.val < 32; omega) _
  · exact cnt_gt (fun j => V (ix2 j a)) ⟨16 + s.val, by omega⟩ 33 (by change 16 + s.val < 33; omega) _
  · exact cnt_gt (fun j => V (ix2 j a)) ⟨16 + s.val, by omega⟩ 34 (by change 16 + s.val < 34; omega) _
  · exact cnt_gt (fun j => V (ix2 j a)) ⟨16 + s.val, by omega⟩ 35 (by change 16 + s.val < 35; omega) _
  · exact cnt_gt (fun j => V (ix2 j a)) ⟨16 + s.val, by omega⟩ 36 (by change 16 + s.val < 36; omega) _
  · exact cnt_gt (fun j => V (ix2 j a)) ⟨16 + s.val, by omega⟩ 37 (by change 16 + s.val < 37; omega) _
  · exact cnt_gt (fun j => V (ix2 j a)) ⟨16 + s.val, by omega⟩ 38 (by change 16 + s.val < 38; omega) _
  · exact cnt_gt (fun j => V (ix2 j a)) ⟨16 + s.val, by omega⟩ 39 (by change 16 + s.val < 39; omega) _
  · exact cnt_gt (fun j => V (ix2 j a)) ⟨16 + s.val, by omega⟩ 40 (by change 16 + s.val < 40; omega) _
  · exact cnt_gt (fun j => V (ix2 j a)) ⟨16 + s.val, by omega⟩ 41 (by change 16 + s.val < 41; omega) _
  · exact cnt_gt (fun j => V (ix2 j a)) ⟨16 + s.val, by omega⟩ 42 (by change 16 + s.val < 42; omega) _
  · exact cnt_gt (fun j => V (ix2 j a)) ⟨16 + s.val, by omega⟩ 43 (by change 16 + s.val < 43; omega) _
  · exact cnt_gt (fun j => V (ix2 j a)) ⟨16 + s.val, by omega⟩ 44 (by change 16 + s.val < 44; omega) _
  · exact cnt_gt (fun j => V (ix2 j a)) ⟨16 + s.val, by omega⟩ 45 (by change 16 + s.val < 45; omega) _
  · exact cnt_gt (fun j => V (ix2 j a)) ⟨16 + s.val, by omega⟩ 46 (by change 16 + s.val < 46; omega) _
  · exact cnt_gt (fun j => V (ix2 j a)) ⟨16 + s.val, by omega⟩ 47 (by change 16 + s.val < 47; omega) _
  · exact cnt_gt (fun j => V (ix2 j a)) ⟨16 + s.val, by omega⟩ 48 (by change 16 + s.val < 48; omega) _
  · exact cnt_gt (fun j => V (ix2 j a)) ⟨16 + s.val, by omega⟩ 49 (by change 16 + s.val < 49; omega) _
  · exact cnt_gt (fun j => V (ix2 j a)) ⟨16 + s.val, by omega⟩ 50 (by change 16 + s.val < 50; omega) _
  · exact cnt_gt (fun j => V (ix2 j a)) ⟨16 + s.val, by omega⟩ 51 (by change 16 + s.val < 51; omega) _
  · exact cnt_gt (fun j => V (ix2 j a)) ⟨16 + s.val, by omega⟩ 52 (by change 16 + s.val < 52; omega) _
  · exact cnt_gt (fun j => V (ix2 j a)) ⟨16 + s.val, by omega⟩ 53 (by change 16 + s.val < 53; omega) _
  · exact cnt_gt (fun j => V (ix2 j a)) ⟨16 + s.val, by omega⟩ 54 (by change 16 + s.val < 54; omega) _
  · exact cnt_gt (fun j => V (ix2 j a)) ⟨16 + s.val, by omega⟩ 55 (by change 16 + s.val < 55; omega) _
  · exact cnt_gt (fun j => V (ix2 j a)) ⟨16 + s.val, by omega⟩ 56 (by change 16 + s.val < 56; omega) _
  · exact cnt_gt (fun j => V (ix2 j a)) ⟨16 + s.val, by omega⟩ 57 (by change 16 + s.val < 57; omega) _
  · exact cnt_gt (fun j => V (ix2 j a)) ⟨16 + s.val, by omega⟩ 58 (by change 16 + s.val < 58; omega) _
  · exact cnt_gt (fun j => V (ix2 j a)) ⟨16 + s.val, by omega⟩ 59 (by change 16 + s.val < 59; omega) _
  · exact cnt_gt (fun j => V (ix2 j a)) ⟨16 + s.val, by omega⟩ 60 (by change 16 + s.val < 60; omega) _
  · exact cnt_gt (fun j => V (ix2 j a)) ⟨16 + s.val, by omega⟩ 61 (by change 16 + s.val < 61; omega) _
  · exact cnt_gt (fun j => V (ix2 j a)) ⟨16 + s.val, by omega⟩ 62 (by change 16 + s.val < 62; omega) _

set_option maxHeartbeats 4000000 in
theorem band3 (s : Fin 8) (a : Fin 128) : sl.r_166 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨24 + s.val, by omega⟩ 63 := by
  simp only [sl.cst_44, sl.v147, sl.r_10, sl.v993, sl.v994, sl.v1019, sl.v160, sl.cst_31, sl.v177, sl.v1022, sl.v168, sl.v169, sl.v194, sl.v197, sl.v198, sl.v223, sl.v224, sl.v249, sl.v252, sl.v253, sl.v278, sl.v279, sl.v304, sl.v307, sl.v308, sl.v333, sl.v334, sl.v359, sl.v362, sl.v363, sl.v388, sl.v389, sl.v414, sl.v417, sl.v418, sl.v443, sl.v444, sl.v469, sl.v472, sl.v473, sl.v498, sl.v499, sl.v524, sl.v527, sl.v528, sl.v553, sl.v554, sl.v579, sl.v582, sl.v583, sl.v608, sl.v609, sl.v634, sl.v637, sl.v638, sl.v663, sl.v664, sl.v689, sl.v692, sl.v693, sl.v718, sl.v719, sl.v744, sl.v747, sl.v748, sl.v773, sl.v774, sl.v799, sl.v802, sl.v803, sl.v828, sl.v829, sl.v854, sl.v857, sl.v858, sl.v883, sl.v884, sl.v909, sl.v912, sl.v913, sl.v938, sl.v939, sl.v964, sl.v967, sl.v968, sl.v1023, sl.v1048, sl.v1049, sl.v1074, sl.v1077, sl.v1078, sl.v1103, sl.v1104, sl.v1129, sl.v1132, sl.v1133, sl.v1158, sl.v1159, sl.v1184, sl.v1187, sl.v1188, sl.v1213, sl.v1214, sl.v1239, sl.v1242, sl.v1243, sl.v1268, sl.v1269, sl.v1294, sl.v1297, sl.v1298, sl.v1323, sl.v1324, sl.v1349, sl.v1352, sl.v1353, sl.v1378, sl.v1379, sl.v1404, sl.v1407, sl.v1408, sl.v1433, sl.v1434, sl.v1459, sl.v1462, sl.v1463, sl.v1488, sl.v1489, sl.v1508, sl.v1510, sl.v1511, sl.v122, sl.v155, sl.v1513, sl.v1514, sl.v1517, sl.v1518, sl.v1543, sl.v1544, sl.v1563, sl.v1565, sl.v1566, sl.v1568, sl.v1569, sl.v1572, sl.v1573, sl.v1598, sl.v1599, sl.v1618, sl.v1620, sl.v1621, sl.v1623, sl.v1624, sl.v1627, sl.v1628, sl.v1653, sl.v1654, sl.v1673, sl.v1675, sl.v1676, sl.v1678, sl.v1679, sl.v1682, sl.v1683, sl.v1708, sl.v1709, sl.v1728, sl.v1730, sl.v1731, sl.v1733, sl.v1734, sl.v1737, sl.v1738, sl.v1763, sl.v1764, sl.v1783, sl.v1785, sl.v1786, sl.v1788, sl.v1789, sl.v1792, sl.v1793, sl.v1818, sl.v1819, sl.v1838, sl.v1840, sl.v1841, sl.v1843, sl.v1844, sl.v1847, sl.v1848, sl.v1873, sl.v1874, sl.v1893, sl.v1895, sl.v1896, sl.v1898, sl.v1899, sl.v1902, sl.v1903, sl.v1928, sl.v1929, sl.v1948, sl.v1951, sl.v1952, sl.v1983, sl.v1984, sl.v2003, sl.v2006, sl.v2007, sl.v2038, sl.v2039, sl.v2058, sl.v2061, sl.v2062, sl.v2093, sl.v2094, sl.v2113, sl.v2116, sl.v2117, sl.v2148, sl.v2149, sl.v2168, sl.v2171, sl.v2172, sl.v2203, sl.v2204, sl.v2223, sl.v2226, sl.v2227, sl.v2258, sl.v2259, sl.v2278, sl.v2281, sl.v2282, sl.v2313, sl.v2314, sl.v2333, sl.v2336, sl.v2337, sl.v2368, sl.v2369, sl.v2388, sl.v2391, sl.v2392, sl.v2423, sl.v2424, sl.v2443, sl.v2446, sl.v2447, sl.v2478, sl.v2479, sl.v2498, sl.v2501, sl.v2502, sl.v2533, sl.v2534, sl.v2553, sl.v2556, sl.v2557, sl.v2588, sl.v2589, sl.v2608, sl.v2611, sl.v2612, sl.v2643, sl.v2644, sl.v2663, sl.v2666, sl.v2667, sl.v2698, sl.v2699, sl.v2718, sl.v2721, sl.v2722, sl.r_11, sl.r_16, sl.r_21, sl.r_26, sl.r_31, sl.r_41, sl.r_52, sl.r_62, sl.r_63, sl.r_68, sl.r_73, sl.r_78, sl.r_83, sl.r_93, sl.r_104, sl.r_114, sl.r_115, sl.r_120, sl.r_125, sl.r_130, sl.r_135, sl.r_145, sl.r_155, sl.r_165, sl.r_166, k0_pay633, k0_pay637, k0_pay638, k0_pay639, k0_pay644, k0_pay649, k0_pay654, k0_pay660, k0_pay666, k0_pay670, k0_pay677, k0_pay681, k0_pay687, k0_pay691, k0_pay692, k0_pay693, k0_pay698, k0_pay703, k0_pay708, k0_pay714, k0_pay720, k0_pay724, k0_pay731, k0_pay735, k0_pay741, k0_pay745, k0_pay746, k0_pay747, k0_pay752, k0_pay757, k0_pay762, k0_pay768, k0_pay774, k0_pay778, k0_pay785, k0_pay789, k0_pay795, k0_pay799, k0_pay800, k0_pay801]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨24 + s.val, by omega⟩ 0 (by change 0 < 24 + s.val; omega) _
  · exact cnt_ge (fun j => V (ix2 j a)) ⟨24 + s.val, by omega⟩ 1 (by change 1 < 24 + s.val; omega) _
  · exact cnt_ge (fun j => V (ix2 j a)) ⟨24 + s.val, by omega⟩ 2 (by change 2 < 24 + s.val; omega) _
  · exact cnt_ge (fun j => V (ix2 j a)) ⟨24 + s.val, by omega⟩ 3 (by change 3 < 24 + s.val; omega) _
  · exact cnt_ge (fun j => V (ix2 j a)) ⟨24 + s.val, by omega⟩ 4 (by change 4 < 24 + s.val; omega) _
  · exact cnt_ge (fun j => V (ix2 j a)) ⟨24 + s.val, by omega⟩ 5 (by change 5 < 24 + s.val; omega) _
  · exact cnt_ge (fun j => V (ix2 j a)) ⟨24 + s.val, by omega⟩ 6 (by change 6 < 24 + s.val; omega) _
  · exact cnt_ge (fun j => V (ix2 j a)) ⟨24 + s.val, by omega⟩ 7 (by change 7 < 24 + s.val; omega) _
  · exact cnt_ge (fun j => V (ix2 j a)) ⟨24 + s.val, by omega⟩ 8 (by change 8 < 24 + s.val; omega) _
  · exact cnt_ge (fun j => V (ix2 j a)) ⟨24 + s.val, by omega⟩ 9 (by change 9 < 24 + s.val; omega) _
  · exact cnt_ge (fun j => V (ix2 j a)) ⟨24 + s.val, by omega⟩ 10 (by change 10 < 24 + s.val; omega) _
  · exact cnt_ge (fun j => V (ix2 j a)) ⟨24 + s.val, by omega⟩ 11 (by change 11 < 24 + s.val; omega) _
  · exact cnt_ge (fun j => V (ix2 j a)) ⟨24 + s.val, by omega⟩ 12 (by change 12 < 24 + s.val; omega) _
  · exact cnt_ge (fun j => V (ix2 j a)) ⟨24 + s.val, by omega⟩ 13 (by change 13 < 24 + s.val; omega) _
  · exact cnt_ge (fun j => V (ix2 j a)) ⟨24 + s.val, by omega⟩ 14 (by change 14 < 24 + s.val; omega) _
  · exact cnt_ge (fun j => V (ix2 j a)) ⟨24 + s.val, by omega⟩ 15 (by change 15 < 24 + s.val; omega) _
  · exact cnt_ge (fun j => V (ix2 j a)) ⟨24 + s.val, by omega⟩ 16 (by change 16 < 24 + s.val; omega) _
  · exact cnt_ge (fun j => V (ix2 j a)) ⟨24 + s.val, by omega⟩ 17 (by change 17 < 24 + s.val; omega) _
  · exact cnt_ge (fun j => V (ix2 j a)) ⟨24 + s.val, by omega⟩ 18 (by change 18 < 24 + s.val; omega) _
  · exact cnt_ge (fun j => V (ix2 j a)) ⟨24 + s.val, by omega⟩ 19 (by change 19 < 24 + s.val; omega) _
  · exact cnt_ge (fun j => V (ix2 j a)) ⟨24 + s.val, by omega⟩ 20 (by change 20 < 24 + s.val; omega) _
  · exact cnt_ge (fun j => V (ix2 j a)) ⟨24 + s.val, by omega⟩ 21 (by change 21 < 24 + s.val; omega) _
  · exact cnt_ge (fun j => V (ix2 j a)) ⟨24 + s.val, by omega⟩ 22 (by change 22 < 24 + s.val; omega) _
  · exact cnt_ge (fun j => V (ix2 j a)) ⟨24 + s.val, by omega⟩ 23 (by change 23 < 24 + s.val; omega) _
  · exact cnt_tie (fun j => V (ix2 j a)) ⟨24 + s.val, by omega⟩ 24 _ rfl _ _
  · exact cnt_tie (fun j => V (ix2 j a)) ⟨24 + s.val, by omega⟩ 25 _ rfl _ _
  · exact cnt_tie (fun j => V (ix2 j a)) ⟨24 + s.val, by omega⟩ 26 _ rfl _ _
  · exact cnt_tie (fun j => V (ix2 j a)) ⟨24 + s.val, by omega⟩ 27 _ rfl _ _
  · exact cnt_tie (fun j => V (ix2 j a)) ⟨24 + s.val, by omega⟩ 28 _ rfl _ _
  · exact cnt_tie (fun j => V (ix2 j a)) ⟨24 + s.val, by omega⟩ 29 _ rfl _ _
  · exact cnt_tie (fun j => V (ix2 j a)) ⟨24 + s.val, by omega⟩ 30 _ rfl _ _
  · exact cnt_tie (fun j => V (ix2 j a)) ⟨24 + s.val, by omega⟩ 31 _ rfl _ _
  · exact cnt_gt (fun j => V (ix2 j a)) ⟨24 + s.val, by omega⟩ 32 (by change 24 + s.val < 32; omega) _
  · exact cnt_gt (fun j => V (ix2 j a)) ⟨24 + s.val, by omega⟩ 33 (by change 24 + s.val < 33; omega) _
  · exact cnt_gt (fun j => V (ix2 j a)) ⟨24 + s.val, by omega⟩ 34 (by change 24 + s.val < 34; omega) _
  · exact cnt_gt (fun j => V (ix2 j a)) ⟨24 + s.val, by omega⟩ 35 (by change 24 + s.val < 35; omega) _
  · exact cnt_gt (fun j => V (ix2 j a)) ⟨24 + s.val, by omega⟩ 36 (by change 24 + s.val < 36; omega) _
  · exact cnt_gt (fun j => V (ix2 j a)) ⟨24 + s.val, by omega⟩ 37 (by change 24 + s.val < 37; omega) _
  · exact cnt_gt (fun j => V (ix2 j a)) ⟨24 + s.val, by omega⟩ 38 (by change 24 + s.val < 38; omega) _
  · exact cnt_gt (fun j => V (ix2 j a)) ⟨24 + s.val, by omega⟩ 39 (by change 24 + s.val < 39; omega) _
  · exact cnt_gt (fun j => V (ix2 j a)) ⟨24 + s.val, by omega⟩ 40 (by change 24 + s.val < 40; omega) _
  · exact cnt_gt (fun j => V (ix2 j a)) ⟨24 + s.val, by omega⟩ 41 (by change 24 + s.val < 41; omega) _
  · exact cnt_gt (fun j => V (ix2 j a)) ⟨24 + s.val, by omega⟩ 42 (by change 24 + s.val < 42; omega) _
  · exact cnt_gt (fun j => V (ix2 j a)) ⟨24 + s.val, by omega⟩ 43 (by change 24 + s.val < 43; omega) _
  · exact cnt_gt (fun j => V (ix2 j a)) ⟨24 + s.val, by omega⟩ 44 (by change 24 + s.val < 44; omega) _
  · exact cnt_gt (fun j => V (ix2 j a)) ⟨24 + s.val, by omega⟩ 45 (by change 24 + s.val < 45; omega) _
  · exact cnt_gt (fun j => V (ix2 j a)) ⟨24 + s.val, by omega⟩ 46 (by change 24 + s.val < 46; omega) _
  · exact cnt_gt (fun j => V (ix2 j a)) ⟨24 + s.val, by omega⟩ 47 (by change 24 + s.val < 47; omega) _
  · exact cnt_gt (fun j => V (ix2 j a)) ⟨24 + s.val, by omega⟩ 48 (by change 24 + s.val < 48; omega) _
  · exact cnt_gt (fun j => V (ix2 j a)) ⟨24 + s.val, by omega⟩ 49 (by change 24 + s.val < 49; omega) _
  · exact cnt_gt (fun j => V (ix2 j a)) ⟨24 + s.val, by omega⟩ 50 (by change 24 + s.val < 50; omega) _
  · exact cnt_gt (fun j => V (ix2 j a)) ⟨24 + s.val, by omega⟩ 51 (by change 24 + s.val < 51; omega) _
  · exact cnt_gt (fun j => V (ix2 j a)) ⟨24 + s.val, by omega⟩ 52 (by change 24 + s.val < 52; omega) _
  · exact cnt_gt (fun j => V (ix2 j a)) ⟨24 + s.val, by omega⟩ 53 (by change 24 + s.val < 53; omega) _
  · exact cnt_gt (fun j => V (ix2 j a)) ⟨24 + s.val, by omega⟩ 54 (by change 24 + s.val < 54; omega) _
  · exact cnt_gt (fun j => V (ix2 j a)) ⟨24 + s.val, by omega⟩ 55 (by change 24 + s.val < 55; omega) _
  · exact cnt_gt (fun j => V (ix2 j a)) ⟨24 + s.val, by omega⟩ 56 (by change 24 + s.val < 56; omega) _
  · exact cnt_gt (fun j => V (ix2 j a)) ⟨24 + s.val, by omega⟩ 57 (by change 24 + s.val < 57; omega) _
  · exact cnt_gt (fun j => V (ix2 j a)) ⟨24 + s.val, by omega⟩ 58 (by change 24 + s.val < 58; omega) _
  · exact cnt_gt (fun j => V (ix2 j a)) ⟨24 + s.val, by omega⟩ 59 (by change 24 + s.val < 59; omega) _
  · exact cnt_gt (fun j => V (ix2 j a)) ⟨24 + s.val, by omega⟩ 60 (by change 24 + s.val < 60; omega) _
  · exact cnt_gt (fun j => V (ix2 j a)) ⟨24 + s.val, by omega⟩ 61 (by change 24 + s.val < 61; omega) _
  · exact cnt_gt (fun j => V (ix2 j a)) ⟨24 + s.val, by omega⟩ 62 (by change 24 + s.val < 62; omega) _

set_option maxHeartbeats 4000000 in
theorem band4 (s : Fin 8) (a : Fin 128) : sl.r_167 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨32 + s.val, by omega⟩ 63 := by
  simp only [sl.r_6, sl.v148, sl.v993, sl.v994, sl.v1025, sl.cst_44, sl.v160, sl.cst_31, sl.v177, sl.v1028, sl.v168, sl.v169, sl.v200, sl.v203, sl.v204, sl.v223, sl.v224, sl.v255, sl.v258, sl.v259, sl.v278, sl.v279, sl.v310, sl.v313, sl.v314, sl.v333, sl.v334, sl.v365, sl.v368, sl.v369, sl.v388, sl.v389, sl.v420, sl.v423, sl.v424, sl.v443, sl.v444, sl.v475, sl.v478, sl.v479, sl.v498, sl.v499, sl.v530, sl.v533, sl.v534, sl.v553, sl.v554, sl.v585, sl.v588, sl.v589, sl.v608, sl.v609, sl.v640, sl.v643, sl.v644, sl.v663, sl.v664, sl.v695, sl.v698, sl.v699, sl.v718, sl.v719, sl.v750, sl.v753, sl.v754, sl.v773, sl.v774, sl.v805, sl.v808, sl.v809, sl.v828, sl.v829, sl.v860, sl.v863, sl.v864, sl.v883, sl.v884, sl.v915, sl.v918, sl.v919, sl.v938, sl.v939, sl.v970, sl.v973, sl.v974, sl.v1029, sl.v1048, sl.v1049, sl.v1080, sl.v1083, sl.v1084, sl.v1103, sl.v1104, sl.v1135, sl.v1138, sl.v1139, sl.v1158, sl.v1159, sl.v1190, sl.v1193, sl.v1194, sl.v1213, sl.v1214, sl.v1245, sl.v1248, sl.v1249, sl.v1268, sl.v1269, sl.v1300, sl.v1303, sl.v1304, sl.v1323, sl.v1324, sl.v1355, sl.v1358, sl.v1359, sl.v1378, sl.v1379, sl.v1410, sl.v1413, sl.v1414, sl.v1433, sl.v1434, sl.v1465, sl.v1468, sl.v1469, sl.v1488, sl.v1489, sl.v1520, sl.v1523, sl.v1524, sl.v1543, sl.v1544, sl.v1575, sl.v1578, sl.v1579, sl.v1598, sl.v1599, sl.v1630, sl.v1633, sl.v1634, sl.v1653, sl.v1654, sl.v1685, sl.v1688, sl.v1689, sl.v1708, sl.v1709, sl.v1740, sl.v1743, sl.v1744, sl.v1763, sl.v1764, sl.v1795, sl.v1798, sl.v1799, sl.v1818, sl.v1819, sl.v1850, sl.v1853, sl.v1854, sl.v1873, sl.v1874, sl.v1905, sl.v1908, sl.v1909, sl.v1928, sl.v1929, sl.v1954, sl.v122, sl.v156, sl.v1956, sl.v1957, sl.v1959, sl.v1960, sl.v1963, sl.v1964, sl.v1983, sl.v1984, sl.v2009, sl.v2011, sl.v2012, sl.v2014, sl.v2015, sl.v2018, sl.v2019, sl.v2038, sl.v2039, sl.v2064, sl.v2066, sl.v2067, sl.v2069, sl.v2070, sl.v2073, sl.v2074, sl.v2093, sl.v2094, sl.v2119, sl.v2121, sl.v2122, sl.v2124, sl.v2125, sl.v2128, sl.v2129, sl.v2148, sl.v2149, sl.v2174, sl.v2176, sl.v2177, sl.v2179, sl.v2180, sl.v2183, sl.v2184, sl.v2203, sl.v2204, sl.v2229, sl.v2231, sl.v2232, sl.v2234, sl.v2235, sl.v2238, sl.v2239, sl.v2258, sl.v2259, sl.v2284, sl.v2286, sl.v2287, sl.v2289, sl.v2290, sl.v2293, sl.v2294, sl.v2313, sl.v2314, sl.v2339, sl.v2341, sl.v2342, sl.v2344, sl.v2345, sl.v2348, sl.v2349, sl.v2368, sl.v2369, sl.v2394, sl.v2397, sl.v2398, sl.v2423, sl.v2424, sl.v2449, sl.v2452, sl.v2453, sl.v2478, sl.v2479, sl.v2504, sl.v2507, sl.v2508, sl.v2533, sl.v2534, sl.v2559, sl.v2562, sl.v2563, sl.v2588, sl.v2589, sl.v2614, sl.v2617, sl.v2618, sl.v2643, sl.v2644, sl.v2669, sl.v2672, sl.v2673, sl.v2698, sl.v2699, sl.v2724, sl.v2727, sl.v2728, sl.r_12, sl.r_16, sl.r_22, sl.r_26, sl.r_32, sl.r_42, sl.r_53, sl.r_58, sl.r_64, sl.r_68, sl.r_74, sl.r_78, sl.r_84, sl.r_94, sl.r_105, sl.r_110, sl.r_116, sl.r_120, sl.r_126, sl.r_130, sl.r_136, sl.r_146, sl.r_156, sl.r_161, sl.r_167, k0_pay633, k0_pay640, k0_pay644, k0_pay650, k0_pay654, k0_pay661, k0_pay666, k0_pay671, k0_pay677, k0_pay682, k0_pay687, k0_pay694, k0_pay698, k0_pay704, k0_pay708, k0_pay715, k0_pay720, k0_pay725, k0_pay731, k0_pay736, k0_pay741, k0_pay748, k0_pay752, k0_pay758, k0_pay762, k0_pay769, k0_pay774, k0_pay779, k0_pay785, k0_pay790, k0_pay795, k0_pay802]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨32 + s.val, by omega⟩ 0 (by change 0 < 32 + s.val; omega) _
  · exact cnt_ge (fun j => V (ix2 j a)) ⟨32 + s.val, by omega⟩ 1 (by change 1 < 32 + s.val; omega) _
  · exact cnt_ge (fun j => V (ix2 j a)) ⟨32 + s.val, by omega⟩ 2 (by change 2 < 32 + s.val; omega) _
  · exact cnt_ge (fun j => V (ix2 j a)) ⟨32 + s.val, by omega⟩ 3 (by change 3 < 32 + s.val; omega) _
  · exact cnt_ge (fun j => V (ix2 j a)) ⟨32 + s.val, by omega⟩ 4 (by change 4 < 32 + s.val; omega) _
  · exact cnt_ge (fun j => V (ix2 j a)) ⟨32 + s.val, by omega⟩ 5 (by change 5 < 32 + s.val; omega) _
  · exact cnt_ge (fun j => V (ix2 j a)) ⟨32 + s.val, by omega⟩ 6 (by change 6 < 32 + s.val; omega) _
  · exact cnt_ge (fun j => V (ix2 j a)) ⟨32 + s.val, by omega⟩ 7 (by change 7 < 32 + s.val; omega) _
  · exact cnt_ge (fun j => V (ix2 j a)) ⟨32 + s.val, by omega⟩ 8 (by change 8 < 32 + s.val; omega) _
  · exact cnt_ge (fun j => V (ix2 j a)) ⟨32 + s.val, by omega⟩ 9 (by change 9 < 32 + s.val; omega) _
  · exact cnt_ge (fun j => V (ix2 j a)) ⟨32 + s.val, by omega⟩ 10 (by change 10 < 32 + s.val; omega) _
  · exact cnt_ge (fun j => V (ix2 j a)) ⟨32 + s.val, by omega⟩ 11 (by change 11 < 32 + s.val; omega) _
  · exact cnt_ge (fun j => V (ix2 j a)) ⟨32 + s.val, by omega⟩ 12 (by change 12 < 32 + s.val; omega) _
  · exact cnt_ge (fun j => V (ix2 j a)) ⟨32 + s.val, by omega⟩ 13 (by change 13 < 32 + s.val; omega) _
  · exact cnt_ge (fun j => V (ix2 j a)) ⟨32 + s.val, by omega⟩ 14 (by change 14 < 32 + s.val; omega) _
  · exact cnt_ge (fun j => V (ix2 j a)) ⟨32 + s.val, by omega⟩ 15 (by change 15 < 32 + s.val; omega) _
  · exact cnt_ge (fun j => V (ix2 j a)) ⟨32 + s.val, by omega⟩ 16 (by change 16 < 32 + s.val; omega) _
  · exact cnt_ge (fun j => V (ix2 j a)) ⟨32 + s.val, by omega⟩ 17 (by change 17 < 32 + s.val; omega) _
  · exact cnt_ge (fun j => V (ix2 j a)) ⟨32 + s.val, by omega⟩ 18 (by change 18 < 32 + s.val; omega) _
  · exact cnt_ge (fun j => V (ix2 j a)) ⟨32 + s.val, by omega⟩ 19 (by change 19 < 32 + s.val; omega) _
  · exact cnt_ge (fun j => V (ix2 j a)) ⟨32 + s.val, by omega⟩ 20 (by change 20 < 32 + s.val; omega) _
  · exact cnt_ge (fun j => V (ix2 j a)) ⟨32 + s.val, by omega⟩ 21 (by change 21 < 32 + s.val; omega) _
  · exact cnt_ge (fun j => V (ix2 j a)) ⟨32 + s.val, by omega⟩ 22 (by change 22 < 32 + s.val; omega) _
  · exact cnt_ge (fun j => V (ix2 j a)) ⟨32 + s.val, by omega⟩ 23 (by change 23 < 32 + s.val; omega) _
  · exact cnt_ge (fun j => V (ix2 j a)) ⟨32 + s.val, by omega⟩ 24 (by change 24 < 32 + s.val; omega) _
  · exact cnt_ge (fun j => V (ix2 j a)) ⟨32 + s.val, by omega⟩ 25 (by change 25 < 32 + s.val; omega) _
  · exact cnt_ge (fun j => V (ix2 j a)) ⟨32 + s.val, by omega⟩ 26 (by change 26 < 32 + s.val; omega) _
  · exact cnt_ge (fun j => V (ix2 j a)) ⟨32 + s.val, by omega⟩ 27 (by change 27 < 32 + s.val; omega) _
  · exact cnt_ge (fun j => V (ix2 j a)) ⟨32 + s.val, by omega⟩ 28 (by change 28 < 32 + s.val; omega) _
  · exact cnt_ge (fun j => V (ix2 j a)) ⟨32 + s.val, by omega⟩ 29 (by change 29 < 32 + s.val; omega) _
  · exact cnt_ge (fun j => V (ix2 j a)) ⟨32 + s.val, by omega⟩ 30 (by change 30 < 32 + s.val; omega) _
  · exact cnt_ge (fun j => V (ix2 j a)) ⟨32 + s.val, by omega⟩ 31 (by change 31 < 32 + s.val; omega) _
  · exact cnt_tie (fun j => V (ix2 j a)) ⟨32 + s.val, by omega⟩ 32 _ rfl _ _
  · exact cnt_tie (fun j => V (ix2 j a)) ⟨32 + s.val, by omega⟩ 33 _ rfl _ _
  · exact cnt_tie (fun j => V (ix2 j a)) ⟨32 + s.val, by omega⟩ 34 _ rfl _ _
  · exact cnt_tie (fun j => V (ix2 j a)) ⟨32 + s.val, by omega⟩ 35 _ rfl _ _
  · exact cnt_tie (fun j => V (ix2 j a)) ⟨32 + s.val, by omega⟩ 36 _ rfl _ _
  · exact cnt_tie (fun j => V (ix2 j a)) ⟨32 + s.val, by omega⟩ 37 _ rfl _ _
  · exact cnt_tie (fun j => V (ix2 j a)) ⟨32 + s.val, by omega⟩ 38 _ rfl _ _
  · exact cnt_tie (fun j => V (ix2 j a)) ⟨32 + s.val, by omega⟩ 39 _ rfl _ _
  · exact cnt_gt (fun j => V (ix2 j a)) ⟨32 + s.val, by omega⟩ 40 (by change 32 + s.val < 40; omega) _
  · exact cnt_gt (fun j => V (ix2 j a)) ⟨32 + s.val, by omega⟩ 41 (by change 32 + s.val < 41; omega) _
  · exact cnt_gt (fun j => V (ix2 j a)) ⟨32 + s.val, by omega⟩ 42 (by change 32 + s.val < 42; omega) _
  · exact cnt_gt (fun j => V (ix2 j a)) ⟨32 + s.val, by omega⟩ 43 (by change 32 + s.val < 43; omega) _
  · exact cnt_gt (fun j => V (ix2 j a)) ⟨32 + s.val, by omega⟩ 44 (by change 32 + s.val < 44; omega) _
  · exact cnt_gt (fun j => V (ix2 j a)) ⟨32 + s.val, by omega⟩ 45 (by change 32 + s.val < 45; omega) _
  · exact cnt_gt (fun j => V (ix2 j a)) ⟨32 + s.val, by omega⟩ 46 (by change 32 + s.val < 46; omega) _
  · exact cnt_gt (fun j => V (ix2 j a)) ⟨32 + s.val, by omega⟩ 47 (by change 32 + s.val < 47; omega) _
  · exact cnt_gt (fun j => V (ix2 j a)) ⟨32 + s.val, by omega⟩ 48 (by change 32 + s.val < 48; omega) _
  · exact cnt_gt (fun j => V (ix2 j a)) ⟨32 + s.val, by omega⟩ 49 (by change 32 + s.val < 49; omega) _
  · exact cnt_gt (fun j => V (ix2 j a)) ⟨32 + s.val, by omega⟩ 50 (by change 32 + s.val < 50; omega) _
  · exact cnt_gt (fun j => V (ix2 j a)) ⟨32 + s.val, by omega⟩ 51 (by change 32 + s.val < 51; omega) _
  · exact cnt_gt (fun j => V (ix2 j a)) ⟨32 + s.val, by omega⟩ 52 (by change 32 + s.val < 52; omega) _
  · exact cnt_gt (fun j => V (ix2 j a)) ⟨32 + s.val, by omega⟩ 53 (by change 32 + s.val < 53; omega) _
  · exact cnt_gt (fun j => V (ix2 j a)) ⟨32 + s.val, by omega⟩ 54 (by change 32 + s.val < 54; omega) _
  · exact cnt_gt (fun j => V (ix2 j a)) ⟨32 + s.val, by omega⟩ 55 (by change 32 + s.val < 55; omega) _
  · exact cnt_gt (fun j => V (ix2 j a)) ⟨32 + s.val, by omega⟩ 56 (by change 32 + s.val < 56; omega) _
  · exact cnt_gt (fun j => V (ix2 j a)) ⟨32 + s.val, by omega⟩ 57 (by change 32 + s.val < 57; omega) _
  · exact cnt_gt (fun j => V (ix2 j a)) ⟨32 + s.val, by omega⟩ 58 (by change 32 + s.val < 58; omega) _
  · exact cnt_gt (fun j => V (ix2 j a)) ⟨32 + s.val, by omega⟩ 59 (by change 32 + s.val < 59; omega) _
  · exact cnt_gt (fun j => V (ix2 j a)) ⟨32 + s.val, by omega⟩ 60 (by change 32 + s.val < 60; omega) _
  · exact cnt_gt (fun j => V (ix2 j a)) ⟨32 + s.val, by omega⟩ 61 (by change 32 + s.val < 61; omega) _
  · exact cnt_gt (fun j => V (ix2 j a)) ⟨32 + s.val, by omega⟩ 62 (by change 32 + s.val < 62; omega) _

set_option maxHeartbeats 4000000 in
theorem band5 (s : Fin 8) (a : Fin 128) : sl.r_168 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨40 + s.val, by omega⟩ 63 := by
  simp only [sl.r_106, sl.v149, sl.v122, sl.v157, sl.v993, sl.v994, sl.v1031, sl.cst_44, sl.v160, sl.cst_31, sl.v177, sl.v1034, sl.v168, sl.v169, sl.v206, sl.v209, sl.v210, sl.v223, sl.v224, sl.v261, sl.v264, sl.v265, sl.v278, sl.v279, sl.v316, sl.v319, sl.v320, sl.v333, sl.v334, sl.v371, sl.v374, sl.v375, sl.v388, sl.v389, sl.v426, sl.v429, sl.v430, sl.v443, sl.v444, sl.v481, sl.v484, sl.v485, sl.v498, sl.v499, sl.v536, sl.v539, sl.v540, sl.v553, sl.v554, sl.v591, sl.v594, sl.v595, sl.v608, sl.v609, sl.v646, sl.v649, sl.v650, sl.v663, sl.v664, sl.v701, sl.v704, sl.v705, sl.v718, sl.v719, sl.v756, sl.v759, sl.v760, sl.v773, sl.v774, sl.v811, sl.v814, sl.v815, sl.v828, sl.v829, sl.v866, sl.v869, sl.v870, sl.v883, sl.v884, sl.v921, sl.v924, sl.v925, sl.v938, sl.v939, sl.v976, sl.v979, sl.v980, sl.v1035, sl.v1048, sl.v1049, sl.v1086, sl.v1089, sl.v1090, sl.v1103, sl.v1104, sl.v1141, sl.v1144, sl.v1145, sl.v1158, sl.v1159, sl.v1196, sl.v1199, sl.v1200, sl.v1213, sl.v1214, sl.v1251, sl.v1254, sl.v1255, sl.v1268, sl.v1269, sl.v1306, sl.v1309, sl.v1310, sl.v1323, sl.v1324, sl.v1361, sl.v1364, sl.v1365, sl.v1378, sl.v1379, sl.v1416, sl.v1419, sl.v1420, sl.v1433, sl.v1434, sl.v1471, sl.v1474, sl.v1475, sl.v1488, sl.v1489, sl.v1526, sl.v1529, sl.v1530, sl.v1543, sl.v1544, sl.v1581, sl.v1584, sl.v1585, sl.v1598, sl.v1599, sl.v1636, sl.v1639, sl.v1640, sl.v1653, sl.v1654, sl.v1691, sl.v1694, sl.v1695, sl.v1708, sl.v1709, sl.v1746, sl.v1749, sl.v1750, sl.v1763, sl.v1764, sl.v1801, sl.v1804, sl.v1805, sl.v1818, sl.v1819, sl.v1856, sl.v1859, sl.v1860, sl.v1873, sl.v1874, sl.v1911, sl.v1914, sl.v1915, sl.v1928, sl.v1929, sl.v1966, sl.v1969, sl.v1970, sl.v1983, sl.v1984, sl.v2021, sl.v2024, sl.v2025, sl.v2038, sl.v2039, sl.v2076, sl.v2079, sl.v2080, sl.v2093, sl.v2094, sl.v2131, sl.v2134, sl.v2135, sl.v2148, sl.v2149, sl.v2186, sl.v2189, sl.v2190, sl.v2203, sl.v2204, sl.v2241, sl.v2244, sl.v2245, sl.v2258, sl.v2259, sl.v2296, sl.v2299, sl.v2300, sl.v2313, sl.v2314, sl.v2351, sl.v2354, sl.v2355, sl.v2368, sl.v2369, sl.v2400, sl.v2402, sl.v2403, sl.v2405, sl.v2406, sl.v2409, sl.v2410, sl.v2423, sl.v2424, sl.v2455, sl.v2457, sl.v2458, sl.v2460, sl.v2461, sl.v2464, sl.v2465, sl.v2478, sl.v2479, sl.v2510, sl.v2512, sl.v2513, sl.v2515, sl.v2516, sl.v2519, sl.v2520, sl.v2533, sl.v2534, sl.v2565, sl.v2567, sl.v2568, sl.v2570, sl.v2571, sl.v2574, sl.v2575, sl.v2588, sl.v2589, sl.v2620, sl.v2622, sl.v2623, sl.v2625, sl.v2626, sl.v2629, sl.v2630, sl.v2643, sl.v2644, sl.v2675, sl.v2677, sl.v2678, sl.v2680, sl.v2681, sl.v2684, sl.v2685, sl.v2698, sl.v2699, sl.r_3, sl.r_6, sl.r_13, sl.r_16, sl.r_23, sl.r_26, sl.r_33, sl.r_43, sl.r_54, sl.r_55, sl.r_58, sl.r_65, sl.r_68, sl.r_75, sl.r_78, sl.r_85, sl.r_95, sl.r_107, sl.r_110, sl.r_117, sl.r_120, sl.r_127, sl.r_130, sl.r_137, sl.r_147, sl.r_157, sl.r_158, sl.r_161, sl.r_168, k0_pay630, k0_pay633, k0_pay641, k0_pay644, k0_pay651, k0_pay654, k0_pay662, k0_pay666, k0_pay672, k0_pay677, k0_pay683, k0_pay684, k0_pay687, k0_pay695, k0_pay698, k0_pay705, k0_pay708, k0_pay716, k0_pay720, k0_pay726, k0_pay731, k0_pay737, k0_pay738, k0_pay741, k0_pay749, k0_pay752, k0_pay759, k0_pay762, k0_pay770, k0_pay774, k0_pay780, k0_pay785, k0_pay791, k0_pay792, k0_pay795, k0_pay803]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨40 + s.val, by omega⟩ 0 (by change 0 < 40 + s.val; omega) _
  · exact cnt_ge (fun j => V (ix2 j a)) ⟨40 + s.val, by omega⟩ 1 (by change 1 < 40 + s.val; omega) _
  · exact cnt_ge (fun j => V (ix2 j a)) ⟨40 + s.val, by omega⟩ 2 (by change 2 < 40 + s.val; omega) _
  · exact cnt_ge (fun j => V (ix2 j a)) ⟨40 + s.val, by omega⟩ 3 (by change 3 < 40 + s.val; omega) _
  · exact cnt_ge (fun j => V (ix2 j a)) ⟨40 + s.val, by omega⟩ 4 (by change 4 < 40 + s.val; omega) _
  · exact cnt_ge (fun j => V (ix2 j a)) ⟨40 + s.val, by omega⟩ 5 (by change 5 < 40 + s.val; omega) _
  · exact cnt_ge (fun j => V (ix2 j a)) ⟨40 + s.val, by omega⟩ 6 (by change 6 < 40 + s.val; omega) _
  · exact cnt_ge (fun j => V (ix2 j a)) ⟨40 + s.val, by omega⟩ 7 (by change 7 < 40 + s.val; omega) _
  · exact cnt_ge (fun j => V (ix2 j a)) ⟨40 + s.val, by omega⟩ 8 (by change 8 < 40 + s.val; omega) _
  · exact cnt_ge (fun j => V (ix2 j a)) ⟨40 + s.val, by omega⟩ 9 (by change 9 < 40 + s.val; omega) _
  · exact cnt_ge (fun j => V (ix2 j a)) ⟨40 + s.val, by omega⟩ 10 (by change 10 < 40 + s.val; omega) _
  · exact cnt_ge (fun j => V (ix2 j a)) ⟨40 + s.val, by omega⟩ 11 (by change 11 < 40 + s.val; omega) _
  · exact cnt_ge (fun j => V (ix2 j a)) ⟨40 + s.val, by omega⟩ 12 (by change 12 < 40 + s.val; omega) _
  · exact cnt_ge (fun j => V (ix2 j a)) ⟨40 + s.val, by omega⟩ 13 (by change 13 < 40 + s.val; omega) _
  · exact cnt_ge (fun j => V (ix2 j a)) ⟨40 + s.val, by omega⟩ 14 (by change 14 < 40 + s.val; omega) _
  · exact cnt_ge (fun j => V (ix2 j a)) ⟨40 + s.val, by omega⟩ 15 (by change 15 < 40 + s.val; omega) _
  · exact cnt_ge (fun j => V (ix2 j a)) ⟨40 + s.val, by omega⟩ 16 (by change 16 < 40 + s.val; omega) _
  · exact cnt_ge (fun j => V (ix2 j a)) ⟨40 + s.val, by omega⟩ 17 (by change 17 < 40 + s.val; omega) _
  · exact cnt_ge (fun j => V (ix2 j a)) ⟨40 + s.val, by omega⟩ 18 (by change 18 < 40 + s.val; omega) _
  · exact cnt_ge (fun j => V (ix2 j a)) ⟨40 + s.val, by omega⟩ 19 (by change 19 < 40 + s.val; omega) _
  · exact cnt_ge (fun j => V (ix2 j a)) ⟨40 + s.val, by omega⟩ 20 (by change 20 < 40 + s.val; omega) _
  · exact cnt_ge (fun j => V (ix2 j a)) ⟨40 + s.val, by omega⟩ 21 (by change 21 < 40 + s.val; omega) _
  · exact cnt_ge (fun j => V (ix2 j a)) ⟨40 + s.val, by omega⟩ 22 (by change 22 < 40 + s.val; omega) _
  · exact cnt_ge (fun j => V (ix2 j a)) ⟨40 + s.val, by omega⟩ 23 (by change 23 < 40 + s.val; omega) _
  · exact cnt_ge (fun j => V (ix2 j a)) ⟨40 + s.val, by omega⟩ 24 (by change 24 < 40 + s.val; omega) _
  · exact cnt_ge (fun j => V (ix2 j a)) ⟨40 + s.val, by omega⟩ 25 (by change 25 < 40 + s.val; omega) _
  · exact cnt_ge (fun j => V (ix2 j a)) ⟨40 + s.val, by omega⟩ 26 (by change 26 < 40 + s.val; omega) _
  · exact cnt_ge (fun j => V (ix2 j a)) ⟨40 + s.val, by omega⟩ 27 (by change 27 < 40 + s.val; omega) _
  · exact cnt_ge (fun j => V (ix2 j a)) ⟨40 + s.val, by omega⟩ 28 (by change 28 < 40 + s.val; omega) _
  · exact cnt_ge (fun j => V (ix2 j a)) ⟨40 + s.val, by omega⟩ 29 (by change 29 < 40 + s.val; omega) _
  · exact cnt_ge (fun j => V (ix2 j a)) ⟨40 + s.val, by omega⟩ 30 (by change 30 < 40 + s.val; omega) _
  · exact cnt_ge (fun j => V (ix2 j a)) ⟨40 + s.val, by omega⟩ 31 (by change 31 < 40 + s.val; omega) _
  · exact cnt_ge (fun j => V (ix2 j a)) ⟨40 + s.val, by omega⟩ 32 (by change 32 < 40 + s.val; omega) _
  · exact cnt_ge (fun j => V (ix2 j a)) ⟨40 + s.val, by omega⟩ 33 (by change 33 < 40 + s.val; omega) _
  · exact cnt_ge (fun j => V (ix2 j a)) ⟨40 + s.val, by omega⟩ 34 (by change 34 < 40 + s.val; omega) _
  · exact cnt_ge (fun j => V (ix2 j a)) ⟨40 + s.val, by omega⟩ 35 (by change 35 < 40 + s.val; omega) _
  · exact cnt_ge (fun j => V (ix2 j a)) ⟨40 + s.val, by omega⟩ 36 (by change 36 < 40 + s.val; omega) _
  · exact cnt_ge (fun j => V (ix2 j a)) ⟨40 + s.val, by omega⟩ 37 (by change 37 < 40 + s.val; omega) _
  · exact cnt_ge (fun j => V (ix2 j a)) ⟨40 + s.val, by omega⟩ 38 (by change 38 < 40 + s.val; omega) _
  · exact cnt_ge (fun j => V (ix2 j a)) ⟨40 + s.val, by omega⟩ 39 (by change 39 < 40 + s.val; omega) _
  · exact cnt_tie (fun j => V (ix2 j a)) ⟨40 + s.val, by omega⟩ 40 _ rfl _ _
  · exact cnt_tie (fun j => V (ix2 j a)) ⟨40 + s.val, by omega⟩ 41 _ rfl _ _
  · exact cnt_tie (fun j => V (ix2 j a)) ⟨40 + s.val, by omega⟩ 42 _ rfl _ _
  · exact cnt_tie (fun j => V (ix2 j a)) ⟨40 + s.val, by omega⟩ 43 _ rfl _ _
  · exact cnt_tie (fun j => V (ix2 j a)) ⟨40 + s.val, by omega⟩ 44 _ rfl _ _
  · exact cnt_tie (fun j => V (ix2 j a)) ⟨40 + s.val, by omega⟩ 45 _ rfl _ _
  · exact cnt_tie (fun j => V (ix2 j a)) ⟨40 + s.val, by omega⟩ 46 _ rfl _ _
  · exact cnt_tie (fun j => V (ix2 j a)) ⟨40 + s.val, by omega⟩ 47 _ rfl _ _
  · exact cnt_gt (fun j => V (ix2 j a)) ⟨40 + s.val, by omega⟩ 48 (by change 40 + s.val < 48; omega) _
  · exact cnt_gt (fun j => V (ix2 j a)) ⟨40 + s.val, by omega⟩ 49 (by change 40 + s.val < 49; omega) _
  · exact cnt_gt (fun j => V (ix2 j a)) ⟨40 + s.val, by omega⟩ 50 (by change 40 + s.val < 50; omega) _
  · exact cnt_gt (fun j => V (ix2 j a)) ⟨40 + s.val, by omega⟩ 51 (by change 40 + s.val < 51; omega) _
  · exact cnt_gt (fun j => V (ix2 j a)) ⟨40 + s.val, by omega⟩ 52 (by change 40 + s.val < 52; omega) _
  · exact cnt_gt (fun j => V (ix2 j a)) ⟨40 + s.val, by omega⟩ 53 (by change 40 + s.val < 53; omega) _
  · exact cnt_gt (fun j => V (ix2 j a)) ⟨40 + s.val, by omega⟩ 54 (by change 40 + s.val < 54; omega) _
  · exact cnt_gt (fun j => V (ix2 j a)) ⟨40 + s.val, by omega⟩ 55 (by change 40 + s.val < 55; omega) _
  · exact cnt_gt (fun j => V (ix2 j a)) ⟨40 + s.val, by omega⟩ 56 (by change 40 + s.val < 56; omega) _
  · exact cnt_gt (fun j => V (ix2 j a)) ⟨40 + s.val, by omega⟩ 57 (by change 40 + s.val < 57; omega) _
  · exact cnt_gt (fun j => V (ix2 j a)) ⟨40 + s.val, by omega⟩ 58 (by change 40 + s.val < 58; omega) _
  · exact cnt_gt (fun j => V (ix2 j a)) ⟨40 + s.val, by omega⟩ 59 (by change 40 + s.val < 59; omega) _
  · exact cnt_gt (fun j => V (ix2 j a)) ⟨40 + s.val, by omega⟩ 60 (by change 40 + s.val < 60; omega) _
  · exact cnt_gt (fun j => V (ix2 j a)) ⟨40 + s.val, by omega⟩ 61 (by change 40 + s.val < 61; omega) _
  · exact cnt_gt (fun j => V (ix2 j a)) ⟨40 + s.val, by omega⟩ 62 (by change 40 + s.val < 62; omega) _

set_option maxHeartbeats 4000000 in
theorem band6 (s : Fin 8) (a : Fin 128) : sl.r_169 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨48 + s.val, by omega⟩ 63 := by
  simp only [sl.cst_44, sl.r_100, sl.v150, sl.v993, sl.v994, sl.v1037, sl.v160, sl.cst_31, sl.v177, sl.v1040, sl.v168, sl.v169, sl.v212, sl.v215, sl.v216, sl.v223, sl.v224, sl.v267, sl.v270, sl.v271, sl.v278, sl.v279, sl.v322, sl.v325, sl.v326, sl.v333, sl.v334, sl.v377, sl.v380, sl.v381, sl.v388, sl.v389, sl.v432, sl.v435, sl.v436, sl.v443, sl.v444, sl.v487, sl.v490, sl.v491, sl.v498, sl.v499, sl.v542, sl.v545, sl.v546, sl.v553, sl.v554, sl.v597, sl.v600, sl.v601, sl.v608, sl.v609, sl.v652, sl.v655, sl.v656, sl.v663, sl.v664, sl.v707, sl.v710, sl.v711, sl.v718, sl.v719, sl.v762, sl.v765, sl.v766, sl.v773, sl.v774, sl.v817, sl.v820, sl.v821, sl.v828, sl.v829, sl.v872, sl.v875, sl.v876, sl.v883, sl.v884, sl.v927, sl.v930, sl.v931, sl.v938, sl.v939, sl.v982, sl.v985, sl.v986, sl.v1041, sl.v1048, sl.v1049, sl.v1092, sl.v1095, sl.v1096, sl.v1103, sl.v1104, sl.v1147, sl.v1150, sl.v1151, sl.v1158, sl.v1159, sl.v1202, sl.v1205, sl.v1206, sl.v1213, sl.v1214, sl.v1257, sl.v1260, sl.v1261, sl.v1268, sl.v1269, sl.v1312, sl.v1315, sl.v1316, sl.v1323, sl.v1324, sl.v1367, sl.v1370, sl.v1371, sl.v1378, sl.v1379, sl.v1422, sl.v1425, sl.v1426, sl.v1433, sl.v1434, sl.v1477, sl.v1480, sl.v1481, sl.v1488, sl.v1489, sl.v1532, sl.v1535, sl.v1536, sl.v1543, sl.v1544, sl.v1587, sl.v1590, sl.v1591, sl.v1598, sl.v1599, sl.v1642, sl.v1645, sl.v1646, sl.v1653, sl.v1654, sl.v1697, sl.v1700, sl.v1701, sl.v1708, sl.v1709, sl.v1752, sl.v1755, sl.v1756, sl.v1763, sl.v1764, sl.v1807, sl.v1810, sl.v1811, sl.v1818, sl.v1819, sl.v1862, sl.v1865, sl.v1866, sl.v1873, sl.v1874, sl.v1917, sl.v1920, sl.v1921, sl.v1928, sl.v1929, sl.v1972, sl.v1975, sl.v1976, sl.v1983, sl.v1984, sl.v2027, sl.v2030, sl.v2031, sl.v2038, sl.v2039, sl.v2082, sl.v2085, sl.v2086, sl.v2093, sl.v2094, sl.v2137, sl.v2140, sl.v2141, sl.v2148, sl.v2149, sl.v2192, sl.v2195, sl.v2196, sl.v2203, sl.v2204, sl.v2247, sl.v2250, sl.v2251, sl.v2258, sl.v2259, sl.v2302, sl.v2305, sl.v2306, sl.v2313, sl.v2314, sl.v2357, sl.v2360, sl.v2361, sl.v2368, sl.v2369, sl.v2412, sl.v2415, sl.v2416, sl.v2423, sl.v2424, sl.v2467, sl.v2470, sl.v2471, sl.v2478, sl.v2479, sl.v2522, sl.v2525, sl.v2526, sl.v2533, sl.v2534, sl.v2577, sl.v2580, sl.v2581, sl.v2588, sl.v2589, sl.v2632, sl.v2635, sl.v2636, sl.v2643, sl.v2644, sl.v2687, sl.v2690, sl.v2691, sl.v2698, sl.r_4, sl.r_6, sl.r_14, sl.r_16, sl.v122, sl.v158, sl.r_24, sl.r_26, sl.r_34, sl.r_44, sl.r_45, sl.r_46, sl.r_48, sl.r_56, sl.r_58, sl.r_66, sl.r_68, sl.r_76, sl.r_78, sl.r_86, sl.r_96, sl.r_97, sl.r_98, sl.r_108, sl.r_110, sl.r_118, sl.r_120, sl.r_128, sl.r_130, sl.r_138, sl.r_148, sl.r_149, sl.r_151, sl.r_159, sl.r_161, sl.r_169, k0_pay631, k0_pay633, k0_pay642, k0_pay644, k0_pay652, k0_pay654, k0_pay663, k0_pay666, k0_pay673, k0_pay674, k0_pay675, k0_pay677, k0_pay685, k0_pay687, k0_pay696, k0_pay698, k0_pay706, k0_pay708, k0_pay717, k0_pay720, k0_pay727, k0_pay728, k0_pay729, k0_pay731, k0_pay739, k0_pay741, k0_pay750, k0_pay752, k0_pay760, k0_pay762, k0_pay771, k0_pay774, k0_pay781, k0_pay782, k0_pay783, k0_pay785, k0_pay793, k0_pay795, k0_pay804]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨48 + s.val, by omega⟩ 0 (by change 0 < 48 + s.val; omega) _
  · exact cnt_ge (fun j => V (ix2 j a)) ⟨48 + s.val, by omega⟩ 1 (by change 1 < 48 + s.val; omega) _
  · exact cnt_ge (fun j => V (ix2 j a)) ⟨48 + s.val, by omega⟩ 2 (by change 2 < 48 + s.val; omega) _
  · exact cnt_ge (fun j => V (ix2 j a)) ⟨48 + s.val, by omega⟩ 3 (by change 3 < 48 + s.val; omega) _
  · exact cnt_ge (fun j => V (ix2 j a)) ⟨48 + s.val, by omega⟩ 4 (by change 4 < 48 + s.val; omega) _
  · exact cnt_ge (fun j => V (ix2 j a)) ⟨48 + s.val, by omega⟩ 5 (by change 5 < 48 + s.val; omega) _
  · exact cnt_ge (fun j => V (ix2 j a)) ⟨48 + s.val, by omega⟩ 6 (by change 6 < 48 + s.val; omega) _
  · exact cnt_ge (fun j => V (ix2 j a)) ⟨48 + s.val, by omega⟩ 7 (by change 7 < 48 + s.val; omega) _
  · exact cnt_ge (fun j => V (ix2 j a)) ⟨48 + s.val, by omega⟩ 8 (by change 8 < 48 + s.val; omega) _
  · exact cnt_ge (fun j => V (ix2 j a)) ⟨48 + s.val, by omega⟩ 9 (by change 9 < 48 + s.val; omega) _
  · exact cnt_ge (fun j => V (ix2 j a)) ⟨48 + s.val, by omega⟩ 10 (by change 10 < 48 + s.val; omega) _
  · exact cnt_ge (fun j => V (ix2 j a)) ⟨48 + s.val, by omega⟩ 11 (by change 11 < 48 + s.val; omega) _
  · exact cnt_ge (fun j => V (ix2 j a)) ⟨48 + s.val, by omega⟩ 12 (by change 12 < 48 + s.val; omega) _
  · exact cnt_ge (fun j => V (ix2 j a)) ⟨48 + s.val, by omega⟩ 13 (by change 13 < 48 + s.val; omega) _
  · exact cnt_ge (fun j => V (ix2 j a)) ⟨48 + s.val, by omega⟩ 14 (by change 14 < 48 + s.val; omega) _
  · exact cnt_ge (fun j => V (ix2 j a)) ⟨48 + s.val, by omega⟩ 15 (by change 15 < 48 + s.val; omega) _
  · exact cnt_ge (fun j => V (ix2 j a)) ⟨48 + s.val, by omega⟩ 16 (by change 16 < 48 + s.val; omega) _
  · exact cnt_ge (fun j => V (ix2 j a)) ⟨48 + s.val, by omega⟩ 17 (by change 17 < 48 + s.val; omega) _
  · exact cnt_ge (fun j => V (ix2 j a)) ⟨48 + s.val, by omega⟩ 18 (by change 18 < 48 + s.val; omega) _
  · exact cnt_ge (fun j => V (ix2 j a)) ⟨48 + s.val, by omega⟩ 19 (by change 19 < 48 + s.val; omega) _
  · exact cnt_ge (fun j => V (ix2 j a)) ⟨48 + s.val, by omega⟩ 20 (by change 20 < 48 + s.val; omega) _
  · exact cnt_ge (fun j => V (ix2 j a)) ⟨48 + s.val, by omega⟩ 21 (by change 21 < 48 + s.val; omega) _
  · exact cnt_ge (fun j => V (ix2 j a)) ⟨48 + s.val, by omega⟩ 22 (by change 22 < 48 + s.val; omega) _
  · exact cnt_ge (fun j => V (ix2 j a)) ⟨48 + s.val, by omega⟩ 23 (by change 23 < 48 + s.val; omega) _
  · exact cnt_ge (fun j => V (ix2 j a)) ⟨48 + s.val, by omega⟩ 24 (by change 24 < 48 + s.val; omega) _
  · exact cnt_ge (fun j => V (ix2 j a)) ⟨48 + s.val, by omega⟩ 25 (by change 25 < 48 + s.val; omega) _
  · exact cnt_ge (fun j => V (ix2 j a)) ⟨48 + s.val, by omega⟩ 26 (by change 26 < 48 + s.val; omega) _
  · exact cnt_ge (fun j => V (ix2 j a)) ⟨48 + s.val, by omega⟩ 27 (by change 27 < 48 + s.val; omega) _
  · exact cnt_ge (fun j => V (ix2 j a)) ⟨48 + s.val, by omega⟩ 28 (by change 28 < 48 + s.val; omega) _
  · exact cnt_ge (fun j => V (ix2 j a)) ⟨48 + s.val, by omega⟩ 29 (by change 29 < 48 + s.val; omega) _
  · exact cnt_ge (fun j => V (ix2 j a)) ⟨48 + s.val, by omega⟩ 30 (by change 30 < 48 + s.val; omega) _
  · exact cnt_ge (fun j => V (ix2 j a)) ⟨48 + s.val, by omega⟩ 31 (by change 31 < 48 + s.val; omega) _
  · exact cnt_ge (fun j => V (ix2 j a)) ⟨48 + s.val, by omega⟩ 32 (by change 32 < 48 + s.val; omega) _
  · exact cnt_ge (fun j => V (ix2 j a)) ⟨48 + s.val, by omega⟩ 33 (by change 33 < 48 + s.val; omega) _
  · exact cnt_ge (fun j => V (ix2 j a)) ⟨48 + s.val, by omega⟩ 34 (by change 34 < 48 + s.val; omega) _
  · exact cnt_ge (fun j => V (ix2 j a)) ⟨48 + s.val, by omega⟩ 35 (by change 35 < 48 + s.val; omega) _
  · exact cnt_ge (fun j => V (ix2 j a)) ⟨48 + s.val, by omega⟩ 36 (by change 36 < 48 + s.val; omega) _
  · exact cnt_ge (fun j => V (ix2 j a)) ⟨48 + s.val, by omega⟩ 37 (by change 37 < 48 + s.val; omega) _
  · exact cnt_ge (fun j => V (ix2 j a)) ⟨48 + s.val, by omega⟩ 38 (by change 38 < 48 + s.val; omega) _
  · exact cnt_ge (fun j => V (ix2 j a)) ⟨48 + s.val, by omega⟩ 39 (by change 39 < 48 + s.val; omega) _
  · exact cnt_ge (fun j => V (ix2 j a)) ⟨48 + s.val, by omega⟩ 40 (by change 40 < 48 + s.val; omega) _
  · exact cnt_ge (fun j => V (ix2 j a)) ⟨48 + s.val, by omega⟩ 41 (by change 41 < 48 + s.val; omega) _
  · exact cnt_ge (fun j => V (ix2 j a)) ⟨48 + s.val, by omega⟩ 42 (by change 42 < 48 + s.val; omega) _
  · exact cnt_ge (fun j => V (ix2 j a)) ⟨48 + s.val, by omega⟩ 43 (by change 43 < 48 + s.val; omega) _
  · exact cnt_ge (fun j => V (ix2 j a)) ⟨48 + s.val, by omega⟩ 44 (by change 44 < 48 + s.val; omega) _
  · exact cnt_ge (fun j => V (ix2 j a)) ⟨48 + s.val, by omega⟩ 45 (by change 45 < 48 + s.val; omega) _
  · exact cnt_ge (fun j => V (ix2 j a)) ⟨48 + s.val, by omega⟩ 46 (by change 46 < 48 + s.val; omega) _
  · exact cnt_ge (fun j => V (ix2 j a)) ⟨48 + s.val, by omega⟩ 47 (by change 47 < 48 + s.val; omega) _
  · exact cnt_tie (fun j => V (ix2 j a)) ⟨48 + s.val, by omega⟩ 48 _ rfl _ _
  · exact cnt_tie (fun j => V (ix2 j a)) ⟨48 + s.val, by omega⟩ 49 _ rfl _ _
  · exact cnt_tie (fun j => V (ix2 j a)) ⟨48 + s.val, by omega⟩ 50 _ rfl _ _
  · exact cnt_tie (fun j => V (ix2 j a)) ⟨48 + s.val, by omega⟩ 51 _ rfl _ _
  · exact cnt_tie (fun j => V (ix2 j a)) ⟨48 + s.val, by omega⟩ 52 _ rfl _ _
  · exact cnt_tie (fun j => V (ix2 j a)) ⟨48 + s.val, by omega⟩ 53 _ rfl _ _
  · exact cnt_tie (fun j => V (ix2 j a)) ⟨48 + s.val, by omega⟩ 54 _ rfl _ _
  · exact cnt_tie (fun j => V (ix2 j a)) ⟨48 + s.val, by omega⟩ 55 _ rfl _ _
  · exact cnt_gt (fun j => V (ix2 j a)) ⟨48 + s.val, by omega⟩ 56 (by change 48 + s.val < 56; omega) _
  · exact cnt_gt (fun j => V (ix2 j a)) ⟨48 + s.val, by omega⟩ 57 (by change 48 + s.val < 57; omega) _
  · exact cnt_gt (fun j => V (ix2 j a)) ⟨48 + s.val, by omega⟩ 58 (by change 48 + s.val < 58; omega) _
  · exact cnt_gt (fun j => V (ix2 j a)) ⟨48 + s.val, by omega⟩ 59 (by change 48 + s.val < 59; omega) _
  · exact cnt_gt (fun j => V (ix2 j a)) ⟨48 + s.val, by omega⟩ 60 (by change 48 + s.val < 60; omega) _
  · exact cnt_gt (fun j => V (ix2 j a)) ⟨48 + s.val, by omega⟩ 61 (by change 48 + s.val < 61; omega) _
  · exact cnt_gt (fun j => V (ix2 j a)) ⟨48 + s.val, by omega⟩ 62 (by change 48 + s.val < 62; omega) _

set_option maxHeartbeats 4000000 in
theorem band7 (s : Fin 8) (a : Fin 128) : sl.r_170 (F := Ideal) c i arg3 harg3 arg8 harg8 arg11 harg11 arg12 harg12 x0 x5 x8 x9 (ix2 s a)
    = rank (fun j => sl.v143 (F := Ideal) c i arg3 harg3 arg8 harg8 arg11 harg11 arg12 harg12 x0 x5 x8 x9 (ix2 j a)) ⟨56 + s.val, by omega⟩ 63 := by
  simp only [sl.r_100, sl.v151, sl.v993, sl.v994, sl.v1043, sl.cst_44, sl.v160, sl.cst_31, sl.v177, sl.v1046, sl.v168, sl.v169, sl.v218, sl.v221, sl.v222, sl.v223, sl.v224, sl.v273, sl.v276, sl.v277, sl.v278, sl.v279, sl.v328, sl.v331, sl.v332, sl.v333, sl.v334, sl.v383, sl.v386, sl.v387, sl.v388, sl.v389, sl.v438, sl.v441, sl.v442, sl.v443, sl.v444, sl.v493, sl.v496, sl.v497, sl.v498, sl.v499, sl.v548, sl.v551, sl.v552, sl.v553, sl.v554, sl.v603, sl.v606, sl.v607, sl.v608, sl.v609, sl.v658, sl.v661, sl.v662, sl.v663, sl.v664, sl.v713, sl.v716, sl.v717, sl.v718, sl.v719, sl.v768, sl.v771, sl.v772, sl.v773, sl.v774, sl.v823, sl.v826, sl.v827, sl.v828, sl.v829, sl.v878, sl.v881, sl.v882, sl.v883, sl.v884, sl.v933, sl.v936, sl.v937, sl.v938, sl.v939, sl.v988, sl.v991, sl.v992, sl.v1047, sl.v1048, sl.v1049, sl.v1098, sl.v1101, sl.v1102, sl.v1103, sl.v1104, sl.v1153, sl.v1156, sl.v1157, sl.v1158, sl.v1159, sl.v1208, sl.v1211, sl.v1212, sl.v1213, sl.v1214, sl.v1263, sl.v1266, sl.v1267, sl.v1268, sl.v1269, sl.v1318, sl.v1321, sl.v1322, sl.v1323, sl.v1324, sl.v1373, sl.v1376, sl.v1377, sl.v1378, sl.v1379, sl.v1428, sl.v1431, sl.v1432, sl.v1433, sl.v1434, sl.v1483, sl.v1486, sl.v1487, sl.v1488, sl.v1489, sl.v1538, sl.v1541, sl.v1542, sl.v1543, sl.v1544, sl.v1593, sl.v1596, sl.v1597, sl.v1598, sl.v1599, sl.v1648, sl.v1651, sl.v1652, sl.v1653, sl.v1654, sl.v1703, sl.v1706, sl.v1707, sl.v1708, sl.v1709, sl.v1758, sl.v1761, sl.v1762, sl.v1763, sl.v1764, sl.v1813, sl.v1816, sl.v1817, sl.v1818, sl.v1819, sl.v1868, sl.v1871, sl.v1872, sl.v1873, sl.v1874, sl.v1923, sl.v1926, sl.v1927, sl.v1928, sl.v1929, sl.v1978, sl.v1981, sl.v1982, sl.v1983, sl.v1984, sl.v2033, sl.v2036, sl.v2037, sl.v2038, sl.v2039, sl.v2088, sl.v2091, sl.v2092, sl.v2093, sl.v2094, sl.v2143, sl.v2146, sl.v2147, sl.v2148, sl.v2149, sl.v2198, sl.v2201, sl.v2202, sl.v2203, sl.v2204, sl.v2253, sl.v2256, sl.v2257, sl.v2258, sl.v2259, sl.v2308, sl.v2311, sl.v2312, sl.v2313, sl.v2314, sl.v2363, sl.v2366, sl.v2367, sl.v2368, sl.v2369, sl.v2418, sl.v2421, sl.v2422, sl.v2423, sl.v2424, sl.v2473, sl.v2476, sl.v2477, sl.v2478, sl.v2479, sl.v2528, sl.v2531, sl.v2532, sl.v2533, sl.v2534, sl.v2583, sl.v2586, sl.v2587, sl.v2588, sl.v2589, sl.v2638, sl.v2641, sl.v2642, sl.v2643, sl.v2644, sl.v2693, sl.v2696, sl.v2697, sl.v2698, sl.r_5, sl.r_6, sl.r_15, sl.r_16, sl.r_25, sl.r_26, sl.r_35, sl.r_36, sl.r_37, sl.r_47, sl.r_48, sl.r_57, sl.r_58, sl.r_67, sl.r_68, sl.r_77, sl.r_78, sl.r_87, sl.r_88, sl.r_89, sl.r_99, sl.v122, sl.v159, sl.r_109, sl.r_110, sl.r_119, sl.r_120, sl.r_129, sl.r_130, sl.r_139, sl.r_140, sl.r_141, sl.r_150, sl.r_151, sl.r_160, sl.r_161, sl.r_170, k0_pay632, k0_pay633, k0_pay643, k0_pay644, k0_pay653, k0_pay654, k0_pay664, k0_pay665, k0_pay666, k0_pay676, k0_pay677, k0_pay686, k0_pay687, k0_pay697, k0_pay698, k0_pay707, k0_pay708, k0_pay718, k0_pay719, k0_pay720, k0_pay730, k0_pay731, k0_pay740, k0_pay741, k0_pay751, k0_pay752, k0_pay761, k0_pay762, k0_pay772, k0_pay773, k0_pay774, k0_pay784, k0_pay785, k0_pay794, k0_pay795, k0_pay805]
  generalize sl.v143 (F := Ideal) c i arg3 harg3 arg8 harg8 arg11 harg11 arg12 harg12 x0 x5 x8 x9 = V
  pointwise
  unfold rank
  simp only [Finset.sum_range_succ, Finset.sum_range_zero, zero_add]
  repeat' refine congrArg₂ (· + ·) ?_ ?_
  · exact cnt_ge (fun j => V (ix2 j a)) ⟨56 + s.val, by omega⟩ 0 (by change 0 < 56 + s.val; omega) _
  · exact cnt_ge (fun j => V (ix2 j a)) ⟨56 + s.val, by omega⟩ 1 (by change 1 < 56 + s.val; omega) _
  · exact cnt_ge (fun j => V (ix2 j a)) ⟨56 + s.val, by omega⟩ 2 (by change 2 < 56 + s.val; omega) _
  · exact cnt_ge (fun j => V (ix2 j a)) ⟨56 + s.val, by omega⟩ 3 (by change 3 < 56 + s.val; omega) _
  · exact cnt_ge (fun j => V (ix2 j a)) ⟨56 + s.val, by omega⟩ 4 (by change 4 < 56 + s.val; omega) _
  · exact cnt_ge (fun j => V (ix2 j a)) ⟨56 + s.val, by omega⟩ 5 (by change 5 < 56 + s.val; omega) _
  · exact cnt_ge (fun j => V (ix2 j a)) ⟨56 + s.val, by omega⟩ 6 (by change 6 < 56 + s.val; omega) _
  · exact cnt_ge (fun j => V (ix2 j a)) ⟨56 + s.val, by omega⟩ 7 (by change 7 < 56 + s.val; omega) _
  · exact cnt_ge (fun j => V (ix2 j a)) ⟨56 + s.val, by omega⟩ 8 (by change 8 < 56 + s.val; omega) _
  · exact cnt_ge (fun j => V (ix2 j a)) ⟨56 + s.val, by omega⟩ 9 (by change 9 < 56 + s.val; omega) _
  · exact cnt_ge (fun j => V (ix2 j a)) ⟨56 + s.val, by omega⟩ 10 (by change 10 < 56 + s.val; omega) _
  · exact cnt_ge (fun j => V (ix2 j a)) ⟨56 + s.val, by omega⟩ 11 (by change 11 < 56 + s.val; omega) _
  · exact cnt_ge (fun j => V (ix2 j a)) ⟨56 + s.val, by omega⟩ 12 (by change 12 < 56 + s.val; omega) _
  · exact cnt_ge (fun j => V (ix2 j a)) ⟨56 + s.val, by omega⟩ 13 (by change 13 < 56 + s.val; omega) _
  · exact cnt_ge (fun j => V (ix2 j a)) ⟨56 + s.val, by omega⟩ 14 (by change 14 < 56 + s.val; omega) _
  · exact cnt_ge (fun j => V (ix2 j a)) ⟨56 + s.val, by omega⟩ 15 (by change 15 < 56 + s.val; omega) _
  · exact cnt_ge (fun j => V (ix2 j a)) ⟨56 + s.val, by omega⟩ 16 (by change 16 < 56 + s.val; omega) _
  · exact cnt_ge (fun j => V (ix2 j a)) ⟨56 + s.val, by omega⟩ 17 (by change 17 < 56 + s.val; omega) _
  · exact cnt_ge (fun j => V (ix2 j a)) ⟨56 + s.val, by omega⟩ 18 (by change 18 < 56 + s.val; omega) _
  · exact cnt_ge (fun j => V (ix2 j a)) ⟨56 + s.val, by omega⟩ 19 (by change 19 < 56 + s.val; omega) _
  · exact cnt_ge (fun j => V (ix2 j a)) ⟨56 + s.val, by omega⟩ 20 (by change 20 < 56 + s.val; omega) _
  · exact cnt_ge (fun j => V (ix2 j a)) ⟨56 + s.val, by omega⟩ 21 (by change 21 < 56 + s.val; omega) _
  · exact cnt_ge (fun j => V (ix2 j a)) ⟨56 + s.val, by omega⟩ 22 (by change 22 < 56 + s.val; omega) _
  · exact cnt_ge (fun j => V (ix2 j a)) ⟨56 + s.val, by omega⟩ 23 (by change 23 < 56 + s.val; omega) _
  · exact cnt_ge (fun j => V (ix2 j a)) ⟨56 + s.val, by omega⟩ 24 (by change 24 < 56 + s.val; omega) _
  · exact cnt_ge (fun j => V (ix2 j a)) ⟨56 + s.val, by omega⟩ 25 (by change 25 < 56 + s.val; omega) _
  · exact cnt_ge (fun j => V (ix2 j a)) ⟨56 + s.val, by omega⟩ 26 (by change 26 < 56 + s.val; omega) _
  · exact cnt_ge (fun j => V (ix2 j a)) ⟨56 + s.val, by omega⟩ 27 (by change 27 < 56 + s.val; omega) _
  · exact cnt_ge (fun j => V (ix2 j a)) ⟨56 + s.val, by omega⟩ 28 (by change 28 < 56 + s.val; omega) _
  · exact cnt_ge (fun j => V (ix2 j a)) ⟨56 + s.val, by omega⟩ 29 (by change 29 < 56 + s.val; omega) _
  · exact cnt_ge (fun j => V (ix2 j a)) ⟨56 + s.val, by omega⟩ 30 (by change 30 < 56 + s.val; omega) _
  · exact cnt_ge (fun j => V (ix2 j a)) ⟨56 + s.val, by omega⟩ 31 (by change 31 < 56 + s.val; omega) _
  · exact cnt_ge (fun j => V (ix2 j a)) ⟨56 + s.val, by omega⟩ 32 (by change 32 < 56 + s.val; omega) _
  · exact cnt_ge (fun j => V (ix2 j a)) ⟨56 + s.val, by omega⟩ 33 (by change 33 < 56 + s.val; omega) _
  · exact cnt_ge (fun j => V (ix2 j a)) ⟨56 + s.val, by omega⟩ 34 (by change 34 < 56 + s.val; omega) _
  · exact cnt_ge (fun j => V (ix2 j a)) ⟨56 + s.val, by omega⟩ 35 (by change 35 < 56 + s.val; omega) _
  · exact cnt_ge (fun j => V (ix2 j a)) ⟨56 + s.val, by omega⟩ 36 (by change 36 < 56 + s.val; omega) _
  · exact cnt_ge (fun j => V (ix2 j a)) ⟨56 + s.val, by omega⟩ 37 (by change 37 < 56 + s.val; omega) _
  · exact cnt_ge (fun j => V (ix2 j a)) ⟨56 + s.val, by omega⟩ 38 (by change 38 < 56 + s.val; omega) _
  · exact cnt_ge (fun j => V (ix2 j a)) ⟨56 + s.val, by omega⟩ 39 (by change 39 < 56 + s.val; omega) _
  · exact cnt_ge (fun j => V (ix2 j a)) ⟨56 + s.val, by omega⟩ 40 (by change 40 < 56 + s.val; omega) _
  · exact cnt_ge (fun j => V (ix2 j a)) ⟨56 + s.val, by omega⟩ 41 (by change 41 < 56 + s.val; omega) _
  · exact cnt_ge (fun j => V (ix2 j a)) ⟨56 + s.val, by omega⟩ 42 (by change 42 < 56 + s.val; omega) _
  · exact cnt_ge (fun j => V (ix2 j a)) ⟨56 + s.val, by omega⟩ 43 (by change 43 < 56 + s.val; omega) _
  · exact cnt_ge (fun j => V (ix2 j a)) ⟨56 + s.val, by omega⟩ 44 (by change 44 < 56 + s.val; omega) _
  · exact cnt_ge (fun j => V (ix2 j a)) ⟨56 + s.val, by omega⟩ 45 (by change 45 < 56 + s.val; omega) _
  · exact cnt_ge (fun j => V (ix2 j a)) ⟨56 + s.val, by omega⟩ 46 (by change 46 < 56 + s.val; omega) _
  · exact cnt_ge (fun j => V (ix2 j a)) ⟨56 + s.val, by omega⟩ 47 (by change 47 < 56 + s.val; omega) _
  · exact cnt_ge (fun j => V (ix2 j a)) ⟨56 + s.val, by omega⟩ 48 (by change 48 < 56 + s.val; omega) _
  · exact cnt_ge (fun j => V (ix2 j a)) ⟨56 + s.val, by omega⟩ 49 (by change 49 < 56 + s.val; omega) _
  · exact cnt_ge (fun j => V (ix2 j a)) ⟨56 + s.val, by omega⟩ 50 (by change 50 < 56 + s.val; omega) _
  · exact cnt_ge (fun j => V (ix2 j a)) ⟨56 + s.val, by omega⟩ 51 (by change 51 < 56 + s.val; omega) _
  · exact cnt_ge (fun j => V (ix2 j a)) ⟨56 + s.val, by omega⟩ 52 (by change 52 < 56 + s.val; omega) _
  · exact cnt_ge (fun j => V (ix2 j a)) ⟨56 + s.val, by omega⟩ 53 (by change 53 < 56 + s.val; omega) _
  · exact cnt_ge (fun j => V (ix2 j a)) ⟨56 + s.val, by omega⟩ 54 (by change 54 < 56 + s.val; omega) _
  · exact cnt_ge (fun j => V (ix2 j a)) ⟨56 + s.val, by omega⟩ 55 (by change 55 < 56 + s.val; omega) _
  · exact cnt_tie (fun j => V (ix2 j a)) ⟨56 + s.val, by omega⟩ 56 _ rfl _ _
  · exact cnt_tie (fun j => V (ix2 j a)) ⟨56 + s.val, by omega⟩ 57 _ rfl _ _
  · exact cnt_tie (fun j => V (ix2 j a)) ⟨56 + s.val, by omega⟩ 58 _ rfl _ _
  · exact cnt_tie (fun j => V (ix2 j a)) ⟨56 + s.val, by omega⟩ 59 _ rfl _ _
  · exact cnt_tie (fun j => V (ix2 j a)) ⟨56 + s.val, by omega⟩ 60 _ rfl _ _
  · exact cnt_tie (fun j => V (ix2 j a)) ⟨56 + s.val, by omega⟩ 61 _ rfl _ _
  · exact cnt_tie (fun j => V (ix2 j a)) ⟨56 + s.val, by omega⟩ 62 _ rfl _ _

theorem last_gt (S : Fin 64 → EReal) (J j : Fin 64) (e : J = j) (h : J < 63) (d : Decidable (S J < S 63)) :
    (rank S J 63 + @ite EReal (S J < S 63) d 1 0) = rank S j 64 := by
  subst e
  rw [cnt_gt S J 63 h d]
  exact (rank_succ S J 63).symm

theorem last_tie (S : Fin 64 → EReal) (J j : Fin 64) (e : J = j) (n : ℕ) (hn : n = J.val) (d : Decidable (S J < S 63)) (d' : Decidable (S 63 = S J)) :
    (rank S J 63 + (Scalar.select (IntOp.ori (BitVec.ofBool (@decide (S J < S 63) d)) (IntOp.andi (BitVec.ofBool (@decide (S 63 = S J) d'))
      (IntOp.cmpi .sgt (BitVec.ofNat 32 n) 63#32))) 1 0 : EReal)) = rank S j 64 := by
  subst e
  have h := cnt_tie S J 63 n hn d d'
  exact (congrArg (rank S J 63 + ·) h).trans (rank_succ S J 63).symm

theorem sixteen : Ideal.ofBits FTy.f32 1098907648#32 = ((16 : ℝ) : EReal) := by
  simp [Ideal.ofBits, Ideal.ieee]
  rw [← EReal.coe_mul]
  norm_num

theorem flag (x y : EReal) (h : x = y) (d : Decidable (x < Ideal.ofBits FTy.f32 1098907648#32)) :
    BitVec.ofBool (@decide (x < Ideal.ofBits FTy.f32 1098907648#32) d) = if y < ((16 : ℝ) : EReal) then 1#1 else 0#1 := by
  subst h
  have h' := sixteen
  by_cases hx : x < ((16 : ℝ) : EReal)
  · rw [if_pos hx, decide_eq_true (by rw [h']; exact hx)]; rfl
  · rw [if_neg hx, decide_eq_false (by rw [h']; exact hx)]; rfl

set_option maxHeartbeats 4000000 in
/-- Which blocks are chosen, by the whole rank. -/
theorem r175_at (j : Fin 64) (a : Fin 128) : sl.r_175 (F := Ideal) c i arg3 harg3 arg8 harg8 arg11 harg11 arg12 harg12 x0 x5 x8 x9 (ix2 j a)
    = if rank (fun j => sl.v143 (F := Ideal) c i arg3 harg3 arg8 harg8 arg11 harg11 arg12 harg12 x0 x5 x8 x9 (ix2 j a)) j 64 < ((16 : ℝ) : EReal) then 1#1 else 0#1 := by
  have hr := rank_succ (fun j => sl.v143 (F := Ideal) c i arg3 harg3 arg8 harg8 arg11 harg11 arg12 harg12 x0 x5 x8 x9 (ix2 j a)) j 63
  have b0 := fun s => band0 c i arg3 harg3 arg8 harg8 arg11 harg11 arg12 harg12 x0 x5 x8 x9 s a
  have b1 := fun s => band1 c i arg3 harg3 arg8 harg8 arg11 harg11 arg12 harg12 x0 x5 x8 x9 s a
  have b2 := fun s => band2 c i arg3 harg3 arg8 harg8 arg11 harg11 arg12 harg12 x0 x5 x8 x9 s a
  have b3 := fun s => band3 c i arg3 harg3 arg8 harg8 arg11 harg11 arg12 harg12 x0 x5 x8 x9 s a
  have b4 := fun s => band4 c i arg3 harg3 arg8 harg8 arg11 harg11 arg12 harg12 x0 x5 x8 x9 s a
  have b5 := fun s => band5 c i arg3 harg3 arg8 harg8 arg11 harg11 arg12 harg12 x0 x5 x8 x9 s a
  have b6 := fun s => band6 c i arg3 harg3 arg8 harg8 arg11 harg11 arg12 harg12 x0 x5 x8 x9 s a
  have b7 := fun s => band7 c i arg3 harg3 arg8 harg8 arg11 harg11 arg12 harg12 x0 x5 x8 x9 s a
  simp only [sl.r_175, k0_pay806, k0_pay809, k0_pay810, sl.v146, sl.v147, sl.v148, sl.v149, sl.v150, sl.v151, sl.v159, sl.v122, sl.r_171, sl.r_174]
  generalize sl.v143 (F := Ideal) c i arg3 harg3 arg8 harg8 arg11 harg11 arg12 harg12 x0 x5 x8 x9 = V at *
  pointwise [b0, b1, b2, b3, b4, b5, b6, b7]
  refine flag _ _ ?_ _
  split_ifs with h1 h2 h3 h4 h5 h6 h7
  all_goals first
    | rfl
    | exact congrArg (fun J => rank (fun j => V (ix2 j a)) J 64) (Fin.ext (by dsimp only; omega))
    | exact last_gt (fun j => V (ix2 j a)) j j rfl (by rw [Fin.lt_def]; change _ < 63; dsimp only; omega) _
    | exact last_gt (fun j => V (ix2 j a)) _ j (Fin.ext (by dsimp only; omega)) (by rw [Fin.lt_def]; change _ < 63; dsimp only; omega) _
    | exact last_tie (fun j => V (ix2 j a)) _ j (Fin.ext (by dsimp only; omega)) _ rfl _ _

/-- The rank counts the rows that come before. -/
theorem rank_count (D : Heads) (t : Fin 4096) (j : Fin 64) (S : Fin 64 → EReal) (hS : ∀ j, S j = ((D.score t j : ℝ) : EReal)) :
    rank S j 64 < ((16 : ℝ) : EReal) ↔ D.chosen t j := by
  classical
  have hr : rank S j 64 = (((∑ k, if D.ahead t j k then 1 else 0 : ℕ) : ℝ) : EReal) := by
    unfold rank
    rw [Finset.sum_range]
    push_cast
    rw [← coe_sum]
    refine Finset.sum_congr rfl fun k _ => ?_
    have hk : Fin.ofNat 64 k.val = k := Fin.ext (Nat.mod_eq_of_lt k.isLt)
    rw [hk]
    have he : (S j < S k ∨ (S j = S k ∧ k < j)) ↔ D.ahead t j k := by
      rw [hS, hS, EReal.coe_lt_coe_iff, EReal.coe_eq_coe_iff]; rfl
    unfold cnt
    by_cases h : D.ahead t j k
    · rw [if_pos (he.2 h), if_pos h]; rfl
    · rw [if_neg (fun h' => h (he.1 h')), if_neg h]; rfl
  rw [hr, EReal.coe_lt_coe_iff, Heads.chosen]
  norm_cast

variable {i : grid0.Coords} {x0 : Vec Idealize.ShloMosaic.Ideal S1x128x512 EltTy.bf16}
-- ==== Proof.AttnPart.lean ====
/-
  A softmax taken in pieces.
-/
module

public import proofs.«01_k».proof.Proof.AttnMath
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Attn

/-! ## A softmax taken in pieces -/

/-- What a running softmax holds of the first `n` entries, of which those with `v` count: their maximum `m`, the sum `l` of the
exponentials and the sum `a` of the exponentials times the values, both taken from that maximum. -/
def Part (v : ℕ → Prop) [DecidablePred v] (x c : ℕ → ℝ) (n : ℕ) (m l a : EReal) : Prop :=
  ((∀ u < n, ¬ v u) ∧ m = ⊥ ∧ l = 0 ∧ a = 0) ∨
  ((∃ u < n, v u) ∧ ∃ μ : ℝ, m = ((μ : ℝ) : EReal)
    ∧ l = ((∑ u ∈ Finset.range n, (if v u then Real.exp (x u - μ) else 0) : ℝ) : EReal)
    ∧ a = ((∑ u ∈ Finset.range n, (if v u then Real.exp (x u - μ) else 0) * c u : ℝ) : EReal))

theorem Part.start (v : ℕ → Prop) [DecidablePred v] (x c : ℕ → ℝ) : Part v x c 0 ⊥ 0 0 :=
  Or.inl ⟨fun u h => absurd h (Nat.not_lt_zero u), rfl, rfl, rfl⟩

theorem shift_exp {p : Prop} [Decidable p] (x μ ρ : ℝ) :
    Real.exp (μ - ρ) * (if p then Real.exp (x - μ) else 0) = if p then Real.exp (x - ρ) else 0 := by
  split
  · rw [← Real.exp_add]; congr 1; ring
  · rw [mul_zero]

/-- One more piece of `w` entries. -/
theorem Part.step {v : ℕ → Prop} [DecidablePred v] {x c : ℕ → ℝ} {n : ℕ} {m l a : EReal} (h : Part v x c n m l a) (w : ℕ) (Z W : Fin w → EReal)
    (hZ : ∀ k : Fin w, Z k = if v (n + k.val) then ((x (n + k.val) : ℝ) : EReal) else ⊥) (hW : ∀ k : Fin w, W k = ((c (n + k.val) : ℝ) : EReal))
    {M L A : EReal} (hM : M = max m (Finset.univ.fold max ⊥ Z)) (hL : L = Ideal.exp (m - M) * l + ∑ k, Ideal.exp (Z k - M))
    (hA : A = Ideal.exp (m - M) * a + ∑ k, Ideal.exp (Z k - M) * W k) : Part v x c (n + w) M L A := by
  by_cases hex : ∃ u < n + w, v u
  · have hreal : ∃ ρ : ℝ, M = ((ρ : ℝ) : EReal) := by
      by_cases hnew : ∃ k : Fin w, v (n + k.val)
      · obtain ⟨ν, hν⟩ := fold_max_real (fun k : Fin w => v (n + k.val)) (fun k => x (n + k.val)) Z hZ hnew
        rcases h with ⟨_, hm, _⟩ | ⟨_, μ, hm, _⟩
        · exact ⟨ν, by rw [hM, hm, hν, max_eq_right bot_le]⟩
        · exact ⟨max μ ν, by rw [hM, hm, hν]; exact (EReal.coe_strictMono.monotone.map_max (a := μ) (b := ν)).symm⟩
      · have hν := fold_max_bot (fun k : Fin w => v (n + k.val)) (fun k => x (n + k.val)) Z hZ hnew
        rcases h with ⟨h0, _⟩ | ⟨_, μ, hm, _⟩
        · obtain ⟨u, hu, hv⟩ := hex
          have : ¬ u < n := fun h' => h0 u h' hv
          exact absurd ⟨⟨u - n, by omega⟩, by rw [show n + (u - n) = u by omega]; exact hv⟩ hnew
        · exact ⟨μ, by rw [hM, hm, hν, max_eq_left bot_le]⟩
    obtain ⟨ρ, hρ⟩ := hreal
    refine Or.inr ⟨hex, ρ, hρ, ?_, ?_⟩
    · have old : Ideal.exp (m - M) * l = ((∑ u ∈ Finset.range n, (if v u then Real.exp (x u - ρ) else 0) : ℝ) : EReal) := by
        rcases h with ⟨h0, _, hl, _⟩ | ⟨_, μ, hm, hl, _⟩
        · rw [hl, mul_zero, Finset.sum_eq_zero fun u hu => if_neg (h0 u (Finset.mem_range.1 hu)), EReal.coe_zero]
        · rw [hl, hm, hρ, ← EReal.coe_sub, Ideal.exp_coe, ← EReal.coe_mul, Finset.mul_sum]
          exact congrArg Real.toEReal (Finset.sum_congr rfl fun u _ => shift_exp _ _ _)
      rw [hL, old, Finset.sum_range_add, EReal.coe_add, Finset.sum_range (fun k => if v (n + k) then Real.exp (x (n + k) - ρ) else 0)]
      refine congrArg₂ (· + ·) rfl (Eq.trans (Finset.sum_congr rfl fun k _ => ?_) (coe_sum _ _))
      rw [hZ k, hρ, exp_masked]
    · have old : Ideal.exp (m - M) * a = ((∑ u ∈ Finset.range n, (if v u then Real.exp (x u - ρ) else 0) * c u : ℝ) : EReal) := by
        rcases h with ⟨h0, _, _, ha⟩ | ⟨_, μ, hm, _, ha⟩
        · rw [ha, mul_zero, Finset.sum_eq_zero fun u hu => by rw [if_neg (h0 u (Finset.mem_range.1 hu)), zero_mul], EReal.coe_zero]
        · rw [ha, hm, hρ, ← EReal.coe_sub, Ideal.exp_coe, ← EReal.coe_mul, Finset.mul_sum]
          refine congrArg Real.toEReal (Finset.sum_congr rfl fun u _ => ?_)
          rw [← mul_assoc, shift_exp]
      rw [hA, old, Finset.sum_range_add, EReal.coe_add, Finset.sum_range (fun k => (if v (n + k) then Real.exp (x (n + k) - ρ) else 0) * c (n + k))]
      refine congrArg₂ (· + ·) rfl (Eq.trans (Finset.sum_congr rfl fun k _ => ?_) (coe_sum _ _))
      rw [hZ k, hρ, exp_masked, hW k, EReal.coe_mul]
  · have hnew : ¬ ∃ k : Fin w, v (n + k.val) := fun ⟨k, hk⟩ => hex ⟨n + k.val, by have := k.isLt; omega, hk⟩
    have hν := fold_max_bot (fun k : Fin w => v (n + k.val)) (fun k => x (n + k.val)) Z hZ hnew
    rcases h with ⟨h0, hm, hl, ha⟩ | ⟨⟨u, hu, hv⟩, _⟩
    · have hM' : M = ⊥ := by rw [hM, hm, hν, max_self]
      have hz : ∀ k, Ideal.exp (Z k - M) = 0 := by
        intro k
        rw [hZ k, if_neg fun hk => hnew ⟨k, hk⟩, hM']
        simp
      refine Or.inl ⟨fun u hu hv => hex ⟨u, hu, hv⟩, hM', ?_, ?_⟩
      · rw [hL, hl, mul_zero, zero_add]; exact Finset.sum_eq_zero fun k _ => hz k
      · rw [hA, ha, mul_zero, zero_add]; exact Finset.sum_eq_zero fun k _ => by rw [hz k, zero_mul]
    · exact absurd ⟨u, by omega, hv⟩ hex

/-- What is left after the last piece: the sum over all entries of weight times value. -/
theorem Part.finish {N n : ℕ} (v : Fin N → Prop) [DecidablePred v] (x c : Fin N → ℝ) (v' : ℕ → Prop) [DecidablePred v'] (x' c' : ℕ → ℝ)
    (hn : n ≤ N) (hv : ∀ u : Fin N, v' u.val ↔ v u) (hlast : ∀ u : Fin N, v u → u.val < n) (hx : ∀ u : Fin N, x' u.val = x u) (hc : ∀ u : Fin N, c' u.val = c u)
    {m l a : EReal} (h : Part v' x' c' n m l a) :
    a * Ideal.div 1 (if 0 < l then l else 1) = ((∑ u, weight v x u * c u : ℝ) : EReal) := by
  rcases h with ⟨h0, _, _, ha⟩ | ⟨⟨u, hu, hvu⟩, μ, _, hl, ha⟩
  · rw [ha, zero_mul, Finset.sum_eq_zero, EReal.coe_zero]
    intro u _
    rw [weight, if_neg fun hu => h0 u.val (hlast u hu) ((hv u).2 hu), zero_mul]
  · have ext : ∀ f : ℕ → ℝ, (∀ u : Fin N, ¬ v u → f u.val = 0) → ∑ u ∈ Finset.range n, f u = ∑ u : Fin N, f u.val := by
      intro f hf
      rw [← Finset.sum_range]
      refine Finset.sum_subset (Finset.range_subset_range.2 hn) fun k hk hk' => ?_
      exact hf ⟨k, Finset.mem_range.1 hk⟩ fun hv' => hk' (Finset.mem_range.2 (hlast _ hv'))
    have e1 : ∀ u : Fin N, (if v' u.val then Real.exp (x' u.val - μ) else 0) = if v u then Real.exp (x u - μ) else 0 := by
      intro u
      rw [hx u]
      by_cases hu : v u
      · rw [if_pos hu, if_pos ((hv u).2 hu)]
      · rw [if_neg hu, if_neg fun h' => hu ((hv u).1 h')]
    rw [ext _ fun u hu => if_neg fun h' => hu ((hv u).1 h')] at hl
    rw [ext _ fun u hu => by rw [if_neg fun h' => hu ((hv u).1 h'), zero_mul]] at ha
    rw [Finset.sum_congr rfl fun u _ => e1 u] at hl
    rw [Finset.sum_congr rfl fun u _ => congrArg (· * c' u.val) (e1 u)] at ha
    have hp : 0 < ∑ u : Fin N, if v u then Real.exp (x u - μ) else 0 := shift_pos v x μ ⟨⟨u, by omega⟩, (hv _).1 hvu⟩
    rw [hl, ha, if_pos (EReal.coe_pos.2 hp), Ideal.div_coe hp.ne', one_mul, ← EReal.coe_mul, Finset.sum_mul]
    refine congrArg Real.toEReal (Finset.sum_congr rfl fun u _ => ?_)
    rw [hc u, weight]
    by_cases hu : v u
    · rw [if_pos hu, if_pos hu, ← weight_shift v x μ u hu]; ring
    · rw [if_neg hu, if_neg hu, zero_mul, zero_mul]
-- ==== Proof.AttnTrip.lean ====
/-
  The selected branch's loop: what one trip reads.
-/
module

public import proofs.«01_k».proof.Proof.Gen.Kernel7Ideal.Value
public import proofs.«01_k».proof.Proof.AttnRank
public import proofs.«01_k».proof.Proof.AttnPart
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

variable {i x0 x1 x2 x3 x4 x5 x6 x8 x9} {D : Heads} (hD : Blk i x0 x1 x2 x3 x4 x5 x6 x8 x9 D)

include hD

/-- Which blocks are chosen. -/
theorem r175_chosen (j : Fin 64) (a : Fin 128) [Decidable (D.chosen (tq i a) j)] : sl.r_175 (F := Ideal) c i arg3 harg3 arg8 harg8 arg11 harg11 arg12 harg12 x0 x5 x8 x9 (ix2 j a)
    = if D.chosen (tq i a) j then 1#1 else 0#1 := by
  rw [r175_at]
  have h := rank_count D (tq i a) j (fun j => sl.v143 (F := Ideal) c i arg3 harg3 arg8 harg8 arg11 harg11 arg12 harg12 x0 x5 x8 x9 (ix2 j a)) (fun j => v143_at c arg3 harg3 arg8 harg8 arg11 harg11 arg12 harg12 hD a j)
  by_cases hc : D.chosen (tq i a) j
  · rw [if_pos hc, if_pos (h.2 hc)]
  · rw [if_neg hc, if_neg fun h' => hc (h.1 h')]

open Classical in
/-- The chosen blocks as rows of ones and zeros. -/
theorem r176_at (a j : Fin 128) : sl.r_176 (F := Ideal) c i arg3 harg3 arg8 harg8 arg11 harg11 arg12 harg12 x0 x5 x8 x9 (ix2 a j)
    = (if h : j.val < 64 then (if D.chosen (tq i a) ⟨j.val, h⟩ then 1 else 0) else 0 : EReal) := by
  have h := fun (j : Fin 64) (a : Fin 128) => r175_chosen c arg3 harg3 arg8 harg8 arg11 harg11 arg12 harg12 hD j a
  unfold sl.r_176 k0_pay811 sl.cst_31 sl.cst_44
  generalize sl.r_175 c i arg3 harg3 arg8 harg8 arg11 harg11 arg12 harg12 x0 x5 x8 x9 = V at h
  pointwise [h]
  rw [Finset.sum_eq_single a]
  · rw [cmp_eq (ti_nat a.val (by omega)) (ti_nat a.val (by omega)), bit_sitofp, if_pos rfl, one_mul]
    split
    · rw [bit_select]
    · rfl
  · intro b _ hb
    rw [cmp_eq (ti_nat a.val (by omega)) (ti_nat b.val (by omega)), bit_sitofp, if_neg fun e => hb (Fin.ext (by omega)), zero_mul]
  · intro hb; exact absurd (Finset.mem_univ _) hb

omit hD

/-! ## The loop's offsets -/

theorem trips_eq : (k0_t1_loop i).trips = (i 2).val / 8 + 1 := by
  have h := i2_lt i
  unfold k0_t1_loop
  generalize (i 2).val = n at h
  interval_cases n <;> decide

theorem words_off : ∀ (n : Fin 32) (k : Fin 4) (m : Fin 8),
    (Scalar.indexCast (Scalar.minsi 2#32 (Scalar.maxsi 0#32 (Scalar.subi (Scalar.subi (BitVec.ofNat 32 n.val) (Scalar.muli (Scf.iv 0#32 1#32 k.val) 8#32)) (BitVec.ofNat 32 m.val))))).toNat
      = min 2 (n.val - (8 * k.val + m.val)) := by
  decide +kernel

theorem words_row : ∀ (k : Fin 4), (Scalar.indexCast (Scalar.muli (Scalar.muli (Scf.iv 0#32 1#32 k.val) 8#32) 128#32)).toNat = 1024 * k.val := by
  decide +kernel

variable (k : Fin (k0_t1_loop i).trips)

theorem k_lt : k.val < 4 := by
  have h := lt_of_lt_of_eq k.isLt (trips_eq (i := i))
  have := i2_lt i
  omega

theorem off1_eq : k0_off1 i k = ![0, 1024 * k.val, 0] := by
  have h := words_row ⟨k.val, k_lt k⟩
  unfold k0_off1
  dsimp only at h ⊢
  rw [h]

theorem off2_eq (m : ℕ) (hm : m < 8) : k0_off2 i k (BitVec.ofNat 32 m) = ![0, min 2 ((i 2).val - (8 * k.val + m)), 0, 0] := by
  have h := words_off ⟨(i 2).val, i2_lt i⟩ ⟨k.val, k_lt k⟩ ⟨m, hm⟩
  unfold k0_off2
  dsimp only at h ⊢
  rw [h]
  try rfl

theorem off3_eq (m : ℕ) (hm : m < 8) : k0_off3 i k (BitVec.ofNat 32 m) = ![1, min 2 ((i 2).val - (8 * k.val + m)), 0, 0] := by
  have h := words_off ⟨(i 2).val, i2_lt i⟩ ⟨k.val, k_lt k⟩ ⟨m, hm⟩
  unfold k0_off3
  dsimp only at h ⊢
  rw [h]
  try rfl

theorem off4_eq (m : ℕ) (hm : m < 8) : k0_off4 i k (BitVec.ofNat 32 m) = ![2, min 2 ((i 2).val - (8 * k.val + m)), 0, 0] := by
  have h := words_off ⟨(i 2).val, i2_lt i⟩ ⟨k.val, k_lt k⟩ ⟨m, hm⟩
  unfold k0_off4
  dsimp only at h ⊢
  rw [h]
  try rfl

theorem off5_eq (m : ℕ) (hm : m < 8) : k0_off5 i k (BitVec.ofNat 32 m) = ![3, min 2 ((i 2).val - (8 * k.val + m)), 0, 0] := by
  have h := words_off ⟨(i 2).val, i2_lt i⟩ ⟨k.val, k_lt k⟩ ⟨m, hm⟩
  unfold k0_off5
  dsimp only at h ⊢
  rw [h]
  try rfl

/-- Key `kk` of the trip's piece. -/
abbrev ku (k : Fin (k0_t1_loop i).trips) (kk : Fin 1024) : Fin 4096 := ⟨1024 * k.val + kk.val, by have := k_lt k; omega⟩

include hD

theorem v4028_at (kk : Fin 1024) (d : Fin 128) : trip_k0_t1.sl.v4028 (F := Ideal) i arg4 (harg4.unread x1) k (ix2 kk d) = ((D.ks (ku k kk) d : ℝ) : EReal) := by
  rw [← hD.h1]
  unfold trip_k0_t1.sl.v4028
  pointwise
  refine rd _ _ _ _ _ _ _ _ ?_
  intro e
  refine Eq.trans ?_ (congrArg (· + _) (congrFun (off1_eq k) e).symm)
  fin_cases e <;> simp

theorem r_1_at (kk : Fin 1024) (d : Fin 128) : trip_k0_t1.sl.r_1 (F := Ideal) i arg5 (harg5.unread x2) k (ix2 kk d) = ((D.vs (ku k kk) d : ℝ) : EReal) := by
  rw [← hD.h2]
  unfold trip_k0_t1.sl.r_1 k0_pay18
  pointwise
  refine rd _ _ _ _ _ _ _ _ ?_
  intro e
  refine Eq.trans ?_ (congrArg (· + _) (congrFun (off1_eq k) e).symm)
  fin_cases e <;> simp

theorem bias_at (r : Fin 4) (a : Fin 128) (kk : Fin 1024) (m : ℕ) (h : kk.val / 128 = m) (q : Fin 3) (hq : q.val = min 2 ((i 2).val - (8 * k.val + m))) (b : Fin 128) (hb : b.val = kk.val % 128) :
    x8 (ix4 r q a b) = ((D.bias r (tq i a) (ku k kk) : ℝ) : EReal) := by
  rw [hD.h8, Heads.bias]
  refine congrArg Real.toEReal ?_
  have e : q = (if (ku k kk).val / 128 + 2 ≤ (tq i a).val / 128 then 2 else if (ku k kk).val / 128 + 1 = (tq i a).val / 128 then 1 else 0 : Fin 3) := by
    apply Fin.ext
    rw [hq]
    dsimp only
    split
    · change _ = 2; omega
    split
    · change _ = 1; omega
    · change _ = 0; omega
  rw [e]
  congr 1 <;> apply Fin.ext <;> dsimp only <;> omega

set_option maxHeartbeats 4000000 in
theorem cat0_at (a : Fin 128) (kk : Fin 1024) : trip_k0_t1.sl.v4092 (F := Ideal) i arg11 (harg11.unread x8) k (ix2 a kk) = ((D.bias 0 (tq i a) (ku k kk) : ℝ) : EReal) := by
  have h0 : ∀ (b : Fin 128) (hb : kk.val = 128 * 0 + b.val), trip_k0_t1.sl.v4070 (F := Ideal) i arg11 (harg11.unread x8) k (ix2 a b) = ((D.bias 0 (tq i a) (ku k kk) : ℝ) : EReal) := by
    intro b hb
    unfold trip_k0_t1.sl.v4070
    pointwise
    rw [← bias_at hD k 0 a kk 0 (by omega) ⟨min 2 ((i 2).val - (8 * k.val + 0)), by omega⟩ rfl b (by omega)]
    refine rd _ _ _ _ _ _ _ _ ?_
    intro d
    refine Eq.trans ?_ (congrArg (· + _) (congrFun (off2_eq k 0 (by omega)) d).symm)
    fin_cases d <;> simp
  have h1 : ∀ (b : Fin 128) (hb : kk.val = 128 * 1 + b.val), trip_k0_t1.sl.v4073 (F := Ideal) i arg11 (harg11.unread x8) k (ix2 a b) = ((D.bias 0 (tq i a) (ku k kk) : ℝ) : EReal) := by
    intro b hb
    unfold trip_k0_t1.sl.v4073
    pointwise
    rw [← bias_at hD k 0 a kk 1 (by omega) ⟨min 2 ((i 2).val - (8 * k.val + 1)), by omega⟩ rfl b (by omega)]
    refine rd _ _ _ _ _ _ _ _ ?_
    intro d
    refine Eq.trans ?_ (congrArg (· + _) (congrFun (off2_eq k 1 (by omega)) d).symm)
    fin_cases d <;> simp
  have h2 : ∀ (b : Fin 128) (hb : kk.val = 128 * 2 + b.val), trip_k0_t1.sl.v4076 (F := Ideal) i arg11 (harg11.unread x8) k (ix2 a b) = ((D.bias 0 (tq i a) (ku k kk) : ℝ) : EReal) := by
    intro b hb
    unfold trip_k0_t1.sl.v4076
    pointwise
    rw [← bias_at hD k 0 a kk 2 (by omega) ⟨min 2 ((i 2).val - (8 * k.val + 2)), by omega⟩ rfl b (by omega)]
    refine rd _ _ _ _ _ _ _ _ ?_
    intro d
    refine Eq.trans ?_ (congrArg (· + _) (congrFun (off2_eq k 2 (by omega)) d).symm)
    fin_cases d <;> simp
  have h3 : ∀ (b : Fin 128) (hb : kk.val = 128 * 3 + b.val), trip_k0_t1.sl.v4079 (F := Ideal) i arg11 (harg11.unread x8) k (ix2 a b) = ((D.bias 0 (tq i a) (ku k kk) : ℝ) : EReal) := by
    intro b hb
    unfold trip_k0_t1.sl.v4079
    pointwise
    rw [← bias_at hD k 0 a kk 3 (by omega) ⟨min 2 ((i 2).val - (8 * k.val + 3)), by omega⟩ rfl b (by omega)]
    refine rd _ _ _ _ _ _ _ _ ?_
    intro d
    refine Eq.trans ?_ (congrArg (· + _) (congrFun (off2_eq k 3 (by omega)) d).symm)
    fin_cases d <;> simp
  have h4 : ∀ (b : Fin 128) (hb : kk.val = 128 * 4 + b.val), trip_k0_t1.sl.v4082 (F := Ideal) i arg11 (harg11.unread x8) k (ix2 a b) = ((D.bias 0 (tq i a) (ku k kk) : ℝ) : EReal) := by
    intro b hb
    unfold trip_k0_t1.sl.v4082
    pointwise
    rw [← bias_at hD k 0 a kk 4 (by omega) ⟨min 2 ((i 2).val - (8 * k.val + 4)), by omega⟩ rfl b (by omega)]
    refine rd _ _ _ _ _ _ _ _ ?_
    intro d
    refine Eq.trans ?_ (congrArg (· + _) (congrFun (off2_eq k 4 (by omega)) d).symm)
    fin_cases d <;> simp
  have h5 : ∀ (b : Fin 128) (hb : kk.val = 128 * 5 + b.val), trip_k0_t1.sl.v4085 (F := Ideal) i arg11 (harg11.unread x8) k (ix2 a b) = ((D.bias 0 (tq i a) (ku k kk) : ℝ) : EReal) := by
    intro b hb
    unfold trip_k0_t1.sl.v4085
    pointwise
    rw [← bias_at hD k 0 a kk 5 (by omega) ⟨min 2 ((i 2).val - (8 * k.val + 5)), by omega⟩ rfl b (by omega)]
    refine rd _ _ _ _ _ _ _ _ ?_
    intro d
    refine Eq.trans ?_ (congrArg (· + _) (congrFun (off2_eq k 5 (by omega)) d).symm)
    fin_cases d <;> simp
  have h6 : ∀ (b : Fin 128) (hb : kk.val = 128 * 6 + b.val), trip_k0_t1.sl.v4088 (F := Ideal) i arg11 (harg11.unread x8) k (ix2 a b) = ((D.bias 0 (tq i a) (ku k kk) : ℝ) : EReal) := by
    intro b hb
    unfold trip_k0_t1.sl.v4088
    pointwise
    rw [← bias_at hD k 0 a kk 6 (by omega) ⟨min 2 ((i 2).val - (8 * k.val + 6)), by omega⟩ rfl b (by omega)]
    refine rd _ _ _ _ _ _ _ _ ?_
    intro d
    refine Eq.trans ?_ (congrArg (· + _) (congrFun (off2_eq k 6 (by omega)) d).symm)
    fin_cases d <;> simp
  have h7 : ∀ (b : Fin 128) (hb : kk.val = 128 * 7 + b.val), trip_k0_t1.sl.v4091 (F := Ideal) i arg11 (harg11.unread x8) k (ix2 a b) = ((D.bias 0 (tq i a) (ku k kk) : ℝ) : EReal) := by
    intro b hb
    unfold trip_k0_t1.sl.v4091
    pointwise
    rw [← bias_at hD k 0 a kk 7 (by omega) ⟨min 2 ((i 2).val - (8 * k.val + 7)), by omega⟩ rfl b (by omega)]
    refine rd _ _ _ _ _ _ _ _ ?_
    intro d
    refine Eq.trans ?_ (congrArg (· + _) (congrFun (off2_eq k 7 (by omega)) d).symm)
    fin_cases d <;> simp
  unfold trip_k0_t1.sl.v4092
  generalize trip_k0_t1.sl.v4070 (F := Ideal) i arg11 (harg11.unread x8) k = T0 at h0 ⊢
  generalize trip_k0_t1.sl.v4073 (F := Ideal) i arg11 (harg11.unread x8) k = T1 at h1 ⊢
  generalize trip_k0_t1.sl.v4076 (F := Ideal) i arg11 (harg11.unread x8) k = T2 at h2 ⊢
  generalize trip_k0_t1.sl.v4079 (F := Ideal) i arg11 (harg11.unread x8) k = T3 at h3 ⊢
  generalize trip_k0_t1.sl.v4082 (F := Ideal) i arg11 (harg11.unread x8) k = T4 at h4 ⊢
  generalize trip_k0_t1.sl.v4085 (F := Ideal) i arg11 (harg11.unread x8) k = T5 at h5 ⊢
  generalize trip_k0_t1.sl.v4088 (F := Ideal) i arg11 (harg11.unread x8) k = T6 at h6 ⊢
  generalize trip_k0_t1.sl.v4091 (F := Ideal) i arg11 (harg11.unread x8) k = T7 at h7 ⊢
  pointwise
  split_ifs
  all_goals first
    | exact h0 _ (by dsimp only; omega)
    | exact h1 _ (by dsimp only; omega)
    | exact h2 _ (by dsimp only; omega)
    | exact h3 _ (by dsimp only; omega)
    | exact h4 _ (by dsimp only; omega)
    | exact h5 _ (by dsimp only; omega)
    | exact h6 _ (by dsimp only; omega)
    | exact h7 _ (by dsimp only; omega)

theorem z0_at (q : FVec Ideal S128x128 .bf16) (hq : ∀ a d, q (ix2 a d) = ((D.q 0 (tq i a) d : ℝ) : EReal)) (a : Fin 128) (kk : Fin 1024) :
    trip_k0_t1.sl.v4096 (F := Ideal) i arg4 arg11 q (harg4.unread x1) (harg11.unread x8) k (ix2 a kk) = ((D.zs 0 (tq i a) (ku k kk) : ℝ) : EReal) := by
  have h1 := fun kk d => v4028_at arg4 harg4 hD k kk d
  have h2 := fun a kk => cat0_at arg11 harg11 hD k a kk
  unfold trip_k0_t1.sl.v4096 trip_k0_t1.sl.v4095 trip_k0_t1.sl.v4093 trip_k0_t1.sl.v4094 trip_k0_t1.sl.cst_1310 trip_k0_t1.sl.cst_1309
  generalize trip_k0_t1.sl.v4092 i arg11 (harg11.unread x8) k = B at h2
  generalize trip_k0_t1.sl.v4028 i arg4 (harg4.unread x1) k = K at h1
  pointwise [h1, h2, hq]
  rw [Heads.zs, EReal.coe_add, EReal.coe_mul, ← scale_coe, ← coe_sum]
  refine congrArg (fun s : EReal => s * Ideal.ofBits .f32 0x3DB504F3#32 + ((D.bias 0 (tq i a) (ku k kk) : ℝ) : EReal)) ?_
  exact Finset.sum_congr rfl fun k _ => (EReal.coe_mul _ _).symm

set_option maxHeartbeats 4000000 in
theorem cat1_at (a : Fin 128) (kk : Fin 1024) : trip_k0_t1.sl.v4121 (F := Ideal) i arg11 (harg11.unread x8) k (ix2 a kk) = ((D.bias 1 (tq i a) (ku k kk) : ℝ) : EReal) := by
  have h0 : ∀ (b : Fin 128) (hb : kk.val = 128 * 0 + b.val), trip_k0_t1.sl.v4099 (F := Ideal) i arg11 (harg11.unread x8) k (ix2 a b) = ((D.bias 1 (tq i a) (ku k kk) : ℝ) : EReal) := by
    intro b hb
    unfold trip_k0_t1.sl.v4099
    pointwise
    rw [← bias_at hD k 1 a kk 0 (by omega) ⟨min 2 ((i 2).val - (8 * k.val + 0)), by omega⟩ rfl b (by omega)]
    refine rd _ _ _ _ _ _ _ _ ?_
    intro d
    refine Eq.trans ?_ (congrArg (· + _) (congrFun (off3_eq k 0 (by omega)) d).symm)
    fin_cases d <;> simp
  have h1 : ∀ (b : Fin 128) (hb : kk.val = 128 * 1 + b.val), trip_k0_t1.sl.v4102 (F := Ideal) i arg11 (harg11.unread x8) k (ix2 a b) = ((D.bias 1 (tq i a) (ku k kk) : ℝ) : EReal) := by
    intro b hb
    unfold trip_k0_t1.sl.v4102
    pointwise
    rw [← bias_at hD k 1 a kk 1 (by omega) ⟨min 2 ((i 2).val - (8 * k.val + 1)), by omega⟩ rfl b (by omega)]
    refine rd _ _ _ _ _ _ _ _ ?_
    intro d
    refine Eq.trans ?_ (congrArg (· + _) (congrFun (off3_eq k 1 (by omega)) d).symm)
    fin_cases d <;> simp
  have h2 : ∀ (b : Fin 128) (hb : kk.val = 128 * 2 + b.val), trip_k0_t1.sl.v4105 (F := Ideal) i arg11 (harg11.unread x8) k (ix2 a b) = ((D.bias 1 (tq i a) (ku k kk) : ℝ) : EReal) := by
    intro b hb
    unfold trip_k0_t1.sl.v4105
    pointwise
    rw [← bias_at hD k 1 a kk 2 (by omega) ⟨min 2 ((i 2).val - (8 * k.val + 2)), by omega⟩ rfl b (by omega)]
    refine rd _ _ _ _ _ _ _ _ ?_
    intro d
    refine Eq.trans ?_ (congrArg (· + _) (congrFun (off3_eq k 2 (by omega)) d).symm)
    fin_cases d <;> simp
  have h3 : ∀ (b : Fin 128) (hb : kk.val = 128 * 3 + b.val), trip_k0_t1.sl.v4108 (F := Ideal) i arg11 (harg11.unread x8) k (ix2 a b) = ((D.bias 1 (tq i a) (ku k kk) : ℝ) : EReal) := by
    intro b hb
    unfold trip_k0_t1.sl.v4108
    pointwise
    rw [← bias_at hD k 1 a kk 3 (by omega) ⟨min 2 ((i 2).val - (8 * k.val + 3)), by omega⟩ rfl b (by omega)]
    refine rd _ _ _ _ _ _ _ _ ?_
    intro d
    refine Eq.trans ?_ (congrArg (· + _) (congrFun (off3_eq k 3 (by omega)) d).symm)
    fin_cases d <;> simp
  have h4 : ∀ (b : Fin 128) (hb : kk.val = 128 * 4 + b.val), trip_k0_t1.sl.v4111 (F := Ideal) i arg11 (harg11.unread x8) k (ix2 a b) = ((D.bias 1 (tq i a) (ku k kk) : ℝ) : EReal) := by
    intro b hb
    unfold trip_k0_t1.sl.v4111
    pointwise
    rw [← bias_at hD k 1 a kk 4 (by omega) ⟨min 2 ((i 2).val - (8 * k.val + 4)), by omega⟩ rfl b (by omega)]
    refine rd _ _ _ _ _ _ _ _ ?_
    intro d
    refine Eq.trans ?_ (congrArg (· + _) (congrFun (off3_eq k 4 (by omega)) d).symm)
    fin_cases d <;> simp
  have h5 : ∀ (b : Fin 128) (hb : kk.val = 128 * 5 + b.val), trip_k0_t1.sl.v4114 (F := Ideal) i arg11 (harg11.unread x8) k (ix2 a b) = ((D.bias 1 (tq i a) (ku k kk) : ℝ) : EReal) := by
    intro b hb
    unfold trip_k0_t1.sl.v4114
    pointwise
    rw [← bias_at hD k 1 a kk 5 (by omega) ⟨min 2 ((i 2).val - (8 * k.val + 5)), by omega⟩ rfl b (by omega)]
    refine rd _ _ _ _ _ _ _ _ ?_
    intro d
    refine Eq.trans ?_ (congrArg (· + _) (congrFun (off3_eq k 5 (by omega)) d).symm)
    fin_cases d <;> simp
  have h6 : ∀ (b : Fin 128) (hb : kk.val = 128 * 6 + b.val), trip_k0_t1.sl.v4117 (F := Ideal) i arg11 (harg11.unread x8) k (ix2 a b) = ((D.bias 1 (tq i a) (ku k kk) : ℝ) : EReal) := by
    intro b hb
    unfold trip_k0_t1.sl.v4117
    pointwise
    rw [← bias_at hD k 1 a kk 6 (by omega) ⟨min 2 ((i 2).val - (8 * k.val + 6)), by omega⟩ rfl b (by omega)]
    refine rd _ _ _ _ _ _ _ _ ?_
    intro d
    refine Eq.trans ?_ (congrArg (· + _) (congrFun (off3_eq k 6 (by omega)) d).symm)
    fin_cases d <;> simp
  have h7 : ∀ (b : Fin 128) (hb : kk.val = 128 * 7 + b.val), trip_k0_t1.sl.v4120 (F := Ideal) i arg11 (harg11.unread x8) k (ix2 a b) = ((D.bias 1 (tq i a) (ku k kk) : ℝ) : EReal) := by
    intro b hb
    unfold trip_k0_t1.sl.v4120
    pointwise
    rw [← bias_at hD k 1 a kk 7 (by omega) ⟨min 2 ((i 2).val - (8 * k.val + 7)), by omega⟩ rfl b (by omega)]
    refine rd _ _ _ _ _ _ _ _ ?_
    intro d
    refine Eq.trans ?_ (congrArg (· + _) (congrFun (off3_eq k 7 (by omega)) d).symm)
    fin_cases d <;> simp
  unfold trip_k0_t1.sl.v4121
  generalize trip_k0_t1.sl.v4099 (F := Ideal) i arg11 (harg11.unread x8) k = T0 at h0 ⊢
  generalize trip_k0_t1.sl.v4102 (F := Ideal) i arg11 (harg11.unread x8) k = T1 at h1 ⊢
  generalize trip_k0_t1.sl.v4105 (F := Ideal) i arg11 (harg11.unread x8) k = T2 at h2 ⊢
  generalize trip_k0_t1.sl.v4108 (F := Ideal) i arg11 (harg11.unread x8) k = T3 at h3 ⊢
  generalize trip_k0_t1.sl.v4111 (F := Ideal) i arg11 (harg11.unread x8) k = T4 at h4 ⊢
  generalize trip_k0_t1.sl.v4114 (F := Ideal) i arg11 (harg11.unread x8) k = T5 at h5 ⊢
  generalize trip_k0_t1.sl.v4117 (F := Ideal) i arg11 (harg11.unread x8) k = T6 at h6 ⊢
  generalize trip_k0_t1.sl.v4120 (F := Ideal) i arg11 (harg11.unread x8) k = T7 at h7 ⊢
  pointwise
  split_ifs
  all_goals first
    | exact h0 _ (by dsimp only; omega)
    | exact h1 _ (by dsimp only; omega)
    | exact h2 _ (by dsimp only; omega)
    | exact h3 _ (by dsimp only; omega)
    | exact h4 _ (by dsimp only; omega)
    | exact h5 _ (by dsimp only; omega)
    | exact h6 _ (by dsimp only; omega)
    | exact h7 _ (by dsimp only; omega)

theorem z1_at (q : FVec Ideal S128x128 .bf16) (hq : ∀ a d, q (ix2 a d) = ((D.q 1 (tq i a) d : ℝ) : EReal)) (a : Fin 128) (kk : Fin 1024) :
    trip_k0_t1.sl.v4125 (F := Ideal) i arg4 arg11 q (harg4.unread x1) (harg11.unread x8) k (ix2 a kk) = ((D.zs 1 (tq i a) (ku k kk) : ℝ) : EReal) := by
  have h1 := fun kk d => v4028_at arg4 harg4 hD k kk d
  have h2 := fun a kk => cat1_at arg11 harg11 hD k a kk
  unfold trip_k0_t1.sl.v4125 trip_k0_t1.sl.v4124 trip_k0_t1.sl.v4122 trip_k0_t1.sl.v4094 trip_k0_t1.sl.cst_1310 trip_k0_t1.sl.cst_1309
  generalize trip_k0_t1.sl.v4121 i arg11 (harg11.unread x8) k = B at h2
  generalize trip_k0_t1.sl.v4028 i arg4 (harg4.unread x1) k = K at h1
  pointwise [h1, h2, hq]
  rw [Heads.zs, EReal.coe_add, EReal.coe_mul, ← scale_coe, ← coe_sum]
  refine congrArg (fun s : EReal => s * Ideal.ofBits .f32 0x3DB504F3#32 + ((D.bias 1 (tq i a) (ku k kk) : ℝ) : EReal)) ?_
  exact Finset.sum_congr rfl fun k _ => (EReal.coe_mul _ _).symm

set_option maxHeartbeats 4000000 in
theorem cat2_at (a : Fin 128) (kk : Fin 1024) : trip_k0_t1.sl.v4150 (F := Ideal) i arg11 (harg11.unread x8) k (ix2 a kk) = ((D.bias 2 (tq i a) (ku k kk) : ℝ) : EReal) := by
  have h0 : ∀ (b : Fin 128) (hb : kk.val = 128 * 0 + b.val), trip_k0_t1.sl.v4128 (F := Ideal) i arg11 (harg11.unread x8) k (ix2 a b) = ((D.bias 2 (tq i a) (ku k kk) : ℝ) : EReal) := by
    intro b hb
    unfold trip_k0_t1.sl.v4128
    pointwise
    rw [← bias_at hD k 2 a kk 0 (by omega) ⟨min 2 ((i 2).val - (8 * k.val + 0)), by omega⟩ rfl b (by omega)]
    refine rd _ _ _ _ _ _ _ _ ?_
    intro d
    refine Eq.trans ?_ (congrArg (· + _) (congrFun (off4_eq k 0 (by omega)) d).symm)
    fin_cases d <;> simp
  have h1 : ∀ (b : Fin 128) (hb : kk.val = 128 * 1 + b.val), trip_k0_t1.sl.v4131 (F := Ideal) i arg11 (harg11.unread x8) k (ix2 a b) = ((D.bias 2 (tq i a) (ku k kk) : ℝ) : EReal) := by
    intro b hb
    unfold trip_k0_t1.sl.v4131
    pointwise
    rw [← bias_at hD k 2 a kk 1 (by omega) ⟨min 2 ((i 2).val - (8 * k.val + 1)), by omega⟩ rfl b (by omega)]
    refine rd _ _ _ _ _ _ _ _ ?_
    intro d
    refine Eq.trans ?_ (congrArg (· + _) (congrFun (off4_eq k 1 (by omega)) d).symm)
    fin_cases d <;> simp
  have h2 : ∀ (b : Fin 128) (hb : kk.val = 128 * 2 + b.val), trip_k0_t1.sl.v4134 (F := Ideal) i arg11 (harg11.unread x8) k (ix2 a b) = ((D.bias 2 (tq i a) (ku k kk) : ℝ) : EReal) := by
    intro b hb
    unfold trip_k0_t1.sl.v4134
    pointwise
    rw [← bias_at hD k 2 a kk 2 (by omega) ⟨min 2 ((i 2).val - (8 * k.val + 2)), by omega⟩ rfl b (by omega)]
    refine rd _ _ _ _ _ _ _ _ ?_
    intro d
    refine Eq.trans ?_ (congrArg (· + _) (congrFun (off4_eq k 2 (by omega)) d).symm)
    fin_cases d <;> simp
  have h3 : ∀ (b : Fin 128) (hb : kk.val = 128 * 3 + b.val), trip_k0_t1.sl.v4137 (F := Ideal) i arg11 (harg11.unread x8) k (ix2 a b) = ((D.bias 2 (tq i a) (ku k kk) : ℝ) : EReal) := by
    intro b hb
    unfold trip_k0_t1.sl.v4137
    pointwise
    rw [← bias_at hD k 2 a kk 3 (by omega) ⟨min 2 ((i 2).val - (8 * k.val + 3)), by omega⟩ rfl b (by omega)]
    refine rd _ _ _ _ _ _ _ _ ?_
    intro d
    refine Eq.trans ?_ (congrArg (· + _) (congrFun (off4_eq k 3 (by omega)) d).symm)
    fin_cases d <;> simp
  have h4 : ∀ (b : Fin 128) (hb : kk.val = 128 * 4 + b.val), trip_k0_t1.sl.v4140 (F := Ideal) i arg11 (harg11.unread x8) k (ix2 a b) = ((D.bias 2 (tq i a) (ku k kk) : ℝ) : EReal) := by
    intro b hb
    unfold trip_k0_t1.sl.v4140
    pointwise
    rw [← bias_at hD k 2 a kk 4 (by omega) ⟨min 2 ((i 2).val - (8 * k.val + 4)), by omega⟩ rfl b (by omega)]
    refine rd _ _ _ _ _ _ _ _ ?_
    intro d
    refine Eq.trans ?_ (congrArg (· + _) (congrFun (off4_eq k 4 (by omega)) d).symm)
    fin_cases d <;> simp
  have h5 : ∀ (b : Fin 128) (hb : kk.val = 128 * 5 + b.val), trip_k0_t1.sl.v4143 (F := Ideal) i arg11 (harg11.unread x8) k (ix2 a b) = ((D.bias 2 (tq i a) (ku k kk) : ℝ) : EReal) := by
    intro b hb
    unfold trip_k0_t1.sl.v4143
    pointwise
    rw [← bias_at hD k 2 a kk 5 (by omega) ⟨min 2 ((i 2).val - (8 * k.val + 5)), by omega⟩ rfl b (by omega)]
    refine rd _ _ _ _ _ _ _ _ ?_
    intro d
    refine Eq.trans ?_ (congrArg (· + _) (congrFun (off4_eq k 5 (by omega)) d).symm)
    fin_cases d <;> simp
  have h6 : ∀ (b : Fin 128) (hb : kk.val = 128 * 6 + b.val), trip_k0_t1.sl.v4146 (F := Ideal) i arg11 (harg11.unread x8) k (ix2 a b) = ((D.bias 2 (tq i a) (ku k kk) : ℝ) : EReal) := by
    intro b hb
    unfold trip_k0_t1.sl.v4146
    pointwise
    rw [← bias_at hD k 2 a kk 6 (by omega) ⟨min 2 ((i 2).val - (8 * k.val + 6)), by omega⟩ rfl b (by omega)]
    refine rd _ _ _ _ _ _ _ _ ?_
    intro d
    refine Eq.trans ?_ (congrArg (· + _) (congrFun (off4_eq k 6 (by omega)) d).symm)
    fin_cases d <;> simp
  have h7 : ∀ (b : Fin 128) (hb : kk.val = 128 * 7 + b.val), trip_k0_t1.sl.v4149 (F := Ideal) i arg11 (harg11.unread x8) k (ix2 a b) = ((D.bias 2 (tq i a) (ku k kk) : ℝ) : EReal) := by
    intro b hb
    unfold trip_k0_t1.sl.v4149
    pointwise
    rw [← bias_at hD k 2 a kk 7 (by omega) ⟨min 2 ((i 2).val - (8 * k.val + 7)), by omega⟩ rfl b (by omega)]
    refine rd _ _ _ _ _ _ _ _ ?_
    intro d
    refine Eq.trans ?_ (congrArg (· + _) (congrFun (off4_eq k 7 (by omega)) d).symm)
    fin_cases d <;> simp
  unfold trip_k0_t1.sl.v4150
  generalize trip_k0_t1.sl.v4128 (F := Ideal) i arg11 (harg11.unread x8) k = T0 at h0 ⊢
  generalize trip_k0_t1.sl.v4131 (F := Ideal) i arg11 (harg11.unread x8) k = T1 at h1 ⊢
  generalize trip_k0_t1.sl.v4134 (F := Ideal) i arg11 (harg11.unread x8) k = T2 at h2 ⊢
  generalize trip_k0_t1.sl.v4137 (F := Ideal) i arg11 (harg11.unread x8) k = T3 at h3 ⊢
  generalize trip_k0_t1.sl.v4140 (F := Ideal) i arg11 (harg11.unread x8) k = T4 at h4 ⊢
  generalize trip_k0_t1.sl.v4143 (F := Ideal) i arg11 (harg11.unread x8) k = T5 at h5 ⊢
  generalize trip_k0_t1.sl.v4146 (F := Ideal) i arg11 (harg11.unread x8) k = T6 at h6 ⊢
  generalize trip_k0_t1.sl.v4149 (F := Ideal) i arg11 (harg11.unread x8) k = T7 at h7 ⊢
  pointwise
  split_ifs
  all_goals first
    | exact h0 _ (by dsimp only; omega)
    | exact h1 _ (by dsimp only; omega)
    | exact h2 _ (by dsimp only; omega)
    | exact h3 _ (by dsimp only; omega)
    | exact h4 _ (by dsimp only; omega)
    | exact h5 _ (by dsimp only; omega)
    | exact h6 _ (by dsimp only; omega)
    | exact h7 _ (by dsimp only; omega)

theorem z2_at (q : FVec Ideal S128x128 .bf16) (hq : ∀ a d, q (ix2 a d) = ((D.q 2 (tq i a) d : ℝ) : EReal)) (a : Fin 128) (kk : Fin 1024) :
    trip_k0_t1.sl.v4154 (F := Ideal) i arg4 arg11 q (harg4.unread x1) (harg11.unread x8) k (ix2 a kk) = ((D.zs 2 (tq i a) (ku k kk) : ℝ) : EReal) := by
  have h1 := fun kk d => v4028_at arg4 harg4 hD k kk d
  have h2 := fun a kk => cat2_at arg11 harg11 hD k a kk
  unfold trip_k0_t1.sl.v4154 trip_k0_t1.sl.v4153 trip_k0_t1.sl.v4151 trip_k0_t1.sl.v4094 trip_k0_t1.sl.cst_1310 trip_k0_t1.sl.cst_1309
  generalize trip_k0_t1.sl.v4150 i arg11 (harg11.unread x8) k = B at h2
  generalize trip_k0_t1.sl.v4028 i arg4 (harg4.unread x1) k = K at h1
  pointwise [h1, h2, hq]
  rw [Heads.zs, EReal.coe_add, EReal.coe_mul, ← scale_coe, ← coe_sum]
  refine congrArg (fun s : EReal => s * Ideal.ofBits .f32 0x3DB504F3#32 + ((D.bias 2 (tq i a) (ku k kk) : ℝ) : EReal)) ?_
  exact Finset.sum_congr rfl fun k _ => (EReal.coe_mul _ _).symm

set_option maxHeartbeats 4000000 in
theorem cat3_at (a : Fin 128) (kk : Fin 1024) : trip_k0_t1.sl.v4179 (F := Ideal) i arg11 (harg11.unread x8) k (ix2 a kk) = ((D.bias 3 (tq i a) (ku k kk) : ℝ) : EReal) := by
  have h0 : ∀ (b : Fin 128) (hb : kk.val = 128 * 0 + b.val), trip_k0_t1.sl.v4157 (F := Ideal) i arg11 (harg11.unread x8) k (ix2 a b) = ((D.bias 3 (tq i a) (ku k kk) : ℝ) : EReal) := by
    intro b hb
    unfold trip_k0_t1.sl.v4157
    pointwise
    rw [← bias_at hD k 3 a kk 0 (by omega) ⟨min 2 ((i 2).val - (8 * k.val + 0)), by omega⟩ rfl b (by omega)]
    refine rd _ _ _ _ _ _ _ _ ?_
    intro d
    refine Eq.trans ?_ (congrArg (· + _) (congrFun (off5_eq k 0 (by omega)) d).symm)
    fin_cases d <;> simp
  have h1 : ∀ (b : Fin 128) (hb : kk.val = 128 * 1 + b.val), trip_k0_t1.sl.v4160 (F := Ideal) i arg11 (harg11.unread x8) k (ix2 a b) = ((D.bias 3 (tq i a) (ku k kk) : ℝ) : EReal) := by
    intro b hb
    unfold trip_k0_t1.sl.v4160
    pointwise
    rw [← bias_at hD k 3 a kk 1 (by omega) ⟨min 2 ((i 2).val - (8 * k.val + 1)), by omega⟩ rfl b (by omega)]
    refine rd _ _ _ _ _ _ _ _ ?_
    intro d
    refine Eq.trans ?_ (congrArg (· + _) (congrFun (off5_eq k 1 (by omega)) d).symm)
    fin_cases d <;> simp
  have h2 : ∀ (b : Fin 128) (hb : kk.val = 128 * 2 + b.val), trip_k0_t1.sl.v4163 (F := Ideal) i arg11 (harg11.unread x8) k (ix2 a b) = ((D.bias 3 (tq i a) (ku k kk) : ℝ) : EReal) := by
    intro b hb
    unfold trip_k0_t1.sl.v4163
    pointwise
    rw [← bias_at hD k 3 a kk 2 (by omega) ⟨min 2 ((i 2).val - (8 * k.val + 2)), by omega⟩ rfl b (by omega)]
    refine rd _ _ _ _ _ _ _ _ ?_
    intro d
    refine Eq.trans ?_ (congrArg (· + _) (congrFun (off5_eq k 2 (by omega)) d).symm)
    fin_cases d <;> simp
  have h3 : ∀ (b : Fin 128) (hb : kk.val = 128 * 3 + b.val), trip_k0_t1.sl.v4166 (F := Ideal) i arg11 (harg11.unread x8) k (ix2 a b) = ((D.bias 3 (tq i a) (ku k kk) : ℝ) : EReal) := by
    intro b hb
    unfold trip_k0_t1.sl.v4166
    pointwise
    rw [← bias_at hD k 3 a kk 3 (by omega) ⟨min 2 ((i 2).val - (8 * k.val + 3)), by omega⟩ rfl b (by omega)]
    refine rd _ _ _ _ _ _ _ _ ?_
    intro d
    refine Eq.trans ?_ (congrArg (· + _) (congrFun (off5_eq k 3 (by omega)) d).symm)
    fin_cases d <;> simp
  have h4 : ∀ (b : Fin 128) (hb : kk.val = 128 * 4 + b.val), trip_k0_t1.sl.v4169 (F := Ideal) i arg11 (harg11.unread x8) k (ix2 a b) = ((D.bias 3 (tq i a) (ku k kk) : ℝ) : EReal) := by
    intro b hb
    unfold trip_k0_t1.sl.v4169
    pointwise
    rw [← bias_at hD k 3 a kk 4 (by omega) ⟨min 2 ((i 2).val - (8 * k.val + 4)), by omega⟩ rfl b (by omega)]
    refine rd _ _ _ _ _ _ _ _ ?_
    intro d
    refine Eq.trans ?_ (congrArg (· + _) (congrFun (off5_eq k 4 (by omega)) d).symm)
    fin_cases d <;> simp
  have h5 : ∀ (b : Fin 128) (hb : kk.val = 128 * 5 + b.val), trip_k0_t1.sl.v4172 (F := Ideal) i arg11 (harg11.unread x8) k (ix2 a b) = ((D.bias 3 (tq i a) (ku k kk) : ℝ) : EReal) := by
    intro b hb
    unfold trip_k0_t1.sl.v4172
    pointwise
    rw [← bias_at hD k 3 a kk 5 (by omega) ⟨min 2 ((i 2).val - (8 * k.val + 5)), by omega⟩ rfl b (by omega)]
    refine rd _ _ _ _ _ _ _ _ ?_
    intro d
    refine Eq.trans ?_ (congrArg (· + _) (congrFun (off5_eq k 5 (by omega)) d).symm)
    fin_cases d <;> simp
  have h6 : ∀ (b : Fin 128) (hb : kk.val = 128 * 6 + b.val), trip_k0_t1.sl.v4175 (F := Ideal) i arg11 (harg11.unread x8) k (ix2 a b) = ((D.bias 3 (tq i a) (ku k kk) : ℝ) : EReal) := by
    intro b hb
    unfold trip_k0_t1.sl.v4175
    pointwise
    rw [← bias_at hD k 3 a kk 6 (by omega) ⟨min 2 ((i 2).val - (8 * k.val + 6)), by omega⟩ rfl b (by omega)]
    refine rd _ _ _ _ _ _ _ _ ?_
    intro d
    refine Eq.trans ?_ (congrArg (· + _) (congrFun (off5_eq k 6 (by omega)) d).symm)
    fin_cases d <;> simp
  have h7 : ∀ (b : Fin 128) (hb : kk.val = 128 * 7 + b.val), trip_k0_t1.sl.v4178 (F := Ideal) i arg11 (harg11.unread x8) k (ix2 a b) = ((D.bias 3 (tq i a) (ku k kk) : ℝ) : EReal) := by
    intro b hb
    unfold trip_k0_t1.sl.v4178
    pointwise
    rw [← bias_at hD k 3 a kk 7 (by omega) ⟨min 2 ((i 2).val - (8 * k.val + 7)), by omega⟩ rfl b (by omega)]
    refine rd _ _ _ _ _ _ _ _ ?_
    intro d
    refine Eq.trans ?_ (congrArg (· + _) (congrFun (off5_eq k 7 (by omega)) d).symm)
    fin_cases d <;> simp
  unfold trip_k0_t1.sl.v4179
  generalize trip_k0_t1.sl.v4157 (F := Ideal) i arg11 (harg11.unread x8) k = T0 at h0 ⊢
  generalize trip_k0_t1.sl.v4160 (F := Ideal) i arg11 (harg11.unread x8) k = T1 at h1 ⊢
  generalize trip_k0_t1.sl.v4163 (F := Ideal) i arg11 (harg11.unread x8) k = T2 at h2 ⊢
  generalize trip_k0_t1.sl.v4166 (F := Ideal) i arg11 (harg11.unread x8) k = T3 at h3 ⊢
  generalize trip_k0_t1.sl.v4169 (F := Ideal) i arg11 (harg11.unread x8) k = T4 at h4 ⊢
  generalize trip_k0_t1.sl.v4172 (F := Ideal) i arg11 (harg11.unread x8) k = T5 at h5 ⊢
  generalize trip_k0_t1.sl.v4175 (F := Ideal) i arg11 (harg11.unread x8) k = T6 at h6 ⊢
  generalize trip_k0_t1.sl.v4178 (F := Ideal) i arg11 (harg11.unread x8) k = T7 at h7 ⊢
  pointwise
  split_ifs
  all_goals first
    | exact h0 _ (by dsimp only; omega)
    | exact h1 _ (by dsimp only; omega)
    | exact h2 _ (by dsimp only; omega)
    | exact h3 _ (by dsimp only; omega)
    | exact h4 _ (by dsimp only; omega)
    | exact h5 _ (by dsimp only; omega)
    | exact h6 _ (by dsimp only; omega)
    | exact h7 _ (by dsimp only; omega)

theorem z3_at (q : FVec Ideal S128x128 .bf16) (hq : ∀ a d, q (ix2 a d) = ((D.q 3 (tq i a) d : ℝ) : EReal)) (a : Fin 128) (kk : Fin 1024) :
    trip_k0_t1.sl.v4183 (F := Ideal) i arg4 arg11 q (harg4.unread x1) (harg11.unread x8) k (ix2 a kk) = ((D.zs 3 (tq i a) (ku k kk) : ℝ) : EReal) := by
  have h1 := fun kk d => v4028_at arg4 harg4 hD k kk d
  have h2 := fun a kk => cat3_at arg11 harg11 hD k a kk
  unfold trip_k0_t1.sl.v4183 trip_k0_t1.sl.v4182 trip_k0_t1.sl.v4180 trip_k0_t1.sl.v4094 trip_k0_t1.sl.cst_1310 trip_k0_t1.sl.cst_1309
  generalize trip_k0_t1.sl.v4179 i arg11 (harg11.unread x8) k = B at h2
  generalize trip_k0_t1.sl.v4028 i arg4 (harg4.unread x1) k = K at h1
  pointwise [h1, h2, hq]
  rw [Heads.zs, EReal.coe_add, EReal.coe_mul, ← scale_coe, ← coe_sum]
  refine congrArg (fun s : EReal => s * Ideal.ofBits .f32 0x3DB504F3#32 + ((D.bias 3 (tq i a) (ku k kk) : ℝ) : EReal)) ?_
  exact Finset.sum_congr rfl fun k _ => (EReal.coe_mul _ _).symm

omit hD

theorem half : Ideal.ofBits FTy.f32 1056964608#32 = (((1 / 2 : ℝ) : ℝ) : EReal) := by
  simp [Ideal.ofBits, Ideal.ieee]
  rw [← EReal.coe_mul]
  norm_num

theorem above_half (p : Prop) [Decidable p] (x : EReal) (h : x = if p then 1 else 0) (d : Decidable (Ideal.ofBits FTy.f32 1056964608#32 < x)) :
    BitVec.ofBool (@decide (Ideal.ofBits FTy.f32 1056964608#32 < x) d) = if p then 1#1 else 0#1 := by
  have h1 : (Ideal.ofBits FTy.f32 1056964608#32 < x) ↔ p := by
    rw [half, h]
    by_cases hp : p
    · rw [if_pos hp]
      exact iff_of_true (by rw [← EReal.coe_one, EReal.coe_lt_coe_iff]; norm_num) hp
    · rw [if_neg hp]
      exact iff_of_false (by rw [← EReal.coe_zero, EReal.coe_lt_coe_iff]; norm_num) hp
  by_cases hp : p
  · rw [if_pos hp, decide_eq_true (h1.2 hp)]; rfl
  · rw [if_neg hp, decide_eq_false fun h' => hp (h1.1 h')]; rfl

open Classical in
/-- The mask of the selected branch: zero where the key is seen, minus infinity elsewhere. -/
theorem mask_at (sel : FVec Ideal S128x128 .bf16)
    (hs : ∀ a j : Fin 128, sel (ix2 a j) = (if h : j.val < 64 then (if D.chosen (tq i a) ⟨j.val, h⟩ then 1 else 0) else 0 : EReal)) (a : Fin 128) (kk : Fin 1024) :
    trip_k0_t1.sl.r (F := Ideal) i (BitVec.ofNat 32 (i 2).val) sel k (ix2 a kk) = (if D.seen (tq i a) (ku k kk) then 0 else ⊥ : EReal) := by
  have hi := i2_lt i
  have hk := k_lt k
  have hiv : (Scf.iv 0#32 1#32 k.val : BitVec 32).toInt = (k.val : ℤ) := by
    have : ∀ k : Fin 4, (Scf.iv 0#32 1#32 k.val : BitVec 32).toInt = (k.val : ℤ) := by decide +kernel
    exact this ⟨k.val, hk⟩
  have hpos : (IntOp.addi (Scalar.muli (Scalar.muli (Scf.iv 0#32 1#32 k.val) 8#32) 128#32) (BitVec.ofNat 32 kk.val)).toInt = ((1024 * k.val + kk.val : ℕ) : ℤ) := by
    push_cast
    refine ti_add (a := 1024 * k.val) ?_ (ti_nat _ (by omega)) (by omega)
    have := ti_mul (ti_mul hiv (ti_nat 8 (by omega)) (by omega)) (ti_nat 128 (by omega)) (by omega)
    rw [show (1024 * k.val : ℤ) = k.val * 8 * 128 by ring]
    exact this
  have hcmp := fun j : Fin 128 => cmp_eq (ti_nat j.val (by omega)) (ti_shr .vector hpos (by omega))
  have hd : IntOp.cmpi .sge (IntOp.subi (IntOp.addi (Scalar.muli (Scalar.subi (BitVec.ofNat 32 (i 2).val) (Scalar.muli (Scf.iv 0#32 1#32 k.val) 8#32)) 128#32) (BitVec.ofNat 32 a.val)) (BitVec.ofNat 32 kk.val)) 0#32
      = if ku k kk ≤ tq i a then 1#1 else 0#1 := by
    refine Eq.trans (cmp_sge (a := ((i 2).val - k.val * 8) * 128 + a.val - kk.val) (b := 0)
      (ti_sub (ti_add (ti_mul (ti_sub (ti_nat _ (by omega)) (ti_mul hiv (ti_nat 8 (by omega)) (by omega)) (by omega)) (ti_nat 128 (by omega)) (by omega)) (ti_nat _ (by omega)) (by omega)) (ti_nat _ (by omega)) (by omega)) (ti_nat 0 (by omega))) ?_
    refine if_congr ?_ rfl rfl
    rw [Fin.le_def]
    dsimp only; omega
  unfold trip_k0_t1.sl.r k0_pay17 trip_k0_t1.sl.v4035 trip_k0_t1.sl.v4034 trip_k0_t1.sl.v4033 trip_k0_t1.sl.v4032 trip_k0_t1.sl.v4031 trip_k0_t1.sl.v4029 trip_k0_t1.sl.v4186 trip_k0_t1.sl.v4030 trip_k0_t1.sl.v4185 trip_k0_t1.sl.v4024 trip_k0_t1.sl.v4023 trip_k0_t1.sl.arg14
  pointwise [mask_bot, hcmp, hd]
  rw [above_half (D.chosen (tq i a) ⟨(ku k kk).val / 64, by have := (ku k kk).isLt; omega⟩), bit_and, bit_select]
  · by_cases h : D.seen (tq i a) (ku k kk)
    · rw [if_pos h]; exact if_pos h
    · rw [if_neg h]; exact if_neg h
  rw [Finset.sum_eq_single (⟨(1024 * k.val + kk.val) / 64, by omega⟩ : Fin 128)]
  · rw [bit_sitofp, if_pos rfl, mul_one, hs, dif_pos (by dsimp only; omega)]
  · intro b _ hb
    rw [bit_sitofp, if_neg fun e => hb (Fin.ext (by dsimp only; omega)), mul_zero]
  · intro hb; exact absurd (Finset.mem_univ _) hb
-- ==== Proof.AttnStep.lean ====
/-
  The selected branch's loop: what one trip makes of the running maxima, sums and weighted sums, for the four heads.
-/
module

public import proofs.«01_k».proof.Proof.Gen.Kernel7Ideal.Value
public import proofs.«01_k».proof.Proof.AttnPart
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen Cert.Attn

theorem lowest : Ideal.ofBits FTy.f32 4286578688#32 = ⊥ := by simp [Ideal.ofBits, Ideal.ieee]

section
variable {v : ℕ → Prop} [DecidablePred v] {x e : ℕ → ℝ} {n : ℕ} {a d : Fin 128} (m l : FVec Ideal S128x1 .f32) (A : FVec Ideal S128x128 .f32)
  (z r : FVec Ideal S128x1024 .f32) (V : FVec Ideal S1024x128 .bf16)
  (h : Part v x e n (m (ix2 a 0)) (l (ix2 a 0)) (A (ix2 a d)))
  (hV : ∀ kk : Fin 1024, V (ix2 kk d) = ((e (n + kk.val) : ℝ) : EReal))
include h hV

theorem part0 (sel : FVec Ideal S128x128 .bf16) (w u : IVec S128x1024 32) (hz : ∀ kk : Fin 1024, (z (ix2 a kk) + k0_pay17 sel w u 6#32 (ix2 a kk) : EReal) = if v (n + kk.val) then ((x (n + kk.val) : ℝ) : EReal) else ⊥) :
    Part v x e (n + 1024) (k0_pay20 sel m w z u 6#32 (ix2 a 0)) (k0_pay24 sel m l w z u 6#32 (ix2 a 0)) (k0_pay835 V (k0_pay23 sel m w z u 6#32) (k0_pay25 sel m A w z u 6#32) (ix2 a d)) := by
  refine Part.step h 1024 (fun kk => (z (ix2 a kk) + k0_pay17 sel w u 6#32 (ix2 a kk) : EReal)) (fun kk => V (ix2 kk d)) hz hV ?_ ?_ ?_
  · unfold k0_pay20 k0_pay19
    generalize k0_pay17 sel w u 6#32 = r
    pointwise
    rw [lowest]
  · unfold k0_pay24 k0_pay21 k0_pay22
    generalize k0_pay20 sel m w z u 6#32 = M
    unfold k0_pay19
    generalize k0_pay17 sel w u 6#32 = r
    pointwise
  · unfold k0_pay835 k0_pay23 k0_pay25 k0_pay21 k0_pay22
    generalize k0_pay20 sel m w z u 6#32 = M
    unfold k0_pay19
    generalize k0_pay17 sel w u 6#32 = r
    pointwise

theorem part1 (sel : FVec Ideal S128x128 .bf16) (w u : IVec S128x1024 32) (hz : ∀ kk : Fin 1024, (z (ix2 a kk) + k0_pay17 sel w u 6#32 (ix2 a kk) : EReal) = if v (n + kk.val) then ((x (n + kk.val) : ℝ) : EReal) else ⊥) :
    Part v x e (n + 1024) (k0_pay27 sel m w z u 6#32 (ix2 a 0)) (k0_pay824 (k0_pay29 sel m w z u 6#32) (k0_pay31 sel m l w z u 6#32) (ix2 a 0)) (k0_pay836 A V (k0_pay28 sel m w z u 6#32) (k0_pay30 sel m w z u 6#32) (ix2 a d)) := by
  refine Part.step h 1024 (fun kk => (z (ix2 a kk) + k0_pay17 sel w u 6#32 (ix2 a kk) : EReal)) (fun kk => V (ix2 kk d)) hz hV ?_ ?_ ?_
  · unfold k0_pay27 k0_pay26
    generalize k0_pay17 sel w u 6#32 = r
    pointwise
    rw [lowest]
  · unfold k0_pay824 k0_pay31 k0_pay28 k0_pay29
    generalize k0_pay27 sel m w z u 6#32 = M
    unfold k0_pay26
    generalize k0_pay17 sel w u 6#32 = r
    pointwise
  · unfold k0_pay836 k0_pay30 k0_pay28 k0_pay29
    generalize k0_pay27 sel m w z u 6#32 = M
    unfold k0_pay26
    generalize k0_pay17 sel w u 6#32 = r
    pointwise

theorem part2 (hz : ∀ kk : Fin 1024, (z (ix2 a kk) + r (ix2 a kk) : EReal) = if v (n + kk.val) then ((x (n + kk.val) : ℝ) : EReal) else ⊥) :
    Part v x e (n + 1024) (k0_pay826 m z r (ix2 a 0)) (k0_pay829 m l z r (ix2 a 0)) (k0_pay837 m A z r V (ix2 a d)) := by
  refine Part.step h 1024 (fun kk => (z (ix2 a kk) + r (ix2 a kk) : EReal)) (fun kk => V (ix2 kk d)) hz hV ?_ ?_ ?_
  · unfold k0_pay826 k0_pay825
    pointwise
    rw [lowest]
  · unfold k0_pay829 k0_pay827 k0_pay828
    generalize k0_pay826 m z r = M
    unfold k0_pay825
    pointwise
  · unfold k0_pay837 k0_pay827 k0_pay828
    generalize k0_pay826 m z r = M
    unfold k0_pay825
    pointwise

theorem part3 (hz : ∀ kk : Fin 1024, (z (ix2 a kk) + r (ix2 a kk) : EReal) = if v (n + kk.val) then ((x (n + kk.val) : ℝ) : EReal) else ⊥) :
    Part v x e (n + 1024) (k0_pay831 m z r (ix2 a 0)) (k0_pay834 m l z r (ix2 a 0)) (k0_pay838 m A z r V (ix2 a d)) := by
  refine Part.step h 1024 (fun kk => (z (ix2 a kk) + r (ix2 a kk) : EReal)) (fun kk => V (ix2 kk d)) hz hV ?_ ?_ ?_
  · unfold k0_pay831 k0_pay830
    pointwise
    rw [lowest]
  · unfold k0_pay834 k0_pay832 k0_pay833
    generalize k0_pay831 m z r = M
    unfold k0_pay830
    pointwise
  · unfold k0_pay838 k0_pay832 k0_pay833
    generalize k0_pay831 m z r = M
    unfold k0_pay830
    pointwise

end

end Cert.Kernel7Ideal.Val
-- ==== Proof.AttnLoop.lean ====
/-
  The selected branch's loop: what it holds after any number of trips.
-/
module

public import proofs.«01_k».proof.Proof.Gen.Kernel7Ideal.Value
public import proofs.«01_k».proof.Proof.AttnTrip
public import proofs.«01_k».proof.Proof.AttnStep
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

variable {i x0 x1 x2 x3 x4 x5 x6 x8 x9} {D : Heads} (hD : Blk i x0 x1 x2 x3 x4 x5 x6 x8 x9 D)

/-- Whether the query sees key `u`, over all numbers. -/
def vN (D : Heads) (t : Fin 4096) (u : ℕ) : Prop := ∃ h : u < 4096, D.seen t ⟨u, h⟩
/-- The logit of key `u` under head `r`, over all numbers. -/
def xN (D : Heads) (r : Fin 4) (t : Fin 4096) (u : ℕ) : ℝ := if h : u < 4096 then D.zs r t ⟨u, h⟩ else 0
/-- Component `d` of value `u`, over all numbers. -/
def eN (D : Heads) (d : Fin 128) (u : ℕ) : ℝ := if h : u < 4096 then D.vs ⟨u, h⟩ d else 0

/-- What the loop carries: maximum, sum and weighted sum of each of the four heads. -/
abbrev Carry := FVec Ideal S128x1 .f32 × FVec Ideal S128x1 .f32 × FVec Ideal S128x128 .f32 × FVec Ideal S128x1 .f32 × FVec Ideal S128x1 .f32 × FVec Ideal S128x128 .f32 × FVec Ideal S128x1 .f32 × FVec Ideal S128x1 .f32 × FVec Ideal S128x128 .f32 × FVec Ideal S128x1 .f32 × FVec Ideal S128x1 .f32 × FVec Ideal S128x128 .f32

open Classical in
/-- The four heads' running softmax over the first `n` keys, at one query and one component. -/
def Four (D : Heads) (t : Fin 4096) (a d : Fin 128) (n : ℕ) (acc : Carry) : Prop :=
  Part (vN D t) (xN D 0 t) (eN D d) n (acc.1 (ix2 a 0)) (acc.2.1 (ix2 a 0)) (acc.2.2.1 (ix2 a d))
  ∧ Part (vN D t) (xN D 1 t) (eN D d) n (acc.2.2.2.1 (ix2 a 0)) (acc.2.2.2.2.1 (ix2 a 0)) (acc.2.2.2.2.2.1 (ix2 a d))
  ∧ Part (vN D t) (xN D 2 t) (eN D d) n (acc.2.2.2.2.2.2.1 (ix2 a 0)) (acc.2.2.2.2.2.2.2.1 (ix2 a 0)) (acc.2.2.2.2.2.2.2.2.1 (ix2 a d))
  ∧ Part (vN D t) (xN D 3 t) (eN D d) n (acc.2.2.2.2.2.2.2.2.2.1 (ix2 a 0)) (acc.2.2.2.2.2.2.2.2.2.2.1 (ix2 a 0)) (acc.2.2.2.2.2.2.2.2.2.2.2 (ix2 a d))

theorem masked {p q : Prop} [Decidable p] [Decidable q] (hpq : p ↔ q) {z r : EReal} {x y : ℝ} (hz : z = ((x : ℝ) : EReal)) (hr : r = if p then 0 else ⊥) (hxy : x = y) :
    z + r = if q then ((y : ℝ) : EReal) else ⊥ := by
  subst hz hr hxy
  by_cases h : p
  · rw [if_pos h, if_pos (hpq.1 h), add_zero]
  · rw [if_neg h, if_neg fun h' => h (hpq.2 h'), EReal.add_bot]

open Classical in
/-- Rows of ones at the chosen blocks and zeros elsewhere. -/
def Sel (D : Heads) (i : grid0.Coords) (sel : FVec Ideal S128x128 .bf16) : Prop :=
  ∀ a j : Fin 128, sel (ix2 a j) = (if h : j.val < 64 then (if D.chosen (tq i a) ⟨j.val, h⟩ then 1 else 0) else 0 : EReal)

variable (k : Fin (k0_t1_loop i).trips) (q0 q1 q2 q3 sel : FVec Ideal S128x128 .bf16)
  (hq0 : ∀ a d, q0 (ix2 a d) = ((D.q 0 (tq i a) d : ℝ) : EReal)) (hq1 : ∀ a d, q1 (ix2 a d) = ((D.q 1 (tq i a) d : ℝ) : EReal))
  (hq2 : ∀ a d, q2 (ix2 a d) = ((D.q 2 (tq i a) d : ℝ) : EReal)) (hq3 : ∀ a d, q3 (ix2 a d) = ((D.q 3 (tq i a) d : ℝ) : EReal))
variable (hs : Sel D i sel)
variable (p1 p2 p4 p5 p7 p8 p10 p11 : FVec Ideal S128x1 .f32) (p3 p6 p9 p12 : FVec Ideal S128x128 .f32) (w : BitVec 32) (b1 b2 : BitVec 1)

theorem vN_at (t : Fin 4096) (kk : Fin 1024) : D.seen t (ku k kk) ↔ vN D t (1024 * k.val + kk.val) :=
  ⟨fun h => ⟨(ku k kk).isLt, h⟩, fun ⟨_, h⟩ => h⟩

theorem xN_at (r : Fin 4) (t : Fin 4096) (kk : Fin 1024) : D.zs r t (ku k kk) = xN D r t (1024 * k.val + kk.val) := by
  unfold xN; rw [dif_pos (ku k kk).isLt]

theorem eN_at (d : Fin 128) (kk : Fin 1024) : D.vs (ku k kk) d = eN D d (1024 * k.val + kk.val) := by
  unfold eN; rw [dif_pos (ku k kk).isLt]

include hD hs

open Classical in
include hq0 in
theorem trip0 (acc : Carry) (a d : Fin 128) (h : Part (vN D (tq i a)) (xN D 0 (tq i a)) (eN D d) (1024 * k.val) (acc.1 (ix2 a 0)) (acc.2.1 (ix2 a 0)) (acc.2.2.1 (ix2 a d))) :
    Part (vN D (tq i a)) (xN D 0 (tq i a)) (eN D d) (1024 * k.val + 1024) ((trip_k0_t1.sl.r_2 (F := Ideal) i arg4 arg11 (BitVec.ofNat 32 (i 2).val) q0 sel (harg4.unread x1) (harg11.unread x8) k acc) (ix2 a 0)) ((trip_k0_t1.sl.r_4 (F := Ideal) i arg4 arg11 (BitVec.ofNat 32 (i 2).val) q0 sel (harg4.unread x1) (harg11.unread x8) k acc) (ix2 a 0)) ((k0_pay835 (trip_k0_t1.sl.r_1 (F := Ideal) i arg5 (harg5.unread x2) k) (trip_k0_t1.sl.r_3 (F := Ideal) i arg4 arg11 (BitVec.ofNat 32 (i 2).val) q0 sel (harg4.unread x1) (harg11.unread x8) k acc) (trip_k0_t1.sl.r_5 (F := Ideal) i arg4 arg11 (BitVec.ofNat 32 (i 2).val) q0 sel (harg4.unread x1) (harg11.unread x8) k acc)) (ix2 a d)) :=
  part0 acc.1 acc.2.1 acc.2.2.1 (trip_k0_t1.sl.v4096 (F := Ideal) i arg4 arg11 q0 (harg4.unread x1) (harg11.unread x8) k) (trip_k0_t1.sl.r_1 (F := Ideal) i arg5 (harg5.unread x2) k) h (fun kk => (r_1_at arg5 harg5 hD k kk d).trans (congrArg _ (eN_at k d kk))) sel (trip_k0_t1.sl.v4035 i (BitVec.ofNat 32 (i 2).val) k) (trip_k0_t1.sl.v4186 i k) fun kk =>
    masked (vN_at k (tq i a) kk) (z0_at arg4 harg4 arg11 harg11 hD k q0 hq0 a kk) (mask_at k sel hs a kk) (xN_at k 0 (tq i a) kk)

open Classical in
include hq1 in
theorem trip1 (acc : Carry) (a d : Fin 128) (h : Part (vN D (tq i a)) (xN D 1 (tq i a)) (eN D d) (1024 * k.val) (acc.2.2.2.1 (ix2 a 0)) (acc.2.2.2.2.1 (ix2 a 0)) (acc.2.2.2.2.2.1 (ix2 a d))) :
    Part (vN D (tq i a)) (xN D 1 (tq i a)) (eN D d) (1024 * k.val + 1024) ((trip_k0_t1.sl.r_6 (F := Ideal) i arg4 arg11 (BitVec.ofNat 32 (i 2).val) q1 sel (harg4.unread x1) (harg11.unread x8) k acc) (ix2 a 0)) ((k0_pay824 (trip_k0_t1.sl.r_8 (F := Ideal) i arg4 arg11 (BitVec.ofNat 32 (i 2).val) q1 sel (harg4.unread x1) (harg11.unread x8) k acc) (trip_k0_t1.sl.r_10 (F := Ideal) i arg4 arg11 (BitVec.ofNat 32 (i 2).val) q1 sel (harg4.unread x1) (harg11.unread x8) k acc)) (ix2 a 0)) ((k0_pay836 acc.2.2.2.2.2.1 (trip_k0_t1.sl.r_1 (F := Ideal) i arg5 (harg5.unread x2) k) (trip_k0_t1.sl.r_7 (F := Ideal) i arg4 arg11 (BitVec.ofNat 32 (i 2).val) q1 sel (harg4.unread x1) (harg11.unread x8) k acc) (trip_k0_t1.sl.r_9 (F := Ideal) i arg4 arg11 (BitVec.ofNat 32 (i 2).val) q1 sel (harg4.unread x1) (harg11.unread x8) k acc)) (ix2 a d)) :=
  part1 acc.2.2.2.1 acc.2.2.2.2.1 acc.2.2.2.2.2.1 (trip_k0_t1.sl.v4125 (F := Ideal) i arg4 arg11 q1 (harg4.unread x1) (harg11.unread x8) k) (trip_k0_t1.sl.r_1 (F := Ideal) i arg5 (harg5.unread x2) k) h (fun kk => (r_1_at arg5 harg5 hD k kk d).trans (congrArg _ (eN_at k d kk))) sel (trip_k0_t1.sl.v4035 i (BitVec.ofNat 32 (i 2).val) k) (trip_k0_t1.sl.v4186 i k) fun kk =>
    masked (vN_at k (tq i a) kk) (z1_at arg4 harg4 arg11 harg11 hD k q1 hq1 a kk) (mask_at k sel hs a kk) (xN_at k 1 (tq i a) kk)

open Classical in
include hq2 in
theorem trip2 (acc : Carry) (a d : Fin 128) (h : Part (vN D (tq i a)) (xN D 2 (tq i a)) (eN D d) (1024 * k.val) (acc.2.2.2.2.2.2.1 (ix2 a 0)) (acc.2.2.2.2.2.2.2.1 (ix2 a 0)) (acc.2.2.2.2.2.2.2.2.1 (ix2 a d))) :
    Part (vN D (tq i a)) (xN D 2 (tq i a)) (eN D d) (1024 * k.val + 1024) ((k0_pay826 acc.2.2.2.2.2.2.1 (trip_k0_t1.sl.v4154 (F := Ideal) i arg4 arg11 q2 (harg4.unread x1) (harg11.unread x8) k) (trip_k0_t1.sl.r (F := Ideal) i (BitVec.ofNat 32 (i 2).val) sel k)) (ix2 a 0)) ((k0_pay829 acc.2.2.2.2.2.2.1 acc.2.2.2.2.2.2.2.1 (trip_k0_t1.sl.v4154 (F := Ideal) i arg4 arg11 q2 (harg4.unread x1) (harg11.unread x8) k) (trip_k0_t1.sl.r (F := Ideal) i (BitVec.ofNat 32 (i 2).val) sel k)) (ix2 a 0)) ((k0_pay837 acc.2.2.2.2.2.2.1 acc.2.2.2.2.2.2.2.2.1 (trip_k0_t1.sl.v4154 (F := Ideal) i arg4 arg11 q2 (harg4.unread x1) (harg11.unread x8) k) (trip_k0_t1.sl.r (F := Ideal) i (BitVec.ofNat 32 (i 2).val) sel k) (trip_k0_t1.sl.r_1 (F := Ideal) i arg5 (harg5.unread x2) k)) (ix2 a d)) :=
  part2 acc.2.2.2.2.2.2.1 acc.2.2.2.2.2.2.2.1 acc.2.2.2.2.2.2.2.2.1 (trip_k0_t1.sl.v4154 (F := Ideal) i arg4 arg11 q2 (harg4.unread x1) (harg11.unread x8) k) (trip_k0_t1.sl.r (F := Ideal) i (BitVec.ofNat 32 (i 2).val) sel k) (trip_k0_t1.sl.r_1 (F := Ideal) i arg5 (harg5.unread x2) k) h (fun kk => (r_1_at arg5 harg5 hD k kk d).trans (congrArg _ (eN_at k d kk))) fun kk =>
    masked (vN_at k (tq i a) kk) (z2_at arg4 harg4 arg11 harg11 hD k q2 hq2 a kk) (mask_at k sel hs a kk) (xN_at k 2 (tq i a) kk)

open Classical in
include hq3 in
theorem trip3 (acc : Carry) (a d : Fin 128) (h : Part (vN D (tq i a)) (xN D 3 (tq i a)) (eN D d) (1024 * k.val) (acc.2.2.2.2.2.2.2.2.2.1 (ix2 a 0)) (acc.2.2.2.2.2.2.2.2.2.2.1 (ix2 a 0)) (acc.2.2.2.2.2.2.2.2.2.2.2 (ix2 a d))) :
    Part (vN D (tq i a)) (xN D 3 (tq i a)) (eN D d) (1024 * k.val + 1024) ((k0_pay831 acc.2.2.2.2.2.2.2.2.2.1 (trip_k0_t1.sl.v4183 (F := Ideal) i arg4 arg11 q3 (harg4.unread x1) (harg11.unread x8) k) (trip_k0_t1.sl.r (F := Ideal) i (BitVec.ofNat 32 (i 2).val) sel k)) (ix2 a 0)) ((k0_pay834 acc.2.2.2.2.2.2.2.2.2.1 acc.2.2.2.2.2.2.2.2.2.2.1 (trip_k0_t1.sl.v4183 (F := Ideal) i arg4 arg11 q3 (harg4.unread x1) (harg11.unread x8) k) (trip_k0_t1.sl.r (F := Ideal) i (BitVec.ofNat 32 (i 2).val) sel k)) (ix2 a 0)) ((k0_pay838 acc.2.2.2.2.2.2.2.2.2.1 acc.2.2.2.2.2.2.2.2.2.2.2 (trip_k0_t1.sl.v4183 (F := Ideal) i arg4 arg11 q3 (harg4.unread x1) (harg11.unread x8) k) (trip_k0_t1.sl.r (F := Ideal) i (BitVec.ofNat 32 (i 2).val) sel k) (trip_k0_t1.sl.r_1 (F := Ideal) i arg5 (harg5.unread x2) k)) (ix2 a d)) :=
  part3 acc.2.2.2.2.2.2.2.2.2.1 acc.2.2.2.2.2.2.2.2.2.2.1 acc.2.2.2.2.2.2.2.2.2.2.2 (trip_k0_t1.sl.v4183 (F := Ideal) i arg4 arg11 q3 (harg4.unread x1) (harg11.unread x8) k) (trip_k0_t1.sl.r (F := Ideal) i (BitVec.ofNat 32 (i 2).val) sel k) (trip_k0_t1.sl.r_1 (F := Ideal) i arg5 (harg5.unread x2) k) h (fun kk => (r_1_at arg5 harg5 hD k kk d).trans (congrArg _ (eN_at k d kk))) fun kk =>
    masked (vN_at k (tq i a) kk) (z3_at arg4 harg4 arg11 harg11 hD k q3 hq3 a kk) (mask_at k sel hs a kk) (xN_at k 3 (tq i a) kk)

include hq0 hq1 hq2 hq3

theorem trip_four (acc : Carry) (a d : Fin 128) (h : Four D (tq i a) a d (1024 * k.val) acc) :
    Four D (tq i a) a d (1024 * k.val + 1024) (tripR_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 sel p1 p2 p3 p4 p5 p6 p7 p8 p9 p10 p11 p12 w b1 b2 (harg4.unread x1) (harg5.unread x2) (harg11.unread x8) k acc) := by
  unfold tripR_k0_t1 trip_k0_t1
  exact ⟨trip0 arg4 harg4 arg5 harg5 arg11 harg11 hD k q0 sel hq0 hs acc a d h.1, trip1 arg4 harg4 arg5 harg5 arg11 harg11 hD k q1 sel hq1 hs acc a d h.2.1,
    trip2 arg4 harg4 arg5 harg5 arg11 harg11 hD k q2 sel hq2 hs acc a d h.2.2.1, trip3 arg4 harg4 arg5 harg5 arg11 harg11 hD k q3 sel hq3 hs acc a d h.2.2.2⟩

theorem loop_four (a d : Fin 128) (init : Carry) (h : Four D (tq i a) a d 0 init) : ∀ n : ℕ, n ≤ (k0_t1_loop i).trips →
    Four D (tq i a) a d (1024 * n) (st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 sel p1 p2 p3 p4 p5 p6 p7 p8 p9 p10 p11 p12 w b1 b2 (harg4.unread x1) (harg5.unread x2) (harg11.unread x8) init n) := by
  intro n
  induction n with
  | zero => intro _; exact h
  | succ n ih =>
    intro hn
    rw [show 1024 * (n + 1) = 1024 * n + 1024 from rfl]
    rw [st_k0_t1_succ (F := Ideal) Variants.none c none i arg3 harg3 arg4 harg4 arg5 harg5 arg6 harg6 arg7 harg7 arg8 harg8 arg9 harg9 arg10 harg10 arg11 harg11 arg12 harg12 arg13 harg13 (BitVec.ofNat 32 (i 2).val) q0 q1 q2 q3 sel p1 p2 p3 p4 p5 p6 p7 p8 p9 p10 p11 p12 w b1 b2 (harg4.unread x1) (harg5.unread x2) (harg11.unread x8) init ⟨n, hn⟩]
    exact trip_four c arg3 harg3 arg4 harg4 arg5 harg5 arg6 harg6 arg7 harg7 arg8 harg8 arg9 harg9 arg10 harg10 arg11 harg11 arg12 harg12 arg13 harg13 hD ⟨n, hn⟩ q0 q1 q2 q3 sel hq0 hq1 hq2 hq3 hs p1 p2 p4 p5 p7 p8 p10 p11 p3 p6 p9 p12 w b1 b2 _ a d (ih (Nat.le_of_succ_le hn))

end Cert.Kernel7Ideal.Val
-- ==== Proof.AttnSel.lean ====
/-
  The selected branch: what the loop leaves, divided by its sums.
-/
module

public import proofs.«01_k».proof.Proof.Gen.Kernel7Ideal.Value
public import proofs.«01_k».proof.Proof.AttnLoop
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

variable {i x0 x1 x2 x3 x4 x5 x6 x8 x9} {D : Heads} (hD : Blk i x0 x1 x2 x3 x4 x5 x6 x8 x9 D)

/-- The loop after the last whole piece makes no trip. -/
theorem trips2_eq : Scf.trips (k0_t2_loop i).lb (k0_t2_loop i).ub (k0_t2_loop i).st = 0 := by
  have h := i2_lt i
  unfold k0_t2_loop
  generalize (i 2).val = n at h
  interval_cases n <;> decide

theorem divided0 (l : FVec Ideal S128x1 .f32) (A : FVec Ideal S128x128 .f32) (a d : Fin 128) :
    k0_pay854 l A (ix2 a d) = (A (ix2 a d) * Ideal.div 1 (if 0 < (l (ix2 a 0) : EReal) then l (ix2 a 0) else 1) : EReal) := by
  unfold k0_pay854
  pointwise

theorem divided1 (l : FVec Ideal S128x1 .f32) (A : FVec Ideal S128x128 .f32) (a d : Fin 128) :
    k0_pay855 l A (ix2 a d) = (A (ix2 a d) * Ideal.div 1 (if 0 < (l (ix2 a 0) : EReal) then l (ix2 a 0) else 1) : EReal) := by
  unfold k0_pay855
  pointwise

theorem divided2 (l : FVec Ideal S128x1 .f32) (A : FVec Ideal S128x128 .f32) (a d : Fin 128) :
    k0_pay856 l A (ix2 a d) = (A (ix2 a d) * Ideal.div 1 (if 0 < (l (ix2 a 0) : EReal) then l (ix2 a 0) else 1) : EReal) := by
  unfold k0_pay856
  pointwise

theorem divided3 (l : FVec Ideal S128x1 .f32) (A : FVec Ideal S128x128 .f32) (a d : Fin 128) :
    k0_pay858 A (k0_pay857 l) (ix2 a d) = (A (ix2 a d) * Ideal.div 1 (if 0 < (l (ix2 a 0) : EReal) then l (ix2 a 0) else 1) : EReal) := by
  unfold k0_pay858 k0_pay857
  pointwise

open Classical in
theorem finished (r : Fin 4) (a d : Fin 128) {m l A : EReal}
    (h : Part (vN D (tq i a)) (xN D r (tq i a)) (eN D d) (1024 * (k0_t1_loop i).trips) m l A) :
    A * Ideal.div 1 (if 0 < l then l else 1) = ((D.os r (tq i a) d : ℝ) : EReal) := by
  have hi := i2_lt i
  have ht := trips_eq (i := i)
  refine Part.finish (D.seen (tq i a)) (D.zs r (tq i a)) (fun u => D.vs u d) _ _ _ ?_ ?_ ?_ ?_ ?_ h
  · omega
  · exact fun u => ⟨fun ⟨_, h⟩ => h, fun h => ⟨u.isLt, h⟩⟩
  · intro u hu
    have h1 : u.val ≤ 128 * (i 2).val + a.val := hu.1
    omega
  · intro u; unfold xN; rw [dif_pos u.isLt]
  · intro u; unfold eN; rw [dif_pos u.isLt]

open Classical in
theorem start_four (t : Fin 4096) (a d : Fin 128) : Four D t a d 0 (k0_pay812, k0_pay813, k0_pay814, k0_pay815, k0_pay816, k0_pay817, k0_pay818, k0_pay819, k0_pay820, k0_pay821, k0_pay822, k0_pay823) := by
  have e : ∀ (r : Fin 4) (m l : FVec Ideal S128x1 .f32) (A : FVec Ideal S128x128 .f32), m (ix2 a 0) = ⊥ → l (ix2 a 0) = 0 → A (ix2 a d) = 0 →
      Part (vN D t) (xN D r t) (eN D d) 0 (m (ix2 a 0)) (l (ix2 a 0)) (A (ix2 a d)) := by
    intro r m l A hm hl hA
    rw [hm, hl, hA]
    exact Part.start _ _ _
  refine ⟨e 0 _ _ _ ?_ ?_ ?_, e 1 _ _ _ ?_ ?_ ?_, e 2 _ _ _ ?_ ?_ ?_, e 3 _ _ _ ?_ ?_ ?_⟩
  · unfold k0_pay812; pointwise; exact mask_bot
  · unfold k0_pay813; pointwise
  · unfold k0_pay814; pointwise
  · unfold k0_pay815; pointwise; exact mask_bot
  · unfold k0_pay816; pointwise
  · unfold k0_pay817; pointwise
  · unfold k0_pay818; pointwise; exact mask_bot
  · unfold k0_pay819; pointwise
  · unfold k0_pay820; pointwise
  · unfold k0_pay821; pointwise; exact mask_bot
  · unfold k0_pay822; pointwise
  · unfold k0_pay823; pointwise

include hD

theorem q0_at (a d : Fin 128) : sl.v2 (F := Ideal) c arg3 harg3 x0 (ix2 a d) = ((D.q 0 (tq i a) d : ℝ) : EReal) := by
  rw [← v1_at c arg3 harg3 hD 0 a d]
  unfold sl.v2
  generalize sl.v1 (F := Ideal) c arg3 harg3 x0 = X
  pointwise
  try (congr 2; apply Fin.ext; simp; try omega)

theorem q1_at (a d : Fin 128) : sl.v3 (F := Ideal) c arg3 harg3 x0 (ix2 a d) = ((D.q 1 (tq i a) d : ℝ) : EReal) := by
  rw [← v1_at c arg3 harg3 hD 1 a d]
  unfold sl.v3
  generalize sl.v1 (F := Ideal) c arg3 harg3 x0 = X
  pointwise
  try (congr 2; apply Fin.ext; simp; try omega)

theorem q2_at (a d : Fin 128) : sl.v4 (F := Ideal) c arg3 harg3 x0 (ix2 a d) = ((D.q 2 (tq i a) d : ℝ) : EReal) := by
  rw [← v1_at c arg3 harg3 hD 2 a d]
  unfold sl.v4
  generalize sl.v1 (F := Ideal) c arg3 harg3 x0 = X
  pointwise
  try (congr 2; apply Fin.ext; simp; try omega)

theorem q3_at (a d : Fin 128) : sl.v5 (F := Ideal) c arg3 harg3 x0 (ix2 a d) = ((D.q 3 (tq i a) d : ℝ) : EReal) := by
  rw [← v1_at c arg3 harg3 hD 3 a d]
  unfold sl.v5
  generalize sl.v1 (F := Ideal) c arg3 harg3 x0 = X
  pointwise
  try (congr 2; apply Fin.ext; simp; try omega)

open Classical in
theorem loop_end (a d : Fin 128) : Four D (tq i a) a d (1024 * (k0_t1_loop i).trips) (st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (sl.v2 (F := Ideal) c arg3 harg3 x0) (sl.v3 (F := Ideal) c arg3 harg3 x0) (sl.v4 (F := Ideal) c arg3 harg3 x0) (sl.v5 (F := Ideal) c arg3 harg3 x0) (sl.r_176 (F := Ideal) c i arg3 harg3 arg8 harg8 arg11 harg11 arg12 harg12 x0 x5 x8 x9) k0_pay812 k0_pay813 k0_pay814 k0_pay815 k0_pay816 k0_pay817 k0_pay818 k0_pay819 k0_pay820 k0_pay821 k0_pay822 k0_pay823 (sl.v3717 i) (sl.v3728 i) (sl.v3730 i) (harg4.unread x1) (harg5.unread x2) (harg11.unread x8) (k0_pay812, k0_pay813, k0_pay814, k0_pay815, k0_pay816, k0_pay817, k0_pay818, k0_pay819, k0_pay820, k0_pay821, k0_pay822, k0_pay823) (Scf.trips (k0_t1_loop i).lb (k0_t1_loop i).ub (k0_t1_loop i).st)) :=
  loop_four c arg3 harg3 arg4 harg4 arg5 harg5 arg6 harg6 arg7 harg7 arg8 harg8 arg9 harg9 arg10 harg10 arg11 harg11 arg12 harg12 arg13 harg13 hD (sl.v2 (F := Ideal) c arg3 harg3 x0) (sl.v3 (F := Ideal) c arg3 harg3 x0) (sl.v4 (F := Ideal) c arg3 harg3 x0) (sl.v5 (F := Ideal) c arg3 harg3 x0) (sl.r_176 (F := Ideal) c i arg3 harg3 arg8 harg8 arg11 harg11 arg12 harg12 x0 x5 x8 x9)
    (fun a d => q0_at c arg3 harg3 hD a d)
    (fun a d => q1_at c arg3 harg3 hD a d)
    (fun a d => q2_at c arg3 harg3 hD a d)
    (fun a d => q3_at c arg3 harg3 hD a d)
    (fun a j => r176_at c arg3 harg3 arg8 harg8 arg11 harg11 arg12 harg12 hD a j) k0_pay812 k0_pay813 k0_pay815 k0_pay816 k0_pay818 k0_pay819 k0_pay821 k0_pay822 k0_pay814 k0_pay817 k0_pay820 k0_pay823 _ _ _ a d _ (start_four (tq i a) a d) _ le_rfl

theorem selected0 (a d : Fin 128) : sl.r_178 (F := Ideal) c i arg3 harg3 arg4 harg4 arg5 harg5 arg6 harg6 arg7 harg7 arg8 harg8 arg9 harg9 arg10 harg10 arg11 harg11 arg12 harg12 arg13 harg13 x0 x1 x2 x5 x8 x9 (ix2 a d) = ((D.os 0 (tq i a) d : ℝ) : EReal) := by
  have h := loop_end c arg3 harg3 arg4 harg4 arg5 harg5 arg6 harg6 arg7 harg7 arg8 harg8 arg9 harg9 arg10 harg10 arg11 harg11 arg12 harg12 arg13 harg13 hD a d
  unfold sl.r_178
  rw [trips2_eq]
  generalize st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (sl.v2 (F := Ideal) c arg3 harg3 x0) (sl.v3 (F := Ideal) c arg3 harg3 x0) (sl.v4 (F := Ideal) c arg3 harg3 x0) (sl.v5 (F := Ideal) c arg3 harg3 x0) (sl.r_176 (F := Ideal) c i arg3 harg3 arg8 harg8 arg11 harg11 arg12 harg12 x0 x5 x8 x9) k0_pay812 k0_pay813 k0_pay814 k0_pay815 k0_pay816 k0_pay817 k0_pay818 k0_pay819 k0_pay820 k0_pay821 k0_pay822 k0_pay823 (sl.v3717 i) (sl.v3728 i) (sl.v3730 i) (harg4.unread x1) (harg5.unread x2) (harg11.unread x8) (k0_pay812, k0_pay813, k0_pay814, k0_pay815, k0_pay816, k0_pay817, k0_pay818, k0_pay819, k0_pay820, k0_pay821, k0_pay822, k0_pay823) (Scf.trips (k0_t1_loop i).lb (k0_t1_loop i).ub (k0_t1_loop i).st) = S at h ⊢
  exact (divided0 _ _ a d).trans (finished 0 a d h.1)

theorem selected1 (a d : Fin 128) : sl.r_179 (F := Ideal) c i arg3 harg3 arg4 harg4 arg5 harg5 arg6 harg6 arg7 harg7 arg8 harg8 arg9 harg9 arg10 harg10 arg11 harg11 arg12 harg12 arg13 harg13 x0 x1 x2 x5 x8 x9 (ix2 a d) = ((D.os 1 (tq i a) d : ℝ) : EReal) := by
  have h := loop_end c arg3 harg3 arg4 harg4 arg5 harg5 arg6 harg6 arg7 harg7 arg8 harg8 arg9 harg9 arg10 harg10 arg11 harg11 arg12 harg12 arg13 harg13 hD a d
  unfold sl.r_179
  rw [trips2_eq]
  generalize st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (sl.v2 (F := Ideal) c arg3 harg3 x0) (sl.v3 (F := Ideal) c arg3 harg3 x0) (sl.v4 (F := Ideal) c arg3 harg3 x0) (sl.v5 (F := Ideal) c arg3 harg3 x0) (sl.r_176 (F := Ideal) c i arg3 harg3 arg8 harg8 arg11 harg11 arg12 harg12 x0 x5 x8 x9) k0_pay812 k0_pay813 k0_pay814 k0_pay815 k0_pay816 k0_pay817 k0_pay818 k0_pay819 k0_pay820 k0_pay821 k0_pay822 k0_pay823 (sl.v3717 i) (sl.v3728 i) (sl.v3730 i) (harg4.unread x1) (harg5.unread x2) (harg11.unread x8) (k0_pay812, k0_pay813, k0_pay814, k0_pay815, k0_pay816, k0_pay817, k0_pay818, k0_pay819, k0_pay820, k0_pay821, k0_pay822, k0_pay823) (Scf.trips (k0_t1_loop i).lb (k0_t1_loop i).ub (k0_t1_loop i).st) = S at h ⊢
  exact (divided1 _ _ a d).trans (finished 1 a d h.2.1)

theorem selected2 (a d : Fin 128) : sl.r_180 (F := Ideal) c i arg3 harg3 arg4 harg4 arg5 harg5 arg6 harg6 arg7 harg7 arg8 harg8 arg9 harg9 arg10 harg10 arg11 harg11 arg12 harg12 arg13 harg13 x0 x1 x2 x5 x8 x9 (ix2 a d) = ((D.os 2 (tq i a) d : ℝ) : EReal) := by
  have h := loop_end c arg3 harg3 arg4 harg4 arg5 harg5 arg6 harg6 arg7 harg7 arg8 harg8 arg9 harg9 arg10 harg10 arg11 harg11 arg12 harg12 arg13 harg13 hD a d
  unfold sl.r_180
  rw [trips2_eq]
  generalize st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (sl.v2 (F := Ideal) c arg3 harg3 x0) (sl.v3 (F := Ideal) c arg3 harg3 x0) (sl.v4 (F := Ideal) c arg3 harg3 x0) (sl.v5 (F := Ideal) c arg3 harg3 x0) (sl.r_176 (F := Ideal) c i arg3 harg3 arg8 harg8 arg11 harg11 arg12 harg12 x0 x5 x8 x9) k0_pay812 k0_pay813 k0_pay814 k0_pay815 k0_pay816 k0_pay817 k0_pay818 k0_pay819 k0_pay820 k0_pay821 k0_pay822 k0_pay823 (sl.v3717 i) (sl.v3728 i) (sl.v3730 i) (harg4.unread x1) (harg5.unread x2) (harg11.unread x8) (k0_pay812, k0_pay813, k0_pay814, k0_pay815, k0_pay816, k0_pay817, k0_pay818, k0_pay819, k0_pay820, k0_pay821, k0_pay822, k0_pay823) (Scf.trips (k0_t1_loop i).lb (k0_t1_loop i).ub (k0_t1_loop i).st) = S at h ⊢
  exact (divided2 _ _ a d).trans (finished 2 a d h.2.2.1)

theorem selected3 (a d : Fin 128) : sl.r_182 (F := Ideal) c i arg3 harg3 arg4 harg4 arg5 harg5 arg6 harg6 arg7 harg7 arg8 harg8 arg9 harg9 arg10 harg10 arg11 harg11 arg12 harg12 arg13 harg13 x0 x1 x2 x5 x8 x9 (ix2 a d) = ((D.os 3 (tq i a) d : ℝ) : EReal) := by
  have h := loop_end c arg3 harg3 arg4 harg4 arg5 harg5 arg6 harg6 arg7 harg7 arg8 harg8 arg9 harg9 arg10 harg10 arg11 harg11 arg12 harg12 arg13 harg13 hD a d
  unfold sl.r_182 sl.r_177 sl.r_181
  rw [trips2_eq]
  generalize st_k0_t1 (F := Ideal) Variants.none c none i arg3 harg3 arg4 harg4 arg5 harg5 arg6 harg6 arg7 harg7 arg8 harg8 arg9 harg9 arg10 harg10 arg11 harg11 arg12 harg12 arg13 harg13 (BitVec.ofNat 32 (i 2).val) (sl.v2 (F := Ideal) c arg3 harg3 x0) (sl.v3 (F := Ideal) c arg3 harg3 x0) (sl.v4 (F := Ideal) c arg3 harg3 x0) (sl.v5 (F := Ideal) c arg3 harg3 x0) (sl.r_176 (F := Ideal) c i arg3 harg3 arg8 harg8 arg11 harg11 arg12 harg12 x0 x5 x8 x9) k0_pay812 k0_pay813 k0_pay814 k0_pay815 k0_pay816 k0_pay817 k0_pay818 k0_pay819 k0_pay820 k0_pay821 k0_pay822 k0_pay823 (sl.v3717 i) (sl.v3728 i) (sl.v3730 i) (harg4.unread x1) (harg5.unread x2) (harg11.unread x8) (k0_pay812, k0_pay813, k0_pay814, k0_pay815, k0_pay816, k0_pay817, k0_pay818, k0_pay819, k0_pay820, k0_pay821, k0_pay822, k0_pay823) (Scf.trips (k0_t1_loop i).lb (k0_t1_loop i).ub (k0_t1_loop i).st) = S at h ⊢
  exact (divided3 _ _ a d).trans (finished 3 a d h.2.2.2)

end Cert.Kernel7Ideal.Val
-- ==== Proof.AttnSlide.lean ====
/-
  The window branch's mathematics: a softmax over all keys is one over any piece that holds every key that counts.
-/
module

public import proofs.«01_k».proof.Proof.Gen.Kernel7Ideal.Value
public import proofs.«01_k».proof.Proof.AttnPart
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Attn

theorem sum_piece {N w : ℕ} (o : ℕ) (ho : o + w ≤ N) (f : Fin N → ℝ) (hf : ∀ u : Fin N, ¬ (o ≤ u.val ∧ u.val < o + w) → f u = 0) :
    ∑ k : Fin w, f ⟨o + k.val, by omega⟩ = ∑ u, f u := by
  refine Finset.sum_of_injOn (fun k : Fin w => (⟨o + k.val, by omega⟩ : Fin N)) ?_ (fun _ _ => Finset.mem_coe.2 (Finset.mem_univ _)) ?_ fun _ _ => rfl
  · intro x _ y _ h
    have := congrArg Fin.val h
    dsimp only at this
    exact Fin.ext (by omega)
  · intro u _ hu
    refine hf u fun h => hu ⟨⟨u.val - o, by omega⟩, Finset.mem_coe.2 (Finset.mem_univ _), Fin.ext ?_⟩
    dsimp only; omega

theorem window {N w : ℕ} (o : ℕ) (ho : o + w ≤ N) (v : Fin N → Prop) [DecidablePred v] (x c : Fin N → ℝ) (hex : ∃ u, v u)
    (hin : ∀ u : Fin N, v u → o ≤ u.val ∧ u.val < o + w) (Z W : Fin w → EReal)
    (hZ : ∀ k : Fin w, Z k = if v ⟨o + k.val, by omega⟩ then ((x ⟨o + k.val, by omega⟩ : ℝ) : EReal) else ⊥)
    (hW : ∀ k : Fin w, W k = ((c ⟨o + k.val, by omega⟩ : ℝ) : EReal)) :
    (∑ k, Ideal.exp (Z k - Finset.univ.fold max ⊥ Z) * W k) * Ideal.div 1 (∑ k, Ideal.exp (Z k - Finset.univ.fold max ⊥ Z))
      = ((∑ u, weight v x u * c u : ℝ) : EReal) := by
  classical
  obtain ⟨u, hu⟩ := hex
  have hu' := hin u hu
  obtain ⟨μ, hμ⟩ := fold_max_real (fun k : Fin w => v ⟨o + k.val, by omega⟩) (fun k => x ⟨o + k.val, by omega⟩) Z hZ
    ⟨⟨u.val - o, by omega⟩, by
      have e : (⟨o + (u.val - o), by omega⟩ : Fin N) = u := Fin.ext (by dsimp only; omega)
      dsimp only; rw [e]; exact hu⟩
  have he : ∀ k : Fin w, Ideal.exp (Z k - Finset.univ.fold max ⊥ Z) = ((if v ⟨o + k.val, by omega⟩ then Real.exp (x ⟨o + k.val, by omega⟩ - μ) else 0 : ℝ) : EReal) := by
    intro k
    rw [hμ, hZ]
    exact exp_masked _ _
  have hl : (∑ k, Ideal.exp (Z k - Finset.univ.fold max ⊥ Z)) = ((∑ u, (if v u then Real.exp (x u - μ) else 0) : ℝ) : EReal) := by
    rw [← sum_piece o ho (fun u => if v u then Real.exp (x u - μ) else 0) fun u hn => if_neg fun h => hn (hin u h), ← coe_sum]
    exact Finset.sum_congr rfl fun k _ => he k
  have ha : (∑ k, Ideal.exp (Z k - Finset.univ.fold max ⊥ Z) * W k) = ((∑ u, (if v u then Real.exp (x u - μ) else 0) * c u : ℝ) : EReal) := by
    rw [← sum_piece o ho (fun u => (if v u then Real.exp (x u - μ) else 0) * c u) fun u hn => by rw [if_neg fun h => hn (hin u h), zero_mul], ← coe_sum]
    refine Finset.sum_congr rfl fun k _ => ?_
    rw [he k, hW k, ← EReal.coe_mul]
  have hp : 0 < ∑ u, (if v u then Real.exp (x u - μ) else 0) := shift_pos v x μ ⟨u, hu⟩
  rw [ha, hl, Ideal.div_coe hp.ne', one_mul, ← EReal.coe_mul, Finset.sum_mul]
  refine congrArg Real.toEReal (Finset.sum_congr rfl fun k _ => ?_)
  by_cases h : v k
  · rw [if_pos h, weight, if_pos h, ← weight_shift v x μ k h]; ring
  · rw [if_neg h, weight, if_neg h, zero_mul, zero_mul]

end Cert.Attn
-- ==== Proof.AttnWin.lean ====
/-
  The window branch: five tiles of keys, their bias, their mask, and what their softmax makes of the values.
-/
module

public import proofs.«01_k».proof.Proof.Gen.Kernel7Ideal.Value
public import proofs.«01_k».proof.Proof.AttnSel
public import proofs.«01_k».proof.Proof.AttnSlide
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

variable {i x0 x1 x2 x3 x4 x5 x6 x8 x9} {D : Heads} (hD : Blk i x0 x1 x2 x3 x4 x5 x6 x8 x9 D)

/-- Key `kk` of the window's five tiles. -/
abbrev kw (i : grid0.Coords) (kk : Fin 640) : Fin 4096 := ⟨128 * ((i 2).val - 4) + kk.val, by have := i2_lt i; omega⟩

theorem words_base : ∀ n : Fin 32, Scalar.maxsi (Scalar.subi (BitVec.ofNat 32 n.val) 4#32) 0#32 = BitVec.ofNat 32 (n.val - 4) := by
  decide +kernel

theorem words_win : ∀ (n : Fin 32) (m : Fin 5),
    (Scalar.indexCast (Scalar.minsi 2#32 (Scalar.maxsi 0#32 (Scalar.subi (Scalar.subi (BitVec.ofNat 32 n.val) (Scalar.maxsi (Scalar.subi (BitVec.ofNat 32 n.val) 4#32) 0#32)) (BitVec.ofNat 32 m.val))))).toNat
      = min 2 (n.val - (n.val - 4) - m.val) := by
  decide +kernel

theorem words_start : ∀ n : Fin 32, (Scalar.indexCast (Scalar.muli (Scalar.maxsi (Scalar.subi (BitVec.ofNat 32 n.val) 4#32) 0#32) 128#32)).toNat = 128 * (n.val - 4) := by
  decide +kernel

theorem off11_eq : k0_off11 i = ![0, 128 * ((i 2).val - 4), 0] := by
  have h := words_start ⟨(i 2).val, i2_lt i⟩
  unfold k0_off11
  dsimp only at h ⊢
  rw [h]

theorem off12_eq (m : ℕ) (hm : m < 5) : k0_off12 i (BitVec.ofNat 32 m) = ![0, min 2 ((i 2).val - ((i 2).val - 4) - m), 0, 0] := by
  have h := words_win ⟨(i 2).val, i2_lt i⟩ ⟨m, hm⟩
  unfold k0_off12
  dsimp only at h ⊢
  rw [h]
  try rfl

theorem off13_eq (m : ℕ) (hm : m < 5) : k0_off13 i (BitVec.ofNat 32 m) = ![1, min 2 ((i 2).val - ((i 2).val - 4) - m), 0, 0] := by
  have h := words_win ⟨(i 2).val, i2_lt i⟩ ⟨m, hm⟩
  unfold k0_off13
  dsimp only at h ⊢
  rw [h]
  try rfl

theorem off14_eq (m : ℕ) (hm : m < 5) : k0_off14 i (BitVec.ofNat 32 m) = ![2, min 2 ((i 2).val - ((i 2).val - 4) - m), 0, 0] := by
  have h := words_win ⟨(i 2).val, i2_lt i⟩ ⟨m, hm⟩
  unfold k0_off14
  dsimp only at h ⊢
  rw [h]
  try rfl

theorem off15_eq (m : ℕ) (hm : m < 5) : k0_off15 i (BitVec.ofNat 32 m) = ![3, min 2 ((i 2).val - ((i 2).val - 4) - m), 0, 0] := by
  have h := words_win ⟨(i 2).val, i2_lt i⟩ ⟨m, hm⟩
  unfold k0_off15
  dsimp only at h ⊢
  rw [h]
  try rfl

/-- The window's mask: zero for the keys of the window, minus infinity elsewhere. -/
theorem wmask_at (a : Fin 128) (kk : Fin 640) : k0_pay871 (F := Ideal) (sl.r_184 i) (ix2 a kk)
    = (if kw i kk ≤ tq i a ∧ (tq i a).val < (kw i kk).val + 512 then 0 else ⊥ : EReal) := by
  have hi := i2_lt i
  have hb := words_base ⟨(i 2).val, hi⟩
  dsimp only at hb
  have ht : (IntOp.subi (IntOp.addi (Scalar.muli (Scalar.subi (BitVec.ofNat 32 (i 2).val) (Scalar.maxsi (Scalar.subi (BitVec.ofNat 32 (i 2).val) 4#32) 0#32)) 128#32) (BitVec.ofNat 32 a.val)) (BitVec.ofNat 32 kk.val)).toInt
      = ((i 2).val - ((i 2).val - 4 : ℕ)) * 128 + a.val - kk.val := by
    rw [hb]
    exact ti_sub (ti_add (ti_mul (ti_sub (ti_nat _ (by omega)) (ti_nat _ (by omega)) (by omega)) (ti_nat 128 (by omega)) (by omega)) (ti_nat _ (by omega)) (by omega)) (ti_nat _ (by omega)) (by omega)
  have h1 := cmp_sge ht (ti_nat 0 (by omega))
  have h2 := cmp_slt ht (ti_nat 512 (by omega))
  unfold sl.r_184 k0_pay871 k0_pay860
  pointwise [mask_bot, h1, h2]
  rw [bit_and, bit_select]
  refine if_congr ?_ rfl rfl
  rw [Fin.le_def]
  dsimp only
  omega

/-- Five tiles side by side. -/
def five (T0 T1 T2 T3 T4 : FVec Ideal S128x128 .f32) : FVec Ideal S128x640 .f32 :=
  concatenate S128x640 1 [⟨S128x128, T0⟩, ⟨S128x128, T1⟩, ⟨S128x128, T2⟩, ⟨S128x128, T3⟩, ⟨S128x128, T4⟩] concatenates_S128x128_S128x128_S128x128_S128x128_S128x128_S128x640_d1

theorem five_at (T0 T1 T2 T3 T4 : FVec Ideal S128x128 .f32) (a : Fin 128) (kk : Fin 640) (x : EReal)
    (h0 : ∀ b : Fin 128, kk.val = 128 * 0 + b.val → T0 (ix2 a b) = x)
    (h1 : ∀ b : Fin 128, kk.val = 128 * 1 + b.val → T1 (ix2 a b) = x)
    (h2 : ∀ b : Fin 128, kk.val = 128 * 2 + b.val → T2 (ix2 a b) = x)
    (h3 : ∀ b : Fin 128, kk.val = 128 * 3 + b.val → T3 (ix2 a b) = x)
    (h4 : ∀ b : Fin 128, kk.val = 128 * 4 + b.val → T4 (ix2 a b) = x)
    : five T0 T1 T2 T3 T4 (ix2 a kk) = x := by
  unfold five
  pointwise
  split_ifs
  all_goals first
    | exact h0 _ (by dsimp only; omega)
    | exact h1 _ (by dsimp only; omega)
    | exact h2 _ (by dsimp only; omega)
    | exact h3 _ (by dsimp only; omega)
    | exact h4 _ (by dsimp only; omega)

/-- Scaled products of queries and keys, with a bias. -/
def logits (q : FVec Ideal S128x128 .bf16) (K : FVec Ideal S640x128 .bf16) (B : FVec Ideal S128x640 .f32) : FVec Ideal S128x640 .f32 :=
  addf (mulf (matmul dot_S128x128_S640x128_S128x640_1_1_0_0_n_n none q K (constant S128x640 .f32 0x00000000#32)) (broadcast S128x640 (Scalar.ofBits .f32 0x3DB504F3#32))) B

theorem logits_at (r : Fin 4) (q : FVec Ideal S128x128 .bf16) (K : FVec Ideal S640x128 .bf16) (B : FVec Ideal S128x640 .f32)
    (hq : ∀ a d, q (ix2 a d) = ((D.q r (tq i a) d : ℝ) : EReal)) (hK : ∀ kk d, K (ix2 kk d) = ((D.kw (kw i kk) d : ℝ) : EReal))
    (hB : ∀ a kk, B (ix2 a kk) = ((D.bias r (tq i a) (kw i kk) : ℝ) : EReal)) (a : Fin 128) (kk : Fin 640) :
    logits q K B (ix2 a kk) = ((D.zw r (tq i a) (kw i kk) : ℝ) : EReal) := by
  unfold logits
  pointwise [hq, hK, hB]
  rw [Heads.zw, EReal.coe_add, EReal.coe_mul, ← scale_coe, ← coe_sum]
  refine congrArg (fun s : EReal => s * Ideal.ofBits .f32 0x3DB504F3#32 + ((D.bias r (tq i a) (kw i kk) : ℝ) : EReal)) ?_
  exact Finset.sum_congr rfl fun k _ => (EReal.coe_mul _ _).symm

theorem flat_tile (X : Vec Ideal S1x1x128x128 .f32) (a b : Fin 128) : shapeCast S128x128 X shapeCasts_S1x1x128x128_S128x128 (ix2 a b) = X (ix4 (0 : Fin 1) (0 : Fin 1) a b) := by
  pointwise

/-- A read of one tile of the bias table. -/
def rtile (x8 : Vec Ideal S4x3x128x128 .f32) (off : Fin 4 → ℕ) (inb : ∀ a, off a + S1x1x128x128.size a ≤ S4x3x128x128.size a) : Vec Ideal S1x1x128x128 .f32 :=
  View.readAt (Elt Ideal) arg11.view (Rect.unit (s := S4x3x128x128) off S1x1x128x128.size inb).toLoadRect (harg11.unread x8)

/-- One tile of the bias table. -/
def wtile (x8 : Vec Ideal S4x3x128x128 .f32) (off : Fin 4 → ℕ) (inb : ∀ a, off a + S1x1x128x128.size a ≤ S4x3x128x128.size a) : FVec Ideal S128x128 .f32 :=
  shapeCast S128x128 (rtile arg11 harg11 x8 off inb) shapeCasts_S1x1x128x128_S128x128

theorem wtile_at (off : Fin 4 → ℕ) (inb) (r : Fin 4) (q : Fin 3) (hoff : off = ![r.val, q.val, 0, 0]) (a b : Fin 128) :
    wtile arg11 harg11 x8 off inb (ix2 a b) = x8 (ix4 r q a b) := by
  unfold wtile
  rw [flat_tile]
  unfold rtile
  refine rd _ _ _ _ _ _ _ _ ?_
  intro d
  refine Eq.trans ?_ (congrArg (· + _) (congrFun hoff d).symm)
  fin_cases d <;> simp

section
variable (z r : FVec Ideal S128x640 .f32) (W : FVec Ideal S640x128 .bf16) (a d : Fin 128) (dist : IVec S128x640 32) (X : Vec Ideal S1x640x128 .bf16)

/-- The softmax of `z` plus the mask `r`, times the values. -/
abbrev soft : EReal :=
  (∑ k, Ideal.exp ((z (ix2 a k) + r (ix2 a k) : EReal) - Finset.univ.fold max ⊥ fun k => (z (ix2 a k) + r (ix2 a k) : EReal)) * W (ix2 k d))
    * Ideal.div 1 (∑ k, Ideal.exp ((z (ix2 a k) + r (ix2 a k) : EReal) - Finset.univ.fold max ⊥ fun k => (z (ix2 a k) + r (ix2 a k) : EReal)))

theorem soft0 : k0_pay876 (k0_pay874 dist z X) (k0_pay875 dist z) (ix2 a d) = soft z (k0_pay871 (F := Ideal) dist) (k0_pay872 X) a d := by
  unfold soft k0_pay876 k0_pay874 k0_pay875 k0_pay873
  generalize k0_pay871 (F := Ideal) dist = r
  generalize k0_pay872 X = W
  pointwise
  simp only [lowest]

theorem soft1 : k0_pay877 z r W (ix2 a d) = soft z r W a d := by
  unfold soft k0_pay877
  pointwise
  simp only [lowest]

theorem soft2 : k0_pay878 z r W (ix2 a d) = soft z r W a d := by
  unfold soft k0_pay878
  pointwise
  simp only [lowest]

theorem soft3 : k0_pay879 z r W (ix2 a d) = soft z r W a d := by
  unfold soft k0_pay879
  pointwise
  simp only [lowest]

end

/-- The softmax over the five tiles is the softmax over the window. -/
theorem soft_eq (r : Fin 4) (z m : FVec Ideal S128x640 .f32) (W : FVec Ideal S640x128 .bf16) (a d : Fin 128)
    (hz : ∀ kk, z (ix2 a kk) = ((D.zw r (tq i a) (kw i kk) : ℝ) : EReal))
    (hm : ∀ kk, m (ix2 a kk) = (if kw i kk ≤ tq i a ∧ (tq i a).val < (kw i kk).val + 512 then 0 else ⊥ : EReal))
    (hW : ∀ kk, W (ix2 kk d) = ((D.vw (kw i kk) d : ℝ) : EReal)) : soft z m W a d = ((D.ow r (tq i a) d : ℝ) : EReal) := by
  have hi := i2_lt i
  refine window (128 * ((i 2).val - 4)) (by omega) (fun u : Fin 4096 => u ≤ tq i a ∧ (tq i a).val < u.val + 512) (D.zw r (tq i a)) (fun u => D.vw u d)
    ⟨tq i a, le_rfl, by omega⟩ ?_ (fun k => (z (ix2 a k) + m (ix2 a k) : EReal)) (fun k => W (ix2 k d)) (fun kk => masked Iff.rfl (hz kk) (hm kk) rfl) hW
  rintro u ⟨h1, h2⟩
  rw [Fin.le_def] at h1
  dsimp only at h1 h2
  omega

include hD

theorem kwin_at (kk : Fin 640) (d : Fin 128) : sl.r_183 (F := Ideal) c i arg6 harg6 x3 (ix2 kk d) = ((D.kw (kw i kk) d : ℝ) : EReal) := by
  rw [← hD.h3]
  unfold sl.r_183 k0_pay859
  pointwise
  refine rd _ _ _ _ _ _ _ _ ?_
  intro e
  refine Eq.trans ?_ (congrArg (· + _) (congrFun off11_eq e).symm)
  fin_cases e <;> simp

theorem vwin_at (kk : Fin 640) (d : Fin 128) : k0_pay872 (View.readAt (Elt Ideal) arg7.view (Rect.unit (s := S1x4096x128) (k0_off11 i) S1x640x128.size (k0_off11_inb i)).toLoadRect (harg7.unread x4)) (ix2 kk d) = ((D.vw (kw i kk) d : ℝ) : EReal) := by
  rw [← hD.h4]
  unfold k0_pay872
  pointwise
  refine rd _ _ _ _ _ _ _ _ ?_
  intro e
  refine Eq.trans ?_ (congrArg (· + _) (congrFun off11_eq e).symm)
  fin_cases e <;> simp

theorem wbias_at (r : Fin 4) (a : Fin 128) (kk : Fin 640) (m : ℕ) (h : kk.val / 128 = m) (q : Fin 3) (hq : q.val = min 2 ((i 2).val - ((i 2).val - 4) - m)) (b : Fin 128) (hb : b.val = kk.val % 128) :
    x8 (ix4 r q a b) = ((D.bias r (tq i a) (kw i kk) : ℝ) : EReal) := by
  rw [hD.h8, Heads.bias]
  refine congrArg Real.toEReal ?_
  have e : q = (if (kw i kk).val / 128 + 2 ≤ (tq i a).val / 128 then 2 else if (kw i kk).val / 128 + 1 = (tq i a).val / 128 then 1 else 0 : Fin 3) := by
    apply Fin.ext
    rw [hq]
    dsimp only
    split
    · change _ = 2; omega
    split
    · change _ = 1; omega
    · change _ = 0; omega
  rw [e]
  congr 1 <;> apply Fin.ext <;> dsimp only <;> omega

theorem zw0_at (a : Fin 128) (kk : Fin 640) : sl.r_185 (F := Ideal) c i arg3 harg3 arg6 harg6 arg11 harg11 x0 x3 x8 (ix2 a kk) = ((D.zw 0 (tq i a) (kw i kk) : ℝ) : EReal) := by
  have e : sl.r_185 (F := Ideal) c i arg3 harg3 arg6 harg6 arg11 harg11 x0 x3 x8 = logits (sl.v2 c arg3 harg3 x0) (sl.r_183 c i arg6 harg6 x3)
      (five (wtile arg11 harg11 x8 (k0_off12 i 0#32) (k0_off12_inb i 0)) (wtile arg11 harg11 x8 (k0_off12 i 1#32) (k0_off12_inb i 1)) (wtile arg11 harg11 x8 (k0_off12 i 2#32) (k0_off12_inb i 2)) (wtile arg11 harg11 x8 (k0_off12 i 3#32) (k0_off12_inb i 3)) (wtile arg11 harg11 x8 (k0_off12 i 4#32) (k0_off12_inb i 4))) := rfl
  rw [e]
  refine logits_at 0 _ _ _ (fun a d => q0_at c arg3 harg3 hD a d) (fun kk d => kwin_at c arg6 harg6 hD kk d) (fun a kk => ?_) a kk
  refine five_at _ _ _ _ _ a kk _ ?_ ?_ ?_ ?_ ?_
  · exact fun b hb => (wtile_at arg11 harg11 _ _ 0 ⟨min 2 ((i 2).val - ((i 2).val - 4) - 0), by omega⟩ (off12_eq 0 (by omega)) a b).trans (wbias_at hD 0 a kk 0 (by omega) _ rfl b (by omega))
  · exact fun b hb => (wtile_at arg11 harg11 _ _ 0 ⟨min 2 ((i 2).val - ((i 2).val - 4) - 1), by omega⟩ (off12_eq 1 (by omega)) a b).trans (wbias_at hD 0 a kk 1 (by omega) _ rfl b (by omega))
  · exact fun b hb => (wtile_at arg11 harg11 _ _ 0 ⟨min 2 ((i 2).val - ((i 2).val - 4) - 2), by omega⟩ (off12_eq 2 (by omega)) a b).trans (wbias_at hD 0 a kk 2 (by omega) _ rfl b (by omega))
  · exact fun b hb => (wtile_at arg11 harg11 _ _ 0 ⟨min 2 ((i 2).val - ((i 2).val - 4) - 3), by omega⟩ (off12_eq 3 (by omega)) a b).trans (wbias_at hD 0 a kk 3 (by omega) _ rfl b (by omega))
  · exact fun b hb => (wtile_at arg11 harg11 _ _ 0 ⟨min 2 ((i 2).val - ((i 2).val - 4) - 4), by omega⟩ (off12_eq 4 (by omega)) a b).trans (wbias_at hD 0 a kk 4 (by omega) _ rfl b (by omega))

theorem zw1_at (a : Fin 128) (kk : Fin 640) : sl.r_190 (F := Ideal) c i arg3 harg3 arg6 harg6 arg11 harg11 x0 x3 x8 (ix2 a kk) = ((D.zw 1 (tq i a) (kw i kk) : ℝ) : EReal) := by
  have e : sl.r_190 (F := Ideal) c i arg3 harg3 arg6 harg6 arg11 harg11 x0 x3 x8 = logits (sl.v3 c arg3 harg3 x0) (sl.r_183 c i arg6 harg6 x3)
      (five (wtile arg11 harg11 x8 (k0_off13 i 0#32) (k0_off13_inb i 0)) (wtile arg11 harg11 x8 (k0_off13 i 1#32) (k0_off13_inb i 1)) (wtile arg11 harg11 x8 (k0_off13 i 2#32) (k0_off13_inb i 2)) (wtile arg11 harg11 x8 (k0_off13 i 3#32) (k0_off13_inb i 3)) (wtile arg11 harg11 x8 (k0_off13 i 4#32) (k0_off13_inb i 4))) := rfl
  rw [e]
  refine logits_at 1 _ _ _ (fun a d => q1_at c arg3 harg3 hD a d) (fun kk d => kwin_at c arg6 harg6 hD kk d) (fun a kk => ?_) a kk
  refine five_at _ _ _ _ _ a kk _ ?_ ?_ ?_ ?_ ?_
  · exact fun b hb => (wtile_at arg11 harg11 _ _ 1 ⟨min 2 ((i 2).val - ((i 2).val - 4) - 0), by omega⟩ (off13_eq 0 (by omega)) a b).trans (wbias_at hD 1 a kk 0 (by omega) _ rfl b (by omega))
  · exact fun b hb => (wtile_at arg11 harg11 _ _ 1 ⟨min 2 ((i 2).val - ((i 2).val - 4) - 1), by omega⟩ (off13_eq 1 (by omega)) a b).trans (wbias_at hD 1 a kk 1 (by omega) _ rfl b (by omega))
  · exact fun b hb => (wtile_at arg11 harg11 _ _ 1 ⟨min 2 ((i 2).val - ((i 2).val - 4) - 2), by omega⟩ (off13_eq 2 (by omega)) a b).trans (wbias_at hD 1 a kk 2 (by omega) _ rfl b (by omega))
  · exact fun b hb => (wtile_at arg11 harg11 _ _ 1 ⟨min 2 ((i 2).val - ((i 2).val - 4) - 3), by omega⟩ (off13_eq 3 (by omega)) a b).trans (wbias_at hD 1 a kk 3 (by omega) _ rfl b (by omega))
  · exact fun b hb => (wtile_at arg11 harg11 _ _ 1 ⟨min 2 ((i 2).val - ((i 2).val - 4) - 4), by omega⟩ (off13_eq 4 (by omega)) a b).trans (wbias_at hD 1 a kk 4 (by omega) _ rfl b (by omega))

theorem zw2_at (a : Fin 128) (kk : Fin 640) : sl.r_191 (F := Ideal) c i arg3 harg3 arg6 harg6 arg11 harg11 x0 x3 x8 (ix2 a kk) = ((D.zw 2 (tq i a) (kw i kk) : ℝ) : EReal) := by
  have e : sl.r_191 (F := Ideal) c i arg3 harg3 arg6 harg6 arg11 harg11 x0 x3 x8 = logits (sl.v4 c arg3 harg3 x0) (sl.r_183 c i arg6 harg6 x3)
      (five (wtile arg11 harg11 x8 (k0_off14 i 0#32) (k0_off14_inb i 0)) (wtile arg11 harg11 x8 (k0_off14 i 1#32) (k0_off14_inb i 1)) (wtile arg11 harg11 x8 (k0_off14 i 2#32) (k0_off14_inb i 2)) (wtile arg11 harg11 x8 (k0_off14 i 3#32) (k0_off14_inb i 3)) (wtile arg11 harg11 x8 (k0_off14 i 4#32) (k0_off14_inb i 4))) := rfl
  rw [e]
  refine logits_at 2 _ _ _ (fun a d => q2_at c arg3 harg3 hD a d) (fun kk d => kwin_at c arg6 harg6 hD kk d) (fun a kk => ?_) a kk
  refine five_at _ _ _ _ _ a kk _ ?_ ?_ ?_ ?_ ?_
  · exact fun b hb => (wtile_at arg11 harg11 _ _ 2 ⟨min 2 ((i 2).val - ((i 2).val - 4) - 0), by omega⟩ (off14_eq 0 (by omega)) a b).trans (wbias_at hD 2 a kk 0 (by omega) _ rfl b (by omega))
  · exact fun b hb => (wtile_at arg11 harg11 _ _ 2 ⟨min 2 ((i 2).val - ((i 2).val - 4) - 1), by omega⟩ (off14_eq 1 (by omega)) a b).trans (wbias_at hD 2 a kk 1 (by omega) _ rfl b (by omega))
  · exact fun b hb => (wtile_at arg11 harg11 _ _ 2 ⟨min 2 ((i 2).val - ((i 2).val - 4) - 2), by omega⟩ (off14_eq 2 (by omega)) a b).trans (wbias_at hD 2 a kk 2 (by omega) _ rfl b (by omega))
  · exact fun b hb => (wtile_at arg11 harg11 _ _ 2 ⟨min 2 ((i 2).val - ((i 2).val - 4) - 3), by omega⟩ (off14_eq 3 (by omega)) a b).trans (wbias_at hD 2 a kk 3 (by omega) _ rfl b (by omega))
  · exact fun b hb => (wtile_at arg11 harg11 _ _ 2 ⟨min 2 ((i 2).val - ((i 2).val - 4) - 4), by omega⟩ (off14_eq 4 (by omega)) a b).trans (wbias_at hD 2 a kk 4 (by omega) _ rfl b (by omega))

theorem zw3_at (a : Fin 128) (kk : Fin 640) : sl.r_194 (F := Ideal) c i arg3 harg3 arg6 harg6 arg11 harg11 x0 x3 x8 (ix2 a kk) = ((D.zw 3 (tq i a) (kw i kk) : ℝ) : EReal) := by
  have e : sl.r_194 (F := Ideal) c i arg3 harg3 arg6 harg6 arg11 harg11 x0 x3 x8 = logits (sl.v5 c arg3 harg3 x0) (sl.r_183 c i arg6 harg6 x3)
      (five (wtile arg11 harg11 x8 (k0_off15 i 0#32) (k0_off15_inb i 0)) (wtile arg11 harg11 x8 (k0_off15 i 1#32) (k0_off15_inb i 1)) (wtile arg11 harg11 x8 (k0_off15 i 2#32) (k0_off15_inb i 2)) (wtile arg11 harg11 x8 (k0_off15 i 3#32) (k0_off15_inb i 3)) (wtile arg11 harg11 x8 (k0_off15 i 4#32) (k0_off15_inb i 4))) := rfl
  rw [e]
  refine logits_at 3 _ _ _ (fun a d => q3_at c arg3 harg3 hD a d) (fun kk d => kwin_at c arg6 harg6 hD kk d) (fun a kk => ?_) a kk
  refine five_at _ _ _ _ _ a kk _ ?_ ?_ ?_ ?_ ?_
  · exact fun b hb => (wtile_at arg11 harg11 _ _ 3 ⟨min 2 ((i 2).val - ((i 2).val - 4) - 0), by omega⟩ (off15_eq 0 (by omega)) a b).trans (wbias_at hD 3 a kk 0 (by omega) _ rfl b (by omega))
  · exact fun b hb => (wtile_at arg11 harg11 _ _ 3 ⟨min 2 ((i 2).val - ((i 2).val - 4) - 1), by omega⟩ (off15_eq 1 (by omega)) a b).trans (wbias_at hD 3 a kk 1 (by omega) _ rfl b (by omega))
  · exact fun b hb => (wtile_at arg11 harg11 _ _ 3 ⟨min 2 ((i 2).val - ((i 2).val - 4) - 2), by omega⟩ (off15_eq 2 (by omega)) a b).trans (wbias_at hD 3 a kk 2 (by omega) _ rfl b (by omega))
  · exact fun b hb => (wtile_at arg11 harg11 _ _ 3 ⟨min 2 ((i 2).val - ((i 2).val - 4) - 3), by omega⟩ (off15_eq 3 (by omega)) a b).trans (wbias_at hD 3 a kk 3 (by omega) _ rfl b (by omega))
  · exact fun b hb => (wtile_at arg11 harg11 _ _ 3 ⟨min 2 ((i 2).val - ((i 2).val - 4) - 4), by omega⟩ (off15_eq 4 (by omega)) a b).trans (wbias_at hD 3 a kk 4 (by omega) _ rfl b (by omega))

theorem windowed0 (a d : Fin 128) : sl.r_199 (F := Ideal) c i arg3 harg3 arg6 harg6 arg7 harg7 arg11 harg11 x0 x3 x4 x8 (ix2 a d) = ((D.ow 0 (tq i a) d : ℝ) : EReal) := by
  unfold sl.r_199 sl.r_197 sl.r_198
  exact (soft0 _ _ _ _ _ ).trans (soft_eq 0 _ _ _ a d (fun kk => zw0_at c arg3 harg3 arg6 harg6 arg11 harg11 hD a kk) (fun kk => wmask_at a kk) (fun kk => vwin_at arg7 harg7 hD kk d))

theorem windowed1 (a d : Fin 128) : sl.r_200 (F := Ideal) c i arg3 harg3 arg6 harg6 arg7 harg7 arg11 harg11 x0 x3 x4 x8 (ix2 a d) = ((D.ow 1 (tq i a) d : ℝ) : EReal) := by
  unfold sl.r_200 sl.r_195 sl.r_196
  exact (soft1 _ _ _ _ _ ).trans (soft_eq 1 _ _ _ a d (fun kk => zw1_at c arg3 harg3 arg6 harg6 arg11 harg11 hD a kk) (fun kk => wmask_at a kk) (fun kk => vwin_at arg7 harg7 hD kk d))

theorem windowed2 (a d : Fin 128) : sl.r_201 (F := Ideal) c i arg3 harg3 arg6 harg6 arg7 harg7 arg11 harg11 x0 x3 x4 x8 (ix2 a d) = ((D.ow 2 (tq i a) d : ℝ) : EReal) := by
  unfold sl.r_201 sl.r_195 sl.r_196
  exact (soft2 _ _ _ _ _ ).trans (soft_eq 2 _ _ _ a d (fun kk => zw2_at c arg3 harg3 arg6 harg6 arg11 harg11 hD a kk) (fun kk => wmask_at a kk) (fun kk => vwin_at arg7 harg7 hD kk d))

theorem windowed3 (a d : Fin 128) : sl.r_202 (F := Ideal) c i arg3 harg3 arg6 harg6 arg7 harg7 arg11 harg11 x0 x3 x4 x8 (ix2 a d) = ((D.ow 3 (tq i a) d : ℝ) : EReal) := by
  unfold sl.r_202 sl.r_195 sl.r_196
  exact (soft3 _ _ _ _ _ ).trans (soft_eq 3 _ _ _ a d (fun kk => zw3_at c arg3 harg3 arg6 harg6 arg11 harg11 hD a kk) (fun kk => wmask_at a kk) (fun kk => vwin_at arg7 harg7 hD kk d))

end Cert.Kernel7Ideal.Val
-- ==== Proof.AttnBlock.lean ====
/-
  The attention call's block: the three branches of four heads, gated, added and stored side by side.
-/
module

public import proofs.«01_k».proof.Proof.Gen.Kernel7Ideal.Value
public import proofs.«01_k».proof.Proof.AttnWin
public import proofs.«01_k».proof.Proof.AttnSpec
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.WritesUnit
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen

variable (c : Dev nD) (i : grid0.Coords) (arg3 : Memref sig .tc .vmem S1x128x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x1x1x256x128 .bf16) (harg8 : arg8.IsWhole) (arg9 : Memref sig .tc .vmem S1x1x1x256x128 .bf16) (harg9 : arg9.IsWhole) (arg10 : Memref sig .tc .vmem S1x128x128 .f32) (harg10 : arg10.IsWhole) (arg11 : Memref sig .tc .vmem S4x3x128x128 .f32) (harg11 : arg11.IsWhole) (arg12 : Memref sig .tc .vmem S4x128x128 .f32) (harg12 : arg12.IsWhole) (arg13 : Memref sig .tc .vmem S1x128x512 .bf16) (harg13 : arg13.IsWhole)
variable (x0 : Vec Ideal S1x128x512 .bf16) (x1 : Vec Ideal S1x4096x128 .bf16) (x2 : Vec Ideal S1x4096x128 .bf16) (x3 : Vec Ideal S1x4096x128 .bf16) (x4 : Vec Ideal S1x4096x128 .bf16) (x5 : Vec Ideal S1x1x1x256x128 .bf16) (x6 : Vec Ideal S1x1x1x256x128 .bf16) (x7 : Vec Ideal S1x128x128 .f32) (x8 : Vec Ideal S4x3x128x128 .f32) (x9 : Vec Ideal S4x128x128 .f32)

open Cert.Kernel7Ideal.Gen.kernelRun0_A Cert.Attn

section
variable (v : FVec Ideal S512x128 .f32) (s w : FVec Ideal S128x128 .f32) (g : Vec Ideal S1x128x128 .f32) (a d : Fin 128)

theorem mix0 : k0_pay881 v s w g (ix3 (0 : Fin 1) a d) = g (ix3 (0 : Fin 1) a (⟨0, by omega⟩ : Fin 128)) * v (ix2 (⟨128 * 0 + a.val, by omega⟩ : Fin 512) d) + g (ix3 (0 : Fin 1) a (⟨4 + 0, by omega⟩ : Fin 128)) * s (ix2 a d) + g (ix3 (0 : Fin 1) a (⟨8 + 0, by omega⟩ : Fin 128)) * w (ix2 a d) := by
  unfold k0_pay881 k0_pay880
  pointwise
  try simp

theorem mix1 : k0_pay882 v s w g (ix3 (0 : Fin 1) a d) = g (ix3 (0 : Fin 1) a (⟨1, by omega⟩ : Fin 128)) * v (ix2 (⟨128 * 1 + a.val, by omega⟩ : Fin 512) d) + g (ix3 (0 : Fin 1) a (⟨4 + 1, by omega⟩ : Fin 128)) * s (ix2 a d) + g (ix3 (0 : Fin 1) a (⟨8 + 1, by omega⟩ : Fin 128)) * w (ix2 a d) := by
  unfold k0_pay882 k0_pay880
  pointwise
  try simp

theorem mix2 : k0_pay883 v s w g (ix3 (0 : Fin 1) a d) = g (ix3 (0 : Fin 1) a (⟨2, by omega⟩ : Fin 128)) * v (ix2 (⟨128 * 2 + a.val, by omega⟩ : Fin 512) d) + g (ix3 (0 : Fin 1) a (⟨4 + 2, by omega⟩ : Fin 128)) * s (ix2 a d) + g (ix3 (0 : Fin 1) a (⟨8 + 2, by omega⟩ : Fin 128)) * w (ix2 a d) := by
  unfold k0_pay883 k0_pay880
  pointwise
  try simp

theorem mix3 : k0_pay1 v s w (k0_pay880 g) (ix3 (0 : Fin 1) a d) = g (ix3 (0 : Fin 1) a (⟨3, by omega⟩ : Fin 128)) * v (ix2 (⟨128 * 3 + a.val, by omega⟩ : Fin 512) d) + g (ix3 (0 : Fin 1) a (⟨4 + 3, by omega⟩ : Fin 128)) * s (ix2 a d) + g (ix3 (0 : Fin 1) a (⟨8 + 3, by omega⟩ : Fin 128)) * w (ix2 a d) := by
  unfold k0_pay1 k0_pay880
  pointwise
  try simp

end

variable {i x0 x1 x2 x3 x4 x5 x6 x8 x9} {D : Heads} (hD : Blk i x0 x1 x2 x3 x4 x5 x6 x8 x9 D)

theorem gate_at (a l : Fin 128) : sl.r_203 (F := Ideal) c arg10 harg10 x7 (ix3 (0 : Fin 1) a l) = x7 (ix3 (0 : Fin 1) a l) := by
  unfold sl.r_203
  exact rd _ _ _ _ _ _ _ _ (by intro e; fin_cases e <;> simp)

include hD

set_option maxHeartbeats 1000000 in
theorem block0 (a d : Fin 128) : out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 (ix3 (0 : Fin 1) a (⟨128 * 0 + d.val, by omega⟩ : Fin 512))
    = x7 (ix3 (0 : Fin 1) a (⟨0, by omega⟩ : Fin 128)) * ((D.oc 0 (tq i a) d : ℝ) : EReal) + x7 (ix3 (0 : Fin 1) a (⟨4 + 0, by omega⟩ : Fin 128)) * ((D.os 0 (tq i a) d : ℝ) : EReal)
      + x7 (ix3 (0 : Fin 1) a (⟨8 + 0, by omega⟩ : Fin 128)) * ((D.ow 0 (tq i a) d : ℝ) : EReal) := by
  unfold out0_A_10 kernelRun0_A
  refine (View.read_writes_cons_unit_of_not_mem VO0_10 VO0_10.junk (off' := ![0, 0, 384]) _ _ _ _ rfl 2 (Or.inl (show 128 * 0 + d.val < 384 by omega))).trans ?_
  refine (View.read_writes_cons_unit_of_not_mem VO0_10 VO0_10.junk (off' := ![0, 0, 256]) _ _ _ _ rfl 2 (Or.inl (show 128 * 0 + d.val < 256 by omega))).trans ?_
  refine (View.read_writes_cons_unit_of_not_mem VO0_10 VO0_10.junk (off' := ![0, 0, 128]) _ _ _ _ rfl 2 (Or.inl (show 128 * 0 + d.val < 128 by omega))).trans ?_
  refine (View.read_writes_cons_unit_of_mem VO0_10 VO0_10.junk (off' := ![0, 0, 0]) _ _ _ _ (ix3 (0 : Fin 1) a d) rfl (by intro e; fin_cases e <;> simp)).trans ?_
  refine (mix0 _ _ _ _ a d).trans ?_
  rw [gate_at, gate_at, gate_at]
  refine congrArg₂ (fun p q : EReal => p + q) (congrArg₂ (fun p q : EReal => p + q) (congrArg (fun p : EReal => _ * p) ?_) (congrArg (fun p : EReal => _ * p) ?_)) (congrArg (fun p : EReal => _ * p) ?_)
  · exact v82_at c arg3 harg3 arg8 harg8 arg9 harg9 arg11 harg11 arg12 harg12 hD 0 a d
  · exact selected0 c arg3 harg3 arg4 harg4 arg5 harg5 arg6 harg6 arg7 harg7 arg8 harg8 arg9 harg9 arg10 harg10 arg11 harg11 arg12 harg12 arg13 harg13 hD a d
  · exact windowed0 c arg3 harg3 arg6 harg6 arg7 harg7 arg11 harg11 hD a d

set_option maxHeartbeats 1000000 in
theorem block1 (a d : Fin 128) : out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 (ix3 (0 : Fin 1) a (⟨128 * 1 + d.val, by omega⟩ : Fin 512))
    = x7 (ix3 (0 : Fin 1) a (⟨1, by omega⟩ : Fin 128)) * ((D.oc 1 (tq i a) d : ℝ) : EReal) + x7 (ix3 (0 : Fin 1) a (⟨4 + 1, by omega⟩ : Fin 128)) * ((D.os 1 (tq i a) d : ℝ) : EReal)
      + x7 (ix3 (0 : Fin 1) a (⟨8 + 1, by omega⟩ : Fin 128)) * ((D.ow 1 (tq i a) d : ℝ) : EReal) := by
  unfold out0_A_10 kernelRun0_A
  refine (View.read_writes_cons_unit_of_not_mem VO0_10 VO0_10.junk (off' := ![0, 0, 384]) _ _ _ _ rfl 2 (Or.inl (show 128 * 1 + d.val < 384 by omega))).trans ?_
  refine (View.read_writes_cons_unit_of_not_mem VO0_10 VO0_10.junk (off' := ![0, 0, 256]) _ _ _ _ rfl 2 (Or.inl (show 128 * 1 + d.val < 256 by omega))).trans ?_
  refine (View.read_writes_cons_unit_of_mem VO0_10 VO0_10.junk (off' := ![0, 0, 128]) _ _ _ _ (ix3 (0 : Fin 1) a d) rfl (by intro e; fin_cases e <;> simp)).trans ?_
  refine (mix1 _ _ _ _ a d).trans ?_
  rw [gate_at, gate_at, gate_at]
  refine congrArg₂ (fun p q : EReal => p + q) (congrArg₂ (fun p q : EReal => p + q) (congrArg (fun p : EReal => _ * p) ?_) (congrArg (fun p : EReal => _ * p) ?_)) (congrArg (fun p : EReal => _ * p) ?_)
  · exact v82_at c arg3 harg3 arg8 harg8 arg9 harg9 arg11 harg11 arg12 harg12 hD 1 a d
  · exact selected1 c arg3 harg3 arg4 harg4 arg5 harg5 arg6 harg6 arg7 harg7 arg8 harg8 arg9 harg9 arg10 harg10 arg11 harg11 arg12 harg12 arg13 harg13 hD a d
  · exact windowed1 c arg3 harg3 arg6 harg6 arg7 harg7 arg11 harg11 hD a d

set_option maxHeartbeats 1000000 in
theorem block2 (a d : Fin 128) : out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 (ix3 (0 : Fin 1) a (⟨128 * 2 + d.val, by omega⟩ : Fin 512))
    = x7 (ix3 (0 : Fin 1) a (⟨2, by omega⟩ : Fin 128)) * ((D.oc 2 (tq i a) d : ℝ) : EReal) + x7 (ix3 (0 : Fin 1) a (⟨4 + 2, by omega⟩ : Fin 128)) * ((D.os 2 (tq i a) d : ℝ) : EReal)
      + x7 (ix3 (0 : Fin 1) a (⟨8 + 2, by omega⟩ : Fin 128)) * ((D.ow 2 (tq i a) d : ℝ) : EReal) := by
  unfold out0_A_10 kernelRun0_A
  refine (View.read_writes_cons_unit_of_not_mem VO0_10 VO0_10.junk (off' := ![0, 0, 384]) _ _ _ _ rfl 2 (Or.inl (show 128 * 2 + d.val < 384 by omega))).trans ?_
  refine (View.read_writes_cons_unit_of_mem VO0_10 VO0_10.junk (off' := ![0, 0, 256]) _ _ _ _ (ix3 (0 : Fin 1) a d) rfl (by intro e; fin_cases e <;> simp)).trans ?_
  unfold sl.r_205
  refine (mix2 _ _ _ _ a d).trans ?_
  rw [gate_at, gate_at, gate_at]
  refine congrArg₂ (fun p q : EReal => p + q) (congrArg₂ (fun p q : EReal => p + q) (congrArg (fun p : EReal => _ * p) ?_) (congrArg (fun p : EReal => _ * p) ?_)) (congrArg (fun p : EReal => _ * p) ?_)
  · exact v82_at c arg3 harg3 arg8 harg8 arg9 harg9 arg11 harg11 arg12 harg12 hD 2 a d
  · exact selected2 c arg3 harg3 arg4 harg4 arg5 harg5 arg6 harg6 arg7 harg7 arg8 harg8 arg9 harg9 arg10 harg10 arg11 harg11 arg12 harg12 arg13 harg13 hD a d
  · exact windowed2 c arg3 harg3 arg6 harg6 arg7 harg7 arg11 harg11 hD a d

set_option maxHeartbeats 1000000 in
theorem block3 (a d : Fin 128) : out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 (ix3 (0 : Fin 1) a (⟨128 * 3 + d.val, by omega⟩ : Fin 512))
    = x7 (ix3 (0 : Fin 1) a (⟨3, by omega⟩ : Fin 128)) * ((D.oc 3 (tq i a) d : ℝ) : EReal) + x7 (ix3 (0 : Fin 1) a (⟨4 + 3, by omega⟩ : Fin 128)) * ((D.os 3 (tq i a) d : ℝ) : EReal)
      + x7 (ix3 (0 : Fin 1) a (⟨8 + 3, by omega⟩ : Fin 128)) * ((D.ow 3 (tq i a) d : ℝ) : EReal) := by
  unfold out0_A_10 kernelRun0_A
  refine (View.read_writes_cons_unit_of_mem VO0_10 VO0_10.junk (off' := ![0, 0, 384]) _ _ _ _ (ix3 (0 : Fin 1) a d) rfl (by intro e; fin_cases e <;> simp)).trans ?_
  unfold sl.r_204
  refine (mix3 _ _ _ _ a d).trans ?_
  rw [gate_at, gate_at, gate_at]
  refine congrArg₂ (fun p q : EReal => p + q) (congrArg₂ (fun p q : EReal => p + q) (congrArg (fun p : EReal => _ * p) ?_) (congrArg (fun p : EReal => _ * p) ?_)) (congrArg (fun p : EReal => _ * p) ?_)
  · exact v82_at c arg3 harg3 arg8 harg8 arg9 harg9 arg11 harg11 arg12 harg12 hD 3 a d
  · exact selected3 c arg3 harg3 arg4 harg4 arg5 harg5 arg6 harg6 arg7 harg7 arg8 harg8 arg9 harg9 arg10 harg10 arg11 harg11 arg12 harg12 arg13 harg13 hD a d
  · exact windowed3 c arg3 harg3 arg6 harg6 arg7 harg7 arg11 harg11 hD a d

/-- What a grid point leaves in its block. -/
theorem block_at (a : Fin 128) (l : Fin 512) : out0_A_10 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 x9 (ix3 (0 : Fin 1) a l)
    = x7 (ix3 (0 : Fin 1) a (⟨l.val / 128, by omega⟩ : Fin 128)) * ((D.oc (⟨l.val / 128, by omega⟩ : Fin 4) (tq i a) (⟨l.val % 128, by omega⟩ : Fin 128) : ℝ) : EReal)
      + x7 (ix3 (0 : Fin 1) a (⟨4 + l.val / 128, by omega⟩ : Fin 128)) * ((D.os (⟨l.val / 128, by omega⟩ : Fin 4) (tq i a) (⟨l.val % 128, by omega⟩ : Fin 128) : ℝ) : EReal)
      + x7 (ix3 (0 : Fin 1) a (⟨8 + l.val / 128, by omega⟩ : Fin 128)) * ((D.ow (⟨l.val / 128, by omega⟩ : Fin 4) (tq i a) (⟨l.val % 128, by omega⟩ : Fin 128) : ℝ) : EReal) := by
  obtain ⟨r, d, rfl⟩ : ∃ (r : Fin 4) (d : Fin 128), l = ⟨128 * r.val + d.val, by omega⟩ := ⟨⟨l.val / 128, by omega⟩, ⟨l.val % 128, by omega⟩, Fin.ext (by dsimp only; omega)⟩
  have h1 : (128 * r.val + d.val) / 128 = r.val := by omega
  have h2 : (128 * r.val + d.val) % 128 = d.val := by omega
  simp only [h1, h2, Fin.eta]
  obtain ⟨r, hr⟩ := r
  interval_cases r
  · exact block0 c arg3 harg3 arg4 harg4 arg5 harg5 arg6 harg6 arg7 harg7 arg8 harg8 arg9 harg9 arg10 harg10 arg11 harg11 arg12 harg12 arg13 harg13 x7 hD a d
  · exact block1 c arg3 harg3 arg4 harg4 arg5 harg5 arg6 harg6 arg7 harg7 arg8 harg8 arg9 harg9 arg10 harg10 arg11 harg11 arg12 harg12 arg13 harg13 x7 hD a d
  · exact block2 c arg3 harg3 arg4 harg4 arg5 harg5 arg6 harg6 arg7 harg7 arg8 harg8 arg9 harg9 arg10 harg10 arg11 harg11 arg12 harg12 arg13 harg13 x7 hD a d
  · exact block3 c arg3 harg3 arg4 harg4 arg5 harg5 arg6 harg6 arg7 harg7 arg8 harg8 arg9 harg9 arg10 harg10 arg11 harg11 arg12 harg12 arg13 harg13 x7 hD a d

end Cert.Kernel7Ideal.Val
-- ==== Proof.AttnValue.lean ====
/-
  The attention call's result, as one function of the arguments over the extended reals.
-/
module

public import proofs.«01_k».proof.Proof.Gen.Kernel7Ideal.Value
public import proofs.«01_k».proof.Proof.AttnBlock
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel7Ideal.Val

open Cert.Kernel7Ideal Cert.Kernel7Ideal.Gen Cert.Attn

variable (m : (ℓ : Loc nD τ sig) → Buf (Elt Ideal) ℓ)

theorem idx : ∀ t : Fin grid0.N,
    (win0_0.index t = ![(grid0.coords t 0).val, (grid0.coords t 2).val, (grid0.coords t 1).val] ∧ win0_1.index t = ![(grid0.coords t 0).val, 0, 24 + (grid0.coords t 1).val]
      ∧ win0_2.index t = ![(grid0.coords t 0).val, 0, 28 + (grid0.coords t 1).val] ∧ win0_3.index t = ![(grid0.coords t 0).val, 0, 32 + (grid0.coords t 1).val]
      ∧ win0_4.index t = ![(grid0.coords t 0).val, 0, 36 + (grid0.coords t 1).val])
    ∧ (win0_5.index t = ![(grid0.coords t 0).val, 0, (grid0.coords t 1).val, 0, 0] ∧ win0_6.index t = ![(grid0.coords t 0).val, 1, (grid0.coords t 1).val, 0, 0]
      ∧ win0_7.index t = ![(grid0.coords t 0).val, (grid0.coords t 2).val, (grid0.coords t 1).val] ∧ win0_8.index t = ![(grid0.coords t 1).val, 0, 0, 0]
      ∧ win0_9.index t = ![(grid0.coords t 1).val, 0, 0] ∧ win0_10.index t = ![(grid0.coords t 0).val, (grid0.coords t 2).val, (grid0.coords t 1).val])
    ∧ (grid0.coords t 0).val < 2 ∧ (grid0.coords t 1).val < 4 ∧ (grid0.coords t 2).val < 32 := by decide +kernel

abbrev bt (t : Fin grid0.N) : Fin 2 := ⟨(grid0.coords t 0).val, (idx t).2.2.1⟩
abbrev gp (t : Fin grid0.N) : Fin 4 := ⟨(grid0.coords t 1).val, (idx t).2.2.2.1⟩

/-- The launch's arrays hold these real numbers. -/
structure Real (c : Dev nD) (A : Arrays) : Prop where
  P : ∀ b t k, m ((c : Thread nD τ).loc main_arg0) (ix3 b t k) = ((A.P b t k : ℝ) : EReal)
  C : ∀ b h g n k, m ((c : Thread nD τ).loc main_arg1) (ix5 b h g n k) = ((A.C b h g n k : ℝ) : EReal)
  T : ∀ h n a l, m ((c : Thread nD τ).loc main_arg3) (ix4 h n a l) = ((A.T h n a l : ℝ) : EReal)
  E : ∀ h a l, m ((c : Thread nD τ).loc main_arg4) (ix3 h a l) = ((A.E h a l : ℝ) : EReal)

theorem out_of (A : Arrays) (gate : Fin 2 → Fin 4096 → Fin 512 → EReal) {b b' : Fin 2} {t t' : Fin 4096} {g : Fin 4} {l : Fin 512} {z : Fin 2048} (hb : b'.val = b.val) (ht : t'.val = t.val)
    (hz : z.val = 512 * g.val + l.val) : A.mixed gate b t g ⟨l.val / 128, by omega⟩ ⟨l.val % 128, by omega⟩ = A.out gate b' t' z := by
  obtain rfl : b' = b := Fin.ext hb
  obtain rfl : t' = t := Fin.ext ht
  unfold Arrays.out
  congr 1 <;> apply Fin.ext <;> dsimp only <;> omega

variable {c : Dev nD} {A : Arrays} (h : Real m c A)

include h

theorem blk (t : Fin cfg0.N) : Blk (grid0.coords t) (iblk m c 0 t) (iblk m c 1 t) (iblk m c 2 t) (iblk m c 3 t) (iblk m c 4 t) (iblk m c 5 t) (iblk m c 6 t)
    (iblk m c 8 t) (iblk m c 9 t) (A.heads (bt t) (gp t)) := by
  obtain ⟨⟨e0, e1, e2, e3, e4⟩, ⟨e5, e6, e7, e8, e9, e10⟩, l0, l1, l2⟩ := idx t
  constructor
  · intro r a d
    dsimp only [Arrays.heads]
    rw [← h.P]
    blk_point [iblk, V, e0]
  · intro u d
    dsimp only [Arrays.heads]
    rw [← h.P]
    blk_point [iblk, V, e1]
  · intro u d
    dsimp only [Arrays.heads]
    rw [← h.P]
    blk_point [iblk, V, e2]
  · intro u d
    dsimp only [Arrays.heads]
    rw [← h.P]
    blk_point [iblk, V, e3]
  · intro u d
    dsimp only [Arrays.heads]
    rw [← h.P]
    blk_point [iblk, V, e4]
  · intro k d
    dsimp only [Arrays.heads]
    rw [← h.C]
    blk_point [iblk, V, e5]
  · intro k d
    dsimp only [Arrays.heads]
    rw [← h.C]
    blk_point [iblk, V, e6]
  · intro r k a l
    dsimp only [Arrays.heads]
    rw [← h.T]
    blk_point [iblk, V, e8]
  · intro r a l
    dsimp only [Arrays.heads]
    rw [← h.E]
    blk_point [iblk, V, e9]

/-- The gates as the arguments give them. -/
def gates (m : (ℓ : Loc nD τ sig) → Buf (Elt Ideal) ℓ) (c : Dev nD) (b : Fin 2) (t : Fin 4096) (l : Fin 512) : EReal := m ((c : Thread nD τ).loc main_arg2) (ix3 b t l)

theorem gate_blk (t : Fin cfg0.N) (a l : Fin 128) : iblk m c 7 t (ix3 (0 : Fin 1) a l) = gates m c (bt t) (tq (grid0.coords t) a) ⟨128 * (gp t).val + l.val, by have := (gp t).isLt; omega⟩ := by
  obtain ⟨⟨e0, e1, e2, e3, e4⟩, ⟨e5, e6, e7, e8, e9, e10⟩, l0, l1, l2⟩ := idx t
  unfold gates
  blk_point [iblk, V, e7]

theorem outs_at (t : Fin cfg0.N) (a : Fin 128) (l : Fin 512) : outsAt0 m c t (ix3 (0 : Fin 1) a l)
    = A.mixed (gates m c) (bt t) (tq (grid0.coords t) a) (gp t) ⟨l.val / 128, by omega⟩ ⟨l.val % 128, by omega⟩ := by
  unfold outsAt0
  refine (block_at c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 7 t) (blk m h t) a l).trans ?_
  unfold Arrays.mixed
  rw [gate_blk m h, gate_blk m h, gate_blk m h]

theorem final : (dats m 0 c).arrAt 10 cfg0.N = fun y : S2x4096x2048.Idx => A.out (gates m c) (y 0) (y 1) (y 2) := by
  refine (dats m 0 c).arrAt_eq_of_covers 10 _ (by decide +kernel) fun t hf y => ?_
  obtain ⟨⟨e0, e1, e2, e3, e4⟩, ⟨e5, e6, e7, e8, e9, e10⟩, l0, l1, l2⟩ := idx t
  blk_simp
  rw [after0_10]
  idx_vars y
  obtain rfl : y0 = 0 := Subsingleton.elim _ _
  refine (outs_at m h t y1 y2).trans (out_of A _ ?_ ?_ ?_)
  · blk_simp [e10]
    simp
  · blk_simp [e10]
    simp
    try omega
  · blk_simp [e10]
    simp
    try omega

end Cert.Kernel7Ideal.Val
-- ==== Proof.AttnReals.lean ====
/-
  Numbers below infinity in absolute value are real numbers: what the precondition says of the attention's arrays.
-/
module

public import proofs.«01_k».proof.Proof.Gen.Pre_finite
public import proofs.«01_k».proof.Proof.AttnSpec
public import Idealize.ShloMosaic.Lib.ReduceAll
public import Idealize.ShloMosaic.Lib.Pointwise
public import Idealize.ShloMosaic.Lib.ValueIdx

@[expose] public section

noncomputable section

open Idealize.ShloMosaic

namespace Cert.Attn

open Cert.Pre_finite

variable [Cert.Pre_finite.Facts]

theorem infinite : (Ideal.ofBits FTy.f32 2139095040#32 : EReal) = ⊤ := by
  simp [Ideal.ofBits, Ideal.ieee]

theorem real_of (x : EReal) (h : FloatOps.cmpf (F := Ideal) (φ := .f32) .olt (max x (-x)) (Ideal.ofBits FTy.f32 2139095040#32) = 1#1) : x = ((x.toReal : ℝ) : EReal) := by
  rw [infinite] at h
  have h' : max x (-x) < ⊤ := by
    by_contra hn
    simp [FloatOps.cmpf, Ideal.cmp, hn] at h
  refine (EReal.coe_toReal ?_ ?_).symm
  · rintro rfl
    simp at h'
  · rintro rfl
    simp at h'

theorem both {x y : BitVec 1} (h : IntOp.andi x y = 1#1) : x = 1#1 ∧ y = 1#1 := by
  revert x y
  decide

instance : Subsingleton S_.Idx := ⟨fun a b => funext fun i => i.elim0⟩

theorem reals (P : FVec Ideal S2x4096x5120 .bf16) (C : FVec Ideal S2x2x4x256x128 .bf16) (G : FVec Ideal S2x4096x512 .f32) (T : FVec Ideal S16x3x128x128 .f32) (E : FVec Ideal S16x128x128 .f32)
    (h : Cert.Pre_finite.fn (F := Ideal) P C G T E = fun _ => 1#1) :
    (∀ i, P i = (((P i : EReal).toReal : ℝ) : EReal)) ∧ (∀ i, C i = (((C i : EReal).toReal : ℝ) : EReal)) ∧ (∀ i, T i = (((T i : EReal).toReal : ℝ) : EReal)) ∧ (∀ i, E i = (((E i : EReal).toReal : ℝ) : EReal)) := by
  have h0 := congrFun h (fun i => i.elim0)
  unfold Cert.Pre_finite.fn Cert.Pre_finite.fn_part1 at h0
  obtain ⟨h1, hE⟩ := both h0
  obtain ⟨h2, hT⟩ := both h1
  obtain ⟨hP, hC⟩ := both h2
  refine ⟨fun i => real_of _ ?_, fun i => real_of _ ?_, fun i => real_of _ ?_, fun i => real_of _ ?_⟩
  · exact Host.reduce_andi_all _ _ _ _ _ hP i
  · exact Host.reduce_andi_all _ _ _ _ _ hC i
  · exact Host.reduce_andi_all _ _ _ _ _ hT i
  · exact Host.reduce_andi_all _ _ _ _ _ hE i

/-- The arrays as real numbers. -/
def realArrays (P : FVec Ideal S2x4096x5120 .bf16) (C : FVec Ideal S2x2x4x256x128 .bf16) (T : FVec Ideal S16x3x128x128 .f32) (E : FVec Ideal S16x128x128 .f32) : Arrays where
  P b t k := (P (ix3 b t k) : EReal).toReal
  C b h g n k := (C (ix5 b h g n k) : EReal).toReal
  T h n a l := (T (ix4 h n a l) : EReal).toReal
  E h a l := (E (ix3 h a l) : EReal).toReal

end Cert.Attn

end
-- ==== Proof.RefValue.lean ====
/-
  The attention's reference and its kernel end with the same result.
-/
module

public import proofs.«01_k».proof.Proof.Gen.Reference7Ideal.Run
public import proofs.«01_k».proof.Proof.RefAttn
public import proofs.«01_k».proof.Proof.AttnValue
public import proofs.«01_k».proof.Proof.AttnReals
public import Idealize.ShloMosaic.Lib.Pipeline.ValueKit
public import Idealize.ShloMosaic.Lib.Pointwise
public import Idealize.ShloMosaic.Lib.ValueIdx
public import Idealize.ShloMosaic.Lib.ValueIdxRank6
public import Idealize.ShloMosaic.Lib.KernelVsHost
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference7Ideal.Val

open Cert.Reference7Ideal Cert.Reference7Ideal.Gen Cert.Reference7Ideal.Value Idealize.ShloMosaic.StableHlo Cert.Attn

variable [Cert.Pre_finite.Facts]

theorem value (m : (ℓ : Loc Cert.Kernel7Ideal.nD Cert.Kernel7Ideal.τ Cert.Kernel7Ideal.sig) → Buf (Elt Ideal) ℓ) (c : Dev Cert.Kernel7Ideal.nD)
    (hpre : Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) = fun _ => 1#1) (V0 : Valuation τ sig (Elt Ideal))
    (h0 : V0 (Proc.devRef .tc main_arg0) = (m ((c.tc : Thread Cert.Kernel7Ideal.nD Cert.Kernel7Ideal.τ).loc Cert.Kernel7Ideal.main_arg0))) (h1 : V0 (Proc.devRef .tc main_arg1) = (m ((c.tc : Thread Cert.Kernel7Ideal.nD Cert.Kernel7Ideal.τ).loc Cert.Kernel7Ideal.main_arg1))) (h2 : V0 (Proc.devRef .tc main_arg2) = (m ((c.tc : Thread Cert.Kernel7Ideal.nD Cert.Kernel7Ideal.τ).loc Cert.Kernel7Ideal.main_arg2)))
    (h3 : V0 (Proc.devRef .tc main_arg3) = (m ((c.tc : Thread Cert.Kernel7Ideal.nD Cert.Kernel7Ideal.τ).loc Cert.Kernel7Ideal.main_arg3))) (h4 : V0 (Proc.devRef .tc main_arg4) = (m ((c.tc : Thread Cert.Kernel7Ideal.nD Cert.Kernel7Ideal.τ).loc Cert.Kernel7Ideal.main_arg4))) :
    mixture (res_main_v25 V0) (res_main_v122 V0) (V0 (Proc.devRef .tc main_arg1)) (select (broadcastInDim S2x4x4x4096x4096 ![0, 1, 2, 3, 4] bcast_S2x4x1x4096x4096_S2x4x4x4096x4096_0_1_2_3_4 (res_main_v202 V0)) (Host.divf (res_main_v212 V0) (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd (res_main_v212 V0) (constant S_ .f32 0x00000000#32) reducesTo_S2x4x4x4096x4096_S2x4x4x4096_d4 h_S_)))) (broadcastInDim S2x4x4x4096x4096 ![] bcast_S_S2x4x4x4096x4096 (constant S_ .f32 0x00000000#32))) (select (broadcastInDim S2x4x4x4096x4096 ![3, 4] bcast_S4096x4096_S2x4x4x4096x4096_3_4 (res_main_v231 V0)) (Host.divf (res_main_v241 V0) (broadcastInDim S2x4x4x4096x4096 ![0, 1, 2, 3, 4] bcast_S2x4x4x4096x1_S2x4x4x4096x4096_0_1_2_3_4 (broadcastInDim S2x4x4x4096x1 ![0, 1, 2, 3] bcast_S2x4x4x4096_S2x4x4x4096x1_0_1_2_3 (Host.reduceAdd (res_main_v241 V0) (constant S_ .f32 0x00000000#32) reducesTo_S2x4x4x4096x4096_S2x4x4x4096_d4 h_S_)))) (broadcastInDim S2x4x4x4096x4096 ![] bcast_S_S2x4x4x4096x4096 (constant S_ .f32 0x00000000#32))) (res_main_v6 V0) = (Cert.Kernel7Ideal.Gen.dats m 0 c).arrAt 10 Cert.Kernel7Ideal.cfg0.N := by
  obtain ⟨r0, r1, r3, r4⟩ := reals _ _ _ _ _ hpre
  have hk : Cert.Kernel7Ideal.Val.Real m c (realArrays (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) := ⟨fun _ _ _ => r0 _, fun _ _ _ _ _ => r1 _, fun _ _ _ _ => r3 _, fun _ _ _ => r4 _⟩
  have hr : Given V0 (realArrays (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) (Cert.Kernel7Ideal.Val.gates m c) :=
    ⟨fun _ _ _ => (congrFun h0 _).trans (r0 _), fun _ _ _ _ _ => (congrFun h1 _).trans (r1 _), fun _ _ _ => congrFun h2 _, fun _ _ _ _ => (congrFun h3 _).trans (r3 _), fun _ _ _ => (congrFun h4 _).trans (r4 _)⟩
  refine Eq.trans ?_ (Cert.Kernel7Ideal.Val.final m hk).symm
  funext y
  idx_vars y
  exact out_at V0 hr _ _ _

end Cert.Reference7Ideal.Val

end
-- ==== Proof.CompPay.lean ====
/-
  The stages of the pooling kernel's body, read at an index over the extended reals.
-/
module

public import proofs.«01_k».proof.Proof.Gen.Kernel8Ideal.Value
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel8Ideal.Val

open Cert.Kernel8Ideal Cert.Kernel8Ideal.Gen

/-- The gelu both programs apply, over the extended reals. -/
def gelu (x : EReal) : EReal :=
  x * (Scalar.ofBits (F := Ideal) .f32 0x3F000000#32 * (Scalar.ofBits (F := Ideal) .f32 0x3F800000#32
    + Ideal.tanh (Scalar.ofBits (F := Ideal) .f32 0x3F4C422A#32 * (x + Scalar.ofBits (F := Ideal) .f32 0x3D372713#32 * (x * (x * x))))))

theorem pay1_at (v327 : FVec Ideal S256x256 .bf16) (v328 : Vec Ideal S1x256x128 .bf16) (a : Fin 256) (d : Fin 128) :
    k0_pay1 (F := Ideal) v327 v328 (ix5 0 0 0 a d) = ∑ h : Fin 256, v327 (ix2 a h) * v328 (ix3 0 h d) := by
  unfold_payloads
  pointwise [dot_S256x256_S256x128_S256x128_1_0_0_1_n_n]

theorem pay2_at (v0 : Vec Ideal S1x4096x128 .bf16) (s : Fin 4096) (l : Fin 128) : k0_pay2 (F := Ideal) v0 (ix2 s l) = v0 (ix3 0 s l) := by
  unfold_payloads
  pointwise

theorem pay24_at (v223 : Vec Ideal S1x1x128 .f32) (l : Fin 128) : k0_pay24 (F := Ideal) v223 (ix2 0 l) = v223 (ix3 0 0 l) := by
  unfold_payloads
  pointwise

theorem k0_pay3_at (v8 : Vec Ideal S256x128 .f32) (v9 : Vec Ideal S1x1x128 .f32) (v19 : Vec Ideal S1x128x256 .bf16) (a : Fin 256) (h : Fin 256) : k0_pay3 (F := Ideal) v8 v9 v19 (ix2 a h)
    = (0 + (∑ l : Fin 128, (v8 (ix2 a l) + v9 (ix3 0 0 l)) * v19 (ix3 0 l h))) := by
  unfold_payloads
  pointwise [dot_S256x128_S128x256_S256x256_1_0_0_1_n_n]

theorem k0_pay4_at (v8 : Vec Ideal S256x128 .f32) (v14 : Vec Ideal S1x1x128 .f32) (v23 : Vec Ideal S1x128x256 .bf16) (a : Fin 256) (h : Fin 256) : k0_pay4 (F := Ideal) v8 v14 v23 (ix2 a h)
    = (0 + (∑ l : Fin 128, (v8 (ix2 a l) + v14 (ix3 0 0 l)) * v23 (ix3 0 l h))) := by
  unfold_payloads
  pointwise [dot_S256x128_S128x256_S256x256_1_0_0_1_n_n]

theorem k0_pay5_at (v26 : FVec Ideal S256x256 .f32) (v27 : Vec Ideal S256x128 .f32) (v33 : Vec Ideal S1x1x128 .f32) (v42 : Vec Ideal S1x128x256 .bf16) (a : Fin 256) (h : Fin 256) : k0_pay5 (F := Ideal) v26 v27 v33 v42 (ix2 a h)
    = (v26 (ix2 a h) + (∑ l : Fin 128, (v27 (ix2 a l) + v33 (ix3 0 0 l)) * v42 (ix3 0 l h))) := by
  unfold_payloads
  pointwise [dot_S256x128_S128x256_S256x256_1_0_0_1_n_n]

theorem k0_pay6_at (v46 : Vec Ideal S256x128 .f32) (v52 : Vec Ideal S1x1x128 .f32) (a : Fin 256) (l : Fin 128) : k0_pay6 (F := Ideal) v46 v52 (ix2 a l)
    = (v46 (ix2 a l) + v52 (ix3 0 0 l)) := by
  unfold_payloads
  pointwise [dot_S256x128_S128x256_S256x256_1_0_0_1_n_n]

theorem k0_pay7_at (v22 : FVec Ideal S256x256 .f32) (v27 : Vec Ideal S256x128 .f32) (v28 : Vec Ideal S1x1x128 .f32) (v38 : Vec Ideal S1x128x256 .bf16) (v46 : Vec Ideal S256x128 .f32) (v47 : Vec Ideal S1x1x128 .f32) (v57 : Vec Ideal S1x128x256 .bf16) (a : Fin 256) (h : Fin 256) : k0_pay7 (F := Ideal) v22 v27 v28 v38 v46 v47 v57 (ix2 a h)
    = ((v22 (ix2 a h) + (∑ l : Fin 128, (v27 (ix2 a l) + v28 (ix3 0 0 l)) * v38 (ix3 0 l h))) + (∑ l : Fin 128, (v46 (ix2 a l) + v47 (ix3 0 0 l)) * v57 (ix3 0 l h))) := by
  unfold_payloads
  pointwise [dot_S256x128_S128x256_S256x256_1_0_0_1_n_n]

theorem k0_pay8_at (v60 : FVec Ideal S256x256 .f32) (v65 : Vec Ideal S256x128 .f32) (v66 : Vec Ideal S1x1x128 .f32) (v76 : Vec Ideal S1x128x256 .bf16) (a : Fin 256) (h : Fin 256) : k0_pay8 (F := Ideal) v60 v65 v66 v76 (ix2 a h)
    = (v60 (ix2 a h) + (∑ l : Fin 128, (v65 (ix2 a l) + v66 (ix3 0 0 l)) * v76 (ix3 0 l h))) := by
  unfold_payloads
  pointwise [dot_S256x128_S128x256_S256x256_1_0_0_1_n_n]

theorem k0_pay9_at (v45 : FVec Ideal S256x256 .f32) (v56 : FVec Ideal S256x128 .bf16) (v61 : Vec Ideal S1x128x256 .bf16) (v65 : Vec Ideal S256x128 .f32) (v71 : Vec Ideal S1x1x128 .f32) (v80 : Vec Ideal S1x128x256 .bf16) (a : Fin 256) (h : Fin 256) : k0_pay9 (F := Ideal) v45 v56 v61 v65 v71 v80 (ix2 a h)
    = ((v45 (ix2 a h) + (∑ l : Fin 128, v56 (ix2 a l) * v61 (ix3 0 l h))) + (∑ l : Fin 128, (v65 (ix2 a l) + v71 (ix3 0 0 l)) * v80 (ix3 0 l h))) := by
  unfold_payloads
  pointwise [dot_S256x128_S128x256_S256x256_1_0_0_1_n_n]

theorem k0_pay10_at (v84 : Vec Ideal S256x128 .f32) (v85 : Vec Ideal S1x1x128 .f32) (a : Fin 256) (l : Fin 128) : k0_pay10 (F := Ideal) v84 v85 (ix2 a l)
    = (v84 (ix2 a l) + v85 (ix3 0 0 l)) := by
  unfold_payloads
  pointwise [dot_S256x128_S128x256_S256x256_1_0_0_1_n_n]

theorem k0_pay11_at (v84 : Vec Ideal S256x128 .f32) (v90 : Vec Ideal S1x1x128 .f32) (a : Fin 256) (l : Fin 128) : k0_pay11 (F := Ideal) v84 v90 (ix2 a l)
    = (v84 (ix2 a l) + v90 (ix3 0 0 l)) := by
  unfold_payloads
  pointwise [dot_S256x128_S128x256_S256x256_1_0_0_1_n_n]

theorem k0_pay12_at (v79 : FVec Ideal S256x256 .f32) (v89 : FVec Ideal S256x128 .bf16) (v95 : Vec Ideal S1x128x256 .bf16) (v103 : Vec Ideal S256x128 .f32) (v104 : Vec Ideal S1x1x128 .f32) (v114 : Vec Ideal S1x128x256 .bf16) (a : Fin 256) (h : Fin 256) : k0_pay12 (F := Ideal) v79 v89 v95 v103 v104 v114 (ix2 a h)
    = ((v79 (ix2 a h) + (∑ l : Fin 128, v89 (ix2 a l) * v95 (ix3 0 l h))) + (∑ l : Fin 128, (v103 (ix2 a l) + v104 (ix3 0 0 l)) * v114 (ix3 0 l h))) := by
  unfold_payloads
  pointwise [dot_S256x128_S128x256_S256x256_1_0_0_1_n_n]

theorem k0_pay13_at (v83 : FVec Ideal S256x256 .f32) (v94 : FVec Ideal S256x128 .bf16) (v99 : Vec Ideal S1x128x256 .bf16) (v103 : Vec Ideal S256x128 .f32) (v109 : Vec Ideal S1x1x128 .f32) (v118 : Vec Ideal S1x128x256 .bf16) (a : Fin 256) (h : Fin 256) : k0_pay13 (F := Ideal) v83 v94 v99 v103 v109 v118 (ix2 a h)
    = ((v83 (ix2 a h) + (∑ l : Fin 128, v94 (ix2 a l) * v99 (ix3 0 l h))) + (∑ l : Fin 128, (v103 (ix2 a l) + v109 (ix3 0 0 l)) * v118 (ix3 0 l h))) := by
  unfold_payloads
  pointwise [dot_S256x128_S128x256_S256x256_1_0_0_1_n_n]

theorem k0_pay14_at (v122 : Vec Ideal S256x128 .f32) (v123 : Vec Ideal S1x1x128 .f32) (a : Fin 256) (l : Fin 128) : k0_pay14 (F := Ideal) v122 v123 (ix2 a l)
    = (v122 (ix2 a l) + v123 (ix3 0 0 l)) := by
  unfold_payloads
  pointwise [dot_S256x128_S128x256_S256x256_1_0_0_1_n_n]

theorem k0_pay15_at (v117 : FVec Ideal S256x256 .f32) (v127 : FVec Ideal S256x128 .bf16) (v133 : Vec Ideal S1x128x256 .bf16) (v141 : Vec Ideal S256x128 .f32) (v142 : Vec Ideal S1x1x128 .f32) (v152 : Vec Ideal S1x128x256 .bf16) (a : Fin 256) (h : Fin 256) : k0_pay15 (F := Ideal) v117 v127 v133 v141 v142 v152 (ix2 a h)
    = ((v117 (ix2 a h) + (∑ l : Fin 128, v127 (ix2 a l) * v133 (ix3 0 l h))) + (∑ l : Fin 128, (v141 (ix2 a l) + v142 (ix3 0 0 l)) * v152 (ix3 0 l h))) := by
  unfold_payloads
  pointwise [dot_S256x128_S128x256_S256x256_1_0_0_1_n_n]

theorem k0_pay16_at (v121 : FVec Ideal S256x256 .f32) (v122 : Vec Ideal S256x128 .f32) (v128 : Vec Ideal S1x1x128 .f32) (v137 : Vec Ideal S1x128x256 .bf16) (v141 : Vec Ideal S256x128 .f32) (v147 : Vec Ideal S1x1x128 .f32) (v156 : Vec Ideal S1x128x256 .bf16) (a : Fin 256) (h : Fin 256) : k0_pay16 (F := Ideal) v121 v122 v128 v137 v141 v147 v156 (ix2 a h)
    = ((v121 (ix2 a h) + (∑ l : Fin 128, (v122 (ix2 a l) + v128 (ix3 0 0 l)) * v137 (ix3 0 l h))) + (∑ l : Fin 128, (v141 (ix2 a l) + v147 (ix3 0 0 l)) * v156 (ix3 0 l h))) := by
  unfold_payloads
  pointwise [dot_S256x128_S128x256_S256x256_1_0_0_1_n_n]

theorem k0_pay17_at (v155 : FVec Ideal S256x256 .f32) (v160 : Vec Ideal S256x128 .f32) (v161 : Vec Ideal S1x1x128 .f32) (v171 : Vec Ideal S1x128x256 .bf16) (a : Fin 256) (h : Fin 256) : k0_pay17 (F := Ideal) v155 v160 v161 v171 (ix2 a h)
    = (v155 (ix2 a h) + (∑ l : Fin 128, (v160 (ix2 a l) + v161 (ix3 0 0 l)) * v171 (ix3 0 l h))) := by
  unfold_payloads
  pointwise [dot_S256x128_S128x256_S256x256_1_0_0_1_n_n]

theorem k0_pay18_at (v159 : FVec Ideal S256x256 .f32) (v160 : Vec Ideal S256x128 .f32) (v166 : Vec Ideal S1x1x128 .f32) (v175 : Vec Ideal S1x128x256 .bf16) (a : Fin 256) (h : Fin 256) : k0_pay18 (F := Ideal) v159 v160 v166 v175 (ix2 a h)
    = (v159 (ix2 a h) + (∑ l : Fin 128, (v160 (ix2 a l) + v166 (ix3 0 0 l)) * v175 (ix3 0 l h))) := by
  unfold_payloads
  pointwise [dot_S256x128_S128x256_S256x256_1_0_0_1_n_n]

theorem k0_pay19_at (v179 : Vec Ideal S256x128 .f32) (v185 : Vec Ideal S1x1x128 .f32) (a : Fin 256) (l : Fin 128) : k0_pay19 (F := Ideal) v179 v185 (ix2 a l)
    = (v179 (ix2 a l) + v185 (ix3 0 0 l)) := by
  unfold_payloads
  pointwise [dot_S256x128_S128x256_S256x256_1_0_0_1_n_n]

theorem k0_pay20_at (v179 : Vec Ideal S256x128 .f32) (v180 : Vec Ideal S1x1x128 .f32) (v190 : Vec Ideal S1x128x256 .bf16) (a : Fin 256) (h : Fin 256) : k0_pay20 (F := Ideal) v179 v180 v190 (ix2 a h)
    = (∑ l : Fin 128, (v179 (ix2 a l) + v180 (ix3 0 0 l)) * v190 (ix3 0 l h)) := by
  unfold_payloads
  pointwise [dot_S256x128_S128x256_S256x256_1_0_0_1_n_n]

theorem k0_pay21_at (v174 : FVec Ideal S256x256 .f32) (v192 : FVec Ideal S256x256 .f32) (v198 : Vec Ideal S256x128 .f32) (v199 : Vec Ideal S1x1x128 .f32) (v209 : Vec Ideal S1x128x256 .bf16) (a : Fin 256) (h : Fin 256) : k0_pay21 (F := Ideal) v174 v192 v198 v199 v209 (ix2 a h)
    = ((v174 (ix2 a h) + v192 (ix2 a h)) + (∑ l : Fin 128, (v198 (ix2 a l) + v199 (ix3 0 0 l)) * v209 (ix3 0 l h))) := by
  unfold_payloads
  pointwise [dot_S256x128_S128x256_S256x256_1_0_0_1_n_n]

theorem k0_pay22_at (v178 : FVec Ideal S256x256 .f32) (v189 : FVec Ideal S256x128 .bf16) (v194 : Vec Ideal S1x128x256 .bf16) (v198 : Vec Ideal S256x128 .f32) (v204 : Vec Ideal S1x1x128 .f32) (v213 : Vec Ideal S1x128x256 .bf16) (a : Fin 256) (h : Fin 256) : k0_pay22 (F := Ideal) v178 v189 v194 v198 v204 v213 (ix2 a h)
    = ((v178 (ix2 a h) + (∑ l : Fin 128, v189 (ix2 a l) * v194 (ix3 0 l h))) + (∑ l : Fin 128, (v198 (ix2 a l) + v204 (ix3 0 0 l)) * v213 (ix3 0 l h))) := by
  unfold_payloads
  pointwise [dot_S256x128_S128x256_S256x256_1_0_0_1_n_n]

theorem k0_pay23_at (v217 : Vec Ideal S256x128 .f32) (v218 : Vec Ideal S1x1x128 .f32) (a : Fin 256) (l : Fin 128) : k0_pay23 (F := Ideal) v217 v218 (ix2 a l)
    = (v217 (ix2 a l) + v218 (ix3 0 0 l)) := by
  unfold_payloads
  pointwise [dot_S256x128_S128x256_S256x256_1_0_0_1_n_n]

theorem k0_pay25_at (v212 : FVec Ideal S256x256 .f32) (v222 : FVec Ideal S256x128 .bf16) (v228 : Vec Ideal S1x128x256 .bf16) (v236 : Vec Ideal S256x128 .f32) (v237 : Vec Ideal S1x1x128 .f32) (v247 : Vec Ideal S1x128x256 .bf16) (a : Fin 256) (h : Fin 256) : k0_pay25 (F := Ideal) v212 v222 v228 v236 v237 v247 (ix2 a h)
    = ((v212 (ix2 a h) + (∑ l : Fin 128, v222 (ix2 a l) * v228 (ix3 0 l h))) + (∑ l : Fin 128, (v236 (ix2 a l) + v237 (ix3 0 0 l)) * v247 (ix3 0 l h))) := by
  unfold_payloads
  pointwise [dot_S256x128_S128x256_S256x256_1_0_0_1_n_n]

theorem k0_pay26_at (v216 : FVec Ideal S256x256 .f32) (v217 : Vec Ideal S256x128 .f32) (v224 : FVec Ideal S1x128 .f32) (v232 : Vec Ideal S1x128x256 .bf16) (v236 : Vec Ideal S256x128 .f32) (v242 : Vec Ideal S1x1x128 .f32) (v251 : Vec Ideal S1x128x256 .bf16) (a : Fin 256) (h : Fin 256) : k0_pay26 (F := Ideal) v216 v217 v224 v232 v236 v242 v251 (ix2 a h)
    = ((v216 (ix2 a h) + (∑ l : Fin 128, (v217 (ix2 a l) + v224 (ix2 0 l)) * v232 (ix3 0 l h))) + (∑ l : Fin 128, (v236 (ix2 a l) + v242 (ix3 0 0 l)) * v251 (ix3 0 l h))) := by
  unfold_payloads
  pointwise [dot_S256x128_S128x256_S256x256_1_0_0_1_n_n]

theorem k0_pay27_at (v254 : FVec Ideal S256x256 .f32) (v255 : Vec Ideal S256x128 .f32) (v261 : Vec Ideal S1x1x128 .f32) (v270 : Vec Ideal S1x128x256 .bf16) (a : Fin 256) (h : Fin 256) : k0_pay27 (F := Ideal) v254 v255 v261 v270 (ix2 a h)
    = (v254 (ix2 a h) + (∑ l : Fin 128, (v255 (ix2 a l) + v261 (ix3 0 0 l)) * v270 (ix3 0 l h))) := by
  unfold_payloads
  pointwise [dot_S256x128_S128x256_S256x256_1_0_0_1_n_n]

theorem k0_pay28_at (v274 : Vec Ideal S256x128 .f32) (v280 : Vec Ideal S1x1x128 .f32) (a : Fin 256) (l : Fin 128) : k0_pay28 (F := Ideal) v274 v280 (ix2 a l)
    = (v274 (ix2 a l) + v280 (ix3 0 0 l)) := by
  unfold_payloads
  pointwise [dot_S256x128_S128x256_S256x256_1_0_0_1_n_n]

theorem k0_pay29_at (v250 : FVec Ideal S256x256 .f32) (v255 : Vec Ideal S256x128 .f32) (v256 : Vec Ideal S1x1x128 .f32) (v266 : Vec Ideal S1x128x256 .bf16) (v274 : Vec Ideal S256x128 .f32) (v275 : Vec Ideal S1x1x128 .f32) (v285 : Vec Ideal S1x128x256 .bf16) (a : Fin 256) (h : Fin 256) : k0_pay29 (F := Ideal) v250 v255 v256 v266 v274 v275 v285 (ix2 a h)
    = ((v250 (ix2 a h) + (∑ l : Fin 128, (v255 (ix2 a l) + v256 (ix3 0 0 l)) * v266 (ix3 0 l h))) + (∑ l : Fin 128, (v274 (ix2 a l) + v275 (ix3 0 0 l)) * v285 (ix3 0 l h))) := by
  unfold_payloads
  pointwise [dot_S256x128_S128x256_S256x256_1_0_0_1_n_n]

theorem k0_pay30_at (v273 : FVec Ideal S256x256 .f32) (v284 : FVec Ideal S256x128 .bf16) (v288 : FVec Ideal S256x256 .f32) (v289 : Vec Ideal S1x128x256 .bf16) (v293 : Vec Ideal S256x128 .f32) (v294 : Vec Ideal S1x1x128 .f32) (v299 : Vec Ideal S1x1x128 .f32) (v304 : Vec Ideal S1x128x256 .bf16) (v308 : Vec Ideal S1x128x256 .bf16) (a h : Fin 256) : k0_pay30 (F := Ideal) v273 v284 v288 v289 v293 v294 v299 v304 v308 (ix2 a h)
    = gelu ((v288 (ix2 a h) + (∑ l : Fin 128, (v293 (ix2 a l) + v294 (ix3 0 0 l)) * v304 (ix3 0 l h))) + ((v273 (ix2 (⟨(a.val + 1) % 256, by omega⟩ : Fin 256) h) + (∑ l : Fin 128, v284 (ix2 (⟨(a.val + 1) % 256, by omega⟩ : Fin 256) l) * v289 (ix3 0 l h))) + (∑ l : Fin 128, (v293 (ix2 (⟨(a.val + 1) % 256, by omega⟩ : Fin 256) l) + v299 (ix3 0 0 l)) * v308 (ix3 0 l h)))) := by
  unfold gelu
  unfold_payloads
  pointwise [dot_S256x128_S128x256_S256x256_1_0_0_1_n_n]
  have e : (a.val + 256 - 255) % 256 = (a.val + 1) % 256 := by omega
  simp only [e]

end Cert.Kernel8Ideal.Val
-- ==== Proof.CompBody.lean ====
/-
  What one grid point of the pooling kernel leaves, read at an index over the extended reals.
-/
module

public import proofs.«01_k».proof.Proof.Gen.Kernel8Ideal.Value
public import proofs.«01_k».proof.Proof.CompPay
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel8Ideal.Val

open Cert.Kernel8Ideal Cert.Kernel8Ideal.Gen

theorem hz2 : (![0, 0] : Fin 2 → Nat) = fun _ => 0 := funext fun a => by fin_cases a <;> rfl

theorem hz3 : (![0, 0, 0] : Fin 3 → Nat) = fun _ => 0 := funext fun a => by fin_cases a <;> rfl

theorem hz5 : (![0, 0, 0, 0, 0] : Fin 5 → Nat) = fun _ => 0 := funext fun a => by fin_cases a <;> rfl

/-- A sum of sixteen, as the kernel adds it up. -/
theorem sum16 (f : Fin 16 → EReal) : ∑ i, f i = 0 + f ⟨0, by omega⟩ + f ⟨1, by omega⟩ + f ⟨2, by omega⟩ + f ⟨3, by omega⟩ + f ⟨4, by omega⟩ + f ⟨5, by omega⟩ + f ⟨6, by omega⟩ + f ⟨7, by omega⟩ + f ⟨8, by omega⟩ + f ⟨9, by omega⟩ + f ⟨10, by omega⟩ + f ⟨11, by omega⟩ + f ⟨12, by omega⟩ + f ⟨13, by omega⟩ + f ⟨14, by omega⟩ + f ⟨15, by omega⟩ := by
  simp only [Fin.sum_univ_succ, Fin.sum_univ_zero, zero_add, add_zero, add_assoc]
  rfl

/-- The rows a strided load takes: every sixteenth, from row `r`. -/
theorem rows_of (v : View sig .tc .vmem S4096x128 .f32) (P : Vec Ideal S4096x128 .f32) (inb0 : ∀ a, (![0, 0] : Fin 2 → Nat) a + S4096x128.size a ≤ S4096x128.size a)
    (r : Nat) (inb : ∀ a, (![256, 128] : Fin 2 → Nat) a = 0 ∨ (![r, 0] : Fin 2 → Nat) a + (![16, 1] : Fin 2 → Nat) a * ((![256, 128] : Fin 2 → Nat) a - 1) < S4096x128.size a) (hr : r < 16) (a : Fin 256) (l : Fin 128) :
    v.readCov [(⟨Rect.unit ![0, 0] S4096x128.size inb0, P⟩ : View.Piece (Elt Ideal) S4096x128 .f32)] (⟨![r, 0], ![256, 128], ![16, 1], inb⟩ : LoadRect S4096x128) (ix2 a l)
    = P (ix2 (⟨16 * a.val + r, by omega⟩ : Fin 4096) l) := by
  have e : View.canon [(⟨Rect.unit ![0, 0] S4096x128.size inb0, P⟩ : View.Piece (Elt Ideal) S4096x128 .f32)] = P := View.canon_unit_zero hz2 inb0 P
  rw [View.readCov_eq_canon', e]
  refine congrArg P ?_
  funext e
  fin_cases e
  · exact Fin.ext (show r + 16 * a.val = 16 * a.val + r by omega)
  · exact Fin.ext (show 0 + 1 * l.val = l.val by omega)

theorem rows_at (v : View sig .tc .vmem S4096x128 .f32) (w : Vec Ideal S1x4096x128 .bf16) (inb0 : ∀ a, (![0, 0] : Fin 2 → Nat) a + S4096x128.size a ≤ S4096x128.size a)
    (r : Nat) (inb : ∀ a, (![256, 128] : Fin 2 → Nat) a = 0 ∨ (![r, 0] : Fin 2 → Nat) a + (![16, 1] : Fin 2 → Nat) a * ((![256, 128] : Fin 2 → Nat) a - 1) < S4096x128.size a) (hr : r < 16) (a : Fin 256) (l : Fin 128) :
    v.readCov [(⟨Rect.unit ![0, 0] ![4096, 128] inb0, k0_pay2 (F := Ideal) w⟩ : View.Piece (Elt Ideal) S4096x128 .f32)] (⟨![r, 0], ![256, 128], ![16, 1], inb⟩ : LoadRect S4096x128) (ix2 a l)
    = w (ix3 0 (⟨16 * a.val + r, by omega⟩ : Fin 4096) l) :=
  (rows_of v (k0_pay2 (F := Ideal) w) inb0 r inb hr a l).trans (pay2_at w _ l)

theorem pos_at (x : Vec Ideal S1x32x128 .f32) (r : Nat) (inb : ∀ a, (![0, r, 0] : Fin 3 → Nat) a + (![1, 1, 128] : Fin 3 → Nat) a ≤ S1x32x128.size a) (hr : r < 32) (l : Fin 128) :
    View.ld (Val := Elt Ideal) x (Rect.unit ![0, r, 0] ![1, 1, 128] inb) (ix3 0 0 l) = x (ix3 0 (⟨r, hr⟩ : Fin 32) l) := by
  refine congrArg x (funext fun e => ?_)
  fin_cases e
  · rfl
  · exact Fin.ext (show r + 1 * 0 = r by omega)
  · exact Fin.ext (show 0 + 1 * l.val = l.val by omega)

theorem wt_at (x : Vec Ideal S1x4096x256 .bf16) (r : Nat) (inb : ∀ a, (![0, r, 0] : Fin 3 → Nat) a + (![1, 128, 256] : Fin 3 → Nat) a ≤ S1x4096x256.size a) (hr : r + 128 ≤ 4096) (l : Fin 128) (h : Fin 256) :
    View.ld (Val := Elt Ideal) x (Rect.unit ![0, r, 0] ![1, 128, 256] inb) (ix3 0 l h) = x (ix3 0 (⟨r + l.val, by omega⟩ : Fin 4096) h) := by
  refine congrArg x (funext fun e => ?_)
  fin_cases e
  · rfl
  · exact Fin.ext (show r + 1 * l.val = r + l.val by omega)
  · exact Fin.ext (show 0 + 1 * h.val = h.val by omega)

theorem add_sum {s t : EReal} {f g : Fin 128 → EReal} (h : s = t) (k : ∀ l, f l = g l) : s + ∑ l, f l = t + ∑ l, g l := by
  rw [h, funext k]

/-- The products of sixteen rows with half of the first weights. -/
def half (x : Fin 16 → Fin 128 → EReal) (p : Fin 16 → Fin 128 → EReal) (w : Fin 16 → Fin 128 → EReal) : EReal :=
  ∑ i : Fin 16, ∑ l : Fin 128, (x i l + p i l) * w i l

set_option maxHeartbeats 1000000 in
theorem out_A (c : Dev nD) (i : grid0.Coords) (arg3 : Memref sig .tc .vmem S1x4096x128 .bf16) (harg3 : arg3.IsWhole) (arg4 : Memref sig .tc .vmem S1x32x128 .f32) (harg4 : arg4.IsWhole) (arg5 : Memref sig .tc .vmem S1x4096x256 .bf16) (harg5 : arg5.IsWhole) (arg6 : Memref sig .tc .vmem S1x256x128 .bf16) (harg6 : arg6.IsWhole) (arg7 : Memref sig .tc .vmem S1x1x1x256x128 .bf16) (harg7 : arg7.IsWhole) (arg8 : Memref sig .tc .vmem S4096x128 .f32) (harg8 : arg8.IsWhole)
    (x0 : Vec Ideal S1x4096x128 .bf16) (x1 : Vec Ideal S1x32x128 .f32) (x2 : Vec Ideal S1x4096x256 .bf16) (x3 : Vec Ideal S1x256x128 .bf16) (a : Fin 256) (d : Fin 128) :
    out0_A_4 (F := Ideal) c i arg3 harg3 arg4 harg4 arg5 harg5 arg6 harg6 arg7 harg7 arg8 harg8 x0 x1 x2 x3 (ix5 0 0 0 a d)
    = ∑ h : Fin 256, gelu (
        half (fun i l => x0 (ix3 0 (⟨16 * a.val + i.val, by omega⟩ : Fin 4096) l)) (fun i l => x1 (ix3 0 (⟨i.val, by omega⟩ : Fin 32) l)) (fun i l => x2 (ix3 0 (⟨128 * i.val + l.val, by omega⟩ : Fin 4096) h))
        + half (fun i l => x0 (ix3 0 (⟨16 * ((a.val + 1) % 256) + i.val, by omega⟩ : Fin 4096) l)) (fun i l => x1 (ix3 0 (⟨16 + i.val, by omega⟩ : Fin 32) l)) (fun i l => x2 (ix3 0 (⟨2048 + 128 * i.val + l.val, by omega⟩ : Fin 4096) h)))
      * x3 (ix3 0 h d) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz5]
  simp only [View.readAt_eq_ld, harg3.read_unread, harg4.read_unread, harg5.read_unread, harg6.read_unread, harg8.read_unread, View.ld_unit_zero (S := S1x4096x128) hz3, View.ld_unit_zero (S := S1x256x128) hz3]
  rw [pay1_at]
  refine Finset.sum_congr rfl fun h _ => congrArg (fun p : EReal => p * x3 (ix3 0 h d)) ?_
  unfold half
  rw [sum16, sum16]
  rw [k0_pay30_at]
  refine congrArg gelu (congrArg₂ (fun p q : EReal => p + q) ?_ ?_)
  all_goals
    simp only [k0_pay3_at, k0_pay4_at, k0_pay5_at, k0_pay6_at, k0_pay7_at, k0_pay8_at, k0_pay9_at, k0_pay10_at, k0_pay11_at, k0_pay12_at, k0_pay13_at, k0_pay14_at, k0_pay15_at, k0_pay16_at, k0_pay17_at, k0_pay18_at, k0_pay19_at, k0_pay20_at, k0_pay21_at, k0_pay22_at, k0_pay23_at, k0_pay25_at, k0_pay26_at, k0_pay27_at, k0_pay28_at, k0_pay29_at, pay24_at]
    simp (disch := omega) only [rows_at]
    iterate 16 refine add_sum ?_ fun l => ?_
    · rfl
    all_goals
      exact congrArg₂ (fun p q : EReal => p * q) (congrArg₂ (fun p q : EReal => p + q) rfl (pos_at x1 _ _ (by omega) l)) (wt_at x2 _ _ (by omega) l h)

end Cert.Kernel8Ideal.Val
-- ==== Proof.Compress.lean ====
/-
  The compressed keys and values the attention reads, as one function of the arguments over the extended reals.
-/
module

public import proofs.«01_k».proof.Proof.Gen.Kernel8Ideal.Value
public import proofs.«01_k».proof.Proof.CompBody
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Kernel8Ideal.Val

open Cert.Kernel8Ideal Cert.Kernel8Ideal.Gen

variable (m : (ℓ : Loc nD τ sig) → Buf (Elt Ideal) ℓ)

theorem idx : ∀ t : Fin grid0.N, win0_0.index t = ![t.val / 8, 0, 16 + t.val % 8] ∧ win0_1.index t = ![t.val / 4 % 2, 0, 0]
    ∧ win0_2.index t = ![t.val / 4 % 2, 0, 0] ∧ win0_3.index t = ![t.val / 4 % 2, 0, 0] ∧ win0_4.index t = ![t.val / 8, t.val / 4 % 2, t.val % 4, 0, 0] := by decide +kernel

/-- The keys' or the values' of two arguments. -/
def pick (n : Fin 2) (a b : EReal) : EReal := if n.val = 0 then a else b

def pos (c : Dev nD) : Vec Ideal S2x32x128 .f32 := Gen.V m c main_v2

def pos_of (a b : FVec Ideal S32x128 .f32) : FVec Ideal S2x32x128 .f32 :=
  concatenate S2x32x128 0 [⟨S1x32x128, (broadcastInDim S1x32x128 ![1, 2] bcast_S32x128_S1x32x128_1_2 a)⟩, ⟨S1x32x128, (broadcastInDim S1x32x128 ![1, 2] bcast_S32x128_S1x32x128_1_2 b)⟩] concatenates_S1x32x128_S1x32x128_S2x32x128_d0

theorem pos_eq (c : Dev nD) : pos m c = pos_of (m ((c : Thread nD τ).loc main_arg1)) (m ((c : Thread nD τ).loc main_arg2)) := by
  unfold pos
  unfold_abbrev_sides
  after_results <;> rfl

theorem pos_at' (c : Dev nD) (n : Fin 2) (r : Fin 32) (l : Fin 128) : pos m c (ix3 n r l)
    = pick n (m ((c : Thread nD τ).loc main_arg1) (ix2 r l)) (m ((c : Thread nD τ).loc main_arg2) (ix2 r l)) := by
  rw [pos_eq]
  unfold pos_of pick
  generalize m ((c : Thread nD τ).loc main_arg1) = a
  generalize m ((c : Thread nD τ).loc main_arg2) = b
  obtain ⟨n, hn⟩ := n
  interval_cases n
  · pointwise
  · pointwise

def wa (c : Dev nD) : Vec Ideal S2x4096x256 .bf16 := Gen.V m c main_v6

def wa_of (a b : FVec Ideal S4096x256 .f32) : FVec Ideal S2x4096x256 .bf16 :=
  truncf .bf16 (concatenate S2x4096x256 0 [⟨S1x4096x256, (broadcastInDim S1x4096x256 ![1, 2] bcast_S4096x256_S1x4096x256_1_2 a)⟩, ⟨S1x4096x256, (broadcastInDim S1x4096x256 ![1, 2] bcast_S4096x256_S1x4096x256_1_2 b)⟩] concatenates_S1x4096x256_S1x4096x256_S2x4096x256_d0) bitsLt_bf16_f32

theorem wa_eq (c : Dev nD) : wa m c = wa_of (m ((c : Thread nD τ).loc main_arg3)) (m ((c : Thread nD τ).loc main_arg5)) := by
  unfold wa
  unfold_abbrev_sides
  after_results <;> rfl

theorem wa_at (c : Dev nD) (n : Fin 2) (r : Fin 4096) (l : Fin 256) : wa m c (ix3 n r l)
    = pick n (m ((c : Thread nD τ).loc main_arg3) (ix2 r l)) (m ((c : Thread nD τ).loc main_arg5) (ix2 r l)) := by
  rw [wa_eq]
  unfold wa_of pick
  generalize m ((c : Thread nD τ).loc main_arg3) = a
  generalize m ((c : Thread nD τ).loc main_arg5) = b
  obtain ⟨n, hn⟩ := n
  interval_cases n
  · pointwise
  · pointwise

def wb (c : Dev nD) : Vec Ideal S2x256x128 .bf16 := Gen.V m c main_v10

def wb_of (a b : FVec Ideal S256x128 .f32) : FVec Ideal S2x256x128 .bf16 :=
  truncf .bf16 (concatenate S2x256x128 0 [⟨S1x256x128, (broadcastInDim S1x256x128 ![1, 2] bcast_S256x128_S1x256x128_1_2 a)⟩, ⟨S1x256x128, (broadcastInDim S1x256x128 ![1, 2] bcast_S256x128_S1x256x128_1_2 b)⟩] concatenates_S1x256x128_S1x256x128_S2x256x128_d0) bitsLt_bf16_f32

theorem wb_eq (c : Dev nD) : wb m c = wb_of (m ((c : Thread nD τ).loc main_arg4)) (m ((c : Thread nD τ).loc main_arg6)) := by
  unfold wb
  unfold_abbrev_sides
  after_results <;> rfl

theorem wb_at (c : Dev nD) (n : Fin 2) (r : Fin 256) (l : Fin 128) : wb m c (ix3 n r l)
    = pick n (m ((c : Thread nD τ).loc main_arg4) (ix2 r l)) (m ((c : Thread nD τ).loc main_arg6) (ix2 r l)) := by
  rw [wb_eq]
  unfold wb_of pick
  generalize m ((c : Thread nD τ).loc main_arg4) = a
  generalize m ((c : Thread nD τ).loc main_arg6) = b
  obtain ⟨n, hn⟩ := n
  interval_cases n
  · pointwise
  · pointwise

/-- A row of the keys' (0) or the values' (1) columns of a head group. -/
def row (x : Vec Ideal S2x4096x5120 .bf16) (b n : Fin 2) (g : Fin 4) (s : Fin 4096) (l : Fin 128) : EReal :=
  x (ix3 b s (⟨2048 + (512 * n.val + 128 * g.val + l.val), by omega⟩ : Fin 5120))

/-- A block before its gelu: sixteen rows against the first half of the weights, the sixteen after them against the second. -/
def hidden (x : Vec Ideal S2x4096x5120 .bf16) (pk pv : Vec Ideal S32x128 .f32) (w1k w1v : Vec Ideal S4096x256 .f32) (b n : Fin 2) (g : Fin 4) (a h : Fin 256) : EReal :=
  half (fun i l => row x b n g (⟨16 * a.val + i.val, by omega⟩ : Fin 4096) l) (fun i l => pick n (pk (ix2 (⟨i.val, by omega⟩ : Fin 32) l)) (pv (ix2 (⟨i.val, by omega⟩ : Fin 32) l)))
      (fun i l => pick n (w1k (ix2 (⟨128 * i.val + l.val, by omega⟩ : Fin 4096) h)) (w1v (ix2 (⟨128 * i.val + l.val, by omega⟩ : Fin 4096) h)))
    + half (fun i l => row x b n g (⟨16 * ((a.val + 1) % 256) + i.val, by omega⟩ : Fin 4096) l) (fun i l => pick n (pk (ix2 (⟨16 + i.val, by omega⟩ : Fin 32) l)) (pv (ix2 (⟨16 + i.val, by omega⟩ : Fin 32) l)))
      (fun i l => pick n (w1k (ix2 (⟨2048 + 128 * i.val + l.val, by omega⟩ : Fin 4096) h)) (w1v (ix2 (⟨2048 + 128 * i.val + l.val, by omega⟩ : Fin 4096) h)))

/-- The result: sequence, keys or values, head group, block, column. -/
def G (x : Vec Ideal S2x4096x5120 .bf16) (pk pv : Vec Ideal S32x128 .f32) (w1k : Vec Ideal S4096x256 .f32) (w2k : Vec Ideal S256x128 .f32) (w1v : Vec Ideal S4096x256 .f32) (w2v : Vec Ideal S256x128 .f32) :
    Vec Ideal S2x2x4x256x128 .bf16 := fun i =>
  ∑ h : Fin 256, gelu (hidden x pk pv w1k w1v (i 0) (i 1) (i 2) (i 3) h) * pick (i 1) (w2k (ix2 h (i 4))) (w2v (ix2 h (i 4)))

/-- What a grid point leaves is the result's block, given what its blocks hold. -/
theorem of_blocks (c : Dev nD) (i : S2x2x4x256x128.Idx) (x0 : Vec Ideal S1x4096x128 .bf16) (x1 : Vec Ideal S1x32x128 .f32) (x2 : Vec Ideal S1x4096x256 .bf16) (x3 : Vec Ideal S1x256x128 .bf16) (a : Fin 256) (d : Fin 128)
    (e0 : ∀ (s : Fin 4096) (l : Fin 128), x0 (ix3 0 s l) = row (m ((c : Thread nD τ).loc main_arg0)) (i 0) (i 1) (i 2) s l)
    (e1 : ∀ (r : Fin 32) (l : Fin 128), x1 (ix3 0 r l) = pos m c (ix3 (i 1) r l))
    (e2 : ∀ (r : Fin 4096) (l : Fin 256), x2 (ix3 0 r l) = wa m c (ix3 (i 1) r l))
    (e3 : ∀ (r : Fin 256) (l : Fin 128), x3 (ix3 0 r l) = wb m c (ix3 (i 1) r l))
    (ha : i 3 = a) (hd : i 4 = d) :
    ∑ h : Fin 256, gelu (
        half (fun i l => x0 (ix3 0 (⟨16 * a.val + i.val, by omega⟩ : Fin 4096) l)) (fun i l => x1 (ix3 0 (⟨i.val, by omega⟩ : Fin 32) l)) (fun i l => x2 (ix3 0 (⟨128 * i.val + l.val, by omega⟩ : Fin 4096) h))
        + half (fun i l => x0 (ix3 0 (⟨16 * ((a.val + 1) % 256) + i.val, by omega⟩ : Fin 4096) l)) (fun i l => x1 (ix3 0 (⟨16 + i.val, by omega⟩ : Fin 32) l)) (fun i l => x2 (ix3 0 (⟨2048 + 128 * i.val + l.val, by omega⟩ : Fin 4096) h)))
      * x3 (ix3 0 h d)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  subst ha hd
  have f1 := fun r l => (e1 r l).trans (pos_at' m c (i 1) r l)
  have f2 := fun r l => (e2 r l).trans (wa_at m c (i 1) r l)
  have f3 := fun r l => (e3 r l).trans (wb_at m c (i 1) r l)
  simp only [e0, f1, f2]
  exact Finset.sum_congr rfl fun h _ => congrArg (fun q : EReal => gelu _ * q) (f3 h (i 4))

theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 4 _ (by decide +kernel) fun t hf y => ?_
  blk_simp
  rw [after0_4]
  unfold outsAt0
  idx_vars y
  obtain rfl : y0 = 0 := Subsingleton.elim _ _
  obtain rfl : y1 = 0 := Subsingleton.elim _ _
  obtain rfl : y2 = 0 := Subsingleton.elim _ _
  refine (out_A c _ _ _ _ _ _ _ _ _ _ _ _ _ _ _ _ _ y3 y4).trans ?_
  refine of_blocks m c _ _ _ _ _ _ _ ?_ ?_ ?_ ?_ ?_ ?_
  · intro s l
    unfold row
    blk_ext [iblk, V, (idx t).1, (idx t).2.1, (idx t).2.2.1, (idx t).2.2.2.1, (idx t).2.2.2.2]
  · intro r l
    unfold pos
    blk_ext [iblk, (idx t).1, (idx t).2.1, (idx t).2.2.1, (idx t).2.2.2.1, (idx t).2.2.2.2]
  · intro r l
    unfold wa
    blk_ext [iblk, (idx t).1, (idx t).2.1, (idx t).2.2.1, (idx t).2.2.2.1, (idx t).2.2.2.2]
  · intro r l
    unfold wb
    blk_ext [iblk, (idx t).1, (idx t).2.1, (idx t).2.2.1, (idx t).2.2.2.1, (idx t).2.2.2.2]
  · apply Fin.ext
    blk_ext [(idx t).2.2.2.2]
  · apply Fin.ext
    blk_ext [(idx t).2.2.2.2]

end Cert.Kernel8Ideal.Val
-- ==== Proof.RefCompress.lean ====
/-
  The reference's compressed keys and values are the same function of the arguments.
-/
module

public import proofs.«01_k».proof.Proof.Gen.Reference8Ideal.Run
public import proofs.«01_k».proof.Proof.Compress
public import Idealize.ShloMosaic.Lib.Pipeline.ValueKit
public import Idealize.ShloMosaic.Lib.Pointwise
public import Idealize.ShloMosaic.Lib.ValueIdx
public import Idealize.ShloMosaic.Lib.WholeRead
public import Idealize.ShloMosaic.Lib.Claim
public import Idealize.ShloMosaic.Lib.Tactic

@[expose] public section

set_option maxRecDepth 16384

noncomputable section

open Idealize.ShloMosaic Idealize.ShloMosaic.TcCoe Idealize.SL.Sem

namespace Cert.Reference8Ideal.Val

open Cert.Reference8Ideal Cert.Reference8Ideal.Gen Idealize.ShloMosaic.StableHlo

/-- The keys, sixteen rows at a time. -/
def keys (x : FVec Ideal S2x4096x5120 .bf16) : FVec Ideal S2x4x256x16x128 .f32 :=
  (shapeCast _ (shapeCast _ (extractStridedSlice S1x2x4x4096x128 ![0, 0, 0, 0, 0] (transpose S6x2x4x4096x128 [2, 0, 3, 1, 4] (shapeCast _ (extractStridedSlice S2x4096x3072 ![0, 0, 2048] (extf .f32 x bitsLt_bf16_f32) slices_S2x4096x5120_S2x4096x3072_0_0_2048) shapeCasts_S2x4096x3072_S2x4096x6x4x128) transposes_S2x4096x6x4x128_S6x2x4x4096x128_2_0_3_1_4) slices_S6x2x4x4096x128_S1x2x4x4096x128_0_0_0_0_0) shapeCasts_S1x2x4x4096x128_S2x4x4096x128) shapeCasts_S2x4x4096x128_S2x4x256x16x128)

theorem keys_at (x : FVec Ideal S2x4096x5120 .bf16) (b : Fin 2) (g : Fin 4) (a : Fin 256) (i : Fin 16) (l : Fin 128) :
    keys x (ix5 b g a i l) = Cert.Kernel8Ideal.Val.row x b 0 g (⟨16 * a.val + i.val, by omega⟩ : Fin 4096) l := by
  unfold keys Cert.Kernel8Ideal.Val.row
  pointwise
  simp only [mul_comm a.val 16, mul_comm g.val 128]

/-- The values, sixteen rows at a time. -/
def values (x : FVec Ideal S2x4096x5120 .bf16) : FVec Ideal S2x4x256x16x128 .f32 :=
  (shapeCast _ (shapeCast _ (extractStridedSlice S1x2x4x4096x128 ![1, 0, 0, 0, 0] (transpose S6x2x4x4096x128 [2, 0, 3, 1, 4] (shapeCast _ (extractStridedSlice S2x4096x3072 ![0, 0, 2048] (extf .f32 x bitsLt_bf16_f32) slices_S2x4096x5120_S2x4096x3072_0_0_2048) shapeCasts_S2x4096x3072_S2x4096x6x4x128) transposes_S2x4096x6x4x128_S6x2x4x4096x128_2_0_3_1_4) slices_S6x2x4x4096x128_S1x2x4x4096x128_1_0_0_0_0) shapeCasts_S1x2x4x4096x128_S2x4x4096x128) shapeCasts_S2x4x4096x128_S2x4x256x16x128)

theorem values_at (x : FVec Ideal S2x4096x5120 .bf16) (b : Fin 2) (g : Fin 4) (a : Fin 256) (i : Fin 16) (l : Fin 128) :
    values x (ix5 b g a i l) = Cert.Kernel8Ideal.Val.row x b 1 g (⟨16 * a.val + i.val, by omega⟩ : Fin 4096) l := by
  unfold values Cert.Kernel8Ideal.Val.row
  pointwise
  simp only [mul_comm a.val 16, mul_comm g.val 128]

/-- The next sixteen rows, cyclically. -/
def after (H : FVec Ideal S2x4x256x16x128 .f32) : FVec Ideal S2x4x256x16x128 .f32 :=
  concatenate S2x4x256x16x128 2 [⟨S2x4x255x16x128, (extractStridedSlice S2x4x255x16x128 ![0, 0, 1, 0, 0] H slices_S2x4x256x16x128_S2x4x255x16x128_0_0_1_0_0)⟩, ⟨S2x4x1x16x128, (extractStridedSlice S2x4x1x16x128 ![0, 0, 0, 0, 0] H slices_S2x4x256x16x128_S2x4x1x16x128_0_0_0_0_0)⟩] concatenates_S2x4x255x16x128_S2x4x1x16x128_S2x4x256x16x128_d2

theorem after_at (H : FVec Ideal S2x4x256x16x128 .f32) (b : Fin 2) (g : Fin 4) (a : Fin 256) (i : Fin 16) (l : Fin 128) :
    after H (ix5 b g a i l) = H (ix5 b g (⟨(a.val + 1) % 256, by omega⟩ : Fin 256) i l) := by
  unfold after
  by_cases h : a.val < 255
  · have e : (a.val + 1) % 256 = a.val + 1 := by omega
    pointwise
    rw [dif_pos h]
    exact congrArg H (congrArg (fun r => ix5 b g r i l) (Fin.ext (by show 1 + a.val = (a.val + 1) % 256; omega)))
  · have e : a.val = 255 := by omega
    pointwise
    rw [dif_neg h]
    exact congrArg H (congrArg (fun r => ix5 b g r i l) (Fin.ext (by show a.val - 255 = (a.val + 1) % 256; omega)))

/-- The blocks, rows and positions added, each block's thirty-two rows one after the other. -/
def flat (H A : FVec Ideal S2x4x256x16x128 .f32) (p : FVec Ideal S32x128 .f32) : FVec Ideal S2x4x256x4096 .f32 :=
  shapeCast _ (addf (concatenate S2x4x256x32x128 3 [⟨S2x4x256x16x128, H⟩, ⟨S2x4x256x16x128, A⟩] concatenates_S2x4x256x16x128_S2x4x256x16x128_S2x4x256x32x128_d3) (broadcastInDim S2x4x256x32x128 ![0, 1, 2, 3, 4] bcast_S1x1x1x32x128_S2x4x256x32x128_0_1_2_3_4 (broadcastInDim S1x1x1x32x128 ![3, 4] bcast_S32x128_S1x1x1x32x128_3_4 p))) shapeCasts_S2x4x256x32x128_S2x4x256x4096

theorem flat_lo (H A : FVec Ideal S2x4x256x16x128 .f32) (p : FVec Ideal S32x128 .f32) (b : Fin 2) (g : Fin 4) (a : Fin 256) (i : Fin 16) (l : Fin 128) :
    flat H A p (ix4 b g a (⟨128 * i.val + l.val, by omega⟩ : Fin 4096)) = H (ix5 b g a i l) + p (ix2 (⟨i.val, by omega⟩ : Fin 32) l) := by
  unfold flat
  have e : (128 * i.val + l.val) / 128 = i.val := by omega
  pointwise
  simp only [e, dif_pos i.isLt]

theorem flat_hi (H A : FVec Ideal S2x4x256x16x128 .f32) (p : FVec Ideal S32x128 .f32) (b : Fin 2) (g : Fin 4) (a : Fin 256) (i : Fin 16) (l : Fin 128) :
    flat H A p (ix4 b g a (⟨2048 + 128 * i.val + l.val, by omega⟩ : Fin 4096)) = A (ix5 b g a i l) + p (ix2 (⟨16 + i.val, by omega⟩ : Fin 32) l) := by
  unfold flat
  have e : (2048 + 128 * i.val + l.val) / 128 = 16 + i.val := by omega
  have e' : 16 + i.val - 16 = i.val := by omega
  have h : ¬ 16 + i.val < 16 := by omega
  pointwise
  simp only [e, dif_neg h, e']

/-- A sum over both halves of the weights' rows, sixteen rows of 128 each. -/
theorem sum_rows (f : Fin 4096 → EReal) : ∑ k, f k = (∑ i : Fin 16, ∑ l : Fin 128, f ⟨128 * i.val + l.val, by omega⟩) + ∑ i : Fin 16, ∑ l : Fin 128, f ⟨2048 + 128 * i.val + l.val, by omega⟩ := by
  have h1 : ∑ k, f k = ∑ i : Fin 32, ∑ l : Fin 128, f ⟨128 * i.val + l.val, by omega⟩ := by
    rw [← Fintype.sum_prod_type']
    refine (Fintype.sum_equiv (finProdFinEquiv (m := 32) (n := 128)) _ _ fun q => congrArg f (Fin.ext ?_)).symm
    show 128 * q.1.val + q.2.val = q.2.val + 128 * q.1.val
    omega
  rw [h1]
  refine (Fin.sum_univ_add (a := 16) (b := 16) (fun i : Fin 32 => ∑ l : Fin 128, f ⟨128 * i.val + l.val, by omega⟩)).trans ?_
  refine congrArg₂ (fun p q : EReal => p + q) rfl (Finset.sum_congr rfl fun i _ => Finset.sum_congr rfl fun l _ => congrArg f (Fin.ext ?_))
  show 128 * (16 + i.val) + l.val = 2048 + 128 * i.val + l.val
  omega

def pre (B : FVec Ideal S2x4x256x4096 .f32) (w : FVec Ideal S4096x256 .f32) : FVec Ideal S2x4x256x256 .f32 :=
  Host.dotGeneral dot_S2x4x256x4096_S4096x256_S2x4x256x256_3_0_012_1_n_n none B w

theorem pre_at (B : FVec Ideal S2x4x256x4096 .f32) (w : FVec Ideal S4096x256 .f32) (b : Fin 2) (g : Fin 4) (a h : Fin 256) :
    pre B w (ix4 b g a h) = ∑ k : Fin 4096, B (ix4 b g a k) * w (ix2 k h) := by
  unfold pre
  pointwise [dot_S2x4x256x4096_S4096x256_S2x4x256x256_3_0_012_1_n_n]

/-- The blocks against the first weights. -/
theorem pre_flat (H : FVec Ideal S2x4x256x16x128 .f32) (p : FVec Ideal S32x128 .f32) (w : FVec Ideal S4096x256 .f32) (b : Fin 2) (g : Fin 4) (a h : Fin 256) :
    pre (flat H (after H) p) w (ix4 b g a h)
    = Cert.Kernel8Ideal.Val.half (fun i l => H (ix5 b g a i l)) (fun i l => p (ix2 (⟨i.val, by omega⟩ : Fin 32) l)) (fun i l => w (ix2 (⟨128 * i.val + l.val, by omega⟩ : Fin 4096) h))
      + Cert.Kernel8Ideal.Val.half (fun i l => H (ix5 b g (⟨(a.val + 1) % 256, by omega⟩ : Fin 256) i l)) (fun i l => p (ix2 (⟨16 + i.val, by omega⟩ : Fin 32) l)) (fun i l => w (ix2 (⟨2048 + 128 * i.val + l.val, by omega⟩ : Fin 4096) h)) := by
  rw [pre_at, sum_rows]
  unfold Cert.Kernel8Ideal.Val.half
  simp only [flat_lo, flat_hi, after_at]

def mlp (P : FVec Ideal S2x4x256x256 .f32) (w : FVec Ideal S256x128 .f32) : FVec Ideal S2x4x256x128 .f32 :=
  Host.dotGeneral dot_S2x4x256x256_S256x128_S2x4x256x128_3_0_012_1_n_n none (mulf P (mulf (broadcastInDim S2x4x256x256 ![] bcast_S_S2x4x256x256 (constant S_ .f32 0x3F000000#32)) (addf (broadcastInDim S2x4x256x256 ![] bcast_S_S2x4x256x256 (constant S_ .f32 0x3F800000#32)) (Host.tanh (mulf (broadcastInDim S2x4x256x256 ![] bcast_S_S2x4x256x256 (constant S_ .f32 0x3F4C422A#32)) (addf P (mulf (broadcastInDim S2x4x256x256 ![] bcast_S_S2x4x256x256 (constant S_ .f32 0x3D372713#32)) (mulf (mulf P P) P)))))))) w

theorem mlp_at (P : FVec Ideal S2x4x256x256 .f32) (w : FVec Ideal S256x128 .f32) (b : Fin 2) (g : Fin 4) (a : Fin 256) (d : Fin 128) :
    mlp P w (ix4 b g a d) = ∑ h : Fin 256, Cert.Kernel8Ideal.Val.gelu (P (ix4 b g a h)) * w (ix2 h d) := by
  unfold mlp Cert.Kernel8Ideal.Val.gelu
  simp only [← mul_assoc (_ : EReal) (P _) (P _)]
  pointwise [dot_S2x4x256x256_S256x128_S2x4x256x128_3_0_012_1_n_n]

/-- The keys' and the values' stacked. -/
def both (k v : FVec Ideal S2x4x256x128 .f32) : FVec Ideal S2x2x4x256x128 .bf16 :=
  truncf .bf16 (concatenate S2x2x4x256x128 1 [⟨S2x1x4x256x128, (broadcastInDim S2x1x4x256x128 ![0, 2, 3, 4] bcast_S2x4x256x128_S2x1x4x256x128_0_2_3_4 k)⟩, ⟨S2x1x4x256x128, (broadcastInDim S2x1x4x256x128 ![0, 2, 3, 4] bcast_S2x4x256x128_S2x1x4x256x128_0_2_3_4 v)⟩] concatenates_S2x1x4x256x128_S2x1x4x256x128_S2x2x4x256x128_d1) bitsLt_bf16_f32

theorem both_0 (k v : FVec Ideal S2x4x256x128 .f32) (b : Fin 2) (g : Fin 4) (a : Fin 256) (d : Fin 128) : both k v (ix5 b 0 g a d) = k (ix4 b g a d) := by
  unfold both
  pointwise

theorem both_1 (k v : FVec Ideal S2x4x256x128 .f32) (b : Fin 2) (g : Fin 4) (a : Fin 256) (d : Fin 128) : both k v (ix5 b 1 g a d) = v (ix4 b g a d) := by
  unfold both
  pointwise

theorem value (x : FVec Ideal S2x4096x5120 .bf16) (pk pv : FVec Ideal S32x128 .f32) (w1k : FVec Ideal S4096x256 .f32) (w2k : FVec Ideal S256x128 .f32) (w1v : FVec Ideal S4096x256 .f32) (w2v : FVec Ideal S256x128 .f32) :
    both (mlp (pre (flat (keys x) (after (keys x)) pk) w1k) w2k) (mlp (pre (flat (values x) (after (values x)) pv) w1v) w2v)
    = Cert.Kernel8Ideal.Val.G x pk pv w1k w2k w1v w2v := by
  funext i
  idx_vars i
  unfold Cert.Kernel8Ideal.Val.G
  obtain ⟨n, hn⟩ := i1
  interval_cases n
  · refine (both_0 _ _ i0 i2 i3 i4).trans ?_
    rw [mlp_at]
    refine Finset.sum_congr rfl fun h _ => congrArg (fun q : EReal => q * w2k (ix2 h i4)) (congrArg Cert.Kernel8Ideal.Val.gelu ?_)
    rw [pre_flat]
    simp only [keys_at]
    rfl
  · refine (both_1 _ _ i0 i2 i3 i4).trans ?_
    rw [mlp_at]
    refine Finset.sum_congr rfl fun h _ => congrArg (fun q : EReal => q * w2v (ix2 h i4)) (congrArg Cert.Kernel8Ideal.Val.gelu ?_)
    rw [pre_flat]
    simp only [values_at]
    rfl

end Cert.Reference8Ideal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Pre_finite
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.RefConv
public import proofs.«01_k».proof.Proof.RefOutProj
public import proofs.«01_k».proof.Proof.RefQkvProj
public import proofs.«01_k».proof.Proof.RefScores
public import proofs.«01_k».proof.Proof.RefLastNorm
public import proofs.«01_k».proof.Proof.RefGates
public import proofs.«01_k».proof.Proof.RefValue
public import proofs.«01_k».proof.Proof.RefCompress

@[expose] public section

noncomputable section

namespace Cert.Proof

open Idealize.ShloMosaic Idealize.SL.Sem Cert.Kernel

/-! ## The runs and the values, one pair after the other -/

theorem quiet_Kernel : quiescent_Kernel := fun m ρ _ => Cert.Kernel.Gen.frame m ρ

theorem quiet_KernelIdeal : quiescent_KernelIdeal := fun m ρ _ => Cert.KernelIdeal.Gen.frame m ρ

theorem quiet_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem alg_KernelIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2⟩ := hagree c
  rw [h0, h1, h2]
  refine Eq.trans ?_ (Cert.KernelIdeal.Conv.final m c).symm
  exact Cert.ReferenceIdeal.Val.value m c _ _ _ rfl rfl rfl

theorem quiet_Kernel2 : quiescent_Kernel2 := fun m ρ _ => Cert.Kernel2.Gen.frame m ρ

theorem quiet_Kernel2Ideal : quiescent_Kernel2Ideal := fun m ρ _ => Cert.Kernel2Ideal.Gen.frame m ρ

theorem quiet_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem alg_Kernel2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  obtain ⟨h0, h1, h2⟩ := hagree c
  rw [h0, h1, h2]
  exact (Cert.Reference2Ideal.Val.value _ _ _).trans (Cert.Kernel2Ideal.Val.final m c).symm

theorem quiet_Kernel3 : quiescent_Kernel3 := fun m ρ _ => Cert.Kernel3.Gen.frame m ρ

theorem quiet_Kernel3Ideal : quiescent_Kernel3Ideal := fun m ρ _ => Cert.Kernel3Ideal.Gen.frame m ρ

theorem quiet_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem alg_Kernel3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨h0, h1⟩ := hagree c
  rw [h0, h1]
  exact (Cert.Reference3Ideal.Val.value _ _).trans (Cert.Kernel3Ideal.Val.final m c).symm

theorem quiet_Kernel4 : quiescent_Kernel4 := fun m ρ _ => Cert.Kernel4.Gen.frame m ρ

theorem quiet_Kernel4Ideal : quiescent_Kernel4Ideal := fun m ρ _ => Cert.Kernel4Ideal.Gen.frame m ρ

theorem quiet_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem alg_Kernel4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨h0, h1, h2, h3⟩ := hagree c
  rw [h0, h1, h2, h3]
  exact (Cert.Reference4Ideal.Val.value _ _ _ _).trans (Cert.Kernel4Ideal.Val.final m c).symm

theorem quiet_Kernel5 : quiescent_Kernel5 := fun m ρ _ => Cert.Kernel5.Gen.frame m ρ

theorem quiet_Kernel5Ideal : quiescent_Kernel5Ideal := fun m ρ _ => Cert.Kernel5Ideal.Gen.frame m ρ

theorem quiet_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem alg_Kernel5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨h0, h1⟩ := hagree c
  rw [h0, h1]
  exact (Cert.Reference5Ideal.Val.value _ _).trans (Cert.Kernel5Ideal.Val.final m c).symm

theorem quiet_Kernel6 : quiescent_Kernel6 := fun m ρ _ => Cert.Kernel6.Gen.frame m ρ

theorem quiet_Kernel6Ideal : quiescent_Kernel6Ideal := fun m ρ _ => Cert.Kernel6Ideal.Gen.frame m ρ

theorem quiet_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem alg_Kernel6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  obtain ⟨h0, h1⟩ := hagree c
  rw [h0, h1]
  exact (Cert.Reference6Ideal.Val.value _ _).trans (Cert.Kernel6Ideal.Val.final m c).symm

theorem quiet_Kernel7 : quiescent_Kernel7 := fun m ρ _ => Cert.Kernel7.Gen.frame m ρ

theorem quiet_Kernel7Ideal : quiescent_Kernel7Ideal := fun m ρ _ => Cert.Kernel7Ideal.Gen.frame m ρ

theorem named_Kernel7 : preserves_Kernel7_Kernel7Ideal :=
  IdealRules.named_const.statement Cert.Kernel7Ideal.κ "mask" .f32 0xF149F2CA#32 ⊥ rfl

theorem quiet_Kernel7Ideal_finite : quiescent_Kernel7Ideal_pre_finite := fun m ρ _ => Cert.Kernel7Ideal.Gen.frame m ρ

theorem quiet_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiet_Reference7Ideal_finite : quiescent_Reference7Ideal_pre_finite := fun m ρ _ => quiet_Reference7Ideal m ρ trivial

theorem alg_Kernel7Ideal : algebraic_Kernel7Ideal_Reference7Ideal_pre_finite := by
  intro m ρ m' ρ' hpre hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  obtain ⟨h0, h1, h2, h3, h4⟩ := hagree c
  exact ((h c).1).trans (Cert.Reference7Ideal.Val.value m c (hpre c) _ h0 h1 h2 h3 h4)

theorem quiet_Kernel8 : quiescent_Kernel8 := fun m ρ _ => Cert.Kernel8.Gen.frame m ρ

theorem quiet_Kernel8Ideal : quiescent_Kernel8Ideal := fun m ρ _ => Cert.Kernel8Ideal.Gen.frame m ρ

theorem quiet_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem alg_Kernel8Ideal : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  unfold Cert.Reference8Ideal.Value.res_main_v59
  obtain ⟨h0, h1, h2, h3, h4, h5, h6⟩ := hagree c
  rw [h0, h1, h2, h3, h4, h5, h6]
  exact (Cert.Reference8Ideal.Val.value _ _ _ _ _ _ _).trans (Cert.Kernel8Ideal.Val.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.Gen.facts,
  quiet_Kernel, quiet_KernelIdeal, quiet_ReferenceIdeal, quiet_Kernel2, quiet_Kernel2Ideal, quiet_Reference2Ideal, quiet_Kernel3, quiet_Kernel3Ideal, quiet_Reference3Ideal, quiet_Kernel4, quiet_Kernel4Ideal, quiet_Reference4Ideal, quiet_Kernel5, quiet_Kernel5Ideal, quiet_Reference5Ideal, quiet_Kernel6, quiet_Kernel6Ideal, quiet_Reference6Ideal, quiet_Kernel7, quiet_Kernel7Ideal, quiet_Kernel7Ideal_finite, quiet_Reference7Ideal, quiet_Reference7Ideal_finite, quiet_Kernel8, quiet_Kernel8Ideal, quiet_Reference8Ideal,
  trivial, alg_KernelIdeal, trivial, alg_Kernel2Ideal, trivial, alg_Kernel3Ideal, trivial, alg_Kernel4Ideal, trivial, alg_Kernel5Ideal, trivial, alg_Kernel6Ideal, named_Kernel7, alg_Kernel7Ideal, trivial, alg_Kernel8Ideal⟩

end Cert.Proof

end
